-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_RefInprojIdeal (m : (ℓ : Loc Cert.RefInprojIdeal.nD Cert.RefInprojIdeal.τ Cert.RefInprojIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_RefOutprojIdeal (m : (ℓ : Loc Cert.RefOutprojIdeal.nD Cert.RefOutprojIdeal.τ Cert.RefOutprojIdeal.sig) → Buf (Elt Ideal) ℓ) : Prop :=
  True

def Pre_Gdn (m : (ℓ : Loc Cert.Gdn.nD Cert.Gdn.τ Cert.Gdn.sig) → Buf (Elt Bits) ℓ) : Prop :=
  True

def Pre_GdnIdeal (m : (ℓ : Loc Cert.GdnIdeal.nD Cert.GdnIdeal.τ Cert.GdnIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ r.2.sem = fun _ => 0)

def quiescent_RefInprojIdeal [hRefInprojIdeal : Cert.RefInprojIdeal.Facts] : Prop :=
  ∀ (m : (ℓ : Loc Cert.RefInprojIdeal.nD Cert.RefInprojIdeal.τ Cert.RefInprojIdeal.sig) → Buf (Elt Ideal) ℓ) (g : Dev Cert.RefInprojIdeal.nD → PrngReg), Pre_RefInprojIdeal m →
    θ_run (Cert.RefInprojIdeal.defs (F := Ideal)) (onTc (τ := Cert.RefInprojIdeal.τ) (Cert.RefInprojIdeal.main (F := Ideal))) ⟨m, fun _ => 0, g⟩ (fun r => (∀ c : Dev Cert.RefInprojIdeal.nD,
      r.2.mem ((c.tc : Thread Cert.RefInprojIdeal.nD Cert.RefInprojIdeal.τ).loc Cert.RefInprojIdeal.main_arg0) = m ((c.tc : Thread Cert.RefInprojIdeal.nD Cert.RefInprojIdeal.τ).loc Cert.RefInprojIdeal.main_arg0)
      ∧ r.2.mem ((c.tc : Thread Cert.RefInprojIdeal.nD Cert.RefInprojIdeal.τ).loc Cert.RefInprojIdeal.main_arg1) = m ((c.tc : Thread Cert.RefInprojIdeal.nD Cert.RefInprojIdeal.τ).loc Cert.RefInprojIdeal.main_arg1)
      ∧ r.2.mem ((c.tc : Thread Cert.RefInprojIdeal.nD Cert.RefInprojIdeal.τ).loc Cert.RefInprojIdeal.main_arg2) = m ((c.tc : Thread Cert.RefInprojIdeal.nD Cert.RefInprojIdeal.τ).loc Cert.RefInprojIdeal.main_arg2)
      ∧ r.2.mem ((c.tc : Thread Cert.RefInprojIdeal.nD Cert.RefInprojIdeal.τ).loc Cert.RefInprojIdeal.main_arg3) = m ((c.tc : Thread Cert.RefInprojIdeal.nD Cert.RefInprojIdeal.τ).loc Cert.RefInprojIdeal.main_arg3)
      ∧ r.2.mem ((c.tc : Thread Cert.RefInprojIdeal.nD Cert.RefInprojIdeal.τ).loc Cert.RefInprojIdeal.main_arg4) = m ((c.tc : Thread Cert.RefInprojIdeal.nD Cert.RefInprojIdeal.τ).loc Cert.RefInprojIdeal.main_arg4)
      ∧ r.2.mem ((c.tc : Thread Cert.RefInprojIdeal.nD Cert.RefInprojIdeal.τ).loc Cert.RefInprojIdeal.main_arg5) = m ((c.tc : Thread Cert.RefInprojIdeal.nD Cert.RefInprojIdeal.τ).loc Cert.RefInprojIdeal.main_arg5))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4))
      ∧ r.2.sem = fun _ => 0)

def quiescent_RefOutprojIdeal [hRefOutprojIdeal : Cert.RefOutprojIdeal.Facts] : Prop :=
  ∀ (m : (ℓ : Loc Cert.RefOutprojIdeal.nD Cert.RefOutprojIdeal.τ Cert.RefOutprojIdeal.sig) → Buf (Elt Ideal) ℓ) (g : Dev Cert.RefOutprojIdeal.nD → PrngReg), Pre_RefOutprojIdeal m →
    θ_run (Cert.RefOutprojIdeal.defs (F := Ideal)) (onTc (τ := Cert.RefOutprojIdeal.τ) (Cert.RefOutprojIdeal.main (F := Ideal))) ⟨m, fun _ => 0, g⟩ (fun r => (∀ c : Dev Cert.RefOutprojIdeal.nD,
      r.2.mem ((c.tc : Thread Cert.RefOutprojIdeal.nD Cert.RefOutprojIdeal.τ).loc Cert.RefOutprojIdeal.main_arg0) = m ((c.tc : Thread Cert.RefOutprojIdeal.nD Cert.RefOutprojIdeal.τ).loc Cert.RefOutprojIdeal.main_arg0)
      ∧ r.2.mem ((c.tc : Thread Cert.RefOutprojIdeal.nD Cert.RefOutprojIdeal.τ).loc Cert.RefOutprojIdeal.main_arg1) = m ((c.tc : Thread Cert.RefOutprojIdeal.nD Cert.RefOutprojIdeal.τ).loc Cert.RefOutprojIdeal.main_arg1)
      ∧ r.2.mem ((c.tc : Thread Cert.RefOutprojIdeal.nD Cert.RefOutprojIdeal.τ).loc Cert.RefOutprojIdeal.main_arg2) = m ((c.tc : Thread Cert.RefOutprojIdeal.nD Cert.RefOutprojIdeal.τ).loc Cert.RefOutprojIdeal.main_arg2)
      ∧ r.2.mem ((c.tc : Thread Cert.RefOutprojIdeal.nD Cert.RefOutprojIdeal.τ).loc Cert.RefOutprojIdeal.main_arg3) = m ((c.tc : Thread Cert.RefOutprojIdeal.nD Cert.RefOutprojIdeal.τ).loc Cert.RefOutprojIdeal.main_arg3)
      ∧ r.2.mem ((c.tc : Thread Cert.RefOutprojIdeal.nD Cert.RefOutprojIdeal.τ).loc Cert.RefOutprojIdeal.main_arg4) = m ((c.tc : Thread Cert.RefOutprojIdeal.nD Cert.RefOutprojIdeal.τ).loc Cert.RefOutprojIdeal.main_arg4))
      ∧ r.2.sem = fun _ => 0)

def quiescent_Gdn [hGdn : Cert.Gdn.Facts] : Prop :=
  ∀ (m : (ℓ : Loc Cert.Gdn.nD Cert.Gdn.τ Cert.Gdn.sig) → Buf (Elt Bits) ℓ) (g : Dev Cert.Gdn.nD → PrngReg), Pre_Gdn m →
    θ_run (Cert.Gdn.defs (F := Bits)) (onTc (τ := Cert.Gdn.τ) (Cert.Gdn.main (F := Bits))) ⟨m, fun _ => 0, g⟩ (fun r => (∀ c : Dev Cert.Gdn.nD,
      r.2.mem ((c.tc : Thread Cert.Gdn.nD Cert.Gdn.τ).loc Cert.Gdn.main_arg0) = m ((c.tc : Thread Cert.Gdn.nD Cert.Gdn.τ).loc Cert.Gdn.main_arg0)
      ∧ r.2.mem ((c.tc : Thread Cert.Gdn.nD Cert.Gdn.τ).loc Cert.Gdn.main_arg1) = m ((c.tc : Thread Cert.Gdn.nD Cert.Gdn.τ).loc Cert.Gdn.main_arg1)
      ∧ r.2.mem ((c.tc : Thread Cert.Gdn.nD Cert.Gdn.τ).loc Cert.Gdn.main_arg2) = m ((c.tc : Thread Cert.Gdn.nD Cert.Gdn.τ).loc Cert.Gdn.main_arg2))
      ∧ r.2.sem = fun _ => 0)

def quiescent_GdnIdeal [hGdnIdeal : Cert.GdnIdeal.Facts] : Prop :=
  ∀ (m : (ℓ : Loc Cert.GdnIdeal.nD Cert.GdnIdeal.τ Cert.GdnIdeal.sig) → Buf (Elt Ideal) ℓ) (g : Dev Cert.GdnIdeal.nD → PrngReg), Pre_GdnIdeal m →
    θ_run (Cert.GdnIdeal.defs (F := Ideal)) (onTc (τ := Cert.GdnIdeal.τ) (Cert.GdnIdeal.main (F := Ideal))) ⟨m, fun _ => 0, g⟩ (fun r => (∀ c : Dev Cert.GdnIdeal.nD,
      r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
      ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
      ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Inproj_InprojIdeal : Prop :=
  True

def algebraic_InprojIdeal_RefInprojIdeal [hInprojIdeal : Cert.InprojIdeal.Facts] [hRefInprojIdeal : Cert.RefInprojIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.RefInprojIdeal.nD Cert.RefInprojIdeal.τ Cert.RefInprojIdeal.sig) → Buf (Elt Ideal) ℓ) (g' : Dev Cert.RefInprojIdeal.nD → PrngReg), Pre_InprojIdeal m →
    (∀ c : Dev Cert.InprojIdeal.nD,
      m' ((c.tc : Thread Cert.RefInprojIdeal.nD Cert.RefInprojIdeal.τ).loc Cert.RefInprojIdeal.main_arg0) = m ((c.tc : Thread Cert.InprojIdeal.nD Cert.InprojIdeal.τ).loc Cert.InprojIdeal.main_arg0)
      ∧ m' ((c.tc : Thread Cert.RefInprojIdeal.nD Cert.RefInprojIdeal.τ).loc Cert.RefInprojIdeal.main_arg1) = m ((c.tc : Thread Cert.InprojIdeal.nD Cert.InprojIdeal.τ).loc Cert.InprojIdeal.main_arg1)
      ∧ m' ((c.tc : Thread Cert.RefInprojIdeal.nD Cert.RefInprojIdeal.τ).loc Cert.RefInprojIdeal.main_arg2) = m ((c.tc : Thread Cert.InprojIdeal.nD Cert.InprojIdeal.τ).loc Cert.InprojIdeal.main_arg2)
      ∧ m' ((c.tc : Thread Cert.RefInprojIdeal.nD Cert.RefInprojIdeal.τ).loc Cert.RefInprojIdeal.main_arg3) = m ((c.tc : Thread Cert.InprojIdeal.nD Cert.InprojIdeal.τ).loc Cert.InprojIdeal.main_arg3)
      ∧ m' ((c.tc : Thread Cert.RefInprojIdeal.nD Cert.RefInprojIdeal.τ).loc Cert.RefInprojIdeal.main_arg4) = m ((c.tc : Thread Cert.InprojIdeal.nD Cert.InprojIdeal.τ).loc Cert.InprojIdeal.main_arg4)
      ∧ m' ((c.tc : Thread Cert.RefInprojIdeal.nD Cert.RefInprojIdeal.τ).loc Cert.RefInprojIdeal.main_arg5) = m ((c.tc : Thread Cert.InprojIdeal.nD Cert.InprojIdeal.τ).loc Cert.InprojIdeal.main_arg5)) →
    ∃ (v0 : (c : Dev Cert.InprojIdeal.nD) → Buf (Elt Ideal) ((c.tc : Thread Cert.InprojIdeal.nD Cert.InprojIdeal.τ).loc Cert.InprojIdeal.main_v11_0)) (v1 : (c : Dev Cert.InprojIdeal.nD) → Buf (Elt Ideal) ((c.tc : Thread Cert.InprojIdeal.nD Cert.InprojIdeal.τ).loc Cert.InprojIdeal.main_v11_1)) (v2 : (c : Dev Cert.InprojIdeal.nD) → Buf (Elt Ideal) ((c.tc : Thread Cert.InprojIdeal.nD Cert.InprojIdeal.τ).loc Cert.InprojIdeal.main_v11_2)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v11_0) = v0 c
          ∧ r.2.mem ((c.tc : Thread Cert.InprojIdeal.nD Cert.InprojIdeal.τ).loc Cert.InprojIdeal.main_v11_1) = v1 c
          ∧ r.2.mem ((c.tc : Thread Cert.InprojIdeal.nD Cert.InprojIdeal.τ).loc Cert.InprojIdeal.main_v11_2) = v2 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ θ_run (Cert.RefInprojIdeal.defs (F := Ideal)) (onTc (τ := Cert.RefInprojIdeal.τ) (Cert.RefInprojIdeal.main (F := Ideal))) ⟨m', fun _ => 0, g'⟩ (fun r => ∀ c : Dev Cert.RefInprojIdeal.nD,
          r.2.mem ((c.tc : Thread Cert.RefInprojIdeal.nD Cert.RefInprojIdeal.τ).loc Cert.RefInprojIdeal.main_v97) = v0 c
          ∧ r.2.mem ((c.tc : Thread Cert.RefInprojIdeal.nD Cert.RefInprojIdeal.τ).loc Cert.RefInprojIdeal.main_v110) = v1 c
          ∧ r.2.mem ((c.tc : Thread Cert.RefInprojIdeal.nD Cert.RefInprojIdeal.τ).loc Cert.RefInprojIdeal.main_v113) = v2 c
          ∧ r.2.mem ((c.tc : Thread Cert.RefInprojIdeal.nD Cert.RefInprojIdeal.τ).loc Cert.RefInprojIdeal.main_arg0) = m' ((c.tc : Thread Cert.RefInprojIdeal.nD Cert.RefInprojIdeal.τ).loc Cert.RefInprojIdeal.main_arg0)
          ∧ r.2.mem ((c.tc : Thread Cert.RefInprojIdeal.nD Cert.RefInprojIdeal.τ).loc Cert.RefInprojIdeal.main_arg1) = m' ((c.tc : Thread Cert.RefInprojIdeal.nD Cert.RefInprojIdeal.τ).loc Cert.RefInprojIdeal.main_arg1)
          ∧ r.2.mem ((c.tc : Thread Cert.RefInprojIdeal.nD Cert.RefInprojIdeal.τ).loc Cert.RefInprojIdeal.main_arg2) = m' ((c.tc : Thread Cert.RefInprojIdeal.nD Cert.RefInprojIdeal.τ).loc Cert.RefInprojIdeal.main_arg2)
          ∧ r.2.mem ((c.tc : Thread Cert.RefInprojIdeal.nD Cert.RefInprojIdeal.τ).loc Cert.RefInprojIdeal.main_arg3) = m' ((c.tc : Thread Cert.RefInprojIdeal.nD Cert.RefInprojIdeal.τ).loc Cert.RefInprojIdeal.main_arg3)
          ∧ r.2.mem ((c.tc : Thread Cert.RefInprojIdeal.nD Cert.RefInprojIdeal.τ).loc Cert.RefInprojIdeal.main_arg4) = m' ((c.tc : Thread Cert.RefInprojIdeal.nD Cert.RefInprojIdeal.τ).loc Cert.RefInprojIdeal.main_arg4)
          ∧ r.2.mem ((c.tc : Thread Cert.RefInprojIdeal.nD Cert.RefInprojIdeal.τ).loc Cert.RefInprojIdeal.main_arg5) = m' ((c.tc : Thread Cert.RefInprojIdeal.nD Cert.RefInprojIdeal.τ).loc Cert.RefInprojIdeal.main_arg5))

def preserves_Outproj_OutprojIdeal : Prop :=
  True

def algebraic_OutprojIdeal_RefOutprojIdeal [hOutprojIdeal : Cert.OutprojIdeal.Facts] [hRefOutprojIdeal : Cert.RefOutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.RefOutprojIdeal.nD Cert.RefOutprojIdeal.τ Cert.RefOutprojIdeal.sig) → Buf (Elt Ideal) ℓ) (g' : Dev Cert.RefOutprojIdeal.nD → PrngReg), Pre_OutprojIdeal m →
    (∀ c : Dev Cert.OutprojIdeal.nD,
      m' ((c.tc : Thread Cert.RefOutprojIdeal.nD Cert.RefOutprojIdeal.τ).loc Cert.RefOutprojIdeal.main_arg0) = m ((c.tc : Thread Cert.OutprojIdeal.nD Cert.OutprojIdeal.τ).loc Cert.OutprojIdeal.main_arg0)
      ∧ m' ((c.tc : Thread Cert.RefOutprojIdeal.nD Cert.RefOutprojIdeal.τ).loc Cert.RefOutprojIdeal.main_arg1) = m ((c.tc : Thread Cert.OutprojIdeal.nD Cert.OutprojIdeal.τ).loc Cert.OutprojIdeal.main_arg1)
      ∧ m' ((c.tc : Thread Cert.RefOutprojIdeal.nD Cert.RefOutprojIdeal.τ).loc Cert.RefOutprojIdeal.main_arg2) = m ((c.tc : Thread Cert.OutprojIdeal.nD Cert.OutprojIdeal.τ).loc Cert.OutprojIdeal.main_arg2)
      ∧ m' ((c.tc : Thread Cert.RefOutprojIdeal.nD Cert.RefOutprojIdeal.τ).loc Cert.RefOutprojIdeal.main_arg3) = m ((c.tc : Thread Cert.OutprojIdeal.nD Cert.OutprojIdeal.τ).loc Cert.OutprojIdeal.main_arg3)
      ∧ m' ((c.tc : Thread Cert.RefOutprojIdeal.nD Cert.RefOutprojIdeal.τ).loc Cert.RefOutprojIdeal.main_arg4) = m ((c.tc : Thread Cert.OutprojIdeal.nD Cert.OutprojIdeal.τ).loc Cert.OutprojIdeal.main_arg4)) →
    ∃ (v0 : (c : Dev Cert.OutprojIdeal.nD) → Buf (Elt Ideal) ((c.tc : Thread Cert.OutprojIdeal.nD Cert.OutprojIdeal.τ).loc Cert.OutprojIdeal.main_v7)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v7) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4))
      ∧ θ_run (Cert.RefOutprojIdeal.defs (F := Ideal)) (onTc (τ := Cert.RefOutprojIdeal.τ) (Cert.RefOutprojIdeal.main (F := Ideal))) ⟨m', fun _ => 0, g'⟩ (fun r => ∀ c : Dev Cert.RefOutprojIdeal.nD,
          r.2.mem ((c.tc : Thread Cert.RefOutprojIdeal.nD Cert.RefOutprojIdeal.τ).loc Cert.RefOutprojIdeal.main_v17) = v0 c
          ∧ r.2.mem ((c.tc : Thread Cert.RefOutprojIdeal.nD Cert.RefOutprojIdeal.τ).loc Cert.RefOutprojIdeal.main_arg0) = m' ((c.tc : Thread Cert.RefOutprojIdeal.nD Cert.RefOutprojIdeal.τ).loc Cert.RefOutprojIdeal.main_arg0)
          ∧ r.2.mem ((c.tc : Thread Cert.RefOutprojIdeal.nD Cert.RefOutprojIdeal.τ).loc Cert.RefOutprojIdeal.main_arg1) = m' ((c.tc : Thread Cert.RefOutprojIdeal.nD Cert.RefOutprojIdeal.τ).loc Cert.RefOutprojIdeal.main_arg1)
          ∧ r.2.mem ((c.tc : Thread Cert.RefOutprojIdeal.nD Cert.RefOutprojIdeal.τ).loc Cert.RefOutprojIdeal.main_arg2) = m' ((c.tc : Thread Cert.RefOutprojIdeal.nD Cert.RefOutprojIdeal.τ).loc Cert.RefOutprojIdeal.main_arg2)
          ∧ r.2.mem ((c.tc : Thread Cert.RefOutprojIdeal.nD Cert.RefOutprojIdeal.τ).loc Cert.RefOutprojIdeal.main_arg3) = m' ((c.tc : Thread Cert.RefOutprojIdeal.nD Cert.RefOutprojIdeal.τ).loc Cert.RefOutprojIdeal.main_arg3)
          ∧ r.2.mem ((c.tc : Thread Cert.RefOutprojIdeal.nD Cert.RefOutprojIdeal.τ).loc Cert.RefOutprojIdeal.main_arg4) = m' ((c.tc : Thread Cert.RefOutprojIdeal.nD Cert.RefOutprojIdeal.τ).loc Cert.RefOutprojIdeal.main_arg4))

def preserves_Gdn_GdnIdeal : Prop :=
  True

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hRefInprojIdeal : Cert.RefInprojIdeal.Facts) (hOutproj : Cert.Outproj.Facts) (hOutprojIdeal : Cert.OutprojIdeal.Facts) (hRefOutprojIdeal : Cert.RefOutprojIdeal.Facts) (hGdn : Cert.Gdn.Facts) (hGdnIdeal : Cert.GdnIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Inproj (hInproj := hInproj)
    ∧ quiescent_InprojIdeal (hInprojIdeal := hInprojIdeal)
    ∧ quiescent_RefInprojIdeal (hRefInprojIdeal := hRefInprojIdeal)
    ∧ quiescent_Outproj (hOutproj := hOutproj)
    ∧ quiescent_OutprojIdeal (hOutprojIdeal := hOutprojIdeal)
    ∧ quiescent_RefOutprojIdeal (hRefOutprojIdeal := hRefOutprojIdeal)
    ∧ quiescent_Gdn (hGdn := hGdn)
    ∧ quiescent_GdnIdeal (hGdnIdeal := hGdnIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Inproj_InprojIdeal
    ∧ algebraic_InprojIdeal_RefInprojIdeal (hInprojIdeal := hInprojIdeal) (hRefInprojIdeal := hRefInprojIdeal)
    ∧ preserves_Outproj_OutprojIdeal
    ∧ algebraic_OutprojIdeal_RefOutprojIdeal (hOutprojIdeal := hOutprojIdeal) (hRefOutprojIdeal := hRefOutprojIdeal)
    ∧ preserves_Gdn_GdnIdeal
-- ==== Pre_finite.lean ====
abbrev S65536x2048 : Shape := ⟨2, ![65536, 2048]⟩
abbrev S_ : Shape := ⟨0, ![]⟩

class Facts : Prop where
  bcast_S_S65536x2048 : S_.BroadcastsInDim S65536x2048 (![] : Fin 0 → Fin S65536x2048.rank)

variable [Facts]

def fn {F : FTy → Type} [FloatOps F] (main_arg0 : FVec F S65536x2048 .f32) : IVec S65536x2048 1 :=
  let main_v0 : FVec F S65536x2048 .f32 := Host.absf main_arg0
  let main_cst : FVec F S_ .f32 := constant S_ .f32 0x7F800000#32
  let main_v1 : FVec F S65536x2048 .f32 := broadcastInDim S65536x2048 ![] bcast_S_S65536x2048 main_cst
  let main_v2 : IVec S65536x2048 1 := cmpf .olt main_v0 main_v1
  main_v2
-- ==== Kernel.lean ====
abbrev S65536x2048 : Shape := ⟨2, ![65536, 2048]⟩
abbrev S8 : Shape := ⟨1, ![8]⟩
abbrev S32x2048x2048 : Shape := ⟨3, ![32, 2048, 2048]⟩
abbrev S2x2048x128 : Shape := ⟨3, ![2, 2048, 128]⟩
abbrev S_ : Shape := ⟨0, ![]⟩
abbrev S32x2048x512 : Shape := ⟨3, ![32, 2048, 512]⟩
abbrev S1x2048x128 : Shape := ⟨3, ![1, 2048, 128]⟩
abbrev S2048x256 : Shape := ⟨2, ![2048, 256]⟩
abbrev S2x2048x256 : Shape := ⟨3, ![2, 2048, 256]⟩
abbrev S2x8x512x256 : Shape := ⟨4, ![2, 8, 512, 256]⟩
abbrev S1x128 : Shape := ⟨2, ![1, 128]⟩
abbrev S1 : Shape := ⟨1, ![1]⟩
abbrev S2048x128 : Shape := ⟨2, ![2048, 128]⟩
abbrev S8x128 : Shape := ⟨2, ![8, 128]⟩
abbrev S256x128 : Shape := ⟨2, ![256, 128]⟩
abbrev S128 : Shape := ⟨1, ![128]⟩
abbrev S512x256 : Shape := ⟨2, ![512, 256]⟩
abbrev S8x1024 : Shape := ⟨2, ![8, 1024]⟩
abbrev S1024x128 : Shape := ⟨2, ![1024, 128]⟩
abbrev S1x1024 : Shape := ⟨2, ![1, 1024]⟩
abbrev S1x1024x128 : Shape := ⟨3, ![1, 1024, 128]⟩
abbrev S1x256x256 : Shape := ⟨3, ![1, 256, 256]⟩
abbrev S256x256 : Shape := ⟨2, ![256, 256]⟩
abbrev S1x1x512x256 : Shape := ⟨4, ![1, 1, 512, 256]⟩
abbrev S512x128 : Shape := ⟨2, ![512, 128]⟩
abbrev S512 : Shape := ⟨1, ![512]⟩
abbrev S512x1 : Shape := ⟨2, ![512, 1]⟩
abbrev S1x256x128 : Shape := ⟨3, ![1, 256, 128]⟩

abbrev nBuf : Space → Nat
  | .hbm => 55
  | .vmem => 16
  | .smem => 1
  | _ => 0

abbrev bufTy : (tb : Table) → Fin (tcTables nBuf tb) → BufTy
  | .hbm, ⟨0, _⟩ => ⟨S65536x2048, .f32⟩
  | .hbm, ⟨1, _⟩ => ⟨S8, .f32⟩
  | .hbm, ⟨2, _⟩ => ⟨S32x2048x2048, .f32⟩
  | .hbm, ⟨3, _⟩ => ⟨S2x2048x128, .i32⟩
  | .hbm, ⟨4, _⟩ => ⟨S2x2048x128, .i32⟩
  | .hbm, ⟨5, _⟩ => ⟨S2x2048x128, .i32⟩
  | .hbm, ⟨6, _⟩ => ⟨S_, .i32⟩
  | .hbm, ⟨7, _⟩ => ⟨S2x2048x128, .i32⟩
  | .hbm, ⟨8, _⟩ => ⟨S2x2048x128, .i32⟩
  | .hbm, ⟨9, _⟩ => ⟨S_, .i32⟩
  | .hbm, ⟨10, _⟩ => ⟨S2x2048x128, .i32⟩
  | .hbm, ⟨11, _⟩ => ⟨S2x2048x128, .i32⟩
  | .hbm, ⟨12, _⟩ => ⟨S2x2048x128, .i32⟩
  | .hbm, ⟨13, _⟩ => ⟨S_, .i32⟩
  | .hbm, ⟨14, _⟩ => ⟨S2x2048x128, .i32⟩
  | .hbm, ⟨15, _⟩ => ⟨S2x2048x128, .i32⟩
  | .hbm, ⟨16, _⟩ => ⟨S_, .i32⟩
  | .hbm, ⟨17, _⟩ => ⟨S2x2048x128, .i32⟩
  | .hbm, ⟨18, _⟩ => ⟨S2x2048x128, .i32⟩
  | .hbm, ⟨19, _⟩ => ⟨S_, .i32⟩
  | .hbm, ⟨20, _⟩ => ⟨S2x2048x128, .i32⟩
  | .hbm, ⟨21, _⟩ => ⟨S_, .i32⟩
  | .hbm, ⟨22, _⟩ => ⟨S2x2048x128, .i32⟩
  | .hbm, ⟨23, _⟩ => ⟨S_, .i32⟩
  | .hbm, ⟨24, _⟩ => ⟨S2x2048x128, .i32⟩
  | .hbm, ⟨25, _⟩ => ⟨S2x2048x128, .i1⟩
  | .hbm, ⟨26, _⟩ => ⟨S_, .i32⟩
  | .hbm, ⟨27, _⟩ => ⟨S2x2048x128, .i32⟩
  | .hbm, ⟨28, _⟩ => ⟨S2x2048x128, .i1⟩
  | .hbm, ⟨29, _⟩ => ⟨S_, .i32⟩
  | .hbm, ⟨30, _⟩ => ⟨S2x2048x128, .i32⟩
  | .hbm, ⟨31, _⟩ => ⟨S2x2048x128, .i1⟩
  | .hbm, ⟨32, _⟩ => ⟨S_, .i32⟩
  | .hbm, ⟨33, _⟩ => ⟨S2x2048x128, .i32⟩
  | .hbm, ⟨34, _⟩ => ⟨S2x2048x128, .i1⟩
  | .hbm, ⟨35, _⟩ => ⟨S2x2048x128, .i1⟩
  | .hbm, ⟨36, _⟩ => ⟨S_, .i32⟩
  | .hbm, ⟨37, _⟩ => ⟨S2x2048x128, .i32⟩
  | .hbm, ⟨38, _⟩ => ⟨S2x2048x128, .i32⟩
  | .hbm, ⟨39, _⟩ => ⟨S2x2048x128, .i1⟩
  | .hbm, ⟨40, _⟩ => ⟨S2x2048x128, .i32⟩
  | .hbm, ⟨41, _⟩ => ⟨S2x2048x128, .i32⟩
  | .hbm, ⟨42, _⟩ => ⟨S2x2048x128, .i32⟩
  | .hbm, ⟨43, _⟩ => ⟨S2x2048x128, .i32⟩
  | .hbm, ⟨44, _⟩ => ⟨S2x2048x128, .i1⟩
  | .hbm, ⟨45, _⟩ => ⟨S_, .i32⟩
  | .hbm, ⟨46, _⟩ => ⟨S2x2048x128, .i32⟩
  | .hbm, ⟨47, _⟩ => ⟨S2x2048x128, .i32⟩
  | .hbm, ⟨48, _⟩ => ⟨S2x2048x128, .i32⟩
  | .hbm, ⟨49, _⟩ => ⟨S2x2048x128, .i32⟩
  | .hbm, ⟨50, _⟩ => ⟨S2x2048x128, .i32⟩
  | .hbm, ⟨51, _⟩ => ⟨S2x2048x128, .i32⟩
  | .hbm, ⟨52, _⟩ => ⟨S2x2048x128, .f32⟩
  | .hbm, ⟨53, _⟩ => ⟨S2x2048x128, .f32⟩
  | .hbm, ⟨54, _⟩ => ⟨S32x2048x512, .bf16⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S2x2048x128, .f32⟩
  | .local _ .vmem, ⟨9, _⟩ => ⟨S2x2048x128, .f32⟩
  | .local _ .vmem, ⟨10, _⟩ => ⟨S1x2048x128, .bf16⟩
  | .local _ .vmem, ⟨11, _⟩ => ⟨S1x2048x128, .bf16⟩
  | .local _ .vmem, ⟨12, _⟩ => ⟨S2048x256, .bf16⟩
  | .local _ .vmem, ⟨13, _⟩ => ⟨S2x2048x256, .bf16⟩
  | .local _ .vmem, ⟨14, _⟩ => ⟨S2048x256, .bf16⟩
  | .local _ .vmem, ⟨15, _⟩ => ⟨S2x8x512x256, .f32⟩
  | .local _ .smem, ⟨0, _⟩ => ⟨S8, .f32⟩
  | _, _ => ⟨S65536x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_v10 : Ref sig .tc := ⟨.hbm, 15, rfl⟩
abbrev main_c_2 : Ref sig .tc := ⟨.hbm, 16, rfl⟩
abbrev main_v11 : Ref sig .tc := ⟨.hbm, 17, rfl⟩
abbrev main_v12 : Ref sig .tc := ⟨.hbm, 18, rfl⟩
abbrev main_c_3 : Ref sig .tc := ⟨.hbm, 19, rfl⟩
abbrev main_v13 : Ref sig .tc := ⟨.hbm, 20, rfl⟩
abbrev main_c_4 : Ref sig .tc := ⟨.hbm, 21, rfl⟩
abbrev main_v14 : Ref sig .tc := ⟨.hbm, 22, rfl⟩
abbrev main_c_5 : Ref sig .tc := ⟨.hbm, 23, rfl⟩
abbrev main_v15 : Ref sig .tc := ⟨.hbm, 24, rfl⟩
abbrev main_v16 : Ref sig .tc := ⟨.hbm, 25, rfl⟩
abbrev main_c_6 : Ref sig .tc := ⟨.hbm, 26, rfl⟩
abbrev main_v17 : Ref sig .tc := ⟨.hbm, 27, rfl⟩
abbrev main_v18 : Ref sig .tc := ⟨.hbm, 28, rfl⟩
abbrev main_c_7 : Ref sig .tc := ⟨.hbm, 29, rfl⟩
abbrev main_v19 : Ref sig .tc := ⟨.hbm, 30, rfl⟩
abbrev main_v20 : Ref sig .tc := ⟨.hbm, 31, rfl⟩
abbrev main_c_8 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_9 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_10 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![32, 4], ![false, false]⟩

def k0_off1 (i : grid0.Coords) (c0_i32_3 : BitVec 32) : Fin 1 → Nat :=
  let arg1 : BitVec 32 := BitVec.ofNat 32 (i 1).val
  let c2_i32 : BitVec 32 := 2#32
  let v15 : BitVec 32 := Scalar.muli arg1 c2_i32
  let v16 : BitVec 32 := Scalar.addi v15 c0_i32_3
  let v17 : Index := Scalar.indexCast v16
  ![v17.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S2x2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S65536x2048 : Shape := ⟨2, ![65536, 2048]⟩
abbrev S8 : Shape := ⟨1, ![8]⟩
abbrev S32x2048x4x8x64 : Shape := ⟨5, ![32, 2048, 4, 8, 64]⟩
abbrev S32x2048x1x8x64 : Shape := ⟨5, ![32, 2048, 1, 8, 64]⟩
abbrev S32x2048x8x64 : Shape := ⟨4, ![32, 2048, 8, 64]⟩
abbrev S32x8x2048x64 : Shape := ⟨4, ![32, 8, 2048, 64]⟩
abbrev S32x2048x2048 : Shape := ⟨3, ![32, 2048, 2048]⟩
abbrev S32x2048x512 : Shape := ⟨3, ![32, 2048, 512]⟩
abbrev S2048x8 : Shape := ⟨2, ![2048, 8]⟩
abbrev S_ : Shape := ⟨0, ![]⟩
abbrev S32x8x8x256x64 : Shape := ⟨5, ![32, 8, 8, 256, 64]⟩
abbrev S32x8x8x64 : Shape := ⟨4, ![32, 8, 8, 64]⟩
abbrev S32x8x2048x8 : Shape := ⟨4, ![32, 8, 2048, 8]⟩
abbrev S32x8x2048x3 : Shape := ⟨4, ![32, 8, 2048, 3]⟩
abbrev S2048x3 : Shape := ⟨2, ![2048, 3]⟩
abbrev S32x8x2048x3x8 : Shape := ⟨5, ![32, 8, 2048, 3, 8]⟩
abbrev S32x8x2048x3x1 : Shape := ⟨5, ![32, 8, 2048, 3, 1]⟩
abbrev S1x1x2048x3x1 : Shape := ⟨5, ![1, 1, 2048, 3, 1]⟩
abbrev S2048x2048 : Shape := ⟨2, ![2048, 2048]⟩
abbrev S2048x8x1 : Shape := ⟨3, ![2048, 8, 1]⟩
abbrev S2048x8x256 : Shape := ⟨3, ![2048, 8, 256]⟩
abbrev S32x8x2048x8x1 : Shape := ⟨5, ![32, 8, 2048, 8, 1]⟩
abbrev S32x8x2048x8x256 : Shape := ⟨5, ![32, 8, 2048, 8, 256]⟩
abbrev S32x8x2048x2048 : Shape := ⟨4, ![32, 8, 2048, 2048]⟩
abbrev S1x1x2048x2048 : Shape := ⟨4, ![1, 1, 2048, 2048]⟩
abbrev S8x1x1 : Shape := ⟨3, ![8, 1, 1]⟩
abbrev S1x2048x2048 : Shape := ⟨3, ![1, 2048, 2048]⟩
abbrev S8x2048x2048 : Shape := ⟨3, ![8, 2048, 2048]⟩
abbrev S1x8x2048x2048 : Shape := ⟨4, ![1, 8, 2048, 2048]⟩
abbrev S32x8x2048 : Shape := ⟨3, ![32, 8, 2048]⟩
abbrev S32x8x2048x1 : Shape := ⟨4, ![32, 8, 2048, 1]⟩

abbrev nBuf : Space → Nat
  | .hbm => 102
  | .vmem => 0
  | .smem => 0
  | _ => 0

abbrev bufTy : (tb : Table) → Fin (tcTables nBuf tb) → BufTy
  | .hbm, ⟨0, _⟩ => ⟨S65536x2048, .f32⟩
  | .hbm, ⟨1, _⟩ => ⟨S8, .f32⟩
  | .hbm, ⟨2, _⟩ => ⟨S32x2048x4x8x64, .f32⟩
  | .hbm, ⟨3, _⟩ => ⟨S32x2048x1x8x64, .f32⟩
  | .hbm, ⟨4, _⟩ => ⟨S32x2048x8x64, .f32⟩
  | .hbm, ⟨5, _⟩ => ⟨S32x8x2048x64, .f32⟩
  | .hbm, ⟨6, _⟩ => ⟨S32x2048x1x8x64, .f32⟩
  | .hbm, ⟨7, _⟩ => ⟨S32x2048x8x64, .f32⟩
  | .hbm, ⟨8, _⟩ => ⟨S32x8x2048x64, .f32⟩
  | .hbm, ⟨9, _⟩ => ⟨S32x2048x1x8x64, .f32⟩
  | .hbm, ⟨10, _⟩ => ⟨S32x2048x8x64, .f32⟩
  | .hbm, ⟨11, _⟩ => ⟨S32x8x2048x64, .f32⟩
  | .hbm, ⟨12, _⟩ => ⟨S32x2048x2048, .f32⟩
  | .hbm, ⟨13, _⟩ => ⟨S32x2048x512, .f32⟩
  | .hbm, ⟨14, _⟩ => ⟨S2048x8, .i32⟩
  | .hbm, ⟨15, _⟩ => ⟨S2048x8, .i32⟩
  | .hbm, ⟨16, _⟩ => ⟨S_, .i32⟩
  | .hbm, ⟨17, _⟩ => ⟨S2048x8, .i32⟩
  | .hbm, ⟨18, _⟩ => ⟨S2048x8, .i32⟩
  | .hbm, ⟨19, _⟩ => ⟨S_, .i32⟩
  | .hbm, ⟨20, _⟩ => ⟨S2048x8, .i32⟩
  | .hbm, ⟨21, _⟩ => ⟨S2048x8, .i32⟩
  | .hbm, ⟨22, _⟩ => ⟨S2048x8, .i1⟩
  | .hbm, ⟨23, _⟩ => ⟨S32x8x8x256x64, .f32⟩
  | .hbm, ⟨24, _⟩ => ⟨S_, .f32⟩
  | .hbm, ⟨25, _⟩ => ⟨S32x8x8x64, .f32⟩
  | .hbm, ⟨26, _⟩ => ⟨S_, .f32⟩
  | .hbm, ⟨27, _⟩ => ⟨S32x8x8x64, .f32⟩
  | .hbm, ⟨28, _⟩ => ⟨S32x8x8x64, .f32⟩
  | .hbm, ⟨29, _⟩ => ⟨S32x8x2048x8, .f32⟩
  | .hbm, ⟨30, _⟩ => ⟨S32x8x2048x8, .i1⟩
  | .hbm, ⟨31, _⟩ => ⟨S_, .f32⟩
  | .hbm, ⟨32, _⟩ => ⟨S32x8x2048x8, .f32⟩
  | .hbm, ⟨33, _⟩ => ⟨S32x8x2048x8, .f32⟩
  | .hbm, ⟨34, _⟩ => ⟨S32x8x2048x3, .f32⟩
  | .hbm, ⟨35, _⟩ => ⟨S32x8x2048x3, .i32⟩
  | .hbm, ⟨36, _⟩ => ⟨S2048x3, .i1⟩
  | .hbm, ⟨37, _⟩ => ⟨S32x8x2048x3x8, .i32⟩
  | .hbm, ⟨38, _⟩ => ⟨S32x8x2048x3x1, .i32⟩
  | .hbm, ⟨39, _⟩ => ⟨S32x8x2048x3x8, .i32⟩
  | .hbm, ⟨40, _⟩ => ⟨S32x8x2048x3x8, .i1⟩
  | .hbm, ⟨41, _⟩ => ⟨S1x1x2048x3x1, .i1⟩
  | .hbm, ⟨42, _⟩ => ⟨S32x8x2048x3x8, .i1⟩
  | .hbm, ⟨43, _⟩ => ⟨S32x8x2048x3x8, .i1⟩
  | .hbm, ⟨44, _⟩ => ⟨S_, .i1⟩
  | .hbm, ⟨45, _⟩ => ⟨S32x8x2048x8, .i1⟩
  | .hbm, ⟨46, _⟩ => ⟨S2048x2048, .i32⟩
  | .hbm, ⟨47, _⟩ => ⟨S2048x2048, .i32⟩
  | .hbm, ⟨48, _⟩ => ⟨S2048x2048, .i1⟩
  | .hbm, ⟨49, _⟩ => ⟨S2048x8x1, .i1⟩
  | .hbm, ⟨50, _⟩ => ⟨S2048x8x256, .i1⟩
  | .hbm, ⟨51, _⟩ => ⟨S2048x2048, .i1⟩
  | .hbm, ⟨52, _⟩ => ⟨S2048x2048, .i1⟩
  | .hbm, ⟨53, _⟩ => ⟨S2048x2048, .i1⟩
  | .hbm, ⟨54, _⟩ => ⟨S32x8x2048x8x1, .i1⟩
  | .hbm, ⟨55, _⟩ => ⟨S32x8x2048x8x256, .i1⟩
  | .hbm, ⟨56, _⟩ => ⟨S32x8x2048x2048, .i1⟩
  | .hbm, ⟨57, _⟩ => ⟨S1x1x2048x2048, .i1⟩
  | .hbm, ⟨58, _⟩ => ⟨S32x8x2048x2048, .i1⟩
  | .hbm, ⟨59, _⟩ => ⟨S32x8x2048x2048, .i1⟩
  | .hbm, ⟨60, _⟩ => ⟨S2048x2048, .i32⟩
  | .hbm, ⟨61, _⟩ => ⟨S2048x2048, .f32⟩
  | .hbm, ⟨62, _⟩ => ⟨S32x8x2048x2048, .f32⟩
  | .hbm, ⟨63, _⟩ => ⟨S_, .f32⟩
  | .hbm, ⟨64, _⟩ => ⟨S32x8x2048x2048, .f32⟩
  | .hbm, ⟨65, _⟩ => ⟨S32x8x2048x2048, .f32⟩
  | .hbm, ⟨66, _⟩ => ⟨S8x1x1, .f32⟩
  | .hbm, ⟨67, _⟩ => ⟨S1x2048x2048, .f32⟩
  | .hbm, ⟨68, _⟩ => ⟨S8x2048x2048, .f32⟩
  | .hbm, ⟨69, _⟩ => ⟨S8x2048x2048, .f32⟩
  | .hbm, ⟨70, _⟩ => ⟨S8x2048x2048, .f32⟩
  | .hbm, ⟨71, _⟩ => ⟨S1x8x2048x2048, .f32⟩
  | .hbm, ⟨72, _⟩ => ⟨S32x8x2048x2048, .f32⟩
  | .hbm, ⟨73, _⟩ => ⟨S32x8x2048x2048, .f32⟩
  | .hbm, ⟨74, _⟩ => ⟨S_, .f32⟩
  | .hbm, ⟨75, _⟩ => ⟨S32x8x2048x2048, .f32⟩
  | .hbm, ⟨76, _⟩ => ⟨S32x8x2048x2048, .f32⟩
  | .hbm, ⟨77, _⟩ => ⟨S_, .f32⟩
  | .hbm, ⟨78, _⟩ => ⟨S32x8x2048, .f32⟩
  | .hbm, ⟨79, _⟩ => ⟨S32x8x2048x1, .f32⟩
  | .hbm, ⟨80, _⟩ => ⟨S32x8x2048x2048, .f32⟩
  | .hbm, ⟨81, _⟩ => ⟨S32x8x2048x2048, .f32⟩
  | .hbm, ⟨82, _⟩ => ⟨S32x8x2048x2048, .f32⟩
  | .hbm, ⟨83, _⟩ => ⟨S_, .f32⟩
  | .hbm, ⟨84, _⟩ => ⟨S32x8x2048, .f32⟩
  | .hbm, ⟨85, _⟩ => ⟨S32x8x2048x1, .f32⟩
  | .hbm, ⟨86, _⟩ => ⟨S32x8x2048x2048, .f32⟩
  | .hbm, ⟨87, _⟩ => ⟨S32x8x2048x2048, .f32⟩
  | .hbm, ⟨88, _⟩ => ⟨S32x8x2048x64, .f32⟩
  | .hbm, ⟨89, _⟩ => ⟨S32x2048x8x64, .f32⟩
  | .hbm, ⟨90, _⟩ => ⟨S32x2048x512, .f32⟩
  | .hbm, ⟨91, _⟩ => ⟨S32x2048x512, .f32⟩
  | .hbm, ⟨92, _⟩ => ⟨S32x2048x512, .f32⟩
  | .hbm, ⟨93, _⟩ => ⟨S_, .f32⟩
  | .hbm, ⟨94, _⟩ => ⟨S32x2048x512, .f32⟩
  | .hbm, ⟨95, _⟩ => ⟨S32x2048x512, .f32⟩
  | .hbm, ⟨96, _⟩ => ⟨S_, .f32⟩
  | .hbm, ⟨97, _⟩ => ⟨S32x2048x512, .f32⟩
  | .hbm, ⟨98, _⟩ => ⟨S32x2048x512, .f32⟩
  | .hbm, ⟨99, _⟩ => ⟨S32x2048x512, .f32⟩
  | .hbm, ⟨100, _⟩ => ⟨S32x2048x512, .f32⟩
  | .hbm, ⟨101, _⟩ => ⟨S32x2048x512, .bf16⟩
  | _, _ => ⟨S65536x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_c : Ref sig .tc := ⟨.hbm, 16, rfl⟩
abbrev main_v14 : Ref sig .tc := ⟨.hbm, 17, rfl⟩
abbrev main_v15 : Ref sig .tc := ⟨.hbm, 18, rfl⟩
abbrev main_c_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_3 : Ref sig .tc := ⟨.hbm, 31, rfl⟩
abbrev main_v25 : Ref sig .tc := ⟨.hbm, 32, rfl⟩
abbrev main_v26 : Ref sig .tc := ⟨.hbm, 33, rfl⟩
abbrev main_values : Ref sig .tc := ⟨.hbm, 34, rfl⟩
abbrev main_indices : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c_4 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst_5 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_cst_6 : Ref sig .tc := ⟨.hbm, 74, rfl⟩
abbrev main_v63 : Ref sig .tc := ⟨.hbm, 75, rfl⟩
abbrev main_v64 : Ref sig .tc := ⟨.hbm, 76, rfl⟩
abbrev main_cst_7 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_cst_8 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_cst_9 : Ref sig .tc := ⟨.hbm, 93, rfl⟩
abbrev main_v79 : Ref sig .tc := ⟨.hbm, 94, rfl⟩
abbrev main_v80 : Ref sig .tc := ⟨.hbm, 95, rfl⟩
abbrev main_cst_10 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩

abbrev nD : Nat := 1
abbrev τ : Topo := Topo.v7x

variable {F : FTy → Type} [FloatOps F]
-- ==== Inproj.lean ====
abbrev S32x2048x1024 : Shape := ⟨3, ![32, 2048, 1024]⟩
abbrev S1024 : Shape := ⟨1, ![1024]⟩
abbrev S1024x4104 : Shape := ⟨2, ![1024, 4104]⟩
abbrev S4x1536 : Shape := ⟨2, ![4, 1536]⟩
abbrev S4 : Shape := ⟨1, ![4]⟩
abbrev S65536x1024 : Shape := ⟨2, ![65536, 1024]⟩
abbrev S1024x4096 : Shape := ⟨2, ![1024, 4096]⟩
abbrev S1024x8 : Shape := ⟨2, ![1024, 8]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S1x1024 : Shape := ⟨2, ![1, 1024]⟩
abbrev S65536x2048 : Shape := ⟨2, ![65536, 2048]⟩
abbrev S65536x128 : Shape := ⟨2, ![65536, 128]⟩
abbrev S512x1024 : Shape := ⟨2, ![512, 1024]⟩
abbrev S512x2048 : Shape := ⟨2, ![512, 2048]⟩
abbrev S512x128 : Shape := ⟨2, ![512, 128]⟩
abbrev S520x1536 : Shape := ⟨2, ![520, 1536]⟩
abbrev S512 : Shape := ⟨1, ![512]⟩
abbrev S512x1 : Shape := ⟨2, ![512, 1]⟩
abbrev S8x1536 : Shape := ⟨2, ![8, 1536]⟩
abbrev S1024x512 : Shape := ⟨2, ![1024, 512]⟩
abbrev S512x512 : Shape := ⟨2, ![512, 512]⟩

abbrev nBuf : Space → Nat
  | .hbm => 26
  | .vmem => 15
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x4104, .f32⟩
  | .hbm, ⟨3, _⟩ => ⟨S4x1536, .f32⟩
  | .hbm, ⟨4, _⟩ => ⟨S4, .f32⟩
  | .hbm, ⟨5, _⟩ => ⟨S4, .f32⟩
  | .hbm, ⟨6, _⟩ => ⟨S65536x1024, .f32⟩
  | .hbm, ⟨7, _⟩ => ⟨S1024x4096, .f32⟩
  | .hbm, ⟨8, _⟩ => ⟨S1024x4096, .bf16⟩
  | .hbm, ⟨9, _⟩ => ⟨S1024x8, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S_, .i32⟩
  | .hbm, ⟨15, _⟩ => ⟨S_, .f32⟩
  | .hbm, ⟨16, _⟩ => ⟨S128, .f32⟩
  | .hbm, ⟨17, _⟩ => ⟨S1x128, .f32⟩
  | .hbm, ⟨18, _⟩ => ⟨S_, .i32⟩
  | .hbm, ⟨19, _⟩ => ⟨S_, .f32⟩
  | .hbm, ⟨20, _⟩ => ⟨S128, .f32⟩
  | .hbm, ⟨21, _⟩ => ⟨S1x128, .f32⟩
  | .hbm, ⟨22, _⟩ => ⟨S1x1024, .f32⟩
  | .hbm, ⟨23, _⟩ => ⟨S65536x2048, .f32⟩
  | .hbm, ⟨24, _⟩ => ⟨S65536x2048, .bf16⟩
  | .hbm, ⟨25, _⟩ => ⟨S65536x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S1024x128, .bf16⟩
  | .local _ .vmem, ⟨5, _⟩ => ⟨S4x1536, .f32⟩
  | .local _ .vmem, ⟨6, _⟩ => ⟨S1x128, .f32⟩
  | .local _ .vmem, ⟨7, _⟩ => ⟨S1x128, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S512x128, .f32⟩
  | .local _ .vmem, ⟨13, _⟩ => ⟨S512x128, .f32⟩
  | .local _ .vmem, ⟨14, _⟩ => ⟨S520x1536, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_call1_v0 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_call2_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RefInprojIdeal.lean ====
abbrev S32x2048x1024 : Shape := ⟨3, ![32, 2048, 1024]⟩
abbrev S1024 : Shape := ⟨1, ![1024]⟩
abbrev S1024x4104 : Shape := ⟨2, ![1024, 4104]⟩
abbrev S4x1536 : Shape := ⟨2, ![4, 1536]⟩
abbrev S4 : Shape := ⟨1, ![4]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x4104 : Shape := ⟨3, ![32, 2048, 4104]⟩
abbrev S32x2048x1536 : Shape := ⟨3, ![32, 2048, 1536]⟩
abbrev S32x2048x512 : Shape := ⟨3, ![32, 2048, 512]⟩
abbrev S32x2048x4 : Shape := ⟨3, ![32, 2048, 4]⟩
abbrev S32x2051x1536 : Shape := ⟨3, ![32, 2051, 1536]⟩
abbrev S1x1536 : Shape := ⟨2, ![1, 1536]⟩
abbrev S1536 : Shape := ⟨1, ![1536]⟩
abbrev S1x1x1536 : Shape := ⟨3, ![1, 1, 1536]⟩
abbrev S32x2048x3x4x128 : Shape := ⟨5, ![32, 2048, 3, 4, 128]⟩
abbrev S32x2048x1x4x128 : Shape := ⟨5, ![32, 2048, 1, 4, 128]⟩
abbrev S32x2048x4x128 : Shape := ⟨4, ![32, 2048, 4, 128]⟩
abbrev S32x2048x4x1 : Shape := ⟨4, ![32, 2048, 4, 1]⟩
abbrev S32x2048x124 : Shape := ⟨3, ![32, 2048, 124]⟩
abbrev S124 : Shape := ⟨1, ![124]⟩
abbrev S1x1x124 : Shape := ⟨3, ![1, 1, 124]⟩
abbrev S32x2048x2048 : Shape := ⟨3, ![32, 2048, 2048]⟩
abbrev S65536x2048 : Shape := ⟨2, ![65536, 2048]⟩
abbrev S65536x512 : Shape := ⟨2, ![65536, 512]⟩
abbrev S65536x4 : Shape := ⟨2, ![65536, 4]⟩
abbrev S65536x124 : Shape := ⟨2, ![65536, 124]⟩
abbrev S65536x128 : Shape := ⟨2, ![65536, 128]⟩

abbrev nBuf : Space → Nat
  | .hbm => 155
  | .vmem => 0
  | .smem => 0
  | _ => 0

abbrev hbmTy0_0 (i : Nat) : BufTy := match i % 128 with
  | 0 => ⟨S32x2048x1024, .f32⟩
  | 1 => ⟨S1024, .f32⟩
  | 2 => ⟨S1024x4104, .f32⟩
  | 3 => ⟨S4x1536, .f32⟩
  | 4 => ⟨S4, .f32⟩
  | 5 => ⟨S4, .f32⟩
  | 6 => ⟨S32x2048x1024, .f32⟩
  | 7 => ⟨S_, .f32⟩
  | 8 => ⟨S32x2048, .f32⟩
  | 9 => ⟨S32x2048x1, .f32⟩
  | 10 => ⟨S_, .f32⟩
  | 11 => ⟨S32x2048x1, .f32⟩
  | 12 => ⟨S32x2048x1, .f32⟩
  | 13 => ⟨S_, .f32⟩
  | 14 => ⟨S32x2048x1, .f32⟩
  | 15 => ⟨S32x2048x1, .f32⟩
  | 16 => ⟨S32x2048x1, .f32⟩
  | 17 => ⟨S32x2048x1024, .f32⟩
  | 18 => ⟨S32x2048x1024, .f32⟩
  | 19 => ⟨S1x1x1024, .f32⟩
  | 20 => ⟨S32x2048x1024, .f32⟩
  | 21 => ⟨S32x2048x1024, .f32⟩
  | 22 => ⟨S32x2048x4104, .f32⟩
  | 23 => ⟨S32x2048x1536, .f32⟩
  | 24 => ⟨S32x2048x512, .f32⟩
  | 25 => ⟨S32x2048x4, .f32⟩
  | 26 => ⟨S32x2048x4, .f32⟩
  | 27 => ⟨S_, .i32⟩
  | 28 => ⟨S_, .f32⟩
  | 29 => ⟨S32x2051x1536, .f32⟩
  | 30 => ⟨S32x2048x1536, .f32⟩
  | 31 => ⟨S1x1536, .f32⟩
  | 32 => ⟨S1536, .f32⟩
  | 33 => ⟨S1x1x1536, .f32⟩
  | 34 => ⟨S32x2048x1536, .f32⟩
  | 35 => ⟨S32x2048x1536, .f32⟩
  | 36 => ⟨S32x2048x1536, .f32⟩
  | 37 => ⟨S1x1536, .f32⟩
  | 38 => ⟨S1536, .f32⟩
  | 39 => ⟨S1x1x1536, .f32⟩
  | 40 => ⟨S32x2048x1536, .f32⟩
  | 41 => ⟨S32x2048x1536, .f32⟩
  | 42 => ⟨S32x2048x1536, .f32⟩
  | 43 => ⟨S32x2048x1536, .f32⟩
  | 44 => ⟨S1x1536, .f32⟩
  | 45 => ⟨S1536, .f32⟩
  | 46 => ⟨S1x1x1536, .f32⟩
  | 47 => ⟨S32x2048x1536, .f32⟩
  | 48 => ⟨S32x2048x1536, .f32⟩
  | 49 => ⟨S32x2048x1536, .f32⟩
  | 50 => ⟨S32x2048x1536, .f32⟩
  | 51 => ⟨S1x1536, .f32⟩
  | 52 => ⟨S1536, .f32⟩
  | 53 => ⟨S1x1x1536, .f32⟩
  | 54 => ⟨S32x2048x1536, .f32⟩
  | 55 => ⟨S32x2048x1536, .f32⟩
  | 56 => ⟨S32x2048x1536, .f32⟩
  | 57 => ⟨S32x2048x1536, .f32⟩
  | 58 => ⟨S32x2048x1536, .f32⟩
  | 59 => ⟨S_, .f32⟩
  | 60 => ⟨S32x2048x1536, .f32⟩
  | 61 => ⟨S32x2048x1536, .f32⟩
  | 62 => ⟨S_, .f32⟩
  | 63 => ⟨S32x2048x1536, .f32⟩
  | 64 => ⟨S32x2048x1536, .f32⟩
  | 65 => ⟨S32x2048x1536, .f32⟩
  | 66 => ⟨S32x2048x3x4x128, .f32⟩
  | 67 => ⟨S32x2048x1x4x128, .f32⟩
  | 68 => ⟨S32x2048x4x128, .f32⟩
  | 69 => ⟨S32x2048x1x4x128, .f32⟩
  | 70 => ⟨S32x2048x4x128, .f32⟩
  | 71 => ⟨S32x2048x1x4x128, .f32⟩
  | 72 => ⟨S32x2048x4x128, .f32⟩
  | 73 => ⟨S32x2048x4x128, .f32⟩
  | 74 => ⟨S_, .f32⟩
  | 75 => ⟨S32x2048x4, .f32⟩
  | 76 => ⟨S32x2048x4x1, .f32⟩
  | 77 => ⟨S_, .f32⟩
  | 78 => ⟨S32x2048x4x1, .f32⟩
  | 79 => ⟨S32x2048x4x1, .f32⟩
  | 80 => ⟨S32x2048x4x1, .f32⟩
  | 81 => ⟨S32x2048x4x128, .f32⟩
  | 82 => ⟨S32x2048x4x128, .f32⟩
  | 83 => ⟨S_, .f32⟩
  | 84 => ⟨S32x2048x4x128, .f32⟩
  | 85 => ⟨S32x2048x4x128, .f32⟩
  | 86 => ⟨S32x2048x4x128, .f32⟩
  | 87 => ⟨S_, .f32⟩
  | 88 => ⟨S32x2048x4, .f32⟩
  | 89 => ⟨S32x2048x4x1, .f32⟩
  | 90 => ⟨S_, .f32⟩
  | 91 => ⟨S32x2048x4x1, .f32⟩
  | 92 => ⟨S32x2048x4x1, .f32⟩
  | 93 => ⟨S32x2048x4x1, .f32⟩
  | 94 => ⟨S32x2048x4x128, .f32⟩
  | 95 => ⟨S32x2048x4x128, .f32⟩
  | 96 => ⟨S32x2048x4, .f32⟩
  | 97 => ⟨S32x2048x4, .f32⟩
  | 98 => ⟨S_, .f32⟩
  | 99 => ⟨S32x2048x4, .f32⟩
  | 100 => ⟨S32x2048x4, .f32⟩
  | 101 => ⟨S_, .f32⟩
  | 102 => ⟨S32x2048x4, .f32⟩
  | 103 => ⟨S32x2048x4, .f32⟩
  | 104 => ⟨S_, .i32⟩
  | 105 => ⟨S_, .f32⟩
  | 106 => ⟨S32x2048x124, .f32⟩
  | 107 => ⟨S_, .i32⟩
  | 108 => ⟨S_, .f32⟩
  | 109 => ⟨S124, .f32⟩
  | 110 => ⟨S_, .i32⟩
  | 111 => ⟨S_, .f32⟩
  | 112 => ⟨S124, .f32⟩
  | 113 => ⟨S124, .f32⟩
  | 114 => ⟨S124, .f32⟩
  | 115 => ⟨S1x1x124, .f32⟩
  | 116 => ⟨S32x2048x124, .f32⟩
  | 117 => ⟨S32x2048x124, .f32⟩
  | 118 => ⟨S_, .f32⟩
  | 119 => ⟨S32x2048x124, .f32⟩
  | 120 => ⟨S32x2048x124, .f32⟩
  | 121 => ⟨S32x2048x124, .f32⟩
  | 122 => ⟨S32x2048x124, .f32⟩
  | 123 => ⟨S32x2048x124, .i1⟩
  | 124 => ⟨S32x2048x124, .f32⟩
  | 125 => ⟨S32x2048x124, .f32⟩
  | 126 => ⟨S32x2048x124, .f32⟩
  | 127 => ⟨S32x2048x124, .f32⟩
  | _ => ⟨S32x2048x1024, .f32⟩

abbrev hbmTy0_1 (i : Nat) : BufTy := match i % 128 with
  | 0 => ⟨S32x2048x124, .f32⟩
  | 1 => ⟨S32x2048x124, .f32⟩
  | 2 => ⟨S32x2048x124, .f32⟩
  | 3 => ⟨S32x2048x124, .f32⟩
  | 4 => ⟨S1x1x124, .f32⟩
  | 5 => ⟨S32x2048x124, .f32⟩
  | 6 => ⟨S32x2048x124, .f32⟩
  | 7 => ⟨S32x2048x2048, .f32⟩
  | 8 => ⟨S65536x2048, .f32⟩
  | 9 => ⟨S65536x512, .f32⟩
  | 10 => ⟨S65536x512, .f32⟩
  | 11 => ⟨S65536x512, .f32⟩
  | 12 => ⟨S32x2048x512, .f32⟩
  | 13 => ⟨S32x2048x512, .f32⟩
  | 14 => ⟨S_, .f32⟩
  | 15 => ⟨S32x2048x512, .f32⟩
  | 16 => ⟨S32x2048x512, .f32⟩
  | 17 => ⟨S_, .f32⟩
  | 18 => ⟨S32x2048x512, .f32⟩
  | 19 => ⟨S32x2048x512, .f32⟩
  | 20 => ⟨S32x2048x512, .f32⟩
  | 21 => ⟨S65536x512, .f32⟩
  | 22 => ⟨S65536x2048, .f32⟩
  | 23 => ⟨S65536x2048, .bf16⟩
  | 24 => ⟨S65536x4, .f32⟩
  | 25 => ⟨S65536x124, .f32⟩
  | 26 => ⟨S65536x128, .f32⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_call0_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_2 : Ref sig .tc := ⟨.hbm, 59, rfl⟩
abbrev main_v48 : Ref sig .tc := ⟨.hbm, 60, rfl⟩
abbrev main_v49 : Ref sig .tc := ⟨.hbm, 61, rfl⟩
abbrev main_cst_3 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst_4 : Ref sig .tc := ⟨.hbm, 74, rfl⟩
abbrev main_v61 : Ref sig .tc := ⟨.hbm, 75, rfl⟩
abbrev main_v62 : Ref sig .tc := ⟨.hbm, 76, rfl⟩
abbrev main_cst_5 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_6 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_7 : Ref sig .tc := ⟨.hbm, 87, rfl⟩
abbrev main_v71 : Ref sig .tc := ⟨.hbm, 88, rfl⟩
abbrev main_v72 : Ref sig .tc := ⟨.hbm, 89, rfl⟩
abbrev main_cst_8 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_cst_9 : Ref sig .tc := ⟨.hbm, 98, rfl⟩
abbrev main_v80 : Ref sig .tc := ⟨.hbm, 99, rfl⟩
abbrev main_v81 : Ref sig .tc := ⟨.hbm, 100, rfl⟩
abbrev main_cst_10 : Ref sig .tc := ⟨.hbm, 101, rfl⟩
abbrev main_v82 : Ref sig .tc := ⟨.hbm, 102, rfl⟩
abbrev main_v83 : Ref sig .tc := ⟨.hbm, 103, rfl⟩
abbrev main_c_11 : Ref sig .tc := ⟨.hbm, 104, rfl⟩
abbrev main_call1_v0 : Ref sig .tc := ⟨.hbm, 105, rfl⟩
abbrev main_v84 : Ref sig .tc := ⟨.hbm, 106, rfl⟩
abbrev main_c_12 : Ref sig .tc := ⟨.hbm, 107, rfl⟩
abbrev main_call2_v0 : Ref sig .tc := ⟨.hbm, 108, rfl⟩
abbrev main_v85 : Ref sig .tc := ⟨.hbm, 109, rfl⟩
abbrev main_c_13 : Ref sig .tc := ⟨.hbm, 110, rfl⟩
abbrev main_call3_v0 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_call4_cst : Ref sig .tc := ⟨.hbm, 118, rfl⟩
abbrev main_call4_v0 : Ref sig .tc := ⟨.hbm, 119, rfl⟩
abbrev main_call4_v1 : Ref sig .tc := ⟨.hbm, 120, rfl⟩
abbrev main_call4_v2 : Ref sig .tc := ⟨.hbm, 121, rfl⟩
abbrev main_call4_v3 : Ref sig .tc := ⟨.hbm, 122, rfl⟩
abbrev main_call4_v4 : Ref sig .tc := ⟨.hbm, 123, rfl⟩
abbrev main_call4_v5 : Ref sig .tc := ⟨.hbm, 124, rfl⟩
abbrev main_call4_v6 : Ref sig .tc := ⟨.hbm, 125, rfl⟩
abbrev main_call4_v7 : Ref sig .tc := ⟨.hbm, 126, rfl⟩
abbrev main_call4_v8 : Ref sig .tc := ⟨.hbm, 127, rfl⟩
abbrev main_call4_v9 : Ref sig .tc := ⟨.hbm, 128, rfl⟩
abbrev main_call4_v10 : Ref sig .tc := ⟨.hbm, 129, rfl⟩
abbrev main_call4_v11 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_14 : Ref sig .tc := ⟨.hbm, 142, rfl⟩
abbrev main_v103 : Ref sig .tc := ⟨.hbm, 143, rfl⟩
abbrev main_v104 : Ref sig .tc := ⟨.hbm, 144, rfl⟩
abbrev main_cst_15 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩

abbrev nD : Nat := 1
abbrev τ : Topo := Topo.v7x

variable {F : FTy → Type} [FloatOps F]
-- ==== Outproj.lean ====
abbrev S32x2048x1024 : Shape := ⟨3, ![32, 2048, 1024]⟩
abbrev S32x2048x512 : Shape := ⟨3, ![32, 2048, 512]⟩
abbrev S1024x1024 : Shape := ⟨2, ![1024, 1024]⟩
abbrev S1024 : Shape := ⟨1, ![1024]⟩
abbrev S65536x1024 : Shape := ⟨2, ![65536, 1024]⟩
abbrev S65536x512 : Shape := ⟨2, ![65536, 512]⟩
abbrev S512x1024 : Shape := ⟨2, ![512, 1024]⟩
abbrev S1x1024 : Shape := ⟨2, ![1, 1024]⟩
abbrev S3x1024x1024 : Shape := ⟨3, ![3, 1024, 1024]⟩
abbrev S3x1024x512 : Shape := ⟨3, ![3, 1024, 512]⟩
abbrev S2x1024x1024 : Shape := ⟨3, ![2, 1024, 1024]⟩
abbrev S3x3 : Shape := ⟨2, ![3, 3]⟩
abbrev S2 : Shape := ⟨1, ![2]⟩
abbrev S1x1 : Shape := ⟨2, ![1, 1]⟩
abbrev S_ : Shape := ⟨0, ![]⟩
abbrev S1x1024x1024 : Shape := ⟨3, ![1, 1024, 1024]⟩
abbrev S1x1024x512 : Shape := ⟨3, ![1, 1024, 512]⟩
abbrev S1024x512 : Shape := ⟨2, ![1024, 512]⟩
abbrev S1 : Shape := ⟨1, ![1]⟩
abbrev S1024x1 : Shape := ⟨2, ![1024, 1]⟩

abbrev nBuf : Space → Nat
  | .hbm => 13
  | .vmem => 7
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .bf16⟩
  | .hbm, ⟨2, _⟩ => ⟨S32x2048x512, .bf16⟩
  | .hbm, ⟨3, _⟩ => ⟨S1024x1024, .f32⟩
  | .hbm, ⟨4, _⟩ => ⟨S1024, .f32⟩
  | .hbm, ⟨5, _⟩ => ⟨S1024x1024, .bf16⟩
  | .hbm, ⟨6, _⟩ => ⟨S65536x1024, .f32⟩
  | .hbm, ⟨7, _⟩ => ⟨S65536x512, .bf16⟩
  | .hbm, ⟨8, _⟩ => ⟨S65536x512, .bf16⟩
  | .hbm, ⟨9, _⟩ => ⟨S512x1024, .bf16⟩
  | .hbm, ⟨10, _⟩ => ⟨S512x1024, .bf16⟩
  | .hbm, ⟨11, _⟩ => ⟨S1x1024, .f32⟩
  | .hbm, ⟨12, _⟩ => ⟨S65536x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024, .f32⟩
  | .local _ .vmem, ⟨3, _⟩ => ⟨S3x1024x1024, .f32⟩
  | .local _ .vmem, ⟨4, _⟩ => ⟨S3x1024x512, .bf16⟩
  | .local _ .vmem, ⟨5, _⟩ => ⟨S3x1024x512, .bf16⟩
  | .local _ .vmem, ⟨6, _⟩ => ⟨S2x1024x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def k0_mult1 : BitVec 32 :=
  let c0_i32 : BitVec 32 := 0#32
  c0_i32
def k0_mult2 : BitVec 32 :=
  let c1024_i32 : BitVec 32 := 1024#32
  c1024_i32
@[reducible] def k0_t1_loop : Scf.Loop 32 :=
  let c0_i32_34 : BitVec 32 := 0#32
  let c64_i32 : BitVec 32 := 64#32
  let v32 : BitVec 32 := Scalar.addi c0_i32_34 c64_i32
  let c1_i32_35 : BitVec 32 := 1#32
  ⟨c0_i32_34, v32, c1_i32_35⟩
def k0_cond1 (k0_t1 : Fin k0_t1_loop.trips) : BitVec 1 :=
  let c0_i32_34 : BitVec 32 := 0#32
  let c1_i32_35 : BitVec 32 := 1#32
  let arg14 : BitVec 32 := Scf.iv c0_i32_34 c1_i32_35 k0_t1
  let c3_i32_48 : BitVec 32 := 3#32
  let v47 : BitVec 32 := Scalar.addi arg14 c3_i32_48
  let c1_i32_49 : BitVec 32 := 1#32
  let v48 : BitVec 32 := Scalar.subi v47 c1_i32_49
  let c64_i32_50 : BitVec 32 := 64#32
  let v49 : BitVec 1 := Scalar.cmpi .slt v48 c64_i32_50
  let v50 : BitVec 32 := Scalar.extui v49
  let c0_i32_51 : BitVec 32 := 0#32
  let v51 : BitVec 1 := Scalar.cmpi .ne v50 c0_i32_51
  v51

def k0_mult3 (k0_t1 : Fin k0_t1_loop.trips) : BitVec 32 :=
  let c0_i32_34 : BitVec 32 := 0#32
  let c1_i32_35 : BitVec 32 := 1#32
  let arg14 : BitVec 32 := Scf.iv c0_i32_34 c1_i32_35 k0_t1
  let c3_i32_48 : BitVec 32 := 3#32
  let v47 : BitVec 32 := Scalar.addi arg14 c3_i32_48
  let c1_i32_49 : BitVec 32 := 1#32
  let v48 : BitVec 32 := Scalar.subi v47 c1_i32_49
  let c1024_i32_89 : BitVec 32 := 1024#32
  let v115 : BitVec 32 := Scalar.muli v48 c1024_i32_89
  v115
def k0_off1 (k0_t1 : Fin k0_t1_loop.trips) : Fin 2 → Nat :=
  let c0_i32_90 : BitVec 32 := 0#32
  let c0_i32_34 : BitVec 32 := 0#32
  let c1_i32_35 : BitVec 32 := 1#32
  let arg14 : BitVec 32 := Scf.iv c0_i32_34 c1_i32_35 k0_t1
  let c3_i32_48 : BitVec 32 := 3#32
  let v47 : BitVec 32 := Scalar.addi arg14 c3_i32_48
  let c1_i32_49 : BitVec 32 := 1#32
  let v48 : BitVec 32 := Scalar.subi v47 c1_i32_49
  let c3_i32_88 : BitVec 32 := 3#32
  let v114 : BitVec 32 := Scalar.remsi v48 c3_i32_88
  ![0, v114.toNat]
def k0_off2 (k0_t1 : Fin k0_t1_loop.trips) : Fin 3 → Nat :=
  let c0_i32_34 : BitVec 32 := 0#32
  let c1_i32_35 : BitVec 32 := 1#32
  let arg14 : BitVec 32 := Scf.iv c0_i32_34 c1_i32_35 k0_t1
  let c3_i32_48 : BitVec 32 := 3#32
  let v47 : BitVec 32 := Scalar.addi arg14 c3_i32_48
  let c1_i32_49 : BitVec 32 := 1#32
  let v48 : BitVec 32 := Scalar.subi v47 c1_i32_49
  let c3_i32_88 : BitVec 32 := 3#32
  let v114 : BitVec 32 := Scalar.remsi v48 c3_i32_88
  let c0_i32_91 : BitVec 32 := 0#32
  let c0_i32_92 : BitVec 32 := 0#32
  ![v114.toNat, 0, 0]
def k0_off3 (k0_t1 : Fin k0_t1_loop.trips) : Fin 2 → Nat :=
  let c0_i32_34 : BitVec 32 := 0#32
  let c1_i32_35 : BitVec 32 := 1#32
  let arg14 : BitVec 32 := Scf.iv c0_i32_34 c1_i32_35 k0_t1
  let c3_i32_48 : BitVec 32 := 3#32
  let v47 : BitVec 32 := Scalar.addi arg14 c3_i32_48
  let c1_i32_49 : BitVec 32 := 1#32
  let v48 : BitVec 32 := Scalar.subi v47 c1_i32_49
  let c1024_i32_89 : BitVec 32 := 1024#32
  let v115 : BitVec 32 := Scalar.muli v48 c1024_i32_89
  let v116 : BitVec 32 := v115
  let c0_i32_93 : BitVec 32 := 0#32
  ![v116.toNat, 0]
def k0_off4 (k0_t1 : Fin k0_t1_loop.trips) : Fin 2 → Nat :=
  let c1_i32_94 : BitVec 32 := 1#32
  let c0_i32_34 : BitVec 32 := 0#32
  let c1_i32_35 : BitVec 32 := 1#32
  let arg14 : BitVec 32 := Scf.iv c0_i32_34 c1_i32_35 k0_t1
  let c3_i32_48 : BitVec 32 := 3#32
  let v47 : BitVec 32 := Scalar.addi arg14 c3_i32_48
  let c1_i32_49 : BitVec 32 := 1#32
  let v48 : BitVec 32 := Scalar.subi v47 c1_i32_49
  let c3_i32_88 : BitVec 32 := 3#32
  let v114 : BitVec 32 := Scalar.remsi v48 c3_i32_88
  ![1, v114.toNat]
def k0_off5 (k0_t1 : Fin k0_t1_loop.trips) : Fin 3 → Nat :=
  let c0_i32_34 : BitVec 32 := 0#32
  let c1_i32_35 : BitVec 32 := 1#32
  let arg14 : BitVec 32 := Scf.iv c0_i32_34 c1_i32_35 k0_t1
  let c3_i32_48 : BitVec 32 := 3#32
  let v47 : BitVec 32 := Scalar.addi arg14 c3_i32_48
  let c1_i32_49 : BitVec 32 := 1#32
  let v48 : BitVec 32 := Scalar.subi v47 c1_i32_49
  let c3_i32_88 : BitVec 32 := 3#32
  let v114 : BitVec 32 := Scalar.remsi v48 c3_i32_88
  let c0_i32_95 : BitVec 32 := 0#32
  let c0_i32_96 : BitVec 32 := 0#32
  ![v114.toNat, 0, 0]
def k0_off6 (k0_t1 : Fin k0_t1_loop.trips) : Fin 2 → Nat :=
  let c0_i32_34 : BitVec 32 := 0#32
  let c1_i32_35 : BitVec 32 := 1#32
  let arg14 : BitVec 32 := Scf.iv c0_i32_34 c1_i32_35 k0_t1
  let c3_i32_48 : BitVec 32 := 3#32
  let v47 : BitVec 32 := Scalar.addi arg14 c3_i32_48
  let c1_i32_49 : BitVec 32 := 1#32
  let v48 : BitVec 32 := Scalar.subi v47 c1_i32_49
  let c1024_i32_89 : BitVec 32 := 1024#32
  let v115 : BitVec 32 := Scalar.muli v48 c1024_i32_89
  let v116 : BitVec 32 := v115
  let c0_i32_97 : BitVec 32 := 0#32
  ![v116.toNat, 0]
def k0_off7 (k0_t1 : Fin k0_t1_loop.trips) : Fin 2 → Nat :=
  let c2_i32_98 : BitVec 32 := 2#32
  let c0_i32_34 : BitVec 32 := 0#32
  let c1_i32_35 : BitVec 32 := 1#32
  let arg14 : BitVec 32 := Scf.iv c0_i32_34 c1_i32_35 k0_t1
  let c3_i32_48 : BitVec 32 := 3#32
  let v47 : BitVec 32 := Scalar.addi arg14 c3_i32_48
  let c1_i32_49 : BitVec 32 := 1#32
  let v48 : BitVec 32 := Scalar.subi v47 c1_i32_49
  let c3_i32_88 : BitVec 32 := 3#32
  let v114 : BitVec 32 := Scalar.remsi v48 c3_i32_88
  ![2, v114.toNat]
def k0_mult4 (k0_t1 : Fin k0_t1_loop.trips) : BitVec 32 :=
  let c0_i32_34 : BitVec 32 := 0#32
  let c1_i32_35 : BitVec 32 := 1#32
  let arg14 : BitVec 32 := Scf.iv c0_i32_34 c1_i32_35 k0_t1
  let c1024_i32_52 : BitVec 32 := 1024#32
  let v52 : BitVec 32 := Scalar.muli arg14 c1024_i32_52
  v52
def k0_off8 (k0_t1 : Fin k0_t1_loop.trips) : Fin 2 → Nat :=
  let c0_i32_53 : BitVec 32 := 0#32
  let c0_i32_34 : BitVec 32 := 0#32
  let c1_i32_35 : BitVec 32 := 1#32
  let arg14 : BitVec 32 := Scf.iv c0_i32_34 c1_i32_35 k0_t1
  let c3_i32 : BitVec 32 := 3#32
  let v45 : BitVec 32 := Scalar.remsi arg14 c3_i32
  ![0, v45.toNat]
def k0_off9 (k0_t1 : Fin k0_t1_loop.trips) : Fin 3 → Nat :=
  let c0_i32_34 : BitVec 32 := 0#32
  let c1_i32_35 : BitVec 32 := 1#32
  let arg14 : BitVec 32 := Scf.iv c0_i32_34 c1_i32_35 k0_t1
  let c3_i32 : BitVec 32 := 3#32
  let v45 : BitVec 32 := Scalar.remsi arg14 c3_i32
  let c0_i32_54 : BitVec 32 := 0#32
  let c0_i32_55 : BitVec 32 := 0#32
  ![v45.toNat, 0, 0]
def k0_off10 (k0_t1 : Fin k0_t1_loop.trips) : Fin 2 → Nat :=
  let c0_i32_34 : BitVec 32 := 0#32
  let c1_i32_35 : BitVec 32 := 1#32
  let arg14 : BitVec 32 := Scf.iv c0_i32_34 c1_i32_35 k0_t1
  let c1024_i32_52 : BitVec 32 := 1024#32
  let v52 : BitVec 32 := Scalar.muli arg14 c1024_i32_52
  let v53 : BitVec 32 := v52
  let c0_i32_56 : BitVec 32 := 0#32
  ![v53.toNat, 0]
def k0_off11 (k0_t1 : Fin k0_t1_loop.trips) : Fin 2 → Nat :=
  let c1_i32_57 : BitVec 32 := 1#32
  let c0_i32_34 : BitVec 32 := 0#32
  let c1_i32_35 : BitVec 32 := 1#32
  let arg14 : BitVec 32 := Scf.iv c0_i32_34 c1_i32_35 k0_t1
  let c3_i32 : BitVec 32 := 3#32
  let v45 : BitVec 32 := Scalar.remsi arg14 c3_i32
  ![1, v45.toNat]
def k0_off12 (k0_t1 : Fin k0_t1_loop.trips) : Fin 3 → Nat :=
  let c0_i32_34 : BitVec 32 := 0#32
  let c1_i32_35 : BitVec 32 := 1#32
  let arg14 : BitVec 32 := Scf.iv c0_i32_34 c1_i32_35 k0_t1
  let c3_i32 : BitVec 32 := 3#32
  let v45 : BitVec 32 := Scalar.remsi arg14 c3_i32
  let c0_i32_58 : BitVec 32 := 0#32
  let c0_i32_59 : BitVec 32 := 0#32
  ![v45.toNat, 0, 0]
def k0_off13 (k0_t1 : Fin k0_t1_loop.trips) : Fin 2 → Nat :=
  let c0_i32_34 : BitVec 32 := 0#32
  let c1_i32_35 : BitVec 32 := 1#32
  let arg14 : BitVec 32 := Scf.iv c0_i32_34 c1_i32_35 k0_t1
  let c1024_i32_52 : BitVec 32 := 1024#32
  let v52 : BitVec 32 := Scalar.muli arg14 c1024_i32_52
  let v53 : BitVec 32 := v52
  let c0_i32_60 : BitVec 32 := 0#32
  ![v53.toNat, 0]
def k0_off14 (k0_t1 : Fin k0_t1_loop.trips) : Fin 2 → Nat :=
  let c2_i32_61 : BitVec 32 := 2#32
  let c0_i32_34 : BitVec 32 := 0#32
  let c1_i32_35 : BitVec 32 := 1#32
  let arg14 : BitVec 32 := Scf.iv c0_i32_34 c1_i32_35 k0_t1
  let c3_i32 : BitVec 32 := 3#32
  let v45 : BitVec 32 := Scalar.remsi arg14 c3_i32
  ![2, v45.toNat]
def k0_cond2 (k0_t1 : Fin k0_t1_loop.trips) : BitVec 1 :=
  let c0_i32_34 : BitVec 32 := 0#32
  let c1_i32_35 : BitVec 32 := 1#32
  let arg14 : BitVec 32 := Scf.iv c0_i32_34 c1_i32_35 k0_t1
  let c2_i32_65 : BitVec 32 := 2#32
  let v69 : BitVec 1 := Scalar.cmpi .sge arg14 c2_i32_65
  let v70 : BitVec 32 := Scalar.extui v69
  let c0_i32_66 : BitVec 32 := 0#32
  let v71 : BitVec 1 := Scalar.cmpi .ne v70 c0_i32_66
  v71

def k0_mult5 (k0_t1 : Fin k0_t1_loop.trips) : BitVec 32 :=
  let c0_i32_34 : BitVec 32 := 0#32
  let c1_i32_35 : BitVec 32 := 1#32
  let arg14 : BitVec 32 := Scf.iv c0_i32_34 c1_i32_35 k0_t1
  let c2_i32_88 : BitVec 32 := 2#32
  let v114 : BitVec 32 := Scalar.subi arg14 c2_i32_88
  let c1024_i32_89 : BitVec 32 := 1024#32
  let v115 : BitVec 32 := Scalar.muli v114 c1024_i32_89
  v115
def k0_off15 (k0_t1 : Fin k0_t1_loop.trips) : Fin 1 → Nat :=
  let c0_i32_34 : BitVec 32 := 0#32
  let c1_i32_35 : BitVec 32 := 1#32
  let arg14 : BitVec 32 := Scf.iv c0_i32_34 c1_i32_35 k0_t1
  let c2_i32_47 : BitVec 32 := 2#32
  let v46 : BitVec 32 := Scalar.remsi arg14 c2_i32_47
  ![v46.toNat]
def k0_off16 (k0_t1 : Fin k0_t1_loop.trips) : Fin 2 → Nat :=
  let c0_i32_34 : BitVec 32 := 0#32
  let c1_i32_35 : BitVec 32 := 1#32
  let arg14 : BitVec 32 := Scf.iv c0_i32_34 c1_i32_35 k0_t1
  let c2_i32_88 : BitVec 32 := 2#32
  let v114 : BitVec 32 := Scalar.subi arg14 c2_i32_88
  let c1024_i32_89 : BitVec 32 := 1024#32
  let v115 : BitVec 32 := Scalar.muli v114 c1024_i32_89
  let v116 : BitVec 32 := v115
  let c0_i32_90 : BitVec 32 := 0#32
  ![v116.toNat, 0]
def k0_off17 (k0_t1 : Fin k0_t1_loop.trips) : Fin 3 → Nat :=
  let c0_i32_34 : BitVec 32 := 0#32
  let c1_i32_35 : BitVec 32 := 1#32
  let arg14 : BitVec 32 := Scf.iv c0_i32_34 c1_i32_35 k0_t1
  let c2_i32_47 : BitVec 32 := 2#32
  let v46 : BitVec 32 := Scalar.remsi arg14 c2_i32_47
  let c0_i32_91 : BitVec 32 := 0#32
  let c0_i32_92 : BitVec 32 := 0#32
  ![v46.toNat, 0, 0]
def k0_off18 (k0_t1 : Fin k0_t1_loop.trips) : Fin 3 → Nat :=
  let c0_i32_34 : BitVec 32 := 0#32
  let c1_i32_35 : BitVec 32 := 1#32
  let arg14 : BitVec 32 := Scf.iv c0_i32_34 c1_i32_35 k0_t1
  let c3_i32 : BitVec 32 := 3#32
  let v45 : BitVec 32 := Scalar.remsi arg14 c3_i32
  let v72 : Index := Scalar.indexCast v45
  let c0 : Index := 0#32
  let c0_67 : Index := 0#32
  ![v72.toNat, 0, 0]
def k0_off19 (k0_t1 : Fin k0_t1_loop.trips) : Fin 3 → Nat :=
  let c0_i32_34 : BitVec 32 := 0#32
  let c1_i32_35 : BitVec 32 := 1#32
  let arg14 : BitVec 32 := Scf.iv c0_i32_34 c1_i32_35 k0_t1
  let c3_i32 : BitVec 32 := 3#32
  let v45 : BitVec 32 := Scalar.remsi arg14 c3_i32
  let v99 : Index := Scalar.indexCast v45
  let c0_80 : Index := 0#32
  let c0_81 : Index := 0#32
  ![v99.toNat, 0, 0]
def k0_off20 (k0_t1 : Fin k0_t1_loop.trips) : Fin 3 → Nat :=
  let c0_i32_34 : BitVec 32 := 0#32
  let c1_i32_35 : BitVec 32 := 1#32
  let arg14 : BitVec 32 := Scf.iv c0_i32_34 c1_i32_35 k0_t1
  let c2_i32_47 : BitVec 32 := 2#32
  let v46 : BitVec 32 := Scalar.remsi arg14 c2_i32_47
  let v103 : Index := Scalar.indexCast v46
  let c0_82 : Index := 0#32
  let c0_83 : Index := 0#32
  ![v103.toNat, 0, 0]
def k0_mult6 (k0_t1 : Fin k0_t1_loop.trips) : BitVec 32 :=
  let c0_i32_34 : BitVec 32 := 0#32
  let c1_i32_35 : BitVec 32 := 1#32
  let arg14 : BitVec 32 := Scf.iv c0_i32_34 c1_i32_35 k0_t1
  let c1024_i32_84 : BitVec 32 := 1024#32
  let v107 : BitVec 32 := Scalar.muli arg14 c1024_i32_84
  v107
def k0_off21 (k0_t1 : Fin k0_t1_loop.trips) : Fin 1 → Nat :=
  let c0_i32_34 : BitVec 32 := 0#32
  let c1_i32_35 : BitVec 32 := 1#32
  let arg14 : BitVec 32 := Scf.iv c0_i32_34 c1_i32_35 k0_t1
  let c2_i32_47 : BitVec 32 := 2#32
  let v46 : BitVec 32 := Scalar.remsi arg14 c2_i32_47
  ![v46.toNat]
def k0_off22 (k0_t1 : Fin k0_t1_loop.trips) : Fin 3 → Nat :=
  let c0_i32_34 : BitVec 32 := 0#32
  let c1_i32_35 : BitVec 32 := 1#32
  let arg14 : BitVec 32 := Scf.iv c0_i32_34 c1_i32_35 k0_t1
  let c2_i32_47 : BitVec 32 := 2#32
  let v46 : BitVec 32 := Scalar.remsi arg14 c2_i32_47
  let c0_i32_86 : BitVec 32 := 0#32
  let c0_i32_87 : BitVec 32 := 0#32
  ![v46.toNat, 0, 0]
def k0_mult7 : BitVec 32 :=
  let c63488_i32 : BitVec 32 := 63488#32
  c63488_i32
def k0_mult8 : BitVec 32 :=
  let c64512_i32 : BitVec 32 := 64512#32
  c64512_i32
def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== RefOutprojIdeal.lean ====
abbrev S32x2048x1024 : Shape := ⟨3, ![32, 2048, 1024]⟩
abbrev S32x2048x512 : Shape := ⟨3, ![32, 2048, 512]⟩
abbrev S1024x1024 : Shape := ⟨2, ![1024, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S65536x1024 : Shape := ⟨2, ![65536, 1024]⟩

abbrev nBuf : Space → Nat
  | .hbm => 26
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .bf16⟩
  | .hbm, ⟨2, _⟩ => ⟨S32x2048x512, .bf16⟩
  | .hbm, ⟨3, _⟩ => ⟨S1024x1024, .f32⟩
  | .hbm, ⟨4, _⟩ => ⟨S1024, .f32⟩
  | .hbm, ⟨5, _⟩ => ⟨S32x2048x1024, .bf16⟩
  | .hbm, ⟨6, _⟩ => ⟨S32x2048x1024, .f32⟩
  | .hbm, ⟨7, _⟩ => ⟨S32x2048x1024, .f32⟩
  | .hbm, ⟨8, _⟩ => ⟨S32x2048x1024, .f32⟩
  | .hbm, ⟨9, _⟩ => ⟨S_, .f32⟩
  | .hbm, ⟨10, _⟩ => ⟨S32x2048, .f32⟩
  | .hbm, ⟨11, _⟩ => ⟨S32x2048x1, .f32⟩
  | .hbm, ⟨12, _⟩ => ⟨S_, .f32⟩
  | .hbm, ⟨13, _⟩ => ⟨S32x2048x1, .f32⟩
  | .hbm, ⟨14, _⟩ => ⟨S32x2048x1, .f32⟩
  | .hbm, ⟨15, _⟩ => ⟨S_, .f32⟩
  | .hbm, ⟨16, _⟩ => ⟨S32x2048x1, .f32⟩
  | .hbm, ⟨17, _⟩ => ⟨S32x2048x1, .f32⟩
  | .hbm, ⟨18, _⟩ => ⟨S32x2048x1, .f32⟩
  | .hbm, ⟨19, _⟩ => ⟨S32x2048x1024, .f32⟩
  | .hbm, ⟨20, _⟩ => ⟨S32x2048x1024, .f32⟩
  | .hbm, ⟨21, _⟩ => ⟨S1x1x1024, .f32⟩
  | .hbm, ⟨22, _⟩ => ⟨S32x2048x1024, .f32⟩
  | .hbm, ⟨23, _⟩ => ⟨S32x2048x1024, .f32⟩
  | .hbm, ⟨24, _⟩ => ⟨S32x2048x1024, .f32⟩
  | .hbm, ⟨25, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Gdn.lean ====
abbrev S65536x2048 : Shape := ⟨2, ![65536, 2048]⟩
abbrev S65536x128 : Shape := ⟨2, ![65536, 128]⟩
abbrev S128 : Shape := ⟨1, ![128]⟩
abbrev S1x128 : Shape := ⟨2, ![1, 128]⟩
abbrev S32x2048x2048 : Shape := ⟨3, ![32, 2048, 2048]⟩
abbrev S32x2048x128 : Shape := ⟨3, ![32, 2048, 128]⟩
abbrev S32x2048x512 : Shape := ⟨3, ![32, 2048, 512]⟩
abbrev S1x2048x512 : Shape := ⟨3, ![1, 2048, 512]⟩
abbrev S1x2048x128 : Shape := ⟨3, ![1, 2048, 128]⟩
abbrev S2048x128 : Shape := ⟨2, ![2048, 128]⟩
abbrev S4x2048x128 : Shape := ⟨3, ![4, 2048, 128]⟩
abbrev S4x6144x128 : Shape := ⟨3, ![4, 6144, 128]⟩
abbrev S4x128x128 : Shape := ⟨3, ![4, 128, 128]⟩
abbrev S4x2048x256 : Shape := ⟨3, ![4, 2048, 256]⟩
abbrev S256x256 : Shape := ⟨2, ![256, 256]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S128x128 : Shape := ⟨2, ![128, 128]⟩
abbrev S128x256 : Shape := ⟨2, ![128, 256]⟩
abbrev S1x256 : Shape := ⟨2, ![1, 256]⟩
abbrev S64x256 : Shape := ⟨2, ![64, 256]⟩
abbrev S384x128 : Shape := ⟨2, ![384, 128]⟩
abbrev S8x128 : Shape := ⟨2, ![8, 128]⟩
abbrev S1x256x256 : Shape := ⟨3, ![1, 256, 256]⟩
abbrev S1x384x128 : Shape := ⟨3, ![1, 384, 128]⟩
abbrev S1x128x128 : Shape := ⟨3, ![1, 128, 128]⟩
abbrev S1x8x128 : Shape := ⟨3, ![1, 8, 128]⟩
abbrev S1x128x256 : Shape := ⟨3, ![1, 128, 256]⟩
abbrev S128x1 : Shape := ⟨2, ![128, 1]⟩
abbrev S128x512 : Shape := ⟨2, ![128, 512]⟩
abbrev S1x128x512 : Shape := ⟨3, ![1, 128, 512]⟩

abbrev nBuf : Space → Nat
  | .hbm => 7
  | .vmem => 19
  | .smem => 0
  | _ => 0

abbrev bufTy : (tb : Table) → Fin (tcTables nBuf tb) → BufTy
  | .hbm, ⟨0, _⟩ => ⟨S65536x2048, .bf16⟩
  | .hbm, ⟨1, _⟩ => ⟨S65536x128, .f32⟩
  | .hbm, ⟨2, _⟩ => ⟨S128, .f32⟩
  | .hbm, ⟨3, _⟩ => ⟨S1x128, .f32⟩
  | .hbm, ⟨4, _⟩ => ⟨S32x2048x2048, .bf16⟩
  | .hbm, ⟨5, _⟩ => ⟨S32x2048x128, .f32⟩
  | .hbm, ⟨6, _⟩ => ⟨S32x2048x512, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x128, .f32⟩
  | .local _ .vmem, ⟨9, _⟩ => ⟨S1x2048x128, .f32⟩
  | .local _ .vmem, ⟨10, _⟩ => ⟨S1x128, .f32⟩
  | .local _ .vmem, ⟨11, _⟩ => ⟨S1x2048x512, .bf16⟩
  | .local _ .vmem, ⟨12, _⟩ => ⟨S1x2048x512, .bf16⟩
  | .local _ .vmem, ⟨13, _⟩ => ⟨S2048x128, .f32⟩
  | .local _ .vmem, ⟨14, _⟩ => ⟨S4x2048x128, .f32⟩
  | .local _ .vmem, ⟨15, _⟩ => ⟨S4x6144x128, .bf16⟩
  | .local _ .vmem, ⟨16, _⟩ => ⟨S4x2048x128, .f32⟩
  | .local _ .vmem, ⟨17, _⟩ => ⟨S4x128x128, .f32⟩
  | .local _ .vmem, ⟨18, _⟩ => ⟨S4x2048x256, .bf16⟩
  | _, _ => ⟨S65536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 1], ![false, false]⟩

@[reducible] def k0_t1_loop : Scf.Loop 32 :=
  let c0_i32_2 : BitVec 32 := 0#32
  let c4_i32 : BitVec 32 := 4#32
  let v15 : BitVec 32 := Scalar.addi c0_i32_2 c4_i32
  let c1_i32 : BitVec 32 := 1#32
  ⟨c0_i32_2, v15, c1_i32⟩
def k0_mult1 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32 : BitVec 32 := 2#32
  let v24 : BitVec 32 := Scalar.muli arg15 c2_i32
  let c0_i32_11 : BitVec 32 := 0#32
  let v25 : BitVec 32 := Scalar.addi v24 c0_i32_11
  let c256_i32 : BitVec 32 := 256#32
  let v26 : BitVec 32 := Scalar.muli v25 c256_i32
  v26
def k0_off1 (k0_t1 : Fin k0_t1_loop.trips) (c0_i32_11 : BitVec 32) : Fin 2 → Nat :=
  let c0_i32_2 : BitVec 32 := 0#32
  let c1_i32 : BitVec 32 := 1#32
  let arg15 : BitVec 32 := Scf.iv c0_i32_2 c1_i32 k0_t1
  let c2_i32 : BitVec 32 := 2#32
  let v24 : BitVec 32 := Scalar.muli arg15 c2_i32
  let v25 : BitVec 32 := Scalar.addi v24 c0_i32_11
  let c256_i32 : BitVec 32 := 256#32
  let v26 : BitVec 32 := Scalar.muli v25 c256_i32
  let v27 : BitVec 32 := v26
  let v30 : Index := Scalar.indexCast v27
  let c0_14 : Index := 0#32
  ![v30.toNat, 0]
def k0_off2 (k0_t1 : Fin k0_t1_loop.trips) (c0_i32_11 : BitVec 32) : Fin 3 → Nat :=
  let c0_15 : Index := 0#32
  let c0_i32_2 : BitVec 32 := 0#32
  let c1_i32 : BitVec 32 := 1#32
  let arg15 : BitVec 32 := Scf.iv c0_i32_2 c1_i32 k0_t1
  let c2_i32 : BitVec 32 := 2#32
  let v24 : BitVec 32 := Scalar.muli arg15 c2_i32
  let v25 : BitVec 32 := Scalar.addi v24 c0_i32_11
  let c256_i32 : BitVec 32 := 256#32
  let v26 : BitVec 32 := Scalar.muli v25 c256_i32
  let v27 : BitVec 32 := v26
  let v32 : Index := Scalar.indexCast v27
  let c0_16 : Index := 0#32
  ![0, v32.toNat, 0]
def k0_off3 (k0_t1 : Fin k0_t1_loop.trips) (c0_i32_11 : BitVec 32) : Fin 3 → Nat :=
  let c0_24 : Index := 0#32
  let c0_i32_2 : BitVec 32 := 0#32
  let c1_i32 : BitVec 32 := 1#32
  let arg15 : BitVec 32 := Scf.iv c0_i32_2 c1_i32 k0_t1
  let c2_i32 : BitVec 32 := 2#32
  let v24 : BitVec 32 := Scalar.muli arg15 c2_i32
  let v25 : BitVec 32 := Scalar.addi v24 c0_i32_11
  let c256_i32 : BitVec 32 := 256#32
  let v26 : BitVec 32 := Scalar.muli v25 c256_i32
  let v27 : BitVec 32 := v26
  let v48 : Index := Scalar.indexCast v27
  let c128 : Index := 128#32
  ![0, v48.toNat, 128]
def k0_off4 (k0_t1 : Fin k0_t1_loop.trips) (c0_i32_11 : BitVec 32) : Fin 3 → Nat :=
  let c0_32 : Index := 0#32
  let c0_i32_2 : BitVec 32 := 0#32
  let c1_i32 : BitVec 32 := 1#32
  let arg15 : BitVec 32 := Scf.iv c0_i32_2 c1_i32 k0_t1
  let c2_i32 : BitVec 32 := 2#32
  let v24 : BitVec 32 := Scalar.muli arg15 c2_i32
  let v25 : BitVec 32 := Scalar.addi v24 c0_i32_11
  let c256_i32 : BitVec 32 := 256#32
  let v26 : BitVec 32 := Scalar.muli v25 c256_i32
  let v27 : BitVec 32 := v26
  let v64 : Index := Scalar.indexCast v27
  let c256 : Index := 256#32
  ![0, v64.toNat, 256]
def k0_off5 (k0_t1 : Fin k0_t1_loop.trips) (c0_i32_11 : BitVec 32) : Fin 3 → Nat :=
  let c0_39 : Index := 0#32
  let c0_i32_2 : BitVec 32 := 0#32
  let c1_i32 : BitVec 32 := 1#32
  let arg15 : BitVec 32 := Scf.iv c0_i32_2 c1_i32 k0_t1
  let c2_i32 : BitVec 32 := 2#32
  let v24 : BitVec 32 := Scalar.muli arg15 c2_i32
  let v25 : BitVec 32 := Scalar.addi v24 c0_i32_11
  let c256_i32 : BitVec 32 := 256#32
  let v26 : BitVec 32 := Scalar.muli v25 c256_i32
  let v27 : BitVec 32 := v26
  let v80 : Index := Scalar.indexCast v27
  let c384 : Index := 384#32
  ![0, v80.toNat, 384]
def k0_mult2 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_44 : BitVec 32 := 2#32
  let v92 : BitVec 32 := Scalar.muli arg15 c2_i32_44
  let c1_i32_45 : BitVec 32 := 1#32
  let v93 : BitVec 32 := Scalar.addi v92 c1_i32_45
  let c256_i32_46 : BitVec 32 := 256#32
  let v94 : BitVec 32 := Scalar.muli v93 c256_i32_46
  v94
def k0_mult3 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_677 : BitVec 32 := 2#32
  let v2403 : BitVec 32 := Scalar.muli arg15 c2_i32_677
  let c0_i32_678 : BitVec 32 := 0#32
  let v2404 : BitVec 32 := Scalar.addi v2403 c0_i32_678
  let c256_i32_679 : BitVec 32 := 256#32
  let v2405 : BitVec 32 := Scalar.muli v2404 c256_i32_679
  v2405
def k0_off6 (k0_t1 : Fin k0_t1_loop.trips) (c0_i32_678 : BitVec 32) : Fin 3 → Nat :=
  let c0_680 : Index := 0#32
  let c0_i32_2 : BitVec 32 := 0#32
  let c1_i32 : BitVec 32 := 1#32
  let arg15 : BitVec 32 := Scf.iv c0_i32_2 c1_i32 k0_t1
  let c2_i32_677 : BitVec 32 := 2#32
  let v2403 : BitVec 32 := Scalar.muli arg15 c2_i32_677
  let v2404 : BitVec 32 := Scalar.addi v2403 c0_i32_678
  let c256_i32_679 : BitVec 32 := 256#32
  let v2405 : BitVec 32 := Scalar.muli v2404 c256_i32_679
  let v2406 : BitVec 32 := v2405
  let v2407 : Index := Scalar.indexCast v2406
  let c0_681 : Index := 0#32
  ![0, v2407.toNat, 0]
def k0_off7 (k0_t1 : Fin k0_t1_loop.trips) (c0_i32_678 : BitVec 32) : Fin 3 → Nat :=
  let c0_682 : Index := 0#32
  let c0_i32_2 : BitVec 32 := 0#32
  let c1_i32 : BitVec 32 := 1#32
  let arg15 : BitVec 32 := Scf.iv c0_i32_2 c1_i32 k0_t1
  let c2_i32_677 : BitVec 32 := 2#32
  let v2403 : BitVec 32 := Scalar.muli arg15 c2_i32_677
  let v2404 : BitVec 32 := Scalar.addi v2403 c0_i32_678
  let c256_i32_679 : BitVec 32 := 256#32
  let v2405 : BitVec 32 := Scalar.muli v2404 c256_i32_679
  let v2406 : BitVec 32 := v2405
  let v2411 : Index := Scalar.indexCast v2406
  let c0_683 : Index := 0#32
  ![0, v2411.toNat, 0]
def k0_mult4 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_677 : BitVec 32 := 2#32
  let v2403 : BitVec 32 := Scalar.muli arg15 c2_i32_677
  let c0_i32_678 : BitVec 32 := 0#32
  let v2404 : BitVec 32 := Scalar.addi v2403 c0_i32_678
  let c2_i32_684 : BitVec 32 := 2#32
  let v2415 : BitVec 32 := Scalar.muli v2404 c2_i32_684
  let c0_i32_685 : BitVec 32 := 0#32
  let v2416 : BitVec 32 := Scalar.addi v2415 c0_i32_685
  let c384_i32 : BitVec 32 := 384#32
  let v2417 : BitVec 32 := Scalar.muli v2416 c384_i32
  v2417
def k0_off8 (k0_t1 : Fin k0_t1_loop.trips) (c0_i32_678 : BitVec 32) (c0_i32_685 : BitVec 32) : Fin 3 → Nat :=
  let c0_686 : Index := 0#32
  let c0_i32_2 : BitVec 32 := 0#32
  let c1_i32 : BitVec 32 := 1#32
  let arg15 : BitVec 32 := Scf.iv c0_i32_2 c1_i32 k0_t1
  let c2_i32_677 : BitVec 32 := 2#32
  let v2403 : BitVec 32 := Scalar.muli arg15 c2_i32_677
  let v2404 : BitVec 32 := Scalar.addi v2403 c0_i32_678
  let c2_i32_684 : BitVec 32 := 2#32
  let v2415 : BitVec 32 := Scalar.muli v2404 c2_i32_684
  let v2416 : BitVec 32 := Scalar.addi v2415 c0_i32_685
  let c384_i32 : BitVec 32 := 384#32
  let v2417 : BitVec 32 := Scalar.muli v2416 c384_i32
  let v2418 : BitVec 32 := v2417
  let v2419 : Index := Scalar.indexCast v2418
  let c0_687 : Index := 0#32
  ![0, v2419.toNat, 0]
def k0_mult5 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_677 : BitVec 32 := 2#32
  let v2403 : BitVec 32 := Scalar.muli arg15 c2_i32_677
  let c0_i32_678 : BitVec 32 := 0#32
  let v2404 : BitVec 32 := Scalar.addi v2403 c0_i32_678
  let c2_i32_688 : BitVec 32 := 2#32
  let v2423 : BitVec 32 := Scalar.muli v2404 c2_i32_688
  let c0_i32_689 : BitVec 32 := 0#32
  let v2424 : BitVec 32 := Scalar.addi v2423 c0_i32_689
  let c128_i32 : BitVec 32 := 128#32
  let v2425 : BitVec 32 := Scalar.muli v2424 c128_i32
  v2425
def k0_off9 (k0_t1 : Fin k0_t1_loop.trips) (c0_i32_678 : BitVec 32) (c0_i32_689 : BitVec 32) : Fin 3 → Nat :=
  let c0_690 : Index := 0#32
  let c0_i32_2 : BitVec 32 := 0#32
  let c1_i32 : BitVec 32 := 1#32
  let arg15 : BitVec 32 := Scf.iv c0_i32_2 c1_i32 k0_t1
  let c2_i32_677 : BitVec 32 := 2#32
  let v2403 : BitVec 32 := Scalar.muli arg15 c2_i32_677
  let v2404 : BitVec 32 := Scalar.addi v2403 c0_i32_678
  let c2_i32_688 : BitVec 32 := 2#32
  let v2423 : BitVec 32 := Scalar.muli v2404 c2_i32_688
  let v2424 : BitVec 32 := Scalar.addi v2423 c0_i32_689
  let c128_i32 : BitVec 32 := 128#32
  let v2425 : BitVec 32 := Scalar.muli v2424 c128_i32
  let v2426 : BitVec 32 := v2425
  let v2427 : Index := Scalar.indexCast v2426
  let c0_691 : Index := 0#32
  ![0, v2427.toNat, 0]
def k0_mult6 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_677 : BitVec 32 := 2#32
  let v2403 : BitVec 32 := Scalar.muli arg15 c2_i32_677
  let c0_i32_678 : BitVec 32 := 0#32
  let v2404 : BitVec 32 := Scalar.addi v2403 c0_i32_678
  let c2_i32_692 : BitVec 32 := 2#32
  let v2431 : BitVec 32 := Scalar.muli v2404 c2_i32_692
  let c0_i32_693 : BitVec 32 := 0#32
  let v2432 : BitVec 32 := Scalar.addi v2431 c0_i32_693
  let c8_i32_694 : BitVec 32 := 8#32
  let v2433 : BitVec 32 := Scalar.muli v2432 c8_i32_694
  v2433
def k0_off10 (k0_t1 : Fin k0_t1_loop.trips) (c0_i32_678 : BitVec 32) (c0_i32_693 : BitVec 32) : Fin 3 → Nat :=
  let c0_695 : Index := 0#32
  let c0_i32_2 : BitVec 32 := 0#32
  let c1_i32 : BitVec 32 := 1#32
  let arg15 : BitVec 32 := Scf.iv c0_i32_2 c1_i32 k0_t1
  let c2_i32_677 : BitVec 32 := 2#32
  let v2403 : BitVec 32 := Scalar.muli arg15 c2_i32_677
  let v2404 : BitVec 32 := Scalar.addi v2403 c0_i32_678
  let c2_i32_692 : BitVec 32 := 2#32
  let v2431 : BitVec 32 := Scalar.muli v2404 c2_i32_692
  let v2432 : BitVec 32 := Scalar.addi v2431 c0_i32_693
  let c8_i32_694 : BitVec 32 := 8#32
  let v2433 : BitVec 32 := Scalar.muli v2432 c8_i32_694
  let v2434 : BitVec 32 := v2433
  let v2435 : Index := Scalar.indexCast v2434
  let c0_696 : Index := 0#32
  ![0, v2435.toNat, 0]
def k0_mult7 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_677 : BitVec 32 := 2#32
  let v2403 : BitVec 32 := Scalar.muli arg15 c2_i32_677
  let c0_i32_678 : BitVec 32 := 0#32
  let v2404 : BitVec 32 := Scalar.addi v2403 c0_i32_678
  let c2_i32_697 : BitVec 32 := 2#32
  let v2439 : BitVec 32 := Scalar.muli v2404 c2_i32_697
  let c1_i32_698 : BitVec 32 := 1#32
  let v2440 : BitVec 32 := Scalar.addi v2439 c1_i32_698
  let c384_i32_699 : BitVec 32 := 384#32
  let v2441 : BitVec 32 := Scalar.muli v2440 c384_i32_699
  v2441
def k0_mult8 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_677 : BitVec 32 := 2#32
  let v2403 : BitVec 32 := Scalar.muli arg15 c2_i32_677
  let c0_i32_678 : BitVec 32 := 0#32
  let v2404 : BitVec 32 := Scalar.addi v2403 c0_i32_678
  let c2_i32_702 : BitVec 32 := 2#32
  let v2447 : BitVec 32 := Scalar.muli v2404 c2_i32_702
  let c1_i32_703 : BitVec 32 := 1#32
  let v2448 : BitVec 32 := Scalar.addi v2447 c1_i32_703
  let c128_i32_704 : BitVec 32 := 128#32
  let v2449 : BitVec 32 := Scalar.muli v2448 c128_i32_704
  v2449
def k0_mult9 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_677 : BitVec 32 := 2#32
  let v2403 : BitVec 32 := Scalar.muli arg15 c2_i32_677
  let c0_i32_678 : BitVec 32 := 0#32
  let v2404 : BitVec 32 := Scalar.addi v2403 c0_i32_678
  let c2_i32_707 : BitVec 32 := 2#32
  let v2455 : BitVec 32 := Scalar.muli v2404 c2_i32_707
  let c1_i32_708 : BitVec 32 := 1#32
  let v2456 : BitVec 32 := Scalar.addi v2455 c1_i32_708
  let c8_i32_709 : BitVec 32 := 8#32
  let v2457 : BitVec 32 := Scalar.muli v2456 c8_i32_709
  v2457
def k0_mult10 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_712 : BitVec 32 := 2#32
  let v2463 : BitVec 32 := Scalar.muli arg15 c2_i32_712
  let c0_i32_713 : BitVec 32 := 0#32
  let v2464 : BitVec 32 := Scalar.addi v2463 c0_i32_713
  let c256_i32_714 : BitVec 32 := 256#32
  let v2465 : BitVec 32 := Scalar.muli v2464 c256_i32_714
  v2465
def k0_off11 (k0_t1 : Fin k0_t1_loop.trips) (c0_i32_713 : BitVec 32) : Fin 3 → Nat :=
  let c1 : Index := 1#32
  let c0_i32_2 : BitVec 32 := 0#32
  let c1_i32 : BitVec 32 := 1#32
  let arg15 : BitVec 32 := Scf.iv c0_i32_2 c1_i32 k0_t1
  let c2_i32_712 : BitVec 32 := 2#32
  let v2463 : BitVec 32 := Scalar.muli arg15 c2_i32_712
  let v2464 : BitVec 32 := Scalar.addi v2463 c0_i32_713
  let c256_i32_714 : BitVec 32 := 256#32
  let v2465 : BitVec 32 := Scalar.muli v2464 c256_i32_714
  let v2466 : BitVec 32 := v2465
  let v2467 : Index := Scalar.indexCast v2466
  let c0_715 : Index := 0#32
  ![1, v2467.toNat, 0]
def k0_off12 (k0_t1 : Fin k0_t1_loop.trips) (c0_i32_713 : BitVec 32) : Fin 3 → Nat :=
  let c1_716 : Index := 1#32
  let c0_i32_2 : BitVec 32 := 0#32
  let c1_i32 : BitVec 32 := 1#32
  let arg15 : BitVec 32 := Scf.iv c0_i32_2 c1_i32 k0_t1
  let c2_i32_712 : BitVec 32 := 2#32
  let v2463 : BitVec 32 := Scalar.muli arg15 c2_i32_712
  let v2464 : BitVec 32 := Scalar.addi v2463 c0_i32_713
  let c256_i32_714 : BitVec 32 := 256#32
  let v2465 : BitVec 32 := Scalar.muli v2464 c256_i32_714
  let v2466 : BitVec 32 := v2465
  let v2471 : Index := Scalar.indexCast v2466
  let c0_717 : Index := 0#32
  ![1, v2471.toNat, 0]
def k0_mult11 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_712 : BitVec 32 := 2#32
  let v2463 : BitVec 32 := Scalar.muli arg15 c2_i32_712
  let c0_i32_713 : BitVec 32 := 0#32
  let v2464 : BitVec 32 := Scalar.addi v2463 c0_i32_713
  let c2_i32_718 : BitVec 32 := 2#32
  let v2475 : BitVec 32 := Scalar.muli v2464 c2_i32_718
  let c0_i32_719 : BitVec 32 := 0#32
  let v2476 : BitVec 32 := Scalar.addi v2475 c0_i32_719
  let c384_i32_720 : BitVec 32 := 384#32
  let v2477 : BitVec 32 := Scalar.muli v2476 c384_i32_720
  v2477
def k0_off13 (k0_t1 : Fin k0_t1_loop.trips) (c0_i32_713 : BitVec 32) (c0_i32_719 : BitVec 32) : Fin 3 → Nat :=
  let c1_721 : Index := 1#32
  let c0_i32_2 : BitVec 32 := 0#32
  let c1_i32 : BitVec 32 := 1#32
  let arg15 : BitVec 32 := Scf.iv c0_i32_2 c1_i32 k0_t1
  let c2_i32_712 : BitVec 32 := 2#32
  let v2463 : BitVec 32 := Scalar.muli arg15 c2_i32_712
  let v2464 : BitVec 32 := Scalar.addi v2463 c0_i32_713
  let c2_i32_718 : BitVec 32 := 2#32
  let v2475 : BitVec 32 := Scalar.muli v2464 c2_i32_718
  let v2476 : BitVec 32 := Scalar.addi v2475 c0_i32_719
  let c384_i32_720 : BitVec 32 := 384#32
  let v2477 : BitVec 32 := Scalar.muli v2476 c384_i32_720
  let v2478 : BitVec 32 := v2477
  let v2479 : Index := Scalar.indexCast v2478
  let c0_722 : Index := 0#32
  ![1, v2479.toNat, 0]
def k0_mult12 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_712 : BitVec 32 := 2#32
  let v2463 : BitVec 32 := Scalar.muli arg15 c2_i32_712
  let c0_i32_713 : BitVec 32 := 0#32
  let v2464 : BitVec 32 := Scalar.addi v2463 c0_i32_713
  let c2_i32_723 : BitVec 32 := 2#32
  let v2483 : BitVec 32 := Scalar.muli v2464 c2_i32_723
  let c0_i32_724 : BitVec 32 := 0#32
  let v2484 : BitVec 32 := Scalar.addi v2483 c0_i32_724
  let c128_i32_725 : BitVec 32 := 128#32
  let v2485 : BitVec 32 := Scalar.muli v2484 c128_i32_725
  v2485
def k0_off14 (k0_t1 : Fin k0_t1_loop.trips) (c0_i32_713 : BitVec 32) (c0_i32_724 : BitVec 32) : Fin 3 → Nat :=
  let c1_726 : Index := 1#32
  let c0_i32_2 : BitVec 32 := 0#32
  let c1_i32 : BitVec 32 := 1#32
  let arg15 : BitVec 32 := Scf.iv c0_i32_2 c1_i32 k0_t1
  let c2_i32_712 : BitVec 32 := 2#32
  let v2463 : BitVec 32 := Scalar.muli arg15 c2_i32_712
  let v2464 : BitVec 32 := Scalar.addi v2463 c0_i32_713
  let c2_i32_723 : BitVec 32 := 2#32
  let v2483 : BitVec 32 := Scalar.muli v2464 c2_i32_723
  let v2484 : BitVec 32 := Scalar.addi v2483 c0_i32_724
  let c128_i32_725 : BitVec 32 := 128#32
  let v2485 : BitVec 32 := Scalar.muli v2484 c128_i32_725
  let v2486 : BitVec 32 := v2485
  let v2487 : Index := Scalar.indexCast v2486
  let c0_727 : Index := 0#32
  ![1, v2487.toNat, 0]
def k0_mult13 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_712 : BitVec 32 := 2#32
  let v2463 : BitVec 32 := Scalar.muli arg15 c2_i32_712
  let c0_i32_713 : BitVec 32 := 0#32
  let v2464 : BitVec 32 := Scalar.addi v2463 c0_i32_713
  let c2_i32_728 : BitVec 32 := 2#32
  let v2491 : BitVec 32 := Scalar.muli v2464 c2_i32_728
  let c0_i32_729 : BitVec 32 := 0#32
  let v2492 : BitVec 32 := Scalar.addi v2491 c0_i32_729
  let c8_i32_730 : BitVec 32 := 8#32
  let v2493 : BitVec 32 := Scalar.muli v2492 c8_i32_730
  v2493
def k0_off15 (k0_t1 : Fin k0_t1_loop.trips) (c0_i32_713 : BitVec 32) (c0_i32_729 : BitVec 32) : Fin 3 → Nat :=
  let c1_731 : Index := 1#32
  let c0_i32_2 : BitVec 32 := 0#32
  let c1_i32 : BitVec 32 := 1#32
  let arg15 : BitVec 32 := Scf.iv c0_i32_2 c1_i32 k0_t1
  let c2_i32_712 : BitVec 32 := 2#32
  let v2463 : BitVec 32 := Scalar.muli arg15 c2_i32_712
  let v2464 : BitVec 32 := Scalar.addi v2463 c0_i32_713
  let c2_i32_728 : BitVec 32 := 2#32
  let v2491 : BitVec 32 := Scalar.muli v2464 c2_i32_728
  let v2492 : BitVec 32 := Scalar.addi v2491 c0_i32_729
  let c8_i32_730 : BitVec 32 := 8#32
  let v2493 : BitVec 32 := Scalar.muli v2492 c8_i32_730
  let v2494 : BitVec 32 := v2493
  let v2495 : Index := Scalar.indexCast v2494
  let c0_732 : Index := 0#32
  ![1, v2495.toNat, 0]
def k0_mult14 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_712 : BitVec 32 := 2#32
  let v2463 : BitVec 32 := Scalar.muli arg15 c2_i32_712
  let c0_i32_713 : BitVec 32 := 0#32
  let v2464 : BitVec 32 := Scalar.addi v2463 c0_i32_713
  let c2_i32_733 : BitVec 32 := 2#32
  let v2499 : BitVec 32 := Scalar.muli v2464 c2_i32_733
  let c1_i32_734 : BitVec 32 := 1#32
  let v2500 : BitVec 32 := Scalar.addi v2499 c1_i32_734
  let c384_i32_735 : BitVec 32 := 384#32
  let v2501 : BitVec 32 := Scalar.muli v2500 c384_i32_735
  v2501
def k0_mult15 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_712 : BitVec 32 := 2#32
  let v2463 : BitVec 32 := Scalar.muli arg15 c2_i32_712
  let c0_i32_713 : BitVec 32 := 0#32
  let v2464 : BitVec 32 := Scalar.addi v2463 c0_i32_713
  let c2_i32_738 : BitVec 32 := 2#32
  let v2507 : BitVec 32 := Scalar.muli v2464 c2_i32_738
  let c1_i32_739 : BitVec 32 := 1#32
  let v2508 : BitVec 32 := Scalar.addi v2507 c1_i32_739
  let c128_i32_740 : BitVec 32 := 128#32
  let v2509 : BitVec 32 := Scalar.muli v2508 c128_i32_740
  v2509
def k0_mult16 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_712 : BitVec 32 := 2#32
  let v2463 : BitVec 32 := Scalar.muli arg15 c2_i32_712
  let c0_i32_713 : BitVec 32 := 0#32
  let v2464 : BitVec 32 := Scalar.addi v2463 c0_i32_713
  let c2_i32_743 : BitVec 32 := 2#32
  let v2515 : BitVec 32 := Scalar.muli v2464 c2_i32_743
  let c1_i32_744 : BitVec 32 := 1#32
  let v2516 : BitVec 32 := Scalar.addi v2515 c1_i32_744
  let c8_i32_745 : BitVec 32 := 8#32
  let v2517 : BitVec 32 := Scalar.muli v2516 c8_i32_745
  v2517
def k0_mult17 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_748 : BitVec 32 := 2#32
  let v2523 : BitVec 32 := Scalar.muli arg15 c2_i32_748
  let c0_i32_749 : BitVec 32 := 0#32
  let v2524 : BitVec 32 := Scalar.addi v2523 c0_i32_749
  let c256_i32_750 : BitVec 32 := 256#32
  let v2525 : BitVec 32 := Scalar.muli v2524 c256_i32_750
  v2525
def k0_off16 (k0_t1 : Fin k0_t1_loop.trips) (c0_i32_749 : BitVec 32) : Fin 3 → Nat :=
  let c2 : Index := 2#32
  let c0_i32_2 : BitVec 32 := 0#32
  let c1_i32 : BitVec 32 := 1#32
  let arg15 : BitVec 32 := Scf.iv c0_i32_2 c1_i32 k0_t1
  let c2_i32_748 : BitVec 32 := 2#32
  let v2523 : BitVec 32 := Scalar.muli arg15 c2_i32_748
  let v2524 : BitVec 32 := Scalar.addi v2523 c0_i32_749
  let c256_i32_750 : BitVec 32 := 256#32
  let v2525 : BitVec 32 := Scalar.muli v2524 c256_i32_750
  let v2526 : BitVec 32 := v2525
  let v2527 : Index := Scalar.indexCast v2526
  let c0_751 : Index := 0#32
  ![2, v2527.toNat, 0]
def k0_off17 (k0_t1 : Fin k0_t1_loop.trips) (c0_i32_749 : BitVec 32) : Fin 3 → Nat :=
  let c2_752 : Index := 2#32
  let c0_i32_2 : BitVec 32 := 0#32
  let c1_i32 : BitVec 32 := 1#32
  let arg15 : BitVec 32 := Scf.iv c0_i32_2 c1_i32 k0_t1
  let c2_i32_748 : BitVec 32 := 2#32
  let v2523 : BitVec 32 := Scalar.muli arg15 c2_i32_748
  let v2524 : BitVec 32 := Scalar.addi v2523 c0_i32_749
  let c256_i32_750 : BitVec 32 := 256#32
  let v2525 : BitVec 32 := Scalar.muli v2524 c256_i32_750
  let v2526 : BitVec 32 := v2525
  let v2531 : Index := Scalar.indexCast v2526
  let c0_753 : Index := 0#32
  ![2, v2531.toNat, 0]
def k0_mult18 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_748 : BitVec 32 := 2#32
  let v2523 : BitVec 32 := Scalar.muli arg15 c2_i32_748
  let c0_i32_749 : BitVec 32 := 0#32
  let v2524 : BitVec 32 := Scalar.addi v2523 c0_i32_749
  let c2_i32_754 : BitVec 32 := 2#32
  let v2535 : BitVec 32 := Scalar.muli v2524 c2_i32_754
  let c0_i32_755 : BitVec 32 := 0#32
  let v2536 : BitVec 32 := Scalar.addi v2535 c0_i32_755
  let c384_i32_756 : BitVec 32 := 384#32
  let v2537 : BitVec 32 := Scalar.muli v2536 c384_i32_756
  v2537
def k0_off18 (k0_t1 : Fin k0_t1_loop.trips) (c0_i32_749 : BitVec 32) (c0_i32_755 : BitVec 32) : Fin 3 → Nat :=
  let c2_757 : Index := 2#32
  let c0_i32_2 : BitVec 32 := 0#32
  let c1_i32 : BitVec 32 := 1#32
  let arg15 : BitVec 32 := Scf.iv c0_i32_2 c1_i32 k0_t1
  let c2_i32_748 : BitVec 32 := 2#32
  let v2523 : BitVec 32 := Scalar.muli arg15 c2_i32_748
  let v2524 : BitVec 32 := Scalar.addi v2523 c0_i32_749
  let c2_i32_754 : BitVec 32 := 2#32
  let v2535 : BitVec 32 := Scalar.muli v2524 c2_i32_754
  let v2536 : BitVec 32 := Scalar.addi v2535 c0_i32_755
  let c384_i32_756 : BitVec 32 := 384#32
  let v2537 : BitVec 32 := Scalar.muli v2536 c384_i32_756
  let v2538 : BitVec 32 := v2537
  let v2539 : Index := Scalar.indexCast v2538
  let c0_758 : Index := 0#32
  ![2, v2539.toNat, 0]
def k0_mult19 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_748 : BitVec 32 := 2#32
  let v2523 : BitVec 32 := Scalar.muli arg15 c2_i32_748
  let c0_i32_749 : BitVec 32 := 0#32
  let v2524 : BitVec 32 := Scalar.addi v2523 c0_i32_749
  let c2_i32_759 : BitVec 32 := 2#32
  let v2543 : BitVec 32 := Scalar.muli v2524 c2_i32_759
  let c0_i32_760 : BitVec 32 := 0#32
  let v2544 : BitVec 32 := Scalar.addi v2543 c0_i32_760
  let c128_i32_761 : BitVec 32 := 128#32
  let v2545 : BitVec 32 := Scalar.muli v2544 c128_i32_761
  v2545
def k0_off19 (k0_t1 : Fin k0_t1_loop.trips) (c0_i32_749 : BitVec 32) (c0_i32_760 : BitVec 32) : Fin 3 → Nat :=
  let c2_762 : Index := 2#32
  let c0_i32_2 : BitVec 32 := 0#32
  let c1_i32 : BitVec 32 := 1#32
  let arg15 : BitVec 32 := Scf.iv c0_i32_2 c1_i32 k0_t1
  let c2_i32_748 : BitVec 32 := 2#32
  let v2523 : BitVec 32 := Scalar.muli arg15 c2_i32_748
  let v2524 : BitVec 32 := Scalar.addi v2523 c0_i32_749
  let c2_i32_759 : BitVec 32 := 2#32
  let v2543 : BitVec 32 := Scalar.muli v2524 c2_i32_759
  let v2544 : BitVec 32 := Scalar.addi v2543 c0_i32_760
  let c128_i32_761 : BitVec 32 := 128#32
  let v2545 : BitVec 32 := Scalar.muli v2544 c128_i32_761
  let v2546 : BitVec 32 := v2545
  let v2547 : Index := Scalar.indexCast v2546
  let c0_763 : Index := 0#32
  ![2, v2547.toNat, 0]
def k0_mult20 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_748 : BitVec 32 := 2#32
  let v2523 : BitVec 32 := Scalar.muli arg15 c2_i32_748
  let c0_i32_749 : BitVec 32 := 0#32
  let v2524 : BitVec 32 := Scalar.addi v2523 c0_i32_749
  let c2_i32_764 : BitVec 32 := 2#32
  let v2551 : BitVec 32 := Scalar.muli v2524 c2_i32_764
  let c0_i32_765 : BitVec 32 := 0#32
  let v2552 : BitVec 32 := Scalar.addi v2551 c0_i32_765
  let c8_i32_766 : BitVec 32 := 8#32
  let v2553 : BitVec 32 := Scalar.muli v2552 c8_i32_766
  v2553
def k0_off20 (k0_t1 : Fin k0_t1_loop.trips) (c0_i32_749 : BitVec 32) (c0_i32_765 : BitVec 32) : Fin 3 → Nat :=
  let c2_767 : Index := 2#32
  let c0_i32_2 : BitVec 32 := 0#32
  let c1_i32 : BitVec 32 := 1#32
  let arg15 : BitVec 32 := Scf.iv c0_i32_2 c1_i32 k0_t1
  let c2_i32_748 : BitVec 32 := 2#32
  let v2523 : BitVec 32 := Scalar.muli arg15 c2_i32_748
  let v2524 : BitVec 32 := Scalar.addi v2523 c0_i32_749
  let c2_i32_764 : BitVec 32 := 2#32
  let v2551 : BitVec 32 := Scalar.muli v2524 c2_i32_764
  let v2552 : BitVec 32 := Scalar.addi v2551 c0_i32_765
  let c8_i32_766 : BitVec 32 := 8#32
  let v2553 : BitVec 32 := Scalar.muli v2552 c8_i32_766
  let v2554 : BitVec 32 := v2553
  let v2555 : Index := Scalar.indexCast v2554
  let c0_768 : Index := 0#32
  ![2, v2555.toNat, 0]
def k0_mult21 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_748 : BitVec 32 := 2#32
  let v2523 : BitVec 32 := Scalar.muli arg15 c2_i32_748
  let c0_i32_749 : BitVec 32 := 0#32
  let v2524 : BitVec 32 := Scalar.addi v2523 c0_i32_749
  let c2_i32_769 : BitVec 32 := 2#32
  let v2559 : BitVec 32 := Scalar.muli v2524 c2_i32_769
  let c1_i32_770 : BitVec 32 := 1#32
  let v2560 : BitVec 32 := Scalar.addi v2559 c1_i32_770
  let c384_i32_771 : BitVec 32 := 384#32
  let v2561 : BitVec 32 := Scalar.muli v2560 c384_i32_771
  v2561
def k0_mult22 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_748 : BitVec 32 := 2#32
  let v2523 : BitVec 32 := Scalar.muli arg15 c2_i32_748
  let c0_i32_749 : BitVec 32 := 0#32
  let v2524 : BitVec 32 := Scalar.addi v2523 c0_i32_749
  let c2_i32_774 : BitVec 32 := 2#32
  let v2567 : BitVec 32 := Scalar.muli v2524 c2_i32_774
  let c1_i32_775 : BitVec 32 := 1#32
  let v2568 : BitVec 32 := Scalar.addi v2567 c1_i32_775
  let c128_i32_776 : BitVec 32 := 128#32
  let v2569 : BitVec 32 := Scalar.muli v2568 c128_i32_776
  v2569
def k0_mult23 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_748 : BitVec 32 := 2#32
  let v2523 : BitVec 32 := Scalar.muli arg15 c2_i32_748
  let c0_i32_749 : BitVec 32 := 0#32
  let v2524 : BitVec 32 := Scalar.addi v2523 c0_i32_749
  let c2_i32_779 : BitVec 32 := 2#32
  let v2575 : BitVec 32 := Scalar.muli v2524 c2_i32_779
  let c1_i32_780 : BitVec 32 := 1#32
  let v2576 : BitVec 32 := Scalar.addi v2575 c1_i32_780
  let c8_i32_781 : BitVec 32 := 8#32
  let v2577 : BitVec 32 := Scalar.muli v2576 c8_i32_781
  v2577
def k0_mult24 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_784 : BitVec 32 := 2#32
  let v2583 : BitVec 32 := Scalar.muli arg15 c2_i32_784
  let c0_i32_785 : BitVec 32 := 0#32
  let v2584 : BitVec 32 := Scalar.addi v2583 c0_i32_785
  let c256_i32_786 : BitVec 32 := 256#32
  let v2585 : BitVec 32 := Scalar.muli v2584 c256_i32_786
  v2585
def k0_off21 (k0_t1 : Fin k0_t1_loop.trips) (c0_i32_785 : BitVec 32) : Fin 3 → Nat :=
  let c3 : Index := 3#32
  let c0_i32_2 : BitVec 32 := 0#32
  let c1_i32 : BitVec 32 := 1#32
  let arg15 : BitVec 32 := Scf.iv c0_i32_2 c1_i32 k0_t1
  let c2_i32_784 : BitVec 32 := 2#32
  let v2583 : BitVec 32 := Scalar.muli arg15 c2_i32_784
  let v2584 : BitVec 32 := Scalar.addi v2583 c0_i32_785
  let c256_i32_786 : BitVec 32 := 256#32
  let v2585 : BitVec 32 := Scalar.muli v2584 c256_i32_786
  let v2586 : BitVec 32 := v2585
  let v2587 : Index := Scalar.indexCast v2586
  let c0_787 : Index := 0#32
  ![3, v2587.toNat, 0]
def k0_off22 (k0_t1 : Fin k0_t1_loop.trips) (c0_i32_785 : BitVec 32) : Fin 3 → Nat :=
  let c3_788 : Index := 3#32
  let c0_i32_2 : BitVec 32 := 0#32
  let c1_i32 : BitVec 32 := 1#32
  let arg15 : BitVec 32 := Scf.iv c0_i32_2 c1_i32 k0_t1
  let c2_i32_784 : BitVec 32 := 2#32
  let v2583 : BitVec 32 := Scalar.muli arg15 c2_i32_784
  let v2584 : BitVec 32 := Scalar.addi v2583 c0_i32_785
  let c256_i32_786 : BitVec 32 := 256#32
  let v2585 : BitVec 32 := Scalar.muli v2584 c256_i32_786
  let v2586 : BitVec 32 := v2585
  let v2591 : Index := Scalar.indexCast v2586
  let c0_789 : Index := 0#32
  ![3, v2591.toNat, 0]
def k0_mult25 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_784 : BitVec 32 := 2#32
  let v2583 : BitVec 32 := Scalar.muli arg15 c2_i32_784
  let c0_i32_785 : BitVec 32 := 0#32
  let v2584 : BitVec 32 := Scalar.addi v2583 c0_i32_785
  let c2_i32_790 : BitVec 32 := 2#32
  let v2595 : BitVec 32 := Scalar.muli v2584 c2_i32_790
  let c0_i32_791 : BitVec 32 := 0#32
  let v2596 : BitVec 32 := Scalar.addi v2595 c0_i32_791
  let c384_i32_792 : BitVec 32 := 384#32
  let v2597 : BitVec 32 := Scalar.muli v2596 c384_i32_792
  v2597
def k0_off23 (k0_t1 : Fin k0_t1_loop.trips) (c0_i32_785 : BitVec 32) (c0_i32_791 : BitVec 32) : Fin 3 → Nat :=
  let c3_793 : Index := 3#32
  let c0_i32_2 : BitVec 32 := 0#32
  let c1_i32 : BitVec 32 := 1#32
  let arg15 : BitVec 32 := Scf.iv c0_i32_2 c1_i32 k0_t1
  let c2_i32_784 : BitVec 32 := 2#32
  let v2583 : BitVec 32 := Scalar.muli arg15 c2_i32_784
  let v2584 : BitVec 32 := Scalar.addi v2583 c0_i32_785
  let c2_i32_790 : BitVec 32 := 2#32
  let v2595 : BitVec 32 := Scalar.muli v2584 c2_i32_790
  let v2596 : BitVec 32 := Scalar.addi v2595 c0_i32_791
  let c384_i32_792 : BitVec 32 := 384#32
  let v2597 : BitVec 32 := Scalar.muli v2596 c384_i32_792
  let v2598 : BitVec 32 := v2597
  let v2599 : Index := Scalar.indexCast v2598
  let c0_794 : Index := 0#32
  ![3, v2599.toNat, 0]
def k0_mult26 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_784 : BitVec 32 := 2#32
  let v2583 : BitVec 32 := Scalar.muli arg15 c2_i32_784
  let c0_i32_785 : BitVec 32 := 0#32
  let v2584 : BitVec 32 := Scalar.addi v2583 c0_i32_785
  let c2_i32_795 : BitVec 32 := 2#32
  let v2603 : BitVec 32 := Scalar.muli v2584 c2_i32_795
  let c0_i32_796 : BitVec 32 := 0#32
  let v2604 : BitVec 32 := Scalar.addi v2603 c0_i32_796
  let c128_i32_797 : BitVec 32 := 128#32
  let v2605 : BitVec 32 := Scalar.muli v2604 c128_i32_797
  v2605
def k0_off24 (k0_t1 : Fin k0_t1_loop.trips) (c0_i32_785 : BitVec 32) (c0_i32_796 : BitVec 32) : Fin 3 → Nat :=
  let c3_798 : Index := 3#32
  let c0_i32_2 : BitVec 32 := 0#32
  let c1_i32 : BitVec 32 := 1#32
  let arg15 : BitVec 32 := Scf.iv c0_i32_2 c1_i32 k0_t1
  let c2_i32_784 : BitVec 32 := 2#32
  let v2583 : BitVec 32 := Scalar.muli arg15 c2_i32_784
  let v2584 : BitVec 32 := Scalar.addi v2583 c0_i32_785
  let c2_i32_795 : BitVec 32 := 2#32
  let v2603 : BitVec 32 := Scalar.muli v2584 c2_i32_795
  let v2604 : BitVec 32 := Scalar.addi v2603 c0_i32_796
  let c128_i32_797 : BitVec 32 := 128#32
  let v2605 : BitVec 32 := Scalar.muli v2604 c128_i32_797
  let v2606 : BitVec 32 := v2605
  let v2607 : Index := Scalar.indexCast v2606
  let c0_799 : Index := 0#32
  ![3, v2607.toNat, 0]
def k0_mult27 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_784 : BitVec 32 := 2#32
  let v2583 : BitVec 32 := Scalar.muli arg15 c2_i32_784
  let c0_i32_785 : BitVec 32 := 0#32
  let v2584 : BitVec 32 := Scalar.addi v2583 c0_i32_785
  let c2_i32_800 : BitVec 32 := 2#32
  let v2611 : BitVec 32 := Scalar.muli v2584 c2_i32_800
  let c0_i32_801 : BitVec 32 := 0#32
  let v2612 : BitVec 32 := Scalar.addi v2611 c0_i32_801
  let c8_i32_802 : BitVec 32 := 8#32
  let v2613 : BitVec 32 := Scalar.muli v2612 c8_i32_802
  v2613
def k0_off25 (k0_t1 : Fin k0_t1_loop.trips) (c0_i32_785 : BitVec 32) (c0_i32_801 : BitVec 32) : Fin 3 → Nat :=
  let c3_803 : Index := 3#32
  let c0_i32_2 : BitVec 32 := 0#32
  let c1_i32 : BitVec 32 := 1#32
  let arg15 : BitVec 32 := Scf.iv c0_i32_2 c1_i32 k0_t1
  let c2_i32_784 : BitVec 32 := 2#32
  let v2583 : BitVec 32 := Scalar.muli arg15 c2_i32_784
  let v2584 : BitVec 32 := Scalar.addi v2583 c0_i32_785
  let c2_i32_800 : BitVec 32 := 2#32
  let v2611 : BitVec 32 := Scalar.muli v2584 c2_i32_800
  let v2612 : BitVec 32 := Scalar.addi v2611 c0_i32_801
  let c8_i32_802 : BitVec 32 := 8#32
  let v2613 : BitVec 32 := Scalar.muli v2612 c8_i32_802
  let v2614 : BitVec 32 := v2613
  let v2615 : Index := Scalar.indexCast v2614
  let c0_804 : Index := 0#32
  ![3, v2615.toNat, 0]
def k0_mult28 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_784 : BitVec 32 := 2#32
  let v2583 : BitVec 32 := Scalar.muli arg15 c2_i32_784
  let c0_i32_785 : BitVec 32 := 0#32
  let v2584 : BitVec 32 := Scalar.addi v2583 c0_i32_785
  let c2_i32_805 : BitVec 32 := 2#32
  let v2619 : BitVec 32 := Scalar.muli v2584 c2_i32_805
  let c1_i32_806 : BitVec 32 := 1#32
  let v2620 : BitVec 32 := Scalar.addi v2619 c1_i32_806
  let c384_i32_807 : BitVec 32 := 384#32
  let v2621 : BitVec 32 := Scalar.muli v2620 c384_i32_807
  v2621
def k0_mult29 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_784 : BitVec 32 := 2#32
  let v2583 : BitVec 32 := Scalar.muli arg15 c2_i32_784
  let c0_i32_785 : BitVec 32 := 0#32
  let v2584 : BitVec 32 := Scalar.addi v2583 c0_i32_785
  let c2_i32_810 : BitVec 32 := 2#32
  let v2627 : BitVec 32 := Scalar.muli v2584 c2_i32_810
  let c1_i32_811 : BitVec 32 := 1#32
  let v2628 : BitVec 32 := Scalar.addi v2627 c1_i32_811
  let c128_i32_812 : BitVec 32 := 128#32
  let v2629 : BitVec 32 := Scalar.muli v2628 c128_i32_812
  v2629
def k0_mult30 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_784 : BitVec 32 := 2#32
  let v2583 : BitVec 32 := Scalar.muli arg15 c2_i32_784
  let c0_i32_785 : BitVec 32 := 0#32
  let v2584 : BitVec 32 := Scalar.addi v2583 c0_i32_785
  let c2_i32_815 : BitVec 32 := 2#32
  let v2635 : BitVec 32 := Scalar.muli v2584 c2_i32_815
  let c1_i32_816 : BitVec 32 := 1#32
  let v2636 : BitVec 32 := Scalar.addi v2635 c1_i32_816
  let c8_i32_817 : BitVec 32 := 8#32
  let v2637 : BitVec 32 := Scalar.muli v2636 c8_i32_817
  v2637
def k0_mult31 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_820 : BitVec 32 := 2#32
  let v2643 : BitVec 32 := Scalar.muli arg15 c2_i32_820
  let c1_i32_821 : BitVec 32 := 1#32
  let v2644 : BitVec 32 := Scalar.addi v2643 c1_i32_821
  let c256_i32_822 : BitVec 32 := 256#32
  let v2645 : BitVec 32 := Scalar.muli v2644 c256_i32_822
  v2645
def k0_mult32 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_820 : BitVec 32 := 2#32
  let v2643 : BitVec 32 := Scalar.muli arg15 c2_i32_820
  let c1_i32_821 : BitVec 32 := 1#32
  let v2644 : BitVec 32 := Scalar.addi v2643 c1_i32_821
  let c2_i32_827 : BitVec 32 := 2#32
  let v2655 : BitVec 32 := Scalar.muli v2644 c2_i32_827
  let c0_i32_828 : BitVec 32 := 0#32
  let v2656 : BitVec 32 := Scalar.addi v2655 c0_i32_828
  let c384_i32_829 : BitVec 32 := 384#32
  let v2657 : BitVec 32 := Scalar.muli v2656 c384_i32_829
  v2657
def k0_mult33 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_820 : BitVec 32 := 2#32
  let v2643 : BitVec 32 := Scalar.muli arg15 c2_i32_820
  let c1_i32_821 : BitVec 32 := 1#32
  let v2644 : BitVec 32 := Scalar.addi v2643 c1_i32_821
  let c2_i32_832 : BitVec 32 := 2#32
  let v2663 : BitVec 32 := Scalar.muli v2644 c2_i32_832
  let c0_i32_833 : BitVec 32 := 0#32
  let v2664 : BitVec 32 := Scalar.addi v2663 c0_i32_833
  let c128_i32_834 : BitVec 32 := 128#32
  let v2665 : BitVec 32 := Scalar.muli v2664 c128_i32_834
  v2665
def k0_mult34 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_820 : BitVec 32 := 2#32
  let v2643 : BitVec 32 := Scalar.muli arg15 c2_i32_820
  let c1_i32_821 : BitVec 32 := 1#32
  let v2644 : BitVec 32 := Scalar.addi v2643 c1_i32_821
  let c2_i32_837 : BitVec 32 := 2#32
  let v2671 : BitVec 32 := Scalar.muli v2644 c2_i32_837
  let c0_i32_838 : BitVec 32 := 0#32
  let v2672 : BitVec 32 := Scalar.addi v2671 c0_i32_838
  let c8_i32_839 : BitVec 32 := 8#32
  let v2673 : BitVec 32 := Scalar.muli v2672 c8_i32_839
  v2673
def k0_mult35 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_820 : BitVec 32 := 2#32
  let v2643 : BitVec 32 := Scalar.muli arg15 c2_i32_820
  let c1_i32_821 : BitVec 32 := 1#32
  let v2644 : BitVec 32 := Scalar.addi v2643 c1_i32_821
  let c2_i32_842 : BitVec 32 := 2#32
  let v2679 : BitVec 32 := Scalar.muli v2644 c2_i32_842
  let c1_i32_843 : BitVec 32 := 1#32
  let v2680 : BitVec 32 := Scalar.addi v2679 c1_i32_843
  let c384_i32_844 : BitVec 32 := 384#32
  let v2681 : BitVec 32 := Scalar.muli v2680 c384_i32_844
  v2681
def k0_mult36 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_820 : BitVec 32 := 2#32
  let v2643 : BitVec 32 := Scalar.muli arg15 c2_i32_820
  let c1_i32_821 : BitVec 32 := 1#32
  let v2644 : BitVec 32 := Scalar.addi v2643 c1_i32_821
  let c2_i32_847 : BitVec 32 := 2#32
  let v2687 : BitVec 32 := Scalar.muli v2644 c2_i32_847
  let c1_i32_848 : BitVec 32 := 1#32
  let v2688 : BitVec 32 := Scalar.addi v2687 c1_i32_848
  let c128_i32_849 : BitVec 32 := 128#32
  let v2689 : BitVec 32 := Scalar.muli v2688 c128_i32_849
  v2689
def k0_mult37 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_820 : BitVec 32 := 2#32
  let v2643 : BitVec 32 := Scalar.muli arg15 c2_i32_820
  let c1_i32_821 : BitVec 32 := 1#32
  let v2644 : BitVec 32 := Scalar.addi v2643 c1_i32_821
  let c2_i32_852 : BitVec 32 := 2#32
  let v2695 : BitVec 32 := Scalar.muli v2644 c2_i32_852
  let c1_i32_853 : BitVec 32 := 1#32
  let v2696 : BitVec 32 := Scalar.addi v2695 c1_i32_853
  let c8_i32_854 : BitVec 32 := 8#32
  let v2697 : BitVec 32 := Scalar.muli v2696 c8_i32_854
  v2697
def k0_mult38 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_857 : BitVec 32 := 2#32
  let v2703 : BitVec 32 := Scalar.muli arg15 c2_i32_857
  let c1_i32_858 : BitVec 32 := 1#32
  let v2704 : BitVec 32 := Scalar.addi v2703 c1_i32_858
  let c256_i32_859 : BitVec 32 := 256#32
  let v2705 : BitVec 32 := Scalar.muli v2704 c256_i32_859
  v2705
def k0_mult39 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_857 : BitVec 32 := 2#32
  let v2703 : BitVec 32 := Scalar.muli arg15 c2_i32_857
  let c1_i32_858 : BitVec 32 := 1#32
  let v2704 : BitVec 32 := Scalar.addi v2703 c1_i32_858
  let c2_i32_864 : BitVec 32 := 2#32
  let v2715 : BitVec 32 := Scalar.muli v2704 c2_i32_864
  let c0_i32_865 : BitVec 32 := 0#32
  let v2716 : BitVec 32 := Scalar.addi v2715 c0_i32_865
  let c384_i32_866 : BitVec 32 := 384#32
  let v2717 : BitVec 32 := Scalar.muli v2716 c384_i32_866
  v2717
def k0_mult40 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_857 : BitVec 32 := 2#32
  let v2703 : BitVec 32 := Scalar.muli arg15 c2_i32_857
  let c1_i32_858 : BitVec 32 := 1#32
  let v2704 : BitVec 32 := Scalar.addi v2703 c1_i32_858
  let c2_i32_869 : BitVec 32 := 2#32
  let v2723 : BitVec 32 := Scalar.muli v2704 c2_i32_869
  let c0_i32_870 : BitVec 32 := 0#32
  let v2724 : BitVec 32 := Scalar.addi v2723 c0_i32_870
  let c128_i32_871 : BitVec 32 := 128#32
  let v2725 : BitVec 32 := Scalar.muli v2724 c128_i32_871
  v2725
def k0_mult41 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_857 : BitVec 32 := 2#32
  let v2703 : BitVec 32 := Scalar.muli arg15 c2_i32_857
  let c1_i32_858 : BitVec 32 := 1#32
  let v2704 : BitVec 32 := Scalar.addi v2703 c1_i32_858
  let c2_i32_874 : BitVec 32 := 2#32
  let v2731 : BitVec 32 := Scalar.muli v2704 c2_i32_874
  let c0_i32_875 : BitVec 32 := 0#32
  let v2732 : BitVec 32 := Scalar.addi v2731 c0_i32_875
  let c8_i32_876 : BitVec 32 := 8#32
  let v2733 : BitVec 32 := Scalar.muli v2732 c8_i32_876
  v2733
def k0_mult42 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_857 : BitVec 32 := 2#32
  let v2703 : BitVec 32 := Scalar.muli arg15 c2_i32_857
  let c1_i32_858 : BitVec 32 := 1#32
  let v2704 : BitVec 32 := Scalar.addi v2703 c1_i32_858
  let c2_i32_879 : BitVec 32 := 2#32
  let v2739 : BitVec 32 := Scalar.muli v2704 c2_i32_879
  let c1_i32_880 : BitVec 32 := 1#32
  let v2740 : BitVec 32 := Scalar.addi v2739 c1_i32_880
  let c384_i32_881 : BitVec 32 := 384#32
  let v2741 : BitVec 32 := Scalar.muli v2740 c384_i32_881
  v2741
def k0_mult43 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_857 : BitVec 32 := 2#32
  let v2703 : BitVec 32 := Scalar.muli arg15 c2_i32_857
  let c1_i32_858 : BitVec 32 := 1#32
  let v2704 : BitVec 32 := Scalar.addi v2703 c1_i32_858
  let c2_i32_884 : BitVec 32 := 2#32
  let v2747 : BitVec 32 := Scalar.muli v2704 c2_i32_884
  let c1_i32_885 : BitVec 32 := 1#32
  let v2748 : BitVec 32 := Scalar.addi v2747 c1_i32_885
  let c128_i32_886 : BitVec 32 := 128#32
  let v2749 : BitVec 32 := Scalar.muli v2748 c128_i32_886
  v2749
def k0_mult44 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_857 : BitVec 32 := 2#32
  let v2703 : BitVec 32 := Scalar.muli arg15 c2_i32_857
  let c1_i32_858 : BitVec 32 := 1#32
  let v2704 : BitVec 32 := Scalar.addi v2703 c1_i32_858
  let c2_i32_889 : BitVec 32 := 2#32
  let v2755 : BitVec 32 := Scalar.muli v2704 c2_i32_889
  let c1_i32_890 : BitVec 32 := 1#32
  let v2756 : BitVec 32 := Scalar.addi v2755 c1_i32_890
  let c8_i32_891 : BitVec 32 := 8#32
  let v2757 : BitVec 32 := Scalar.muli v2756 c8_i32_891
  v2757
def k0_mult45 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_894 : BitVec 32 := 2#32
  let v2763 : BitVec 32 := Scalar.muli arg15 c2_i32_894
  let c1_i32_895 : BitVec 32 := 1#32
  let v2764 : BitVec 32 := Scalar.addi v2763 c1_i32_895
  let c256_i32_896 : BitVec 32 := 256#32
  let v2765 : BitVec 32 := Scalar.muli v2764 c256_i32_896
  v2765
def k0_mult46 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_894 : BitVec 32 := 2#32
  let v2763 : BitVec 32 := Scalar.muli arg15 c2_i32_894
  let c1_i32_895 : BitVec 32 := 1#32
  let v2764 : BitVec 32 := Scalar.addi v2763 c1_i32_895
  let c2_i32_901 : BitVec 32 := 2#32
  let v2775 : BitVec 32 := Scalar.muli v2764 c2_i32_901
  let c0_i32_902 : BitVec 32 := 0#32
  let v2776 : BitVec 32 := Scalar.addi v2775 c0_i32_902
  let c384_i32_903 : BitVec 32 := 384#32
  let v2777 : BitVec 32 := Scalar.muli v2776 c384_i32_903
  v2777
def k0_mult47 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_894 : BitVec 32 := 2#32
  let v2763 : BitVec 32 := Scalar.muli arg15 c2_i32_894
  let c1_i32_895 : BitVec 32 := 1#32
  let v2764 : BitVec 32 := Scalar.addi v2763 c1_i32_895
  let c2_i32_906 : BitVec 32 := 2#32
  let v2783 : BitVec 32 := Scalar.muli v2764 c2_i32_906
  let c0_i32_907 : BitVec 32 := 0#32
  let v2784 : BitVec 32 := Scalar.addi v2783 c0_i32_907
  let c128_i32_908 : BitVec 32 := 128#32
  let v2785 : BitVec 32 := Scalar.muli v2784 c128_i32_908
  v2785
def k0_mult48 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_894 : BitVec 32 := 2#32
  let v2763 : BitVec 32 := Scalar.muli arg15 c2_i32_894
  let c1_i32_895 : BitVec 32 := 1#32
  let v2764 : BitVec 32 := Scalar.addi v2763 c1_i32_895
  let c2_i32_911 : BitVec 32 := 2#32
  let v2791 : BitVec 32 := Scalar.muli v2764 c2_i32_911
  let c0_i32_912 : BitVec 32 := 0#32
  let v2792 : BitVec 32 := Scalar.addi v2791 c0_i32_912
  let c8_i32_913 : BitVec 32 := 8#32
  let v2793 : BitVec 32 := Scalar.muli v2792 c8_i32_913
  v2793
def k0_mult49 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_894 : BitVec 32 := 2#32
  let v2763 : BitVec 32 := Scalar.muli arg15 c2_i32_894
  let c1_i32_895 : BitVec 32 := 1#32
  let v2764 : BitVec 32 := Scalar.addi v2763 c1_i32_895
  let c2_i32_916 : BitVec 32 := 2#32
  let v2799 : BitVec 32 := Scalar.muli v2764 c2_i32_916
  let c1_i32_917 : BitVec 32 := 1#32
  let v2800 : BitVec 32 := Scalar.addi v2799 c1_i32_917
  let c384_i32_918 : BitVec 32 := 384#32
  let v2801 : BitVec 32 := Scalar.muli v2800 c384_i32_918
  v2801
def k0_mult50 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_894 : BitVec 32 := 2#32
  let v2763 : BitVec 32 := Scalar.muli arg15 c2_i32_894
  let c1_i32_895 : BitVec 32 := 1#32
  let v2764 : BitVec 32 := Scalar.addi v2763 c1_i32_895
  let c2_i32_921 : BitVec 32 := 2#32
  let v2807 : BitVec 32 := Scalar.muli v2764 c2_i32_921
  let c1_i32_922 : BitVec 32 := 1#32
  let v2808 : BitVec 32 := Scalar.addi v2807 c1_i32_922
  let c128_i32_923 : BitVec 32 := 128#32
  let v2809 : BitVec 32 := Scalar.muli v2808 c128_i32_923
  v2809
def k0_mult51 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_894 : BitVec 32 := 2#32
  let v2763 : BitVec 32 := Scalar.muli arg15 c2_i32_894
  let c1_i32_895 : BitVec 32 := 1#32
  let v2764 : BitVec 32 := Scalar.addi v2763 c1_i32_895
  let c2_i32_926 : BitVec 32 := 2#32
  let v2815 : BitVec 32 := Scalar.muli v2764 c2_i32_926
  let c1_i32_927 : BitVec 32 := 1#32
  let v2816 : BitVec 32 := Scalar.addi v2815 c1_i32_927
  let c8_i32_928 : BitVec 32 := 8#32
  let v2817 : BitVec 32 := Scalar.muli v2816 c8_i32_928
  v2817
def k0_mult52 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_931 : BitVec 32 := 2#32
  let v2823 : BitVec 32 := Scalar.muli arg15 c2_i32_931
  let c1_i32_932 : BitVec 32 := 1#32
  let v2824 : BitVec 32 := Scalar.addi v2823 c1_i32_932
  let c256_i32_933 : BitVec 32 := 256#32
  let v2825 : BitVec 32 := Scalar.muli v2824 c256_i32_933
  v2825
def k0_mult53 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_931 : BitVec 32 := 2#32
  let v2823 : BitVec 32 := Scalar.muli arg15 c2_i32_931
  let c1_i32_932 : BitVec 32 := 1#32
  let v2824 : BitVec 32 := Scalar.addi v2823 c1_i32_932
  let c2_i32_938 : BitVec 32 := 2#32
  let v2835 : BitVec 32 := Scalar.muli v2824 c2_i32_938
  let c0_i32_939 : BitVec 32 := 0#32
  let v2836 : BitVec 32 := Scalar.addi v2835 c0_i32_939
  let c384_i32_940 : BitVec 32 := 384#32
  let v2837 : BitVec 32 := Scalar.muli v2836 c384_i32_940
  v2837
def k0_mult54 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_931 : BitVec 32 := 2#32
  let v2823 : BitVec 32 := Scalar.muli arg15 c2_i32_931
  let c1_i32_932 : BitVec 32 := 1#32
  let v2824 : BitVec 32 := Scalar.addi v2823 c1_i32_932
  let c2_i32_943 : BitVec 32 := 2#32
  let v2843 : BitVec 32 := Scalar.muli v2824 c2_i32_943
  let c0_i32_944 : BitVec 32 := 0#32
  let v2844 : BitVec 32 := Scalar.addi v2843 c0_i32_944
  let c128_i32_945 : BitVec 32 := 128#32
  let v2845 : BitVec 32 := Scalar.muli v2844 c128_i32_945
  v2845
def k0_mult55 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_931 : BitVec 32 := 2#32
  let v2823 : BitVec 32 := Scalar.muli arg15 c2_i32_931
  let c1_i32_932 : BitVec 32 := 1#32
  let v2824 : BitVec 32 := Scalar.addi v2823 c1_i32_932
  let c2_i32_948 : BitVec 32 := 2#32
  let v2851 : BitVec 32 := Scalar.muli v2824 c2_i32_948
  let c0_i32_949 : BitVec 32 := 0#32
  let v2852 : BitVec 32 := Scalar.addi v2851 c0_i32_949
  let c8_i32_950 : BitVec 32 := 8#32
  let v2853 : BitVec 32 := Scalar.muli v2852 c8_i32_950
  v2853
def k0_mult56 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_931 : BitVec 32 := 2#32
  let v2823 : BitVec 32 := Scalar.muli arg15 c2_i32_931
  let c1_i32_932 : BitVec 32 := 1#32
  let v2824 : BitVec 32 := Scalar.addi v2823 c1_i32_932
  let c2_i32_953 : BitVec 32 := 2#32
  let v2859 : BitVec 32 := Scalar.muli v2824 c2_i32_953
  let c1_i32_954 : BitVec 32 := 1#32
  let v2860 : BitVec 32 := Scalar.addi v2859 c1_i32_954
  let c384_i32_955 : BitVec 32 := 384#32
  let v2861 : BitVec 32 := Scalar.muli v2860 c384_i32_955
  v2861
def k0_mult57 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_931 : BitVec 32 := 2#32
  let v2823 : BitVec 32 := Scalar.muli arg15 c2_i32_931
  let c1_i32_932 : BitVec 32 := 1#32
  let v2824 : BitVec 32 := Scalar.addi v2823 c1_i32_932
  let c2_i32_958 : BitVec 32 := 2#32
  let v2867 : BitVec 32 := Scalar.muli v2824 c2_i32_958
  let c1_i32_959 : BitVec 32 := 1#32
  let v2868 : BitVec 32 := Scalar.addi v2867 c1_i32_959
  let c128_i32_960 : BitVec 32 := 128#32
  let v2869 : BitVec 32 := Scalar.muli v2868 c128_i32_960
  v2869
def k0_mult58 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c2_i32_931 : BitVec 32 := 2#32
  let v2823 : BitVec 32 := Scalar.muli arg15 c2_i32_931
  let c1_i32_932 : BitVec 32 := 1#32
  let v2824 : BitVec 32 := Scalar.addi v2823 c1_i32_932
  let c2_i32_963 : BitVec 32 := 2#32
  let v2875 : BitVec 32 := Scalar.muli v2824 c2_i32_963
  let c1_i32_964 : BitVec 32 := 1#32
  let v2876 : BitVec 32 := Scalar.addi v2875 c1_i32_964
  let c8_i32_965 : BitVec 32 := 8#32
  let v2877 : BitVec 32 := Scalar.muli v2876 c8_i32_965
  v2877
@[reducible] def k0_t2_loop : Scf.Loop 32 :=
  let c0_i32_8 : BitVec 32 := 0#32
  let c8_i32 : BitVec 32 := 8#32
  let v22 : BitVec 32 := Scalar.addi c0_i32_8 c8_i32
  let c1_i32_9 : BitVec 32 := 1#32
  ⟨c0_i32_8, v22, c1_i32_9⟩
def k0_mult59 (k0_t2 : Fin k0_t2_loop.trips) : BitVec 32 :=
  let c0_i32_8 : BitVec 32 := 0#32
  let c1_i32_9 : BitVec 32 := 1#32
  let arg15 : BitVec 32 := Scf.iv c0_i32_8 c1_i32_9 k0_t2
  let c256_i32 : BitVec 32 := 256#32
  let v24 : BitVec 32 := Scalar.muli arg15 c256_i32
  v24
def k0_mult60 (k0_t2 : Fin k0_t2_loop.trips) : BitVec 32 :=
  let c0_i32_8 : BitVec 32 := 0#32
  let c1_i32_9 : BitVec 32 := 1#32
  let arg15 : BitVec 32 := Scf.iv c0_i32_8 c1_i32_9 k0_t2
  let c2_i32 : BitVec 32 := 2#32
  let v27 : BitVec 32 := Scalar.muli arg15 c2_i32
  let c0_i32_12 : BitVec 32 := 0#32
  let v28 : BitVec 32 := Scalar.addi v27 c0_i32_12
  let c384_i32 : BitVec 32 := 384#32
  let v29 : BitVec 32 := Scalar.muli v28 c384_i32
  v29
def k0_off26 (k0_t2 : Fin k0_t2_loop.trips) (c0_i32_12 : BitVec 32) : Fin 3 → Nat :=
  let c0_13 : Index := 0#32
  let c0_i32_8 : BitVec 32 := 0#32
  let c1_i32_9 : BitVec 32 := 1#32
  let arg15 : BitVec 32 := Scf.iv c0_i32_8 c1_i32_9 k0_t2
  let c2_i32 : BitVec 32 := 2#32
  let v27 : BitVec 32 := Scalar.muli arg15 c2_i32
  let v28 : BitVec 32 := Scalar.addi v27 c0_i32_12
  let c384_i32 : BitVec 32 := 384#32
  let v29 : BitVec 32 := Scalar.muli v28 c384_i32
  let v30 : BitVec 32 := v29
  let v31 : Index := Scalar.indexCast v30
  let c0_14 : Index := 0#32
  ![0, v31.toNat, 0]
def k0_mult61 (k0_t2 : Fin k0_t2_loop.trips) : BitVec 32 :=
  let c0_i32_8 : BitVec 32 := 0#32
  let c1_i32_9 : BitVec 32 := 1#32
  let arg15 : BitVec 32 := Scf.iv c0_i32_8 c1_i32_9 k0_t2
  let c2_i32_16 : BitVec 32 := 2#32
  let v36 : BitVec 32 := Scalar.muli arg15 c2_i32_16
  let c0_i32_17 : BitVec 32 := 0#32
  let v37 : BitVec 32 := Scalar.addi v36 c0_i32_17
  let c384_i32_18 : BitVec 32 := 384#32
  let v38 : BitVec 32 := Scalar.muli v37 c384_i32_18
  v38
def k0_off27 (k0_t2 : Fin k0_t2_loop.trips) (c0_i32_17 : BitVec 32) : Fin 3 → Nat :=
  let c1 : Index := 1#32
  let c0_i32_8 : BitVec 32 := 0#32
  let c1_i32_9 : BitVec 32 := 1#32
  let arg15 : BitVec 32 := Scf.iv c0_i32_8 c1_i32_9 k0_t2
  let c2_i32_16 : BitVec 32 := 2#32
  let v36 : BitVec 32 := Scalar.muli arg15 c2_i32_16
  let v37 : BitVec 32 := Scalar.addi v36 c0_i32_17
  let c384_i32_18 : BitVec 32 := 384#32
  let v38 : BitVec 32 := Scalar.muli v37 c384_i32_18
  let v39 : BitVec 32 := v38
  let v40 : Index := Scalar.indexCast v39
  let c0_19 : Index := 0#32
  ![1, v40.toNat, 0]
def k0_mult62 (k0_t2 : Fin k0_t2_loop.trips) : BitVec 32 :=
  let c0_i32_8 : BitVec 32 := 0#32
  let c1_i32_9 : BitVec 32 := 1#32
  let arg15 : BitVec 32 := Scf.iv c0_i32_8 c1_i32_9 k0_t2
  let c2_i32_21 : BitVec 32 := 2#32
  let v45 : BitVec 32 := Scalar.muli arg15 c2_i32_21
  let c0_i32_22 : BitVec 32 := 0#32
  let v46 : BitVec 32 := Scalar.addi v45 c0_i32_22
  let c384_i32_23 : BitVec 32 := 384#32
  let v47 : BitVec 32 := Scalar.muli v46 c384_i32_23
  v47
def k0_off28 (k0_t2 : Fin k0_t2_loop.trips) (c0_i32_22 : BitVec 32) : Fin 3 → Nat :=
  let c2 : Index := 2#32
  let c0_i32_8 : BitVec 32 := 0#32
  let c1_i32_9 : BitVec 32 := 1#32
  let arg15 : BitVec 32 := Scf.iv c0_i32_8 c1_i32_9 k0_t2
  let c2_i32_21 : BitVec 32 := 2#32
  let v45 : BitVec 32 := Scalar.muli arg15 c2_i32_21
  let v46 : BitVec 32 := Scalar.addi v45 c0_i32_22
  let c384_i32_23 : BitVec 32 := 384#32
  let v47 : BitVec 32 := Scalar.muli v46 c384_i32_23
  let v48 : BitVec 32 := v47
  let v49 : Index := Scalar.indexCast v48
  let c0_24 : Index := 0#32
  ![2, v49.toNat, 0]
def k0_mult63 (k0_t2 : Fin k0_t2_loop.trips) : BitVec 32 :=
  let c0_i32_8 : BitVec 32 := 0#32
  let c1_i32_9 : BitVec 32 := 1#32
  let arg15 : BitVec 32 := Scf.iv c0_i32_8 c1_i32_9 k0_t2
  let c2_i32_26 : BitVec 32 := 2#32
  let v54 : BitVec 32 := Scalar.muli arg15 c2_i32_26
  let c0_i32_27 : BitVec 32 := 0#32
  let v55 : BitVec 32 := Scalar.addi v54 c0_i32_27
  let c384_i32_28 : BitVec 32 := 384#32
  let v56 : BitVec 32 := Scalar.muli v55 c384_i32_28
  v56
def k0_off29 (k0_t2 : Fin k0_t2_loop.trips) (c0_i32_27 : BitVec 32) : Fin 3 → Nat :=
  let c3 : Index := 3#32
  let c0_i32_8 : BitVec 32 := 0#32
  let c1_i32_9 : BitVec 32 := 1#32
  let arg15 : BitVec 32 := Scf.iv c0_i32_8 c1_i32_9 k0_t2
  let c2_i32_26 : BitVec 32 := 2#32
  let v54 : BitVec 32 := Scalar.muli arg15 c2_i32_26
  let v55 : BitVec 32 := Scalar.addi v54 c0_i32_27
  let c384_i32_28 : BitVec 32 := 384#32
  let v56 : BitVec 32 := Scalar.muli v55 c384_i32_28
  let v57 : BitVec 32 := v56
  let v58 : Index := Scalar.indexCast v57
  let c0_29 : Index := 0#32
  ![3, v58.toNat, 0]
def k0_off30 (k0_t2 : Fin k0_t2_loop.trips) (c0_i32_11 : BitVec 32) : Fin 3 → Nat :=
  let c0_31 : Index := 0#32
  let c0_i32_8 : BitVec 32 := 0#32
  let c1_i32_9 : BitVec 32 := 1#32
  let arg15 : BitVec 32 := Scf.iv c0_i32_8 c1_i32_9 k0_t2
  let c256_i32 : BitVec 32 := 256#32
  let v24 : BitVec 32 := Scalar.muli arg15 c256_i32
  let v25 : BitVec 32 := v24
  let v26 : BitVec 32 := Scalar.addi v25 c0_i32_11
  let v63 : Index := Scalar.indexCast v26
  let c0_32 : Index := 0#32
  ![0, v63.toNat, 0]
def k0_off31 (k0_t2 : Fin k0_t2_loop.trips) (c0_i32_11 : BitVec 32) : Fin 3 → Nat :=
  let c0_34 : Index := 0#32
  let c0_i32_8 : BitVec 32 := 0#32
  let c1_i32_9 : BitVec 32 := 1#32
  let arg15 : BitVec 32 := Scf.iv c0_i32_8 c1_i32_9 k0_t2
  let c256_i32 : BitVec 32 := 256#32
  let v24 : BitVec 32 := Scalar.muli arg15 c256_i32
  let v25 : BitVec 32 := v24
  let v26 : BitVec 32 := Scalar.addi v25 c0_i32_11
  let v71 : Index := Scalar.indexCast v26
  let c0_35 : Index := 0#32
  ![0, v71.toNat, 0]
def k0_mult64 (k0_t2 : Fin k0_t2_loop.trips) : BitVec 32 :=
  let c0_i32_8 : BitVec 32 := 0#32
  let c1_i32_9 : BitVec 32 := 1#32
  let arg15 : BitVec 32 := Scf.iv c0_i32_8 c1_i32_9 k0_t2
  let c2_i32_37 : BitVec 32 := 2#32
  let v77 : BitVec 32 := Scalar.muli arg15 c2_i32_37
  let c0_i32_38 : BitVec 32 := 0#32
  let v78 : BitVec 32 := Scalar.addi v77 c0_i32_38
  let c8_i32_39 : BitVec 32 := 8#32
  let v79 : BitVec 32 := Scalar.muli v78 c8_i32_39
  v79
def k0_off32 (k0_t2 : Fin k0_t2_loop.trips) (c0_i32_38 : BitVec 32) : Fin 3 → Nat :=
  let c0_40 : Index := 0#32
  let c0_i32_8 : BitVec 32 := 0#32
  let c1_i32_9 : BitVec 32 := 1#32
  let arg15 : BitVec 32 := Scf.iv c0_i32_8 c1_i32_9 k0_t2
  let c2_i32_37 : BitVec 32 := 2#32
  let v77 : BitVec 32 := Scalar.muli arg15 c2_i32_37
  let v78 : BitVec 32 := Scalar.addi v77 c0_i32_38
  let c8_i32_39 : BitVec 32 := 8#32
  let v79 : BitVec 32 := Scalar.muli v78 c8_i32_39
  let v80 : BitVec 32 := v79
  let v81 : Index := Scalar.indexCast v80
  let c0_41 : Index := 0#32
  ![0, v81.toNat, 0]
def k0_mult65 (k0_t2 : Fin k0_t2_loop.trips) : BitVec 32 :=
  let c0_i32_8 : BitVec 32 := 0#32
  let c1_i32_9 : BitVec 32 := 1#32
  let arg15 : BitVec 32 := Scf.iv c0_i32_8 c1_i32_9 k0_t2
  let c2_i32_42 : BitVec 32 := 2#32
  let v90 : BitVec 32 := Scalar.muli arg15 c2_i32_42
  let c0_i32_43 : BitVec 32 := 0#32
  let v91 : BitVec 32 := Scalar.addi v90 c0_i32_43
  let c128_i32 : BitVec 32 := 128#32
  let v92 : BitVec 32 := Scalar.muli v91 c128_i32
  v92
def k0_off33 (k0_t2 : Fin k0_t2_loop.trips) (c0_i32_43 : BitVec 32) : Fin 3 → Nat :=
  let c0_44 : Index := 0#32
  let c0_i32_8 : BitVec 32 := 0#32
  let c1_i32_9 : BitVec 32 := 1#32
  let arg15 : BitVec 32 := Scf.iv c0_i32_8 c1_i32_9 k0_t2
  let c2_i32_42 : BitVec 32 := 2#32
  let v90 : BitVec 32 := Scalar.muli arg15 c2_i32_42
  let v91 : BitVec 32 := Scalar.addi v90 c0_i32_43
  let c128_i32 : BitVec 32 := 128#32
  let v92 : BitVec 32 := Scalar.muli v91 c128_i32
  let v93 : BitVec 32 := v92
  let v94 : Index := Scalar.indexCast v93
  let c0_45 : Index := 0#32
  ![0, v94.toNat, 0]
def k0_off34 (k0_t2 : Fin k0_t2_loop.trips) (c0_i32_11 : BitVec 32) : Fin 3 → Nat :=
  let c1_49 : Index := 1#32
  let c0_i32_8 : BitVec 32 := 0#32
  let c1_i32_9 : BitVec 32 := 1#32
  let arg15 : BitVec 32 := Scf.iv c0_i32_8 c1_i32_9 k0_t2
  let c256_i32 : BitVec 32 := 256#32
  let v24 : BitVec 32 := Scalar.muli arg15 c256_i32
  let v25 : BitVec 32 := v24
  let v26 : BitVec 32 := Scalar.addi v25 c0_i32_11
  let v110 : Index := Scalar.indexCast v26
  let c0_50 : Index := 0#32
  ![1, v110.toNat, 0]
def k0_off35 (k0_t2 : Fin k0_t2_loop.trips) (c0_i32_11 : BitVec 32) : Fin 3 → Nat :=
  let c1_52 : Index := 1#32
  let c0_i32_8 : BitVec 32 := 0#32
  let c1_i32_9 : BitVec 32 := 1#32
  let arg15 : BitVec 32 := Scf.iv c0_i32_8 c1_i32_9 k0_t2
  let c256_i32 : BitVec 32 := 256#32
  let v24 : BitVec 32 := Scalar.muli arg15 c256_i32
  let v25 : BitVec 32 := v24
  let v26 : BitVec 32 := Scalar.addi v25 c0_i32_11
  let v118 : Index := Scalar.indexCast v26
  let c0_53 : Index := 0#32
  ![1, v118.toNat, 0]
def k0_mult66 (k0_t2 : Fin k0_t2_loop.trips) : BitVec 32 :=
  let c0_i32_8 : BitVec 32 := 0#32
  let c1_i32_9 : BitVec 32 := 1#32
  let arg15 : BitVec 32 := Scf.iv c0_i32_8 c1_i32_9 k0_t2
  let c2_i32_55 : BitVec 32 := 2#32
  let v124 : BitVec 32 := Scalar.muli arg15 c2_i32_55
  let c0_i32_56 : BitVec 32 := 0#32
  let v125 : BitVec 32 := Scalar.addi v124 c0_i32_56
  let c8_i32_57 : BitVec 32 := 8#32
  let v126 : BitVec 32 := Scalar.muli v125 c8_i32_57
  v126
def k0_off36 (k0_t2 : Fin k0_t2_loop.trips) (c0_i32_56 : BitVec 32) : Fin 3 → Nat :=
  let c1_58 : Index := 1#32
  let c0_i32_8 : BitVec 32 := 0#32
  let c1_i32_9 : BitVec 32 := 1#32
  let arg15 : BitVec 32 := Scf.iv c0_i32_8 c1_i32_9 k0_t2
  let c2_i32_55 : BitVec 32 := 2#32
  let v124 : BitVec 32 := Scalar.muli arg15 c2_i32_55
  let v125 : BitVec 32 := Scalar.addi v124 c0_i32_56
  let c8_i32_57 : BitVec 32 := 8#32
  let v126 : BitVec 32 := Scalar.muli v125 c8_i32_57
  let v127 : BitVec 32 := v126
  let v128 : Index := Scalar.indexCast v127
  let c0_59 : Index := 0#32
  ![1, v128.toNat, 0]
def k0_mult67 (k0_t2 : Fin k0_t2_loop.trips) : BitVec 32 :=
  let c0_i32_8 : BitVec 32 := 0#32
  let c1_i32_9 : BitVec 32 := 1#32
  let arg15 : BitVec 32 := Scf.iv c0_i32_8 c1_i32_9 k0_t2
  let c2_i32_60 : BitVec 32 := 2#32
  let v137 : BitVec 32 := Scalar.muli arg15 c2_i32_60
  let c0_i32_61 : BitVec 32 := 0#32
  let v138 : BitVec 32 := Scalar.addi v137 c0_i32_61
  let c128_i32_62 : BitVec 32 := 128#32
  let v139 : BitVec 32 := Scalar.muli v138 c128_i32_62
  v139
def k0_off37 (k0_t2 : Fin k0_t2_loop.trips) (c0_i32_61 : BitVec 32) : Fin 3 → Nat :=
  let c1_63 : Index := 1#32
  let c0_i32_8 : BitVec 32 := 0#32
  let c1_i32_9 : BitVec 32 := 1#32
  let arg15 : BitVec 32 := Scf.iv c0_i32_8 c1_i32_9 k0_t2
  let c2_i32_60 : BitVec 32 := 2#32
  let v137 : BitVec 32 := Scalar.muli arg15 c2_i32_60
  let v138 : BitVec 32 := Scalar.addi v137 c0_i32_61
  let c128_i32_62 : BitVec 32 := 128#32
  let v139 : BitVec 32 := Scalar.muli v138 c128_i32_62
  let v140 : BitVec 32 := v139
  let v141 : Index := Scalar.indexCast v140
  let c0_64 : Index := 0#32
  ![1, v141.toNat, 0]
def k0_off38 (k0_t2 : Fin k0_t2_loop.trips) (c0_i32_11 : BitVec 32) : Fin 3 → Nat :=
  let c2_68 : Index := 2#32
  let c0_i32_8 : BitVec 32 := 0#32
  let c1_i32_9 : BitVec 32 := 1#32
  let arg15 : BitVec 32 := Scf.iv c0_i32_8 c1_i32_9 k0_t2
  let c256_i32 : BitVec 32 := 256#32
  let v24 : BitVec 32 := Scalar.muli arg15 c256_i32
  let v25 : BitVec 32 := v24
  let v26 : BitVec 32 := Scalar.addi v25 c0_i32_11
  let v157 : Index := Scalar.indexCast v26
  let c0_69 : Index := 0#32
  ![2, v157.toNat, 0]
def k0_off39 (k0_t2 : Fin k0_t2_loop.trips) (c0_i32_11 : BitVec 32) : Fin 3 → Nat :=
  let c2_71 : Index := 2#32
  let c0_i32_8 : BitVec 32 := 0#32
  let c1_i32_9 : BitVec 32 := 1#32
  let arg15 : BitVec 32 := Scf.iv c0_i32_8 c1_i32_9 k0_t2
  let c256_i32 : BitVec 32 := 256#32
  let v24 : BitVec 32 := Scalar.muli arg15 c256_i32
  let v25 : BitVec 32 := v24
  let v26 : BitVec 32 := Scalar.addi v25 c0_i32_11
  let v165 : Index := Scalar.indexCast v26
  let c0_72 : Index := 0#32
  ![2, v165.toNat, 0]
def k0_mult68 (k0_t2 : Fin k0_t2_loop.trips) : BitVec 32 :=
  let c0_i32_8 : BitVec 32 := 0#32
  let c1_i32_9 : BitVec 32 := 1#32
  let arg15 : BitVec 32 := Scf.iv c0_i32_8 c1_i32_9 k0_t2
  let c2_i32_74 : BitVec 32 := 2#32
  let v171 : BitVec 32 := Scalar.muli arg15 c2_i32_74
  let c0_i32_75 : BitVec 32 := 0#32
  let v172 : BitVec 32 := Scalar.addi v171 c0_i32_75
  let c8_i32_76 : BitVec 32 := 8#32
  let v173 : BitVec 32 := Scalar.muli v172 c8_i32_76
  v173
def k0_off40 (k0_t2 : Fin k0_t2_loop.trips) (c0_i32_75 : BitVec 32) : Fin 3 → Nat :=
  let c2_77 : Index := 2#32
  let c0_i32_8 : BitVec 32 := 0#32
  let c1_i32_9 : BitVec 32 := 1#32
  let arg15 : BitVec 32 := Scf.iv c0_i32_8 c1_i32_9 k0_t2
  let c2_i32_74 : BitVec 32 := 2#32
  let v171 : BitVec 32 := Scalar.muli arg15 c2_i32_74
  let v172 : BitVec 32 := Scalar.addi v171 c0_i32_75
  let c8_i32_76 : BitVec 32 := 8#32
  let v173 : BitVec 32 := Scalar.muli v172 c8_i32_76
  let v174 : BitVec 32 := v173
  let v175 : Index := Scalar.indexCast v174
  let c0_78 : Index := 0#32
  ![2, v175.toNat, 0]
def k0_mult69 (k0_t2 : Fin k0_t2_loop.trips) : BitVec 32 :=
  let c0_i32_8 : BitVec 32 := 0#32
  let c1_i32_9 : BitVec 32 := 1#32
  let arg15 : BitVec 32 := Scf.iv c0_i32_8 c1_i32_9 k0_t2
  let c2_i32_79 : BitVec 32 := 2#32
  let v184 : BitVec 32 := Scalar.muli arg15 c2_i32_79
  let c0_i32_80 : BitVec 32 := 0#32
  let v185 : BitVec 32 := Scalar.addi v184 c0_i32_80
  let c128_i32_81 : BitVec 32 := 128#32
  let v186 : BitVec 32 := Scalar.muli v185 c128_i32_81
  v186
def k0_off41 (k0_t2 : Fin k0_t2_loop.trips) (c0_i32_80 : BitVec 32) : Fin 3 → Nat :=
  let c2_82 : Index := 2#32
  let c0_i32_8 : BitVec 32 := 0#32
  let c1_i32_9 : BitVec 32 := 1#32
  let arg15 : BitVec 32 := Scf.iv c0_i32_8 c1_i32_9 k0_t2
  let c2_i32_79 : BitVec 32 := 2#32
  let v184 : BitVec 32 := Scalar.muli arg15 c2_i32_79
  let v185 : BitVec 32 := Scalar.addi v184 c0_i32_80
  let c128_i32_81 : BitVec 32 := 128#32
  let v186 : BitVec 32 := Scalar.muli v185 c128_i32_81
  let v187 : BitVec 32 := v186
  let v188 : Index := Scalar.indexCast v187
  let c0_83 : Index := 0#32
  ![2, v188.toNat, 0]
def k0_off42 (k0_t2 : Fin k0_t2_loop.trips) (c0_i32_11 : BitVec 32) : Fin 3 → Nat :=
  let c3_87 : Index := 3#32
  let c0_i32_8 : BitVec 32 := 0#32
  let c1_i32_9 : BitVec 32 := 1#32
  let arg15 : BitVec 32 := Scf.iv c0_i32_8 c1_i32_9 k0_t2
  let c256_i32 : BitVec 32 := 256#32
  let v24 : BitVec 32 := Scalar.muli arg15 c256_i32
  let v25 : BitVec 32 := v24
  let v26 : BitVec 32 := Scalar.addi v25 c0_i32_11
  let v204 : Index := Scalar.indexCast v26
  let c0_88 : Index := 0#32
  ![3, v204.toNat, 0]
def k0_off43 (k0_t2 : Fin k0_t2_loop.trips) (c0_i32_11 : BitVec 32) : Fin 3 → Nat :=
  let c3_90 : Index := 3#32
  let c0_i32_8 : BitVec 32 := 0#32
  let c1_i32_9 : BitVec 32 := 1#32
  let arg15 : BitVec 32 := Scf.iv c0_i32_8 c1_i32_9 k0_t2
  let c256_i32 : BitVec 32 := 256#32
  let v24 : BitVec 32 := Scalar.muli arg15 c256_i32
  let v25 : BitVec 32 := v24
  let v26 : BitVec 32 := Scalar.addi v25 c0_i32_11
  let v212 : Index := Scalar.indexCast v26
  let c0_91 : Index := 0#32
  ![3, v212.toNat, 0]
def k0_mult70 (k0_t2 : Fin k0_t2_loop.trips) : BitVec 32 :=
  let c0_i32_8 : BitVec 32 := 0#32
  let c1_i32_9 : BitVec 32 := 1#32
  let arg15 : BitVec 32 := Scf.iv c0_i32_8 c1_i32_9 k0_t2
  let c2_i32_93 : BitVec 32 := 2#32
  let v218 : BitVec 32 := Scalar.muli arg15 c2_i32_93
  let c0_i32_94 : BitVec 32 := 0#32
  let v219 : BitVec 32 := Scalar.addi v218 c0_i32_94
  let c8_i32_95 : BitVec 32 := 8#32
  let v220 : BitVec 32 := Scalar.muli v219 c8_i32_95
  v220
def k0_off44 (k0_t2 : Fin k0_t2_loop.trips) (c0_i32_94 : BitVec 32) : Fin 3 → Nat :=
  let c3_96 : Index := 3#32
  let c0_i32_8 : BitVec 32 := 0#32
  let c1_i32_9 : BitVec 32 := 1#32
  let arg15 : BitVec 32 := Scf.iv c0_i32_8 c1_i32_9 k0_t2
  let c2_i32_93 : BitVec 32 := 2#32
  let v218 : BitVec 32 := Scalar.muli arg15 c2_i32_93
  let v219 : BitVec 32 := Scalar.addi v218 c0_i32_94
  let c8_i32_95 : BitVec 32 := 8#32
  let v220 : BitVec 32 := Scalar.muli v219 c8_i32_95
  let v221 : BitVec 32 := v220
  let v222 : Index := Scalar.indexCast v221
  let c0_97 : Index := 0#32
  ![3, v222.toNat, 0]
def k0_mult71 (k0_t2 : Fin k0_t2_loop.trips) : BitVec 32 :=
  let c0_i32_8 : BitVec 32 := 0#32
  let c1_i32_9 : BitVec 32 := 1#32
  let arg15 : BitVec 32 := Scf.iv c0_i32_8 c1_i32_9 k0_t2
  let c2_i32_98 : BitVec 32 := 2#32
  let v231 : BitVec 32 := Scalar.muli arg15 c2_i32_98
  let c0_i32_99 : BitVec 32 := 0#32
  let v232 : BitVec 32 := Scalar.addi v231 c0_i32_99
  let c128_i32_100 : BitVec 32 := 128#32
  let v233 : BitVec 32 := Scalar.muli v232 c128_i32_100
  v233
def k0_off45 (k0_t2 : Fin k0_t2_loop.trips) (c0_i32_99 : BitVec 32) : Fin 3 → Nat :=
  let c3_101 : Index := 3#32
  let c0_i32_8 : BitVec 32 := 0#32
  let c1_i32_9 : BitVec 32 := 1#32
  let arg15 : BitVec 32 := Scf.iv c0_i32_8 c1_i32_9 k0_t2
  let c2_i32_98 : BitVec 32 := 2#32
  let v231 : BitVec 32 := Scalar.muli arg15 c2_i32_98
  let v232 : BitVec 32 := Scalar.addi v231 c0_i32_99
  let c128_i32_100 : BitVec 32 := 128#32
  let v233 : BitVec 32 := Scalar.muli v232 c128_i32_100
  let v234 : BitVec 32 := v233
  let v235 : Index := Scalar.indexCast v234
  let c0_102 : Index := 0#32
  ![3, v235.toNat, 0]
def k0_off46 (k0_t2 : Fin k0_t2_loop.trips) (c0_i32_11 : BitVec 32) : Fin 3 → Nat :=
  let c0_106 : Index := 0#32
  let c0_i32_8 : BitVec 32 := 0#32
  let c1_i32_9 : BitVec 32 := 1#32
  let arg15 : BitVec 32 := Scf.iv c0_i32_8 c1_i32_9 k0_t2
  let c256_i32 : BitVec 32 := 256#32
  let v24 : BitVec 32 := Scalar.muli arg15 c256_i32
  let v25 : BitVec 32 := v24
  let v26 : BitVec 32 := Scalar.addi v25 c0_i32_11
  let v252 : Index := Scalar.indexCast v26
  let c0_107 : Index := 0#32
  ![0, v252.toNat, 0]
def k0_mult72 (k0_t2 : Fin k0_t2_loop.trips) : BitVec 32 :=
  let c0_i32_8 : BitVec 32 := 0#32
  let c1_i32_9 : BitVec 32 := 1#32
  let arg15 : BitVec 32 := Scf.iv c0_i32_8 c1_i32_9 k0_t2
  let c2_i32_111 : BitVec 32 := 2#32
  let v263 : BitVec 32 := Scalar.muli arg15 c2_i32_111
  let c1_i32_112 : BitVec 32 := 1#32
  let v264 : BitVec 32 := Scalar.addi v263 c1_i32_112
  let c384_i32_113 : BitVec 32 := 384#32
  let v265 : BitVec 32 := Scalar.muli v264 c384_i32_113
  v265
def k0_mult73 (k0_t2 : Fin k0_t2_loop.trips) : BitVec 32 :=
  let c0_i32_8 : BitVec 32 := 0#32
  let c1_i32_9 : BitVec 32 := 1#32
  let arg15 : BitVec 32 := Scf.iv c0_i32_8 c1_i32_9 k0_t2
  let c2_i32_117 : BitVec 32 := 2#32
  let v272 : BitVec 32 := Scalar.muli arg15 c2_i32_117
  let c1_i32_118 : BitVec 32 := 1#32
  let v273 : BitVec 32 := Scalar.addi v272 c1_i32_118
  let c384_i32_119 : BitVec 32 := 384#32
  let v274 : BitVec 32 := Scalar.muli v273 c384_i32_119
  v274
def k0_mult74 (k0_t2 : Fin k0_t2_loop.trips) : BitVec 32 :=
  let c0_i32_8 : BitVec 32 := 0#32
  let c1_i32_9 : BitVec 32 := 1#32
  let arg15 : BitVec 32 := Scf.iv c0_i32_8 c1_i32_9 k0_t2
  let c2_i32_123 : BitVec 32 := 2#32
  let v281 : BitVec 32 := Scalar.muli arg15 c2_i32_123
  let c1_i32_124 : BitVec 32 := 1#32
  let v282 : BitVec 32 := Scalar.addi v281 c1_i32_124
  let c384_i32_125 : BitVec 32 := 384#32
  let v283 : BitVec 32 := Scalar.muli v282 c384_i32_125
  v283
def k0_mult75 (k0_t2 : Fin k0_t2_loop.trips) : BitVec 32 :=
  let c0_i32_8 : BitVec 32 := 0#32
  let c1_i32_9 : BitVec 32 := 1#32
  let arg15 : BitVec 32 := Scf.iv c0_i32_8 c1_i32_9 k0_t2
  let c2_i32_129 : BitVec 32 := 2#32
  let v290 : BitVec 32 := Scalar.muli arg15 c2_i32_129
  let c1_i32_130 : BitVec 32 := 1#32
  let v291 : BitVec 32 := Scalar.addi v290 c1_i32_130
  let c384_i32_131 : BitVec 32 := 384#32
  let v292 : BitVec 32 := Scalar.muli v291 c384_i32_131
  v292
def k0_mult76 (k0_t2 : Fin k0_t2_loop.trips) : BitVec 32 :=
  let c0_i32_8 : BitVec 32 := 0#32
  let c1_i32_9 : BitVec 32 := 1#32
  let arg15 : BitVec 32 := Scf.iv c0_i32_8 c1_i32_9 k0_t2
  let c2_i32_140 : BitVec 32 := 2#32
  let v312 : BitVec 32 := Scalar.muli arg15 c2_i32_140
  let c1_i32_141 : BitVec 32 := 1#32
  let v313 : BitVec 32 := Scalar.addi v312 c1_i32_141
  let c8_i32_142 : BitVec 32 := 8#32
  let v314 : BitVec 32 := Scalar.muli v313 c8_i32_142
  v314
def k0_mult77 (k0_t2 : Fin k0_t2_loop.trips) : BitVec 32 :=
  let c0_i32_8 : BitVec 32 := 0#32
  let c1_i32_9 : BitVec 32 := 1#32
  let arg15 : BitVec 32 := Scf.iv c0_i32_8 c1_i32_9 k0_t2
  let c2_i32_145 : BitVec 32 := 2#32
  let v325 : BitVec 32 := Scalar.muli arg15 c2_i32_145
  let c1_i32_146 : BitVec 32 := 1#32
  let v326 : BitVec 32 := Scalar.addi v325 c1_i32_146
  let c128_i32_147 : BitVec 32 := 128#32
  let v327 : BitVec 32 := Scalar.muli v326 c128_i32_147
  v327
def k0_mult78 (k0_t2 : Fin k0_t2_loop.trips) : BitVec 32 :=
  let c0_i32_8 : BitVec 32 := 0#32
  let c1_i32_9 : BitVec 32 := 1#32
  let arg15 : BitVec 32 := Scf.iv c0_i32_8 c1_i32_9 k0_t2
  let c2_i32_158 : BitVec 32 := 2#32
  let v358 : BitVec 32 := Scalar.muli arg15 c2_i32_158
  let c1_i32_159 : BitVec 32 := 1#32
  let v359 : BitVec 32 := Scalar.addi v358 c1_i32_159
  let c8_i32_160 : BitVec 32 := 8#32
  let v360 : BitVec 32 := Scalar.muli v359 c8_i32_160
  v360
def k0_mult79 (k0_t2 : Fin k0_t2_loop.trips) : BitVec 32 :=
  let c0_i32_8 : BitVec 32 := 0#32
  let c1_i32_9 : BitVec 32 := 1#32
  let arg15 : BitVec 32 := Scf.iv c0_i32_8 c1_i32_9 k0_t2
  let c2_i32_163 : BitVec 32 := 2#32
  let v371 : BitVec 32 := Scalar.muli arg15 c2_i32_163
  let c1_i32_164 : BitVec 32 := 1#32
  let v372 : BitVec 32 := Scalar.addi v371 c1_i32_164
  let c128_i32_165 : BitVec 32 := 128#32
  let v373 : BitVec 32 := Scalar.muli v372 c128_i32_165
  v373
def k0_mult80 (k0_t2 : Fin k0_t2_loop.trips) : BitVec 32 :=
  let c0_i32_8 : BitVec 32 := 0#32
  let c1_i32_9 : BitVec 32 := 1#32
  let arg15 : BitVec 32 := Scf.iv c0_i32_8 c1_i32_9 k0_t2
  let c2_i32_176 : BitVec 32 := 2#32
  let v404 : BitVec 32 := Scalar.muli arg15 c2_i32_176
  let c1_i32_177 : BitVec 32 := 1#32
  let v405 : BitVec 32 := Scalar.addi v404 c1_i32_177
  let c8_i32_178 : BitVec 32 := 8#32
  let v406 : BitVec 32 := Scalar.muli v405 c8_i32_178
  v406
def k0_mult81 (k0_t2 : Fin k0_t2_loop.trips) : BitVec 32 :=
  let c0_i32_8 : BitVec 32 := 0#32
  let c1_i32_9 : BitVec 32 := 1#32
  let arg15 : BitVec 32 := Scf.iv c0_i32_8 c1_i32_9 k0_t2
  let c2_i32_181 : BitVec 32 := 2#32
  let v417 : BitVec 32 := Scalar.muli arg15 c2_i32_181
  let c1_i32_182 : BitVec 32 := 1#32
  let v418 : BitVec 32 := Scalar.addi v417 c1_i32_182
  let c128_i32_183 : BitVec 32 := 128#32
  let v419 : BitVec 32 := Scalar.muli v418 c128_i32_183
  v419
def k0_mult82 (k0_t2 : Fin k0_t2_loop.trips) : BitVec 32 :=
  let c0_i32_8 : BitVec 32 := 0#32
  let c1_i32_9 : BitVec 32 := 1#32
  let arg15 : BitVec 32 := Scf.iv c0_i32_8 c1_i32_9 k0_t2
  let c2_i32_194 : BitVec 32 := 2#32
  let v450 : BitVec 32 := Scalar.muli arg15 c2_i32_194
  let c1_i32_195 : BitVec 32 := 1#32
  let v451 : BitVec 32 := Scalar.addi v450 c1_i32_195
  let c8_i32_196 : BitVec 32 := 8#32
  let v452 : BitVec 32 := Scalar.muli v451 c8_i32_196
  v452
def k0_mult83 (k0_t2 : Fin k0_t2_loop.trips) : BitVec 32 :=
  let c0_i32_8 : BitVec 32 := 0#32
  let c1_i32_9 : BitVec 32 := 1#32
  let arg15 : BitVec 32 := Scf.iv c0_i32_8 c1_i32_9 k0_t2
  let c2_i32_199 : BitVec 32 := 2#32
  let v463 : BitVec 32 := Scalar.muli arg15 c2_i32_199
  let c1_i32_200 : BitVec 32 := 1#32
  let v464 : BitVec 32 := Scalar.addi v463 c1_i32_200
  let c128_i32_201 : BitVec 32 := 128#32
  let v465 : BitVec 32 := Scalar.muli v464 c128_i32_201
  v465
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Proof.GdnFrame.lean ====
module
public import proofs.«01_k».proof.Defs
public import proofs.«01_k».proof.Proof.Gen.GdnIdeal.Frame.Runs
public import proofs.«01_k».proof.Proof.Gen.Gdn

/-! The gated delta rule runs: its body ends whatever its buffers hold and leaves its inputs as they
were, so every point of the grid does, and with them the whole call. What the result holds is not followed. -/

@[expose] public section
set_option maxRecDepth 16384
noncomputable section
namespace Cert.Proof.GdnFrame
open Cert.GdnIdeal Cert.GdnIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem
variable {F : FTy → Type} [FloatOps F]
local notation "𝕄" => MT nD τ sig Unit (Elt F) ℕ (UR sig nD τ) ℕ

section Body
variable (c : Dev nD) (E : Set ℕ) (i : grid0.Coords) (arg2 : Memref sig .tc .vmem S1x2048x512 .bf16) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x2048x128 .f32) (harg6 : arg6.IsWhole) (arg7 : Memref sig .tc .vmem S1x128 .f32) (harg7 : arg7.IsWhole) (arg8 : Memref sig .tc .vmem S1x2048x512 .bf16) (harg8 : arg8.IsWhole) (arg9 : Memref sig .tc .vmem S2048x128 .f32) (harg9 : arg9.IsWhole) (arg10 : Memref sig .tc .vmem S4x2048x128 .f32) (harg10 : arg10.IsWhole) (arg11 : Memref sig .tc .vmem S4x6144x128 .bf16) (harg11 : arg11.IsWhole) (arg12 : Memref sig .tc .vmem S4x2048x128 .f32) (harg12 : arg12.IsWhole) (arg13 : Memref sig .tc .vmem S4x128x128 .f32) (harg13 : arg13.IsWhole) (arg14 : Memref sig .tc .vmem S4x2048x256 .bf16) (harg14 : arg14.IsWhole)

set_option maxHeartbeats 4000000 in
/-- The body runs from any contents and leaves its inputs as they were. -/
theorem body_run (hc0 : cond0_0 i) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) :
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f))) : sProp 𝕄)
      ⊢ wp frame (wpE (defs₀ (F := F)) Variants.none (c : Thread nD τ) none) E (cc0_gdn (F := F) i arg2 harg2 arg3 harg3 arg4 harg4 arg5 harg5 arg6 harg6 arg7 harg7 arg8 harg8 arg9 harg9 arg10 harg10 arg11 harg11 arg12 harg12 arg13 harg13 arg14 harg14)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)))) := by
  simp only [cc0_gdn_eq_skeleton]; unfold cc0_gdn_skel
  simp only [k0_part1_eq_skeleton, k0_part2_eq_skeleton, k0_part3_eq_skeleton, k0_part4_eq_skeleton]
  iintro ⟨H2, H3, H4, H5, H6, H7, ⟨%f8, H8⟩, ⟨%f9, H9⟩, ⟨%f10, H10⟩, ⟨%f11, H11⟩, ⟨%f12, H12⟩, ⟨%f13, H13⟩, ⟨%f14, H14⟩⟩
  sl_exec (disch := first | sl_exact hc0)
  sl_step
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14
end Body

section Launch
variable (m : (ℓ : Loc nD τ sig) → Buf (Elt F) ℓ) (ρ : Dev nD → PrngReg)

/-- Every window's block is as the call found it; of the result this is not used. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ _ := Pipeline.ΦA spec0 c
  q w := Pipeline.shareOf spec0 w
  owed _ := 0

/-- The windows whose contents are not followed: the result's. -/
def unread : Fin 7 → Bool
  | ⟨6, _⟩ => true
  | _ => false

/-- What a point of the grid starts from, -/
def before (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ X, owns (c : Thread nD τ) (ms0_6 t) fullShare X))

/-- and what it ends with. -/
def after (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ X, owns (c : Thread nD τ) (ms0_6 t) fullShare X))

set_option maxHeartbeats 4000000 in
theorem point_run (c : Dev nD) (t : Fin cfg0.N) :
    before m c t ⊢ wp frame (wpE (defs₀ (F := F)) Variants.none c none) Set.univ (bodyAt0 t) (fun _ => after m c t) := by
  unfold before after bodyAt0
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, PhiA0_eq]
  unfold owns
  iintro ⟨⟨⟨⟨%e9, %f9, -, H9⟩, ⟨%e10, %f10, -, H10⟩, ⟨%e11, %f11, -, H11⟩, ⟨%e12, %f12, -, H12⟩, ⟨%e13, %f13, -, H13⟩, ⟨%e14, %f14, -, H14⟩⟩, Hg⟩, Ho, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%e8, %f8, -, H8⟩⟩
  iapply (wp_wand_r frame (wpE (defs₀ (F := F)) Variants.none (c : Thread nD τ) none) Set.univ)
  isplitl [H2 H3 H4 H5 H6 H7 H8 H9 H10 H11 H12 H13 H14]
  · iapply (body_run c Set.univ (grid0.coords t) _ _ _ _ _ _ _ _ _ _ _ _ _ _ _ _ _ _ _ _ _ _ _ _ _ _ (hcond0_0 t) f2 f3 f4 f5 f6 f7)
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact H14
  iintro %_ ⟨H2, H3, H4, H5, H6, H7, ⟨%g8, H8⟩, ⟨%g9, H9⟩, ⟨%g10, H10⟩, ⟨%g11, H11⟩, ⟨%g12, H12⟩, ⟨%g13, H13⟩, ⟨%g14, H14⟩⟩
  isplitl [H9 H10 H11 H12 H13 H14 Hg]
  · isplitl [H9 H10 H11 H12 H13 H14]
    · isplitl [H9]; · iexists _, _; isplitr; swap; (iexact H9); ipureintro; rfl
      isplitl [H10]; · iexists _, _; isplitr; swap; (iexact H10); ipureintro; rfl
      isplitl [H11]; · iexists _, _; isplitr; swap; (iexact H11); ipureintro; rfl
      isplitl [H12]; · iexists _, _; isplitr; swap; (iexact H12); ipureintro; rfl
      isplitl [H13]; · iexists _, _; isplitr; swap; (iexact H13); ipureintro; rfl
      iexists _, _; isplitr; swap; · iexact H14
      ipureintro; rfl
    iexact Hg
  isplitl [Ho]; · iexact Ho
  isplitl [H2]; · iexists _; isplitr; swap; (iexact H2); ipureintro; exact h2.trans (before0_0_of m (dats m 0 c) rfl (fun _ => rfl) t d2)
  isplitl [H3]; · iexists _; isplitr; swap; (iexact H3); ipureintro; exact h3.trans (before0_1_of m (dats m 0 c) rfl (fun _ => rfl) t d3)
  isplitl [H4]; · iexists _; isplitr; swap; (iexact H4); ipureintro; exact h4.trans (before0_2_of m (dats m 0 c) rfl (fun _ => rfl) t d4)
  isplitl [H5]; · iexists _; isplitr; swap; (iexact H5); ipureintro; exact h5.trans (before0_3_of m (dats m 0 c) rfl (fun _ => rfl) t d5)
  isplitl [H6]; · iexists _; isplitr; swap; (iexact H6); ipureintro; exact h6.trans (before0_4_of m (dats m 0 c) rfl (fun _ => rfl) t d6)
  isplitl [H7]; · iexists _; isplitr; swap; (iexact H7); ipureintro; exact h7.trans (before0_5_of m (dats m 0 c) rfl (fun _ => rfl) t d7)
  iexists _, _; isplitr; swap; · iexact H8
  ipureintro; rfl

theorem body_obligation (c : Dev nD) : BodyObligation (dats (F := F) m 0 c) (defs₀ (F := F)) Variants.none () Set.univ unread := fun t => by
  rw [bigSep_W0, bigSep_W0, show defs₀ (F := F) .tc cfg0.body (cfg0.bodyArgs t (cfg0.slots t)) = bodyAt0 t from by
    unfold defs₀; rw [Defs.onTc_tc]]
  exact triple_restated (point_run m c t) rfl .rfl fun _ => .rfl

set_option backward.isDefEq.respectTransparency.types false in
/-- Every weakly fair execution ends, the arguments as they were and every counter at zero. -/
theorem run_args : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  Pipeline.θ_run_frame_forget_shared (Q' := _) cfgs (dats m) (0 : Fin 1) launch₀0 defs₀ Variants.none unread m ρ main
    (hbody := fun c => (body_obligation m c).loose) (hq := fun _ _ _ => rfl)
    (howed := fun _ _ => rfl) (V := V m) (hmain := hmain m Variants.none) (hA := fun _ _ => rfl) (hΦ := fun _ _ => rfl)
    (hQ' := fun _ h => ⟨fun c =>
      ⟨((h.1 c).2 main_arg0 (Pipeline.mem_restRefs_of main_arg0 (by decide) (by decide))).trans (V_main_arg0 m c),
        ((h.1 c).2 main_arg1 (Pipeline.mem_restRefs_of main_arg1 (by decide) (by decide))).trans (V_main_arg1 m c),
        ((h.1 c).2 main_arg2 (Pipeline.mem_restRefs_of main_arg2 (by decide) (by decide))).trans (V_main_arg2 m c)⟩, h.2⟩)
end Launch

theorem frame_ideal : Cert.quiescent_GdnIdeal := fun m ρ _ => run_args (F := Ideal) m ρ

/-- The two programs' kernels are one text. -/
theorem bodies_eq : Cert.Gdn.defs₀ (F := Bits) = Cert.GdnIdeal.defs₀ (F := Bits) :=
  congrArg Defs.onTc (funext fun l => match l with
    | 0 => rfl
    | ⟨_ + 1, h⟩ => absurd h (Nat.not_lt.2 (Nat.le_add_left _ _)))
theorem defs_eq : Cert.Gdn.defs (F := Bits) = Cert.GdnIdeal.defs (F := Bits) :=
  congrArg (Pipeline.defs (Cert.GdnIdeal.pcfgs (F := Bits))) bodies_eq
theorem frame_bits : Cert.quiescent_Gdn := fun m ρ _ => by
  rw [defs_eq]
  exact run_args (F := Bits) m ρ

end Cert.Proof.GdnFrame
end
end
-- ==== Proof.Stages.lean ====
module
public import proofs.«01_k».proof.Proof.Gen.ReferenceIdeal.Run
public import Idealize.ShloMosaic.Lib.Pointwise
public import Idealize.ShloMosaic.Lib.Pipeline.ValueKit

/-! The reference, step by step. -/

@[expose] public section
set_option maxRecDepth 16384

open Idealize.ShloMosaic Idealize.ShloMosaic.TcCoe Idealize.SL.Sem
open Cert.ReferenceIdeal Cert.ReferenceIdeal.Gen

noncomputable section
namespace Moba.Ref

variable {F : FTy → Type} [FloatOps F]

/-- The projected columns in four groups of heads. -/
def parts (x : FVec F S65536x2048 .f32) : FVec F S32x2048x4x8x64 .f32 := shapeCast _ x shapeCasts_S65536x2048_S32x2048x4x8x64
/-- Queries. -/
def q (x : FVec F S65536x2048 .f32) : FVec F S32x8x2048x64 .f32 :=
  transpose S32x8x2048x64 [0, 2, 1, 3] (shapeCast S32x2048x8x64 (extractStridedSlice S32x2048x1x8x64 ![0, 0, 0, 0, 0] (parts x) slices_S32x2048x4x8x64_S32x2048x1x8x64_0_0_0_0_0) shapeCasts_S32x2048x1x8x64_S32x2048x8x64) transposes_S32x2048x8x64_S32x8x2048x64_0_2_1_3
/-- Keys. -/
def k (x : FVec F S65536x2048 .f32) : FVec F S32x8x2048x64 .f32 :=
  transpose S32x8x2048x64 [0, 2, 1, 3] (shapeCast S32x2048x8x64 (extractStridedSlice S32x2048x1x8x64 ![0, 0, 1, 0, 0] (parts x) slices_S32x2048x4x8x64_S32x2048x1x8x64_0_0_1_0_0) shapeCasts_S32x2048x1x8x64_S32x2048x8x64) transposes_S32x2048x8x64_S32x8x2048x64_0_2_1_3
/-- Values. -/
def v (x : FVec F S65536x2048 .f32) : FVec F S32x8x2048x64 .f32 :=
  transpose S32x8x2048x64 [0, 2, 1, 3] (shapeCast S32x2048x8x64 (extractStridedSlice S32x2048x1x8x64 ![0, 0, 2, 0, 0] (parts x) slices_S32x2048x4x8x64_S32x2048x1x8x64_0_0_2_0_0) shapeCasts_S32x2048x1x8x64_S32x2048x8x64) transposes_S32x2048x8x64_S32x8x2048x64_0_2_1_3
/-- The columns of the branch gate. -/
def z (x : FVec F S65536x2048 .f32) : FVec F S32x2048x512 .f32 :=
  extractStridedSlice S32x2048x512 ![0, 0, 1536] (shapeCast S32x2048x2048 x shapeCasts_S65536x2048_S32x2048x2048) slices_S32x2048x2048_S32x2048x512_0_0_1536
/-- Which blocks end before a position. -/
def past : IVec S2048x8 1 :=
  cmpi .sle (muli (addi (iotaInDim S2048x8 32 1) (broadcastInDim S2048x8 ![] bcast_S_S2048x8 (constantI S_ 32 1#32))) (broadcastInDim S2048x8 ![] bcast_S_S2048x8 (constantI S_ 32 256#32))) (iotaInDim S2048x8 32 0)
/-- A query's product with the mean key of each block. -/
def gate (x : FVec F S65536x2048 .f32) : FVec F S32x8x2048x8 .f32 :=
  Host.dotGeneral dot_S32x8x2048x64_S32x8x8x64_S32x8x2048x8_3_3_2_2_01_01 none (q x)
    (Host.divf (Host.reduceAdd (shapeCast S32x8x8x256x64 (k x) shapeCasts_S32x8x2048x64_S32x8x8x256x64) (constant S_ .f32 0x00000000#32) reducesTo_S32x8x8x256x64_S32x8x8x64_d3 h_S_)
      (broadcastInDim S32x8x8x64 ![] bcast_S_S32x8x8x64 (constant S_ .f32 0x43800000#32)))
/-- The gate where the block is past, and the least value elsewhere. -/
def masked (x : FVec F S65536x2048 .f32) : FVec F S32x8x2048x8 .f32 :=
  select (broadcastInDim S32x8x2048x8 ![2, 3] bcast_S2048x8_S32x8x2048x8_2_3 past) (gate x) (broadcastInDim S32x8x2048x8 ![] bcast_S_S32x8x2048x8 (constant S_ .f32 0xFF800000#32))
/-- The three blocks of the highest gate. -/
def sel (x : FVec F S65536x2048 .f32) : IVec S32x8x2048x3 32 :=
  (Host.topK S32x8x2048x3 3 (FloatOps.cmpfTotal .gt) (masked x) sliceFits_S32x8x2048x8_S32x8x2048x3).2
/-- A block is the one chosen at a place of three. -/
def picked (s : IVec S32x8x2048x3 32) : IVec S32x8x2048x3x8 1 :=
  andi (cmpi .eq (broadcastInDim S32x8x2048x3x8 ![0, 1, 2, 3, 4] bcast_S32x8x2048x3x1_S32x8x2048x3x8_0_1_2_3_4 (broadcastInDim S32x8x2048x3x1 ![0, 1, 2, 3] bcast_S32x8x2048x3_S32x8x2048x3x1_0_1_2_3 s)) (iotaInDim S32x8x2048x3x8 32 4))
    (broadcastInDim S32x8x2048x3x8 ![0, 1, 2, 3, 4] bcast_S1x1x2048x3x1_S32x8x2048x3x8_0_1_2_3_4 (broadcastInDim S1x1x2048x3x1 ![2, 3] bcast_S2048x3_S1x1x2048x3x1_2_3 (extractStridedSlice S2048x3 ![0, 0] past slices_S2048x8_S2048x3_0_0)))
/-- The chosen blocks. -/
def chosen (s : IVec S32x8x2048x3 32) : IVec S32x8x2048x8 1 :=
  Host.reduce IntOp.ori (picked s) (constantI S_ 1 0#1) reducesTo_S32x8x2048x3x8_S32x8x2048x8_d3 h_S_
/-- A query's own block, up to itself. -/
def own : IVec S2048x2048 1 :=
  andi (cmpi .sle (iotaInDim S2048x2048 32 1) (iotaInDim S2048x2048 32 0)) (noti (shapeCast S2048x2048 (broadcastInDim S2048x8x256 ![0, 1, 2] bcast_S2048x8x1_S2048x8x256_0_1_2 (broadcastInDim S2048x8x1 ![0, 1] bcast_S2048x8_S2048x8x1_0_1 past)) shapeCasts_S2048x8x256_S2048x2048))
/-- The keys a query sees. -/
def seen (ch : IVec S32x8x2048x8 1) : IVec S32x8x2048x2048 1 :=
  ori (shapeCast S32x8x2048x2048 (broadcastInDim S32x8x2048x8x256 ![0, 1, 2, 3, 4] bcast_S32x8x2048x8x1_S32x8x2048x8x256_0_1_2_3_4 (broadcastInDim S32x8x2048x8x1 ![0, 1, 2, 3] bcast_S32x8x2048x8_S32x8x2048x8x1_0_1_2_3 ch)) shapeCasts_S32x8x2048x8x256_S32x8x2048x2048)
    (broadcastInDim S32x8x2048x2048 ![0, 1, 2, 3] bcast_S1x1x2048x2048_S32x8x2048x2048_0_1_2_3 (broadcastInDim S1x1x2048x2048 ![2, 3] bcast_S2048x2048_S1x1x2048x2048_2_3 own))
/-- The slopes. -/
def slopes : FVec F S8 .f32 := fun i => FloatOps.ofBits .f32 (lit0 (S8.rowMajor i))
/-- The logits, before masking. -/
def logit (x : FVec F S65536x2048 .f32) : FVec F S32x8x2048x2048 .f32 :=
  subf (mulf (Host.dotGeneral dot_S32x8x2048x64_S32x8x2048x64_S32x8x2048x2048_3_3_2_2_01_01 none (q x) (k x)) (broadcastInDim S32x8x2048x2048 ![] bcast_S_S32x8x2048x2048 (constant S_ .f32 0x3E000000#32)))
    (broadcastInDim S32x8x2048x2048 ![0, 1, 2, 3] bcast_S1x8x2048x2048_S32x8x2048x2048_0_1_2_3 (broadcastInDim S1x8x2048x2048 ![1, 2, 3] bcast_S8x2048x2048_S1x8x2048x2048_1_2_3
      (mulf (broadcastInDim S8x2048x2048 ![0, 1, 2] bcast_S8x1x1_S8x2048x2048_0_1_2 (broadcastInDim S8x1x1 ![0] bcast_S8_S8x1x1_0 slopes))
        (broadcastInDim S8x2048x2048 ![0, 1, 2] bcast_S1x2048x2048_S8x2048x2048_0_1_2 (broadcastInDim S1x2048x2048 ![1, 2] bcast_S2048x2048_S1x2048x2048_1_2 (sitofp .f32 (subi (iotaInDim S2048x2048 32 0) (iotaInDim S2048x2048 32 1))))))))
/-- The logits of the keys seen. -/
def shown (se : IVec S32x8x2048x2048 1) (lg : FVec F S32x8x2048x2048 .f32) : FVec F S32x8x2048x2048 .f32 :=
  select se lg (broadcastInDim S32x8x2048x2048 ![] bcast_S_S32x8x2048x2048 (constant S_ .f32 0xFF800000#32))
/-- A row's greatest logit. -/
def top (lg : FVec F S32x8x2048x2048 .f32) : FVec F S32x8x2048 .f32 :=
  Host.reduce FloatOps.maximumf lg (constant S_ .f32 0xFF800000#32) reducesTo_S32x8x2048x2048_S32x8x2048_d3 h_S_
/-- The exponentials. -/
def expo (lg : FVec F S32x8x2048x2048 .f32) (tp : FVec F S32x8x2048 .f32) : FVec F S32x8x2048x2048 .f32 :=
  Host.exp (subf lg (broadcastInDim S32x8x2048x2048 ![0, 1, 2, 3] bcast_S32x8x2048x1_S32x8x2048x2048_0_1_2_3 (broadcastInDim S32x8x2048x1 ![0, 1, 2] bcast_S32x8x2048_S32x8x2048x1_0_1_2 tp)))
/-- The weights. -/
def weight (e : FVec F S32x8x2048x2048 .f32) : FVec F S32x8x2048x2048 .f32 :=
  Host.divf e (broadcastInDim S32x8x2048x2048 ![0, 1, 2, 3] bcast_S32x8x2048x1_S32x8x2048x2048_0_1_2_3 (broadcastInDim S32x8x2048x1 ![0, 1, 2] bcast_S32x8x2048_S32x8x2048x1_0_1_2 (Host.reduceAdd e (constant S_ .f32 0x00000000#32) reducesTo_S32x8x2048x2048_S32x8x2048_d3 h_S_)))
/-- The weighted values. -/
def mixed (w : FVec F S32x8x2048x2048 .f32) (v : FVec F S32x8x2048x64 .f32) : FVec F S32x8x2048x64 .f32 :=
  Host.dotGeneral dot_S32x8x2048x2048_S32x8x2048x64_S32x8x2048x64_3_2_2_3_01_01 none w v
/-- The gated result. -/
def final (y : FVec F S32x8x2048x64 .f32) (z : FVec F S32x2048x512 .f32) : FVec F S32x2048x512 .bf16 :=
  truncf .bf16 (mulf (shapeCast S32x2048x512 (transpose S32x2048x8x64 [0, 2, 1, 3] y transposes_S32x8x2048x64_S32x2048x8x64_0_2_1_3) shapeCasts_S32x2048x8x64_S32x2048x512)
    (mulf z (Host.divf (broadcastInDim S32x2048x512 ![] bcast_S_S32x2048x512 (constant S_ .f32 0x3F800000#32)) (addf (broadcastInDim S32x2048x512 ![] bcast_S_S32x2048x512 (constant S_ .f32 0x3F800000#32)) (Host.exp (Host.negf z)))))) bitsLt_bf16_f32
/-- The reference. -/
def whole (x : FVec F S65536x2048 .f32) : FVec F S32x2048x512 .bf16 :=
  let lg := shown (seen (chosen (sel x))) (logit x)
  final (mixed (weight (expo lg (top lg))) (v x)) (z x)

set_option maxHeartbeats 1000000 in
theorem result_eq (m : (ℓ : Loc nD τ sig) → Buf (Elt F) ℓ) (c : Dev nD) :
    Value.res_out0 m c = whole (show FVec F S65536x2048 .f32 from m ((c.tc : Thread nD τ).loc main_arg0)) := by
  unfold Value.res_out0 Value.res_main_v85
  rfl

end Moba.Ref
end
end
-- ==== Proof.Tiles.lean ====
module
public import proofs.«01_k».proof.Proof.Gen.KernelIdeal.Frame
public import Idealize.ShloMosaic.Lib.Pipeline.ReadBack

/-! The body's values block by block: what each of the eight query blocks computes, as one definition, and
that the run's words are this definition. -/

@[expose] public section
set_option maxRecDepth 16384

open Idealize.ShloMosaic Idealize.ShloMosaic.TcCoe Idealize.SL.Sem
open Cert.KernelIdeal Cert.KernelIdeal.Gen

noncomputable section
namespace Moba

variable {F : FTy → Type} [FloatOps F] [Named F]

/-! ## One query block -/

/-- The rows of both heads, one above the other. -/
def qcat (a b : Vec F S1x256x256 .bf16) : FVec F S512x256 .bf16 :=
  concatenate S512x256 0 [⟨S256x256, shapeCast S256x256 a shapeCasts_S1x256x256_S256x256⟩, ⟨S256x256, shapeCast S256x256 b shapeCasts_S1x256x256_S256x256⟩] concatenates_S256x256_S256x256_S512x256_d0

/-- The logits of a block of queries against a block of keys. -/
def tileRaw (q : FVec F S512x256 .bf16) (k : Vec F S256x256 .bf16) : FVec F S512x256 .f32 :=
  matmul dot_S512x256_S256x256_S512x256_1_1_0_0_n_n none q k (constant S512x256 .f32 0x00000000#32)

/-- The logits of a block of queries against its own keys: a later key is masked. -/
def tileMasked (q : FVec F S512x256 .bf16) (k : Vec F S256x256 .bf16) : FVec F S512x256 .f32 :=
  select k0_pay22 (tileRaw q k) (broadcast S512x256 (Named.named κ "mask" 0xF149F2CA#32 : F .f32))

/-- The larger of a tile's two halves. -/
def halves (t : FVec F S512x256 .f32) : FVec F S512x128 .f32 :=
  maximumf (extractStridedSlice S512x128 ![0, 0] t slices_S512x256_o0_0_S512x128)
    (extractStridedSlice S512x128 ![0, 128] t slices_S512x256_o0_128_S512x128)

/-- The row maximum over a list of tiles. -/
def rowMax (t : FVec F S512x256 .f32) (ts : List (FVec F S512x256 .f32)) : FVec F S512x1 .f32 :=
  shapeCast S512x1 (multiReduction .maximumf [1] S512 (ts.foldl (fun a t => maximumf a (halves t)) (halves t))
    0xFF800000#32 reduces_S512x128_S512 (.inl rfl) rfl) shapeCasts_S512_S512x1

/-- A tile as the scratch holds it. -/
def stored (t : FVec F S512x256 .f32) : FVec F S1x1x512x256 .f32 := shapeCast S1x1x512x256 t shapeCasts_S512x256_S1x1x512x256

/-- The weights of a stored tile. -/
def weights (m : FVec F S512x1 .f32) (v : Vec F S1x1x512x256 .f32) : FVec F S512x256 .bf16 :=
  truncf .bf16 (exp (subf (shapeCast S512x256 v shapeCasts_S1x1x512x256_S512x256)
    (broadcastTo S512x256 m broadcasts_S512x1_S512x256))) bitsLt_bf16_f32

/-- One step of the first head's accumulation. -/
def stepTop (m : FVec F S512x1 .f32) (acc : FVec F S256x256 .f32) (p : Vec F S1x1x512x256 .f32 × Vec F S256x256 .bf16) : FVec F S256x256 .f32 :=
  addf acc (matmul dot_S256x256_S256x256_S256x256_1_0_0_1_n_n none
    (extractStridedSlice S256x256 ![0, 0] (weights m p.1) slices_S512x256_o0_0_S256x256) p.2 (constant S256x256 .f32 0x00000000#32))

/-- One step of the second head's accumulation. -/
def stepBot (m : FVec F S512x1 .f32) (acc : FVec F S256x256 .f32) (p : Vec F S1x1x512x256 .f32 × Vec F S256x256 .bf16) : FVec F S256x256 .f32 :=
  addf acc (matmul dot_S256x256_S256x256_S256x256_1_0_0_1_n_n none
    (extractStridedSlice S256x256 ![256, 0] (weights m p.1) slices_S512x256_o256_0_S256x256) p.2 (constant S256x256 .f32 0x00000000#32))

/-- The accumulators start at zero. -/
def acc0 : FVec F S256x256 .f32 := broadcast S256x256 (Scalar.ofBits .f32 0x00000000#32 : F .f32)

/-- Both accumulators, divided by the sums of their weights. -/
def normed (a b : FVec F S256x256 .f32) : FVec F S512x128 .f32 :=
  divf (extractStridedSlice S512x128 ![0, 0] (concatenate S512x256 0 [⟨S256x256, a⟩, ⟨S256x256, b⟩] concatenates_S256x256_S256x256_S512x256_d0) slices_S512x256_o0_0_S512x128)
    (extractStridedSlice S512x128 ![0, 128] (concatenate S512x256 0 [⟨S256x256, a⟩, ⟨S256x256, b⟩] concatenates_S256x256_S256x256_S512x256_d0) slices_S512x256_o0_128_S512x128)

/-- The block of the result: each head's lanes, times the branch gate. -/
def gated (n : FVec F S512x128 .f32) (z : Vec F S1x256x128 .f32) : FVec F S1x256x128 .bf16 :=
  shapeCast S1x256x128 (truncf .bf16
    (mulf (select (broadcastTo S256x128 (shapeCast S1x128 k0_pay2 shapeCasts_S1x128_S1x128) broadcasts_S1x128_S256x128)
        (extractStridedSlice S256x128 ![0, 0] n slices_S512x128_o0_0_S256x128)
        (extractStridedSlice S256x128 ![256, 0] n slices_S512x128_o256_0_S256x128))
      (divf (shapeCast S256x128 z shapeCasts_S1x256x128_S256x128)
        (addf (broadcast S256x128 (Scalar.ofBits .f32 0x3F800000#32 : F .f32))
          (exp (subf (broadcast S256x128 (Scalar.ofBits .f32 0x00000000#32 : F .f32)) (shapeCast S256x128 z shapeCasts_S1x256x128_S256x128))))))
    bitsLt_bf16_f32) shapeCasts_S256x128_S1x256x128

/-- What a query block leaves, from its row maxima, its stored tiles with the values, and the gate's block. -/
def blockOut (m : FVec F S512x1 .f32) (ps : List (Vec F S1x1x512x256 .f32 × Vec F S256x256 .bf16)) (z : Vec F S1x256x128 .f32) : FVec F S1x256x128 .bf16 :=
  gated (normed (ps.foldl (stepTop m) acc0) (ps.foldl (stepBot m) acc0)) z

/-! ## A grid point -/

variable (F) in
/-- A grid point's memrefs and input blocks. -/
structure Pt where
  c : Dev nD
  i : grid0.Coords
  arg2 : Memref sig .tc .smem S8 .f32
  harg2 : arg2.IsWhole
  arg3 : Memref sig .tc .vmem S1x2048x128 .f32
  harg3 : arg3.IsWhole
  arg4 : Memref sig .tc .vmem S1x2048x128 .f32
  harg4 : arg4.IsWhole
  arg5 : Memref sig .tc .vmem S1x2048x128 .f32
  harg5 : arg5.IsWhole
  arg6 : Memref sig .tc .vmem S1x2048x128 .f32
  harg6 : arg6.IsWhole
  arg7 : Memref sig .tc .vmem S2x2048x128 .f32
  harg7 : arg7.IsWhole
  arg8 : Memref sig .tc .vmem S2x2048x128 .f32
  harg8 : arg8.IsWhole
  arg9 : Memref sig .tc .vmem S1x2048x128 .bf16
  harg9 : arg9.IsWhole
  arg10 : Memref sig .tc .vmem S2048x256 .bf16
  harg10 : arg10.IsWhole
  arg11 : Memref sig .tc .vmem S2x2048x256 .bf16
  harg11 : arg11.IsWhole
  arg12 : Memref sig .tc .vmem S2048x256 .bf16
  harg12 : arg12.IsWhole
  arg13 : Memref sig .tc .vmem S2x8x512x256 .f32
  harg13 : arg13.IsWhole
  x0 : Vec F S8 .f32
  x1 : Vec F S1x2048x128 .f32
  x2 : Vec F S1x2048x128 .f32
  x3 : Vec F S1x2048x128 .f32
  x4 : Vec F S1x2048x128 .f32
  x5 : Vec F S2x2048x128 .f32
  x6 : Vec F S2x2048x128 .f32

variable (a : Pt F)

/-- The first head's rows of a query block, as loaded. -/
def Pt.qa (n : Fin 8) : Vec F S1x256x256 .bf16 := match n with
  | ⟨0, _⟩ => kernelRun0_A.sl.v470 a.c a.i a.arg2 a.harg2 a.arg3 a.harg3 a.arg4 a.harg4 a.arg8 a.harg8 a.arg11 a.x0 a.x1 a.x2 a.x6
  | ⟨1, _⟩ => kernelRun0_A.sl.v487 a.c a.i a.arg2 a.harg2 a.arg3 a.harg3 a.arg4 a.harg4 a.arg8 a.harg8 a.arg11 a.x0 a.x1 a.x2 a.x6
  | ⟨2, _⟩ => kernelRun0_A.sl.v551 a.c a.i a.arg2 a.harg2 a.arg3 a.harg3 a.arg4 a.harg4 a.arg8 a.harg8 a.arg11 a.x0 a.x1 a.x2 a.x6
  | ⟨3, _⟩ => kernelRun0_A.sl.v638 a.c a.i a.arg2 a.harg2 a.arg3 a.harg3 a.arg4 a.harg4 a.arg8 a.harg8 a.arg11 a.x0 a.x1 a.x2 a.x6
  | ⟨4, _⟩ => kernelRun0_A.sl.v748 a.c a.i a.arg2 a.harg2 a.arg3 a.harg3 a.arg4 a.harg4 a.arg8 a.harg8 a.arg11 a.x0 a.x1 a.x2 a.x6
  | ⟨5, _⟩ => kernelRun0_A.sl.v881 a.c a.i a.arg2 a.harg2 a.arg3 a.harg3 a.arg4 a.harg4 a.arg8 a.harg8 a.arg11 a.x0 a.x1 a.x2 a.x6
  | ⟨6, _⟩ => kernelRun0_A.sl.v1037 a.c a.i a.arg2 a.harg2 a.arg3 a.harg3 a.arg4 a.harg4 a.arg8 a.harg8 a.arg11 a.x0 a.x1 a.x2 a.x6
  | ⟨7, _⟩ => kernelRun0_A.sl.v1216 a.c a.i a.arg2 a.harg2 a.arg3 a.harg3 a.arg4 a.harg4 a.arg8 a.harg8 a.arg11 a.x0 a.x1 a.x2 a.x6

/-- The second head's rows of a query block, as loaded. -/
def Pt.qb (n : Fin 8) : Vec F S1x256x256 .bf16 := match n with
  | ⟨0, _⟩ => kernelRun0_A.sl.v472 a.c a.i a.arg2 a.harg2 a.arg3 a.harg3 a.arg4 a.harg4 a.arg8 a.harg8 a.arg11 a.x0 a.x1 a.x2 a.x6
  | ⟨1, _⟩ => kernelRun0_A.sl.v489 a.c a.i a.arg2 a.harg2 a.arg3 a.harg3 a.arg4 a.harg4 a.arg8 a.harg8 a.arg11 a.x0 a.x1 a.x2 a.x6
  | ⟨2, _⟩ => kernelRun0_A.sl.v553 a.c a.i a.arg2 a.harg2 a.arg3 a.harg3 a.arg4 a.harg4 a.arg8 a.harg8 a.arg11 a.x0 a.x1 a.x2 a.x6
  | ⟨3, _⟩ => kernelRun0_A.sl.v640 a.c a.i a.arg2 a.harg2 a.arg3 a.harg3 a.arg4 a.harg4 a.arg8 a.harg8 a.arg11 a.x0 a.x1 a.x2 a.x6
  | ⟨4, _⟩ => kernelRun0_A.sl.v750 a.c a.i a.arg2 a.harg2 a.arg3 a.harg3 a.arg4 a.harg4 a.arg8 a.harg8 a.arg11 a.x0 a.x1 a.x2 a.x6
  | ⟨5, _⟩ => kernelRun0_A.sl.v883 a.c a.i a.arg2 a.harg2 a.arg3 a.harg3 a.arg4 a.harg4 a.arg8 a.harg8 a.arg11 a.x0 a.x1 a.x2 a.x6
  | ⟨6, _⟩ => kernelRun0_A.sl.v1039 a.c a.i a.arg2 a.harg2 a.arg3 a.harg3 a.arg4 a.harg4 a.arg8 a.harg8 a.arg11 a.x0 a.x1 a.x2 a.x6
  | ⟨7, _⟩ => kernelRun0_A.sl.v1218 a.c a.i a.arg2 a.harg2 a.arg3 a.harg3 a.arg4 a.harg4 a.arg8 a.harg8 a.arg11 a.x0 a.x1 a.x2 a.x6

/-- The keys of a block, as loaded. -/
def Pt.kk (n : Fin 8) : Vec F S256x256 .bf16 := match n with
  | ⟨0, _⟩ => kernelRun0_A.sl.v475 a.c a.arg4 a.harg4 a.arg7 a.harg7 a.arg10 a.x2 a.x5
  | ⟨1, _⟩ => kernelRun0_A.sl.v500 a.c a.arg4 a.harg4 a.arg7 a.harg7 a.arg10 a.x2 a.x5
  | ⟨2, _⟩ => kernelRun0_A.sl.v573 a.c a.arg4 a.harg4 a.arg7 a.harg7 a.arg10 a.x2 a.x5
  | ⟨3, _⟩ => kernelRun0_A.sl.v669 a.c a.arg4 a.harg4 a.arg7 a.harg7 a.arg10 a.x2 a.x5
  | ⟨4, _⟩ => kernelRun0_A.sl.v788 a.c a.arg4 a.harg4 a.arg7 a.harg7 a.arg10 a.x2 a.x5
  | ⟨5, _⟩ => kernelRun0_A.sl.v930 a.c a.arg4 a.harg4 a.arg7 a.harg7 a.arg10 a.x2 a.x5
  | ⟨6, _⟩ => kernelRun0_A.sl.v1095 a.c a.arg4 a.harg4 a.arg7 a.harg7 a.arg10 a.x2 a.x5
  | ⟨7, _⟩ => kernelRun0_A.sl.v1283 a.c a.arg4 a.harg4 a.arg7 a.harg7 a.arg10 a.x2 a.x5

/-- The values of a block, as loaded. -/
def Pt.vv (n : Fin 8) : Vec F S256x256 .bf16 := match n with
  | ⟨0, _⟩ => kernelRun0_A.sl.v522 a.c a.arg5 a.harg5 a.arg12 a.x3
  | ⟨1, _⟩ => kernelRun0_A.sl.v609 a.c a.arg5 a.harg5 a.arg12 a.x3
  | ⟨2, _⟩ => kernelRun0_A.sl.v719 a.c a.arg5 a.harg5 a.arg12 a.x3
  | ⟨3, _⟩ => kernelRun0_A.sl.v852 a.c a.arg5 a.harg5 a.arg12 a.x3
  | ⟨4, _⟩ => kernelRun0_A.sl.v1008 a.c a.arg5 a.harg5 a.arg12 a.x3
  | ⟨5, _⟩ => kernelRun0_A.sl.v1187 a.c a.arg5 a.harg5 a.arg12 a.x3
  | ⟨6, _⟩ => kernelRun0_A.sl.v1389 a.c a.arg5 a.harg5 a.arg12 a.x3
  | ⟨7, _⟩ => kernelRun0_A.sl.v1525 a.c a.arg5 a.harg5 a.arg12 a.x3

/-- The branch gate's block. -/
def Pt.zz (n : Fin 8) : Vec F S1x256x128 .f32 := match n with
  | ⟨0, _⟩ => View.readAt (Elt F) a.arg6.view (Rect.unit (s := S1x2048x128) ![0, 0, 0] S1x256x128.size inb_S1x2048x128_S1x256x128_0_0_0).toLoadRect (a.harg6.unread a.x4)
  | ⟨1, _⟩ => View.readAt (Elt F) a.arg6.view (Rect.unit (s := S1x2048x128) ![0, 256, 0] S1x256x128.size inb_S1x2048x128_S1x256x128_0_256_0).toLoadRect (a.harg6.unread a.x4)
  | ⟨2, _⟩ => View.readAt (Elt F) a.arg6.view (Rect.unit (s := S1x2048x128) ![0, 512, 0] S1x256x128.size inb_S1x2048x128_S1x256x128_0_512_0).toLoadRect (a.harg6.unread a.x4)
  | ⟨3, _⟩ => View.readAt (Elt F) a.arg6.view (Rect.unit (s := S1x2048x128) ![0, 768, 0] S1x256x128.size inb_S1x2048x128_S1x256x128_0_768_0).toLoadRect (a.harg6.unread a.x4)
  | ⟨4, _⟩ => View.readAt (Elt F) a.arg6.view (Rect.unit (s := S1x2048x128) ![0, 1024, 0] S1x256x128.size inb_S1x2048x128_S1x256x128_0_1024_0).toLoadRect (a.harg6.unread a.x4)
  | ⟨5, _⟩ => View.readAt (Elt F) a.arg6.view (Rect.unit (s := S1x2048x128) ![0, 1280, 0] S1x256x128.size inb_S1x2048x128_S1x256x128_0_1280_0).toLoadRect (a.harg6.unread a.x4)
  | ⟨6, _⟩ => View.readAt (Elt F) a.arg6.view (Rect.unit (s := S1x2048x128) ![0, 1536, 0] S1x256x128.size inb_S1x2048x128_S1x256x128_0_1536_0).toLoadRect (a.harg6.unread a.x4)
  | ⟨7, _⟩ => View.readAt (Elt F) a.arg6.view (Rect.unit (s := S1x2048x128) ![0, 1792, 0] S1x256x128.size inb_S1x2048x128_S1x256x128_0_1792_0).toLoadRect (a.harg6.unread a.x4)

/-- The queries of a block. -/
def Pt.q (n : Fin 8) : FVec F S512x256 .bf16 := qcat (a.qa n) (a.qb n)

/-- The logits of query block `n` against key block `k`. -/
def Pt.raw (n k : Fin 8) : FVec F S512x256 .f32 := tileRaw (a.q n) (a.kk k)
/-- The logits of query block `n` against its own keys. -/
def Pt.diag (n : Fin 8) : FVec F S512x256 .f32 := tileMasked (a.q n) (a.kk n)

/-- The tiles query block 0 reads back. -/
theorem loads0 :
    kernelRun0_A.sl.v515 a.c a.i a.arg2 a.harg2 a.arg3 a.harg3 a.arg4 a.harg4 a.arg7 a.harg7 a.arg8 a.harg8 a.arg10 a.arg11 a.arg13 a.x0 a.x1 a.x2 a.x5 a.x6 = stored (a.diag 0) := by
  unfold kernelRun0_A.sl.v515 kernelRun0_A.sl.HS3_3
  simp (disch := decide) only [↓ View.readCov_skip, ↓ View.readCov_cons_toLoadRect]
  rfl
/-- The tiles query block 1 reads back. -/
theorem loads1 :
    kernelRun0_A.sl.v588 a.c a.i a.arg2 a.harg2 a.arg3 a.harg3 a.arg4 a.harg4 a.arg7 a.harg7 a.arg8 a.harg8 a.arg10 a.arg11 a.arg13 a.x0 a.x1 a.x2 a.x5 a.x6 = stored (a.raw 1 0) ∧
    kernelRun0_A.sl.v602 a.c a.i a.arg2 a.harg2 a.arg3 a.harg3 a.arg4 a.harg4 a.arg7 a.harg7 a.arg8 a.harg8 a.arg10 a.arg11 a.arg13 a.x0 a.x1 a.x2 a.x5 a.x6 = stored (a.diag 1) := by
  simp (disch := decide) only [kernelRun0_A.sl.v588, kernelRun0_A.sl.v602, kernelRun0_A.sl.HS3_6, kernelRun0_A.sl.HS3_3, ↓ View.readCov_skip, ↓ View.readCov_cons_toLoadRect]
  refine ⟨rfl, rfl⟩
/-- The tiles query block 2 reads back. -/
theorem loads2 :
    kernelRun0_A.sl.v684 a.c a.i a.arg2 a.harg2 a.arg3 a.harg3 a.arg4 a.harg4 a.arg7 a.harg7 a.arg8 a.harg8 a.arg10 a.arg11 a.arg13 a.x0 a.x1 a.x2 a.x5 a.x6 = stored (a.raw 2 0) ∧
    kernelRun0_A.sl.v698 a.c a.i a.arg2 a.harg2 a.arg3 a.harg3 a.arg4 a.harg4 a.arg7 a.harg7 a.arg8 a.harg8 a.arg10 a.arg11 a.arg13 a.x0 a.x1 a.x2 a.x5 a.x6 = stored (a.raw 2 1) ∧
    kernelRun0_A.sl.v712 a.c a.i a.arg2 a.harg2 a.arg3 a.harg3 a.arg4 a.harg4 a.arg7 a.harg7 a.arg8 a.harg8 a.arg10 a.arg11 a.arg13 a.x0 a.x1 a.x2 a.x5 a.x6 = stored (a.diag 2) := by
  simp (disch := decide) only [kernelRun0_A.sl.v684, kernelRun0_A.sl.v698, kernelRun0_A.sl.v712, kernelRun0_A.sl.HS3_10, kernelRun0_A.sl.HS3_6, kernelRun0_A.sl.HS3_3, ↓ View.readCov_skip, ↓ View.readCov_cons_toLoadRect]
  refine ⟨rfl, rfl, rfl⟩
/-- The tiles query block 3 reads back. -/
theorem loads3 :
    kernelRun0_A.sl.v803 a.c a.i a.arg2 a.harg2 a.arg3 a.harg3 a.arg4 a.harg4 a.arg7 a.harg7 a.arg8 a.harg8 a.arg10 a.arg11 a.arg13 a.x0 a.x1 a.x2 a.x5 a.x6 = stored (a.raw 3 0) ∧
    kernelRun0_A.sl.v817 a.c a.i a.arg2 a.harg2 a.arg3 a.harg3 a.arg4 a.harg4 a.arg7 a.harg7 a.arg8 a.harg8 a.arg10 a.arg11 a.arg13 a.x0 a.x1 a.x2 a.x5 a.x6 = stored (a.raw 3 1) ∧
    kernelRun0_A.sl.v831 a.c a.i a.arg2 a.harg2 a.arg3 a.harg3 a.arg4 a.harg4 a.arg7 a.harg7 a.arg8 a.harg8 a.arg10 a.arg11 a.arg13 a.x0 a.x1 a.x2 a.x5 a.x6 = stored (a.raw 3 2) ∧
    kernelRun0_A.sl.v845 a.c a.i a.arg2 a.harg2 a.arg3 a.harg3 a.arg4 a.harg4 a.arg7 a.harg7 a.arg8 a.harg8 a.arg10 a.arg11 a.arg13 a.x0 a.x1 a.x2 a.x5 a.x6 = stored (a.diag 3) := by
  simp (disch := decide) only [kernelRun0_A.sl.v803, kernelRun0_A.sl.v817, kernelRun0_A.sl.v831, kernelRun0_A.sl.v845, kernelRun0_A.sl.HS3_15, kernelRun0_A.sl.HS3_10, kernelRun0_A.sl.HS3_6, kernelRun0_A.sl.HS3_3, ↓ View.readCov_skip, ↓ View.readCov_cons_toLoadRect]
  refine ⟨rfl, rfl, rfl, rfl⟩
/-- The tiles query block 4 reads back. -/
theorem loads4 :
    kernelRun0_A.sl.v945 a.c a.i a.arg2 a.harg2 a.arg3 a.harg3 a.arg4 a.harg4 a.arg7 a.harg7 a.arg8 a.harg8 a.arg10 a.arg11 a.arg13 a.x0 a.x1 a.x2 a.x5 a.x6 = stored (a.raw 4 0) ∧
    kernelRun0_A.sl.v959 a.c a.i a.arg2 a.harg2 a.arg3 a.harg3 a.arg4 a.harg4 a.arg7 a.harg7 a.arg8 a.harg8 a.arg10 a.arg11 a.arg13 a.x0 a.x1 a.x2 a.x5 a.x6 = stored (a.raw 4 1) ∧
    kernelRun0_A.sl.v973 a.c a.i a.arg2 a.harg2 a.arg3 a.harg3 a.arg4 a.harg4 a.arg7 a.harg7 a.arg8 a.harg8 a.arg10 a.arg11 a.arg13 a.x0 a.x1 a.x2 a.x5 a.x6 = stored (a.raw 4 2) ∧
    kernelRun0_A.sl.v987 a.c a.i a.arg2 a.harg2 a.arg3 a.harg3 a.arg4 a.harg4 a.arg7 a.harg7 a.arg8 a.harg8 a.arg10 a.arg11 a.arg13 a.x0 a.x1 a.x2 a.x5 a.x6 = stored (a.raw 4 3) ∧
    kernelRun0_A.sl.v1001 a.c a.i a.arg2 a.harg2 a.arg3 a.harg3 a.arg4 a.harg4 a.arg7 a.harg7 a.arg8 a.harg8 a.arg10 a.arg11 a.arg13 a.x0 a.x1 a.x2 a.x5 a.x6 = stored (a.diag 4) := by
  simp (disch := decide) only [kernelRun0_A.sl.v945, kernelRun0_A.sl.v959, kernelRun0_A.sl.v973, kernelRun0_A.sl.v987, kernelRun0_A.sl.v1001, kernelRun0_A.sl.HS3_21, kernelRun0_A.sl.HS3_15, kernelRun0_A.sl.HS3_10, kernelRun0_A.sl.HS3_6, kernelRun0_A.sl.HS3_3, ↓ View.readCov_skip, ↓ View.readCov_cons_toLoadRect]
  refine ⟨rfl, rfl, rfl, rfl, rfl⟩
/-- The tiles query block 5 reads back. -/
theorem loads5 :
    kernelRun0_A.sl.v1110 a.c a.i a.arg2 a.harg2 a.arg3 a.harg3 a.arg4 a.harg4 a.arg7 a.harg7 a.arg8 a.harg8 a.arg10 a.arg11 a.arg13 a.x0 a.x1 a.x2 a.x5 a.x6 = stored (a.raw 5 0) ∧
    kernelRun0_A.sl.v1124 a.c a.i a.arg2 a.harg2 a.arg3 a.harg3 a.arg4 a.harg4 a.arg7 a.harg7 a.arg8 a.harg8 a.arg10 a.arg11 a.arg13 a.x0 a.x1 a.x2 a.x5 a.x6 = stored (a.raw 5 1) ∧
    kernelRun0_A.sl.v1138 a.c a.i a.arg2 a.harg2 a.arg3 a.harg3 a.arg4 a.harg4 a.arg7 a.harg7 a.arg8 a.harg8 a.arg10 a.arg11 a.arg13 a.x0 a.x1 a.x2 a.x5 a.x6 = stored (a.raw 5 2) ∧
    kernelRun0_A.sl.v1152 a.c a.i a.arg2 a.harg2 a.arg3 a.harg3 a.arg4 a.harg4 a.arg7 a.harg7 a.arg8 a.harg8 a.arg10 a.arg11 a.arg13 a.x0 a.x1 a.x2 a.x5 a.x6 = stored (a.raw 5 3) ∧
    kernelRun0_A.sl.v1166 a.c a.i a.arg2 a.harg2 a.arg3 a.harg3 a.arg4 a.harg4 a.arg7 a.harg7 a.arg8 a.harg8 a.arg10 a.arg11 a.arg13 a.x0 a.x1 a.x2 a.x5 a.x6 = stored (a.raw 5 4) ∧
    kernelRun0_A.sl.v1180 a.c a.i a.arg2 a.harg2 a.arg3 a.harg3 a.arg4 a.harg4 a.arg7 a.harg7 a.arg8 a.harg8 a.arg10 a.arg11 a.arg13 a.x0 a.x1 a.x2 a.x5 a.x6 = stored (a.diag 5) := by
  simp (disch := decide) only [kernelRun0_A.sl.v1110, kernelRun0_A.sl.v1124, kernelRun0_A.sl.v1138, kernelRun0_A.sl.v1152, kernelRun0_A.sl.v1166, kernelRun0_A.sl.v1180, kernelRun0_A.sl.HS3_28, kernelRun0_A.sl.HS3_21, kernelRun0_A.sl.HS3_15, kernelRun0_A.sl.HS3_10, kernelRun0_A.sl.HS3_6, kernelRun0_A.sl.HS3_3, ↓ View.readCov_skip, ↓ View.readCov_cons_toLoadRect]
  refine ⟨rfl, rfl, rfl, rfl, rfl, rfl⟩
/-- The tiles query block 6 reads back. -/
theorem loads6 :
    kernelRun0_A.sl.v1298 a.c a.i a.arg2 a.harg2 a.arg3 a.harg3 a.arg4 a.harg4 a.arg7 a.harg7 a.arg8 a.harg8 a.arg10 a.arg11 a.arg13 a.x0 a.x1 a.x2 a.x5 a.x6 = stored (a.raw 6 0) ∧
    kernelRun0_A.sl.v1312 a.c a.i a.arg2 a.harg2 a.arg3 a.harg3 a.arg4 a.harg4 a.arg7 a.harg7 a.arg8 a.harg8 a.arg10 a.arg11 a.arg13 a.x0 a.x1 a.x2 a.x5 a.x6 = stored (a.raw 6 1) ∧
    kernelRun0_A.sl.v1326 a.c a.i a.arg2 a.harg2 a.arg3 a.harg3 a.arg4 a.harg4 a.arg7 a.harg7 a.arg8 a.harg8 a.arg10 a.arg11 a.arg13 a.x0 a.x1 a.x2 a.x5 a.x6 = stored (a.raw 6 2) ∧
    kernelRun0_A.sl.v1340 a.c a.i a.arg2 a.harg2 a.arg3 a.harg3 a.arg4 a.harg4 a.arg7 a.harg7 a.arg8 a.harg8 a.arg10 a.arg11 a.arg13 a.x0 a.x1 a.x2 a.x5 a.x6 = stored (a.raw 6 3) ∧
    kernelRun0_A.sl.v1354 a.c a.i a.arg2 a.harg2 a.arg3 a.harg3 a.arg4 a.harg4 a.arg7 a.harg7 a.arg8 a.harg8 a.arg10 a.arg11 a.arg13 a.x0 a.x1 a.x2 a.x5 a.x6 = stored (a.raw 6 4) ∧
    kernelRun0_A.sl.v1368 a.c a.i a.arg2 a.harg2 a.arg3 a.harg3 a.arg4 a.harg4 a.arg7 a.harg7 a.arg8 a.harg8 a.arg10 a.arg11 a.arg13 a.x0 a.x1 a.x2 a.x5 a.x6 = stored (a.raw 6 5) ∧
    kernelRun0_A.sl.v1382 a.c a.i a.arg2 a.harg2 a.arg3 a.harg3 a.arg4 a.harg4 a.arg7 a.harg7 a.arg8 a.harg8 a.arg10 a.arg11 a.arg13 a.x0 a.x1 a.x2 a.x5 a.x6 = stored (a.diag 6) := by
  simp (disch := decide) only [kernelRun0_A.sl.v1298, kernelRun0_A.sl.v1312, kernelRun0_A.sl.v1326, kernelRun0_A.sl.v1340, kernelRun0_A.sl.v1354, kernelRun0_A.sl.v1368, kernelRun0_A.sl.v1382, kernelRun0_A.sl.HS3_36, kernelRun0_A.sl.HS3_28, kernelRun0_A.sl.HS3_21, kernelRun0_A.sl.HS3_15, kernelRun0_A.sl.HS3_10, kernelRun0_A.sl.HS3_6, kernelRun0_A.sl.HS3_3, ↓ View.readCov_skip, ↓ View.readCov_cons_toLoadRect]
  refine ⟨rfl, rfl, rfl, rfl, rfl, rfl, rfl⟩
/-- The tiles query block 7 reads back. -/
theorem loads7 :
    kernelRun0_A.sl.v1420 a.c a.i a.arg2 a.harg2 a.arg3 a.harg3 a.arg4 a.harg4 a.arg7 a.harg7 a.arg8 a.harg8 a.arg10 a.arg11 a.arg13 a.x0 a.x1 a.x2 a.x5 a.x6 = stored (a.raw 7 0) ∧
    kernelRun0_A.sl.v1434 a.c a.i a.arg2 a.harg2 a.arg3 a.harg3 a.arg4 a.harg4 a.arg7 a.harg7 a.arg8 a.harg8 a.arg10 a.arg11 a.arg13 a.x0 a.x1 a.x2 a.x5 a.x6 = stored (a.raw 7 1) ∧
    kernelRun0_A.sl.v1448 a.c a.i a.arg2 a.harg2 a.arg3 a.harg3 a.arg4 a.harg4 a.arg7 a.harg7 a.arg8 a.harg8 a.arg10 a.arg11 a.arg13 a.x0 a.x1 a.x2 a.x5 a.x6 = stored (a.raw 7 2) ∧
    kernelRun0_A.sl.v1462 a.c a.i a.arg2 a.harg2 a.arg3 a.harg3 a.arg4 a.harg4 a.arg7 a.harg7 a.arg8 a.harg8 a.arg10 a.arg11 a.arg13 a.x0 a.x1 a.x2 a.x5 a.x6 = stored (a.raw 7 3) ∧
    kernelRun0_A.sl.v1476 a.c a.i a.arg2 a.harg2 a.arg3 a.harg3 a.arg4 a.harg4 a.arg7 a.harg7 a.arg8 a.harg8 a.arg10 a.arg11 a.arg13 a.x0 a.x1 a.x2 a.x5 a.x6 = stored (a.raw 7 4) ∧
    kernelRun0_A.sl.v1490 a.c a.i a.arg2 a.harg2 a.arg3 a.harg3 a.arg4 a.harg4 a.arg7 a.harg7 a.arg8 a.harg8 a.arg10 a.arg11 a.arg13 a.x0 a.x1 a.x2 a.x5 a.x6 = stored (a.raw 7 5) ∧
    kernelRun0_A.sl.v1504 a.c a.i a.arg2 a.harg2 a.arg3 a.harg3 a.arg4 a.harg4 a.arg7 a.harg7 a.arg8 a.harg8 a.arg10 a.arg11 a.arg13 a.x0 a.x1 a.x2 a.x5 a.x6 = stored (a.raw 7 6) ∧
    kernelRun0_A.sl.v1518 a.c a.i a.arg2 a.harg2 a.arg3 a.harg3 a.arg4 a.harg4 a.arg7 a.harg7 a.arg8 a.harg8 a.arg10 a.arg11 a.arg13 a.x0 a.x1 a.x2 a.x5 a.x6 = stored (a.diag 7) := by
  simp (disch := decide) only [kernelRun0_A.sl.v1420, kernelRun0_A.sl.v1434, kernelRun0_A.sl.v1448, kernelRun0_A.sl.v1462, kernelRun0_A.sl.v1476, kernelRun0_A.sl.v1490, kernelRun0_A.sl.v1504, kernelRun0_A.sl.v1518, kernelRun0_A.sl.HS3_36, kernelRun0_A.sl.HS3_28, kernelRun0_A.sl.HS3_21, kernelRun0_A.sl.HS3_15, kernelRun0_A.sl.HS3_10, kernelRun0_A.sl.HS3_6, kernelRun0_A.sl.HS3_3, ↓ View.readCov_skip, ↓ View.readCov_cons_toLoadRect]
  refine ⟨rfl, rfl, rfl, rfl, rfl, rfl, rfl, rfl⟩

/-- The key blocks of a query block. -/
def upto (n : Fin 8) : List (Fin 8) := match n with
  | ⟨0, _⟩ => [0]
  | ⟨1, _⟩ => [0, 1]
  | ⟨2, _⟩ => [0, 1, 2]
  | ⟨3, _⟩ => [0, 1, 2, 3]
  | ⟨4, _⟩ => [0, 1, 2, 3, 4]
  | ⟨5, _⟩ => [0, 1, 2, 3, 4, 5]
  | ⟨6, _⟩ => [0, 1, 2, 3, 4, 5, 6]
  | ⟨7, _⟩ => [0, 1, 2, 3, 4, 5, 6, 7]

/-- The tile of query block `n` and key block `k`. -/
def Pt.tile (n k : Fin 8) : FVec F S512x256 .f32 := if k = n then a.diag n else a.raw n k

/-- The row maxima of a query block. -/
def Pt.max (n : Fin 8) : FVec F S512x1 .f32 := rowMax (a.tile n 0) ((upto n).tail.map (a.tile n))

/-- What query block `n` leaves. -/
def Pt.out (n : Fin 8) : FVec F S1x256x128 .bf16 :=
  blockOut (a.max n) ((upto n).map fun k => (stored (a.tile n k), a.vv k)) (a.zz n)

theorem out0 : k0_pay68 (kernelRun0_A.sl.r_30 a.c a.i a.arg2 a.harg2 a.arg3 a.harg3 a.arg4 a.harg4 a.arg5 a.harg5 a.arg6 a.harg6 a.arg7 a.harg7 a.arg8 a.harg8 a.arg10 a.arg11 a.arg12 a.arg13 a.x0 a.x1 a.x2 a.x3 a.x4 a.x5 a.x6) = a.out 0 := by
  have h0 := loads0 a
  show _ = blockOut (a.max 0) [(stored (a.diag 0), a.vv 0)] (a.zz 0)
  rw [← h0]
  rfl
theorem out1 : k0_pay82 k0_pay2 (kernelRun0_A.sl.r_34 a.c a.i a.arg2 a.harg2 a.arg3 a.harg3 a.arg4 a.harg4 a.arg5 a.harg5 a.arg7 a.harg7 a.arg8 a.harg8 a.arg10 a.arg11 a.arg12 a.arg13 a.x0 a.x1 a.x2 a.x3 a.x5 a.x6) (kernelRun0_A.sl.r_35 a.c a.i a.arg2 a.harg2 a.arg3 a.harg3 a.arg4 a.harg4 a.arg7 a.harg7 a.arg8 a.harg8 a.arg10 a.arg11 a.arg13 a.x0 a.x1 a.x2 a.x5 a.x6) (kernelRun0_A.sl.r_36 a.c a.i a.arg2 a.harg2 a.arg3 a.harg3 a.arg4 a.harg4 a.arg5 a.harg5 a.arg7 a.harg7 a.arg8 a.harg8 a.arg10 a.arg11 a.arg12 a.arg13 a.x0 a.x1 a.x2 a.x3 a.x5 a.x6) (kernelRun0_A.sl.v609 a.c a.arg5 a.harg5 a.arg12 a.x3) (View.readAt (Elt F) a.arg6.view (Rect.unit (s := S1x2048x128) ![0, 256, 0] S1x256x128.size inb_S1x2048x128_S1x256x128_0_256_0).toLoadRect (a.harg6.unread a.x4)) = a.out 1 := by
  obtain ⟨h0, h1⟩ := loads1 a
  show _ = blockOut (a.max 1) [(stored (a.raw 1 0), a.vv 0), (stored (a.diag 1), a.vv 1)] (a.zz 1)
  rw [← h0, ← h1]
  rfl
theorem out2 : k0_pay99 k0_pay2 (kernelRun0_A.sl.r_33 a.c a.i a.arg2 a.harg2 a.arg3 a.harg3 a.arg4 a.harg4 a.arg7 a.harg7 a.arg8 a.harg8 a.arg10 a.arg11 a.x0 a.x1 a.x2 a.x5 a.x6) (kernelRun0_A.sl.r_41 a.c a.i a.arg2 a.harg2 a.arg3 a.harg3 a.arg4 a.harg4 a.arg5 a.harg5 a.arg7 a.harg7 a.arg8 a.harg8 a.arg10 a.arg11 a.arg12 a.arg13 a.x0 a.x1 a.x2 a.x3 a.x5 a.x6) (kernelRun0_A.sl.r_42 a.c a.i a.arg2 a.harg2 a.arg3 a.harg3 a.arg4 a.harg4 a.arg5 a.harg5 a.arg7 a.harg7 a.arg8 a.harg8 a.arg10 a.arg11 a.arg12 a.arg13 a.x0 a.x1 a.x2 a.x3 a.x5 a.x6) (kernelRun0_A.sl.r_43 a.c a.i a.arg2 a.harg2 a.arg3 a.harg3 a.arg4 a.harg4 a.arg7 a.harg7 a.arg8 a.harg8 a.arg10 a.arg11 a.arg13 a.x0 a.x1 a.x2 a.x5 a.x6) (kernelRun0_A.sl.v719 a.c a.arg5 a.harg5 a.arg12 a.x3) (kernelRun0_A.sl.v719 a.c a.arg5 a.harg5 a.arg12 a.x3) (View.readAt (Elt F) a.arg6.view (Rect.unit (s := S1x2048x128) ![0, 512, 0] S1x256x128.size inb_S1x2048x128_S1x256x128_0_512_0).toLoadRect (a.harg6.unread a.x4)) = a.out 2 := by
  obtain ⟨h0, h1, h2⟩ := loads2 a
  show _ = blockOut (a.max 2) [(stored (a.raw 2 0), a.vv 0), (stored (a.raw 2 1), a.vv 1), (stored (a.diag 2), a.vv 2)] (a.zz 2)
  rw [← h0, ← h1, ← h2]
  rfl
theorem out3 : k0_pay122 k0_pay2 (kernelRun0_A.sl.r_50 a.c a.i a.arg2 a.harg2 a.arg3 a.harg3 a.arg4 a.harg4 a.arg5 a.harg5 a.arg7 a.harg7 a.arg8 a.harg8 a.arg10 a.arg11 a.arg12 a.arg13 a.x0 a.x1 a.x2 a.x3 a.x5 a.x6) (kernelRun0_A.sl.r_51 a.c a.i a.arg2 a.harg2 a.arg3 a.harg3 a.arg4 a.harg4 a.arg5 a.harg5 a.arg7 a.harg7 a.arg8 a.harg8 a.arg10 a.arg11 a.arg12 a.arg13 a.x0 a.x1 a.x2 a.x3 a.x5 a.x6) (kernelRun0_A.sl.r_52 a.c a.i a.arg2 a.harg2 a.arg3 a.harg3 a.arg4 a.harg4 a.arg7 a.harg7 a.arg8 a.harg8 a.arg10 a.arg11 a.arg13 a.x0 a.x1 a.x2 a.x5 a.x6) (kernelRun0_A.sl.r_53 a.c a.i a.arg2 a.harg2 a.arg3 a.harg3 a.arg4 a.harg4 a.arg7 a.harg7 a.arg8 a.harg8 a.arg10 a.arg11 a.arg13 a.x0 a.x1 a.x2 a.x5 a.x6) (kernelRun0_A.sl.v852 a.c a.arg5 a.harg5 a.arg12 a.x3) (kernelRun0_A.sl.v852 a.c a.arg5 a.harg5 a.arg12 a.x3) (View.readAt (Elt F) a.arg6.view (Rect.unit (s := S1x2048x128) ![0, 768, 0] S1x256x128.size inb_S1x2048x128_S1x256x128_0_768_0).toLoadRect (a.harg6.unread a.x4)) = a.out 3 := by
  obtain ⟨h0, h1, h2, h3⟩ := loads3 a
  show _ = blockOut (a.max 3) [(stored (a.raw 3 0), a.vv 0), (stored (a.raw 3 1), a.vv 1), (stored (a.raw 3 2), a.vv 2), (stored (a.diag 3), a.vv 3)] (a.zz 3)
  rw [← h0, ← h1, ← h2, ← h3]
  rfl
theorem out4 : k0_pay148 (kernelRun0_A.sl.r_62 a.c a.i a.arg2 a.harg2 a.arg3 a.harg3 a.arg4 a.harg4 a.arg5 a.harg5 a.arg7 a.harg7 a.arg8 a.harg8 a.arg10 a.arg11 a.arg12 a.arg13 a.x0 a.x1 a.x2 a.x3 a.x5 a.x6) (kernelRun0_A.sl.r_63 a.c a.arg6 a.harg6 a.x4) (kernelRun0_A.sl.r_64 a.c a.arg6 a.harg6 a.x4) = a.out 4 := by
  obtain ⟨h0, h1, h2, h3, h4⟩ := loads4 a
  show _ = blockOut (a.max 4) [(stored (a.raw 4 0), a.vv 0), (stored (a.raw 4 1), a.vv 1), (stored (a.raw 4 2), a.vv 2), (stored (a.raw 4 3), a.vv 3), (stored (a.diag 4), a.vv 4)] (a.zz 4)
  rw [← h0, ← h1, ← h2, ← h3, ← h4]
  rfl
theorem out5 : k0_pay179 k0_pay2 (kernelRun0_A.sl.r_76 a.c a.i a.arg2 a.harg2 a.arg3 a.harg3 a.arg4 a.harg4 a.arg5 a.harg5 a.arg7 a.harg7 a.arg8 a.harg8 a.arg10 a.arg11 a.arg12 a.arg13 a.x0 a.x1 a.x2 a.x3 a.x5 a.x6) (kernelRun0_A.sl.r_77 a.c a.i a.arg2 a.harg2 a.arg3 a.harg3 a.arg4 a.harg4 a.arg5 a.harg5 a.arg7 a.harg7 a.arg8 a.harg8 a.arg10 a.arg11 a.arg12 a.arg13 a.x0 a.x1 a.x2 a.x3 a.x5 a.x6) (View.readAt (Elt F) a.arg6.view (Rect.unit (s := S1x2048x128) ![0, 1280, 0] S1x256x128.size inb_S1x2048x128_S1x256x128_0_1280_0).toLoadRect (a.harg6.unread a.x4)) = a.out 5 := by
  obtain ⟨h0, h1, h2, h3, h4, h5⟩ := loads5 a
  show _ = blockOut (a.max 5) [(stored (a.raw 5 0), a.vv 0), (stored (a.raw 5 1), a.vv 1), (stored (a.raw 5 2), a.vv 2), (stored (a.raw 5 3), a.vv 3), (stored (a.raw 5 4), a.vv 4), (stored (a.diag 5), a.vv 5)] (a.zz 5)
  rw [← h0, ← h1, ← h2, ← h3, ← h4, ← h5]
  rfl
theorem out6 : k0_pay216 (kernelRun0_A.sl.r_91 a.c a.i a.arg2 a.harg2 a.arg3 a.harg3 a.arg4 a.harg4 a.arg5 a.harg5 a.arg7 a.harg7 a.arg8 a.harg8 a.arg10 a.arg11 a.arg12 a.arg13 a.x0 a.x1 a.x2 a.x3 a.x5 a.x6) (kernelRun0_A.sl.r_92 a.c a.i a.arg2 a.harg2 a.arg3 a.harg3 a.arg4 a.harg4 a.arg5 a.harg5 a.arg7 a.harg7 a.arg8 a.harg8 a.arg10 a.arg11 a.arg12 a.arg13 a.x0 a.x1 a.x2 a.x3 a.x5 a.x6) (k0_pay215 k0_pay2) (View.readAt (Elt F) a.arg6.view (Rect.unit (s := S1x2048x128) ![0, 1536, 0] S1x256x128.size inb_S1x2048x128_S1x256x128_0_1536_0).toLoadRect (a.harg6.unread a.x4)) = a.out 6 := by
  obtain ⟨h0, h1, h2, h3, h4, h5, h6⟩ := loads6 a
  show _ = blockOut (a.max 6) [(stored (a.raw 6 0), a.vv 0), (stored (a.raw 6 1), a.vv 1), (stored (a.raw 6 2), a.vv 2), (stored (a.raw 6 3), a.vv 3), (stored (a.raw 6 4), a.vv 4), (stored (a.raw 6 5), a.vv 5), (stored (a.diag 6), a.vv 6)] (a.zz 6)
  rw [← h0, ← h1, ← h2, ← h3, ← h4, ← h5, ← h6]
  rfl
theorem out7 : k0_pay1 (kernelRun0_A.sl.r_102 a.c a.i a.arg2 a.harg2 a.arg3 a.harg3 a.arg4 a.harg4 a.arg5 a.harg5 a.arg7 a.harg7 a.arg8 a.harg8 a.arg10 a.arg11 a.arg12 a.arg13 a.x0 a.x1 a.x2 a.x3 a.x5 a.x6) (kernelRun0_A.sl.r_103 a.c a.arg6 a.harg6 a.x4) (kernelRun0_A.sl.r_104 a.c a.arg6 a.harg6 a.x4) = a.out 7 := by
  obtain ⟨h0, h1, h2, h3, h4, h5, h6, h7⟩ := loads7 a
  show _ = blockOut (a.max 7) [(stored (a.raw 7 0), a.vv 0), (stored (a.raw 7 1), a.vv 1), (stored (a.raw 7 2), a.vv 2), (stored (a.raw 7 3), a.vv 3), (stored (a.raw 7 4), a.vv 4), (stored (a.raw 7 5), a.vv 5), (stored (a.raw 7 6), a.vv 6), (stored (a.diag 7), a.vv 7)] (a.zz 7)
  rw [← h0, ← h1, ← h2, ← h3, ← h4, ← h5, ← h6, ← h7]
  rfl

/-- The eight pieces of the body's result. -/
theorem pieces : (kernelRun0_A a.c a.i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.x0 a.x1 a.x2 a.x3 a.x4 a.x5 a.x6).1 =
    [⟨Rect.unit (s := S1x2048x128) ![0, 1792, 0] S1x256x128.size inb_S1x2048x128_S1x256x128_0_1792_0, a.out 7⟩,
     ⟨Rect.unit (s := S1x2048x128) ![0, 1536, 0] S1x256x128.size inb_S1x2048x128_S1x256x128_0_1536_0, a.out 6⟩,
     ⟨Rect.unit (s := S1x2048x128) ![0, 1280, 0] S1x256x128.size inb_S1x2048x128_S1x256x128_0_1280_0, a.out 5⟩,
     ⟨Rect.unit (s := S1x2048x128) ![0, 1024, 0] S1x256x128.size inb_S1x2048x128_S1x256x128_0_1024_0, a.out 4⟩,
     ⟨Rect.unit (s := S1x2048x128) ![0, 768, 0] S1x256x128.size inb_S1x2048x128_S1x256x128_0_768_0, a.out 3⟩,
     ⟨Rect.unit (s := S1x2048x128) ![0, 512, 0] S1x256x128.size inb_S1x2048x128_S1x256x128_0_512_0, a.out 2⟩,
     ⟨Rect.unit (s := S1x2048x128) ![0, 256, 0] S1x256x128.size inb_S1x2048x128_S1x256x128_0_256_0, a.out 1⟩,
     ⟨Rect.unit (s := S1x2048x128) ![0, 0, 0] S1x256x128.size inb_S1x2048x128_S1x256x128_0_0_0, a.out 0⟩] := by
  rw [← out0, ← out1, ← out2, ← out3, ← out4, ← out5, ← out6, ← out7]
  rfl

end Moba
end
-- ==== Proof.Scratch.lean ====
module
public import proofs.«01_k».proof.Proof.Tiles
public import Idealize.ShloMosaic.Lib.Pointwise
public import Idealize.ShloMosaic.Lib.Pipeline.ValueKit
public import Idealize.ShloMosaic.Lib.WordCmp

/-! What the body's scratch buffers hold, index by index: the keys and values with their feature lanes. -/

@[expose] public section
set_option maxRecDepth 16384

open Idealize.ShloMosaic Idealize.ShloMosaic.TcCoe Idealize.SL.Sem
open Cert.KernelIdeal Cert.KernelIdeal.Gen

noncomputable section
namespace Moba

/-- Lane `l` of 128 belongs to head `h` of the pair. -/
def inHead (h : Fin 2) (l : Fin 128) : Prop := l.val / 64 = h.val
instance (h : Fin 2) (l : Fin 128) : Decidable (inHead h l) := inferInstanceAs (Decidable (_ = _))

/-- The head of a lane of 256. -/
def headOf (l : Fin 256) : Fin 2 := ⟨l.val / 128, by omega⟩
/-- The lane within the head's half. -/
def laneOf (l : Fin 256) : Fin 128 := ⟨l.val % 128, by omega⟩

theorem mask0 (l : Fin 128) : k0_pay2 (ix2 0 l) = if inHead 0 l then 1#1 else 0#1 := by
  pointwise [k0_pay2]
  revert l; decide +kernel
theorem mask1 (l : Fin 128) : k0_pay3 (ix2 0 l) = if inHead 1 l then 1#1 else 0#1 := by
  pointwise [k0_pay3]
  revert l; decide +kernel

/-- A key row of head `h`'s half: the head's own lanes hold the key, the others its features. -/
def keyRow (k : FVec Ideal S1x2048x128 .f32) (f : FVec Ideal S2x2048x128 .f32) (h : Fin 2) (s : Fin 2048) (l : Fin 128) : EReal :=
  if inHead h l then k (ix3 0 s l) else f (ix3 h s l)

/-- The keys' scratch. -/
def kaug (k : FVec Ideal S1x2048x128 .f32) (f : FVec Ideal S2x2048x128 .f32) : S2048x256.Idx → EReal :=
  fun y => keyRow k f (headOf (y 1)) (y 0) (laneOf (y 1))

/-- The values' scratch: the values, and ones beside them. -/
def vaug (v : FVec Ideal S1x2048x128 .f32) : S2048x256.Idx → EReal :=
  fun y => if h : (y 1).val < 128 then v (ix3 0 (y 0) ⟨(y 1).val, h⟩) else 1

/-- The first head's key rows. -/
theorem pay18_at (k f : FVec Ideal S1x2048x128 .f32) (s : Fin 2048) (l : Fin 128) :
    k0_pay18 (F := Ideal) k0_pay2 (k0_pay6 k) f (ix2 s l) = if inHead 0 l then k (ix3 0 s l) else f (ix3 0 s l) := by
  pointwise [k0_pay18, k0_pay6, mask0]
  by_cases h : inHead 0 l <;> simp [h, Scalar.select]

/-- The second head's key rows. -/
theorem pay20_at (k f : FVec Ideal S1x2048x128 .f32) (s : Fin 2048) (l : Fin 128) :
    k0_pay20 (F := Ideal) k0_pay3 (k0_pay6 k) f (ix2 s l) = if inHead 1 l then k (ix3 0 s l) else f (ix3 0 s l) := by
  pointwise [k0_pay20, k0_pay6, mask1]
  by_cases h : inHead 1 l <;> simp [h, Scalar.select]

theorem emb2 {m n m' n' : ℕ} (off : Fin 2 → ℕ) (inb) (s : Fin m) (l : Fin n) (h0 : off 0 + s.val < m') (h1 : off 1 + l.val < n') :
    (Rect.unit (s := ⟨2, ![m', n']⟩) off ![m, n] inb).emb (ix2 s l) = ix2 ⟨off 0 + s.val, h0⟩ ⟨off 1 + l.val, h1⟩ := by
  funext a; apply Fin.ext; fin_cases a <;> simp [Rect.emb, Rect.unit]

theorem headOf_lo (l : Fin 128) (h) : headOf ⟨0 + l.val, h⟩ = 0 := Fin.ext (by simp only [headOf]; omega)
theorem headOf_hi (l : Fin 128) (h) : headOf ⟨128 + l.val, h⟩ = 1 := Fin.ext (by simp only [headOf]; omega)
theorem laneOf_lo (l : Fin 128) (h) : laneOf ⟨0 + l.val, h⟩ = l := Fin.ext (by simp only [laneOf]; omega)
theorem laneOf_hi (l : Fin 128) (h) : laneOf ⟨128 + l.val, h⟩ = l := Fin.ext (by simp only [laneOf]; omega)

variable (a : Pt Ideal)

theorem canon_k (y : S2048x256.Idx) : View.canon (kernelRun0_A.sl.HS0_2 a.c a.arg4 a.harg4 a.arg7 a.harg7 a.x2 a.x5) y = kaug a.x2 a.x5 y := by
  refine View.canon_append_of_piecesOf (kaug a.x2 a.x5) [] (kernelRun0_A.sl.HS0_2 a.c a.arg4 a.harg4 a.arg7 a.harg7 a.x2 a.x5) ?_ y ?_
  · unfold kernelRun0_A.sl.HS0_2 kernelRun0_A.sl.r_2
    simp (disch := decide) only [View.readAt_eq_ld, Memref.IsWhole.read_unread]
    refine ⟨fun (x : S2048x128.Idx) => ?_, fun (x : S2048x128.Idx) => ?_, trivial⟩ <;>
      obtain ⟨s, l, rfl⟩ : ∃ s l, x = ix2 s l := ⟨x 0, x 1, eq_ix2 x⟩
    · refine (pay20_at _ _ s l).trans ?_
      rw [emb2 (m' := 2048) (n' := 256) ![0, 128] _ s l (by simp) (by simp; omega)]
      refine Eq.trans ?_ (congrArg₂ (fun h l' => keyRow a.x2 a.x5 h s l') (headOf_hi l (by omega)) (laneOf_hi l (by omega))).symm |>.trans ?_
      · simp only [keyRow]
        pointwise
      · simp [kaug]
    · refine (pay18_at _ _ s l).trans ?_
      rw [emb2 (m' := 2048) (n' := 256) ![0, 0] _ s l (by simp) (by simp; omega)]
      refine Eq.trans ?_ (congrArg₂ (fun h l' => keyRow a.x2 a.x5 h s l') (headOf_lo l (by omega)) (laneOf_lo l (by omega))).symm |>.trans ?_
      · simp only [keyRow]
        pointwise
      · simp [kaug]
  · exact View.cover_of_tiledL (s := S2048x256) _ S2048x128.size (by sl_kernel_rfl) y

theorem canon_v (y : S2048x256.Idx) : View.canon (kernelRun0_A.sl.HS2_2 a.c a.arg5 a.harg5 a.x3) y = vaug a.x3 y := by
  refine View.canon_append_of_piecesOf (vaug a.x3) [] (kernelRun0_A.sl.HS2_2 a.c a.arg5 a.harg5 a.x3) ?_ y ?_
  · unfold kernelRun0_A.sl.HS2_2
    simp (disch := decide) only [View.readAt_eq_ld, Memref.IsWhole.read_unread]
    refine ⟨fun (x : S2048x128.Idx) => ?_, fun (x : S2048x128.Idx) => ?_, trivial⟩ <;>
      obtain ⟨s, l, rfl⟩ : ∃ s l, x = ix2 s l := ⟨x 0, x 1, eq_ix2 x⟩
    · rw [emb2 (m' := 2048) (n' := 256) ![0, 128] _ s l (by simp) (by simp; omega)]
      refine Eq.trans (b := (1 : EReal)) ?_ ?_
      · pointwise [k0_pay8]
      · simp [vaug]
    · rw [emb2 (m' := 2048) (n' := 256) ![0, 0] _ s l (by simp) (by simp; omega)]
      refine Eq.trans (b := a.x3 (ix3 0 s l)) ?_ ?_
      · pointwise [k0_pay7]
      · simp [vaug]
  · exact View.cover_of_tiledL (s := S2048x256) _ S2048x128.size (by sl_kernel_rfl) y

/-- The keys of block `n`, as loaded. -/
theorem kk_at (n : Fin 8) (r : Fin 256) (l : Fin 256) :
    a.kk n (ix2 r l) = kaug a.x2 a.x5 (ix2 ⟨256 * n.val + r.val, by omega⟩ l) := by
  fin_cases n <;>
  · refine (congrFun (View.readCov_eq_canon' _ _ _) _).trans ((canon_k a _).trans (congrArg _ ?_))
    funext b; apply Fin.ext; fin_cases b <;> simp [Rect.toLoadRect, LoadRect.idx, Rect.unit]

/-- The values of block `n`, as loaded. -/
theorem vv_at (n : Fin 8) (r : Fin 256) (l : Fin 256) :
    a.vv n (ix2 r l) = vaug a.x3 (ix2 ⟨256 * n.val + r.val, by omega⟩ l) := by
  fin_cases n <;>
  · refine (congrFun (View.readCov_eq_canon' _ _ _) _).trans ((canon_v a _).trans (congrArg _ ?_))
    funext b; apply Fin.ext; fin_cases b <;> simp [Rect.toLoadRect, LoadRect.idx, Rect.unit]

end Moba
end
end
-- ==== Proof.Queries.lean ====
module
public import proofs.«01_k».proof.Proof.Scratch
public import Idealize.ShloMosaic.Lib.Pointwise
public import Idealize.ShloMosaic.Lib.Pipeline.ValueKit
public import Idealize.ShloMosaic.Lib.WordCmp
/-! The queries' scratch: the gates, the count of the blocks that stand before each block, the dropped blocks,
and the rows of both heads with their feature lanes. -/

@[expose] public section
set_option maxRecDepth 16384

open Idealize.ShloMosaic Idealize.ShloMosaic.TcCoe Idealize.SL.Sem
open Cert.KernelIdeal Cert.KernelIdeal.Gen

noncomputable section
namespace Moba
section
variable {F : FTy → Type} [FloatOps F] [Named F]

/-- One candidate block compared with every block, its row of gates being `row`. -/
def countStep (g acc : FVec F S8x1024 .f32) (o : BitVec 32) (row : FVec F S1x1024 .f32) : FVec F S8x1024 .f32 :=
  addf acc (select (andi (ori (cmpf .ogt (broadcastTo S8x1024 row broadcasts_S1x1024_S8x1024) g)
      (andi (cmpf .oeq (broadcastTo S8x1024 row broadcasts_S1x1024_S8x1024) g)
        (cmpi .sgt (iota .tc S8x1024 32 [0] iota_S8x1024_d0_w32) (broadcast S8x1024 o))))
      (cmpi .sgt k0_pay24 (broadcast S8x1024 o)))
    (broadcast S8x1024 (Scalar.ofBits .f32 0x3F800000#32 : F .f32)) (broadcast S8x1024 (Scalar.ofBits .f32 0x00000000#32 : F .f32)))

/-- How many earlier blocks stand before each block. -/
def countV (g : FVec F S8x1024 .f32) : FVec F S8x1024 .f32 :=
  countStep g (countStep g (countStep g (countStep g (countStep g (countStep g (countStep g
    (broadcast S8x1024 (Scalar.ofBits .f32 0x00000000#32 : F .f32))
    0#32 (extractStridedSlice S1x1024 ![0, 0] g slices_S8x1024_o0_0_S1x1024))
    1#32 (extractStridedSlice S1x1024 ![1, 0] g slices_S8x1024_o1_0_S1x1024))
    2#32 (extractStridedSlice S1x1024 ![2, 0] g slices_S8x1024_o2_0_S1x1024))
    3#32 (extractStridedSlice S1x1024 ![3, 0] g slices_S8x1024_o3_0_S1x1024))
    4#32 (extractStridedSlice S1x1024 ![4, 0] g slices_S8x1024_o4_0_S1x1024))
    5#32 (extractStridedSlice S1x1024 ![5, 0] g slices_S8x1024_o5_0_S1x1024))
    6#32 (extractStridedSlice S1x1024 ![6, 0] g slices_S8x1024_o6_0_S1x1024)

variable (a : Pt F)
/-- Block averages of the keys. -/
def Pt.kbar : FVec F S8x128 .f32 := kernelRun0_A.sl.r_5 a.c a.arg4 a.harg4 a.x2
/-- The queries as a matrix. -/
def Pt.q2 : FVec F S2048x128 .f32 := kernelRun0_A.sl.r_7 a.c a.arg3 a.harg3 a.x1

theorem count0 : kernelRun0_A.sl.r_22 a.c a.arg3 a.harg3 a.arg4 a.harg4 a.x1 a.x2 = countV (k0_pay25 k0_pay2 a.kbar a.q2) := rfl
theorem count1 : kernelRun0_A.sl.r_24 a.c a.arg3 a.harg3 a.arg4 a.harg4 a.x1 a.x2 =
  cmpf .oge (countV (k0_pay25 k0_pay3 a.kbar a.q2)) (broadcast S8x1024 (Scalar.ofBits .f32 0x40400000#32 : F .f32)) := rfl

end

/-! ## Index by index -/

variable (a : Pt Ideal)

/-- The block a late query lies in. -/
def ownOf (t : Fin 1024) : ℕ := (t.val + 1024) / 256

theorem own_word (t : Fin 1024) :
    IntOp.shrsi ArithUnit.vector (IntOp.addi (BitVec.ofNat 32 t.val) 1024#32) 8#32 = BitVec.ofNat 32 (ownOf t) := by
  revert t; decide +kernel

theorem sgt_word (a b : Fin 8) : IntOp.cmpi .sgt (BitVec.ofNat 32 a.val) (BitVec.ofNat 32 b.val) = BitVec.ofBool (decide (b < a)) := by
  revert a b; decide +kernel

theorem slt_word (a b : Fin 8) : IntOp.cmpi .slt (BitVec.ofNat 32 a.val) (BitVec.ofNat 32 b.val) = BitVec.ofBool (decide (a < b)) := by
  revert a b; decide +kernel

theorem ownOf_lt (t : Fin 1024) : ownOf t < 8 := by simp only [ownOf]; omega

/-- Block `o` stands before block `n` by the gates `g`. -/
def before (g : Fin 8 → EReal) (o n : Fin 8) : Prop := g n < g o ∨ (g o = g n ∧ o < n)

theorem select_bits (p q r s : Prop) [Decidable p] [Decidable q] [Decidable r] [Decidable s] (x y : EReal) :
    Scalar.select (IntOp.andi (IntOp.ori (BitVec.ofBool (decide p)) (IntOp.andi (BitVec.ofBool (decide q)) (BitVec.ofBool (decide r))))
      (BitVec.ofBool (decide s))) x y = if (p ∨ (q ∧ r)) ∧ s then x else y := by
  by_cases p <;> by_cases q <;> by_cases r <;> by_cases s <;> simp [*, IntOp.andi, IntOp.ori, Scalar.select]

open Classical in
theorem countStep_at (g acc : FVec Ideal S8x1024 .f32) (o : Fin 8) (row : FVec Ideal S1x1024 .f32) (n : Fin 8) (t : Fin 1024)
    (b : BitVec 32) (hb : b = BitVec.ofNat 32 o.val) (hr : row (ix2 0 t) = g (ix2 o t)) :
    countStep g acc b row (ix2 n t) = acc (ix2 n t) +
      (if before (fun n => g (ix2 n t)) o n ∧ o.val < ownOf t then 1 else 0) := by
  subst hb
  pointwise [countStep, k0_pay24]
  rw [hr, own_word, sgt_word, show IntOp.cmpi .sgt (BitVec.ofNat 32 (ownOf t)) (BitVec.ofNat 32 o.val) = BitVec.ofBool (decide (o.val < ownOf t)) from sgt_word ⟨ownOf t, ownOf_lt t⟩ o, select_bits]
  exact congrArg _ (if_congr Iff.rfl rfl rfl)

open Classical in
theorem countV_at (g : FVec Ideal S8x1024 .f32) (n : Fin 8) (t : Fin 1024) :
    countV g (ix2 n t) = ((Finset.univ.filter fun o : Fin 7 => before (fun n => g (ix2 n t)) o.castSucc n ∧ o.val < ownOf t).card : EReal) := by
  rw [← Finset.sum_boole]
  simp only [Fin.sum_univ_seven, countV]
  rw [countStep_at g _ 6 _ n t 6#32 rfl (by pointwise), countStep_at g _ 5 _ n t 5#32 rfl (by pointwise), countStep_at g _ 4 _ n t 4#32 rfl (by pointwise), countStep_at g _ 3 _ n t 3#32 rfl (by pointwise),
    countStep_at g _ 2 _ n t 2#32 rfl (by pointwise), countStep_at g _ 1 _ n t 1#32 rfl (by pointwise), countStep_at g _ 0 _ n t 0#32 rfl (by pointwise)]
  pointwise
  rfl

/-- The count of the blocks before the query's own that stand before block `n`. -/
def countOf (g : Fin 8 → EReal) (own : ℕ) (n : Fin 8) : ℕ :=
  open Classical in (Finset.univ.filter fun o : Fin 7 => before g o.castSucc n ∧ o.val < own).card

/-- A late query drops block `n`: it lies before the query's own, and three blocks stand before it. -/
def dropped (g : Fin 8 → EReal) (own : ℕ) (n : Fin 8) : Prop := 3 ≤ countOf g own n ∧ n.val < own

theorem three : Ideal.ofBits .f32 0x40400000#32 = ((3 : ℕ) : EReal) := by
  simp [Ideal.ofBits, Ideal.ieee, -EReal.coe_mul]; norm_num
  first | rfl | (exact_mod_cast rfl)

theorem mask_eq : (Named.named κ "mask" 0xF149F2CA#32 : Ideal .f32) = (⊥ : EReal) :=
  IdealRules.named_const.ideal_named_scalar _ _ _ _ rfl

/-- The gates of a pair's head: the averages against the queries, in the head's lanes. -/
def gateOf (k q : FVec Ideal S1x2048x128 .f32) (h : Fin 2) (t : Fin 1024) (n : Fin 8) : EReal :=
  ∑ l : Fin 128, if inHead h l then Ideal.div (∑ r : Fin 256, k (ix3 0 ⟨256 * n.val + r.val, by omega⟩ l)) (Ideal.ofBits .f32 0x43800000#32)
    * q (ix3 0 ⟨1024 + t.val, by omega⟩ l) else 0

/-- The mask of head `h`'s lanes. -/
def headMask (h : Fin 2) : IVec S1x128 1 := if h = 0 then k0_pay2 else k0_pay3
theorem headMask_at (h : Fin 2) (l : Fin 128) : headMask h (ix2 0 l) = if inHead h l then 1#1 else 0#1 := by
  fin_cases h
  · exact mask0 l
  · exact mask1 l

theorem kbar_at (k : FVec Ideal S1x2048x128 .f32) (n : Fin 8) (l : Fin 128) :
   k0_pay12 (F := Ideal) (k0_pay6 k) (iota .tc S8x128 32 [0] iota_S8x128_d0_w32) (k0_pay9 (k0_pay6 k)) k0_pay10 (k0_pay11 (k0_pay6 k)) (ix2 n l) =
     Ideal.div (∑ r : Fin 256, k (ix3 0 ⟨256 * n.val + r.val, by omega⟩ l)) (Ideal.ofBits .f32 0x43800000#32) := by
  pointwise [k0_pay12, k0_pay9, k0_pay10, k0_pay11, k0_pay6]
  fin_cases n <;> simp [Scalar.select, IntOp.cmpi]

theorem gate_at (h : Fin 2) (k q : FVec Ideal S1x2048x128 .f32) (n : Fin 8) (t : Fin 1024) :
    k0_pay25 (F := Ideal) (headMask h) (k0_pay12 (F := Ideal) (k0_pay6 k) (iota .tc S8x128 32 [0] iota_S8x128_d0_w32) (k0_pay9 (k0_pay6 k)) k0_pay10 (k0_pay11 (k0_pay6 k))) (k0_pay23 q) (ix2 n t)
      = gateOf k q h t n := by
  pointwise [k0_pay25]
  refine Finset.sum_congr rfl fun l _ => ?_
  rw [kbar_at, headMask_at]
  by_cases hl : inHead h l <;> simp only [hl, if_true, if_false]
  · pointwise [k0_pay23]
  · rfl

theorem sum_bot {ι : Type} [Fintype ι] (p : ι → Prop) [DecidablePred p] [Decidable (∃ x, p x)] :
    ∑ x, (if p x then (⊥ : EReal) else 0) = if ∃ x, p x then ⊥ else 0 := by
  by_cases h : ∃ x, p x
  · obtain ⟨x, hx⟩ := h
    rw [if_pos ⟨x, hx⟩]
    classical
    rw [← Finset.add_sum_erase _ _ (Finset.mem_univ x), if_pos hx, EReal.bot_add]
  · rw [if_neg h]
    exact Finset.sum_eq_zero fun x _ => if_neg fun hx => h ⟨x, hx⟩

/-- The lane of head `h` that marks block `n` of a query's row. -/
def blockLane (h : Fin 2) (n : Fin 8) : ℕ := 64 * (1 - h.val) + n.val

/-- The lanes that mark the blocks. -/
def marks (h : Fin 2) : FVec Ideal S8x128 .f32 :=
  if h = 0 then k0_pay13 k0_pay4 kernelRun0_A.sl.v35 else kernelRun0_A.sl.r_6

theorem mark_word0 (n : Fin 8) (l : Fin 128) : IntOp.cmpi .eq (IntOp.subi (BitVec.ofNat 32 l.val) 64#32) (BitVec.ofNat 32 n.val) =
    BitVec.ofBool (decide (l.val = blockLane 0 n)) := by
  revert n l; decide +kernel
theorem mark_word1 (n : Fin 8) (l : Fin 128) : IntOp.cmpi .eq (IntOp.subi (BitVec.ofNat 32 l.val) 0#32) (BitVec.ofNat 32 n.val) =
    BitVec.ofBool (decide (l.val = blockLane 1 n)) := by
  revert n l; decide +kernel

theorem marks_at (h : Fin 2) (n : Fin 8) (l : Fin 128) : marks h (ix2 n l) = if l.val = blockLane h n then 1 else 0 := by
  fin_cases h
  · simp only [marks, kernelRun0_A.sl.v35]
    pointwise [k0_pay13, k0_pay4]
    rw [mark_word0]
    by_cases h : l.val = blockLane 0 n <;> simp [h, Scalar.select]
  · simp only [marks, kernelRun0_A.sl.r_6, kernelRun0_A.sl.v35]
    pointwise [k0_pay17, k0_pay14, k0_pay15, k0_pay16, k0_pay5]
    rw [mark_word1]
    by_cases h : l.val = blockLane 1 n <;> simp [h, Scalar.select]

theorem pay54_at (h : Fin 2) (s : EReal) (q f : FVec Ideal S1x2048x128 .f32) (t : Fin 1024) (l : Fin 128) :
    k0_pay54 (F := Ideal) (headMask h) s (k0_pay23 q) f (ix3 0 t l) =
      if inHead h l then q (ix3 0 ⟨t.val, by omega⟩ l) * Ideal.ofBits .f32 0x3E000000#32 else s * f (ix3 0 ⟨t.val, by omega⟩ l) := by
  pointwise [k0_pay54, k0_pay53, k0_pay52, k0_pay23, headMask_at]
  by_cases hl : inHead h l <;> simp [hl, Scalar.select]

open Classical in
theorem pay55_at (h : Fin 2) (s : EReal) (g : FVec Ideal S8x1024 .f32) (q f : FVec Ideal S1x2048x128 .f32) (t : Fin 1024) (l : Fin 128)
    (G : Fin 8 → EReal) (hG : (fun n => g (ix2 n t)) = G) :
    k0_pay55 (F := Ideal) (headMask h) s (marks h) (k0_pay23 q) kernelRun0_A.sl.v160 k0_pay24
      (cmpf .oge (countV g) (broadcast S8x1024 (Scalar.ofBits .f32 0x40400000#32))) f (ix3 0 t l) =
      if inHead h l then q (ix3 0 ⟨1024 + t.val, by omega⟩ l) * Ideal.ofBits .f32 0x3E000000#32 else s * f (ix3 0 ⟨1024 + t.val, by omega⟩ l)
        + if ∃ n : Fin 8, l.val = blockLane h n ∧ dropped G (ownOf t) n then ⊥ else 0 := by
  subst hG
  simp only [kernelRun0_A.sl.v160]
  pointwise [k0_pay55, k0_pay53, k0_pay52, k0_pay23, k0_pay24, headMask_at, marks_at, countV_at]
  by_cases hl : inHead h l
  · simp [hl, Scalar.select]
  simp only [if_neg hl]
  refine (show Scalar.select 0#1 _ _ = _ from if_neg (by decide)).trans (congrArg _ ?_)
  refine Eq.trans ?_ (sum_bot fun n : Fin 8 => l.val = blockLane h n ∧ dropped (fun n => g (ix2 n t)) (ownOf t) n)
  refine Finset.sum_congr rfl fun n _ => ?_
  rw [own_word, slt_word n ⟨ownOf t, ownOf_lt t⟩, three, mask_eq]
  by_cases hb : l.val = blockLane h n
  · rw [if_pos hb, mul_one]
    simp only [hb, true_and, dropped, countOf, Nat.cast_le]
    by_cases h3 : 3 ≤ (Finset.univ.filter fun o : Fin 7 => before (fun n => g (ix2 n t)) o.castSucc n ∧ o.val < ownOf t).card <;>
      by_cases ho : n.val < ownOf t <;> simp [h3, ho, Scalar.select, IntOp.andi, Fin.lt_def]
  · rw [if_neg hb, mul_zero]
    simp [hb, Scalar.select]

/-- The slope of head `h` of the pair, as read. -/
def Pt.slope {F : FTy → Type} [FloatOps F] [Named F] (a : Pt F) (h : Fin 2) : F .f32 :=
  if h = 0 then kernelRun0_A.sl.r a.c a.i a.arg2 a.harg2 a.x0 else kernelRun0_A.sl.r_1 a.c a.i a.arg2 a.harg2 a.x0

/-- The query at `t` drops block `n`. -/
def isDropped (k q : FVec Ideal S1x2048x128 .f32) (h : Fin 2) (t : Fin 2048) (n : Fin 8) : Prop :=
  ∃ u : Fin 1024, t.val = 1024 + u.val ∧ dropped (gateOf k q h u) (ownOf u) n

open Classical in
/-- What a query's row adds at the lane that marks a dropped block. -/
def dropLane (k q : FVec Ideal S1x2048x128 .f32) (h : Fin 2) (t : Fin 2048) (l : Fin 128) : EReal :=
  if ∃ n : Fin 8, l.val = blockLane h n ∧ isDropped k q h t n then ⊥ else 0

/-- A query row of head `h`: its own lanes hold the scaled query, the others the sloped features and the dropped blocks. -/
def qRow (s : Fin 2 → EReal) (k q : FVec Ideal S1x2048x128 .f32) (f : FVec Ideal S2x2048x128 .f32) (h : Fin 2) (t : Fin 2048) (l : Fin 128) : EReal :=
  if inHead h l then q (ix3 0 t l) * Ideal.ofBits .f32 0x3E000000#32 else s h * f (ix3 h t l) + dropLane k q h t l

/-- The queries' scratch: each head's rows in its own half, zeros in the other. -/
def qaug (s : Fin 2 → EReal) (k q : FVec Ideal S1x2048x128 .f32) (f : FVec Ideal S2x2048x128 .f32) : S2x2048x256.Idx → EReal :=
  fun y => if (headOf (y 2)).val = (y 0).val then qRow s k q f (y 0) (y 1) (laneOf (y 2)) else 0

theorem emb3 {k m n k' m' n' : ℕ} (off : Fin 3 → ℕ) (inb) (h : Fin k) (s : Fin m) (l : Fin n) (h0 : off 0 + h.val < k') (h1 : off 1 + s.val < m')
    (h2 : off 2 + l.val < n') :
    (Rect.unit (s := ⟨3, ![k', m', n']⟩) off ![k, m, n] inb).emb (ix3 h s l) = ix3 ⟨off 0 + h.val, h0⟩ ⟨off 1 + s.val, h1⟩ ⟨off 2 + l.val, h2⟩ := by
  funext a; apply Fin.ext; fin_cases a <;> simp [Rect.emb, Rect.unit]

/-- A piece of the queries' scratch that holds late queries' rows. -/
theorem late_at (h : Fin 2) (t : Fin 1024) (l : Fin 128) (f : FVec Ideal S1x2048x128 .f32) (hf : ∀ t l, f (ix3 0 t l) = a.x6 (ix3 h t l)) :
    k0_pay55 (F := Ideal) (headMask h) (a.slope h) (marks h) (k0_pay23 a.x1) kernelRun0_A.sl.v160 k0_pay24
      (cmpf .oge (countV (k0_pay25 (headMask h) (k0_pay12 (F := Ideal) (k0_pay6 a.x2) (iota .tc S8x128 32 [0] iota_S8x128_d0_w32) (k0_pay9 (k0_pay6 a.x2)) k0_pay10 (k0_pay11 (k0_pay6 a.x2))) (k0_pay23 a.x1))) (broadcast S8x1024 (Scalar.ofBits .f32 0x40400000#32))) f (ix3 0 t l)
      = qRow a.slope a.x2 a.x1 a.x6 h ⟨1024 + t.val, by omega⟩ l := by
  refine (pay55_at h _ _ _ _ t l (gateOf a.x2 a.x1 h t) (funext fun n => gate_at h a.x2 a.x1 n t)).trans ?_
  simp only [qRow, dropLane, hf]
  classical
  refine if_congr Iff.rfl rfl (congrArg _ (if_congr (exists_congr fun n => and_congr_right fun _ => ?_) rfl rfl))
  exact ⟨fun hd => ⟨t, rfl, hd⟩, fun ⟨u, hu, hd⟩ => (Fin.ext (by simpa using hu) : t = u) ▸ hd⟩

/-- A piece of the queries' scratch that holds early queries' rows. -/
theorem early_at (h : Fin 2) (t : Fin 1024) (l : Fin 128) (f : FVec Ideal S1x2048x128 .f32) (hf : ∀ t l, f (ix3 0 t l) = a.x6 (ix3 h t l)) :
    k0_pay54 (F := Ideal) (headMask h) (a.slope h) (k0_pay23 a.x1) f (ix3 0 t l) = qRow a.slope a.x2 a.x1 a.x6 h ⟨t.val, by omega⟩ l := by
  refine (pay54_at h _ _ _ t l).trans ?_
  have hn : ¬ ∃ n : Fin 8, l.val = blockLane h n ∧ isDropped a.x2 a.x1 h ⟨t.val, by omega⟩ n := fun ⟨n, _, u, hu, _⟩ => by
    simp only at hu; omega
  simp only [qRow, dropLane, hf, if_neg hn, add_zero]

theorem ld_whole (X : Vec Ideal S1x2048x128 .f32) (inb) : View.ld (Val := Elt Ideal) (e' := .f32) X (Rect.unit (s := S1x2048x128) ![0, 0, 0] ![1, 2048, 128] inb) = X := by
  funext y
  obtain ⟨h, t, l, rfl⟩ : ∃ h t l, y = ix3 h t l := ⟨y 0, y 1, y 2, eq_ix3 y⟩
  obtain rfl : h = 0 := Subsingleton.elim _ _
  pointwise

theorem q2_eq : a.q2 = k0_pay23 a.x1 := by
  unfold Pt.q2 kernelRun0_A.sl.r_7
  simp (disch := decide) only [View.readAt_eq_ld, Memref.IsWhole.read_unread]
  exact congrArg _ (ld_whole _ _)

theorem kbar_eq : a.kbar = k0_pay12 (F := Ideal) (k0_pay6 a.x2) (iota .tc S8x128 32 [0] iota_S8x128_d0_w32) (k0_pay9 (k0_pay6 a.x2)) k0_pay10 (k0_pay11 (k0_pay6 a.x2)) := by
  unfold Pt.kbar
  unfold kernelRun0_A.sl.r_5 kernelRun0_A.sl.r_3 kernelRun0_A.sl.r_4 kernelRun0_A.sl.r_2 kernelRun0_A.sl.v35
  simp (disch := decide) only [View.readAt_eq_ld, Memref.IsWhole.read_unread]
  have e := ld_whole a.x2 inb_S1x2048x128_S1x2048x128_0_0_0
  exact congrArg (fun k => k0_pay12 (F := Ideal) (k0_pay6 k) (iota .tc S8x128 32 [0] iota_S8x128_d0_w32) (k0_pay9 (k0_pay6 k)) k0_pay10 (k0_pay11 (k0_pay6 k))) e

theorem feat_ld (X : Vec Ideal S2x2048x128 .f32) (h : Fin 2) (inb) (t : Fin 2048) (l : Fin 128) :
    View.ld (Val := Elt Ideal) (e' := .f32) X (Rect.unit (s := S2x2048x128) ![h.val, 0, 0] ![1, 2048, 128] inb) (ix3 0 t l) = X (ix3 h t l) := by
  refine congrArg X ?_
  funext b; apply Fin.ext; fin_cases b <;> simp [Rect.emb, Rect.unit]

theorem qaug_own (h : Fin 2) (t : Fin 2048) (l : Fin 128) (y : S2x2048x256.Idx) (h0 : (y 0).val = h.val) (h1 : (y 1).val = t.val)
    (h2 : (y 2).val = 128 * h.val + l.val) : qaug a.slope a.x2 a.x1 a.x6 y = qRow a.slope a.x2 a.x1 a.x6 h t l := by
  obtain rfl : y 0 = h := Fin.ext h0
  obtain rfl : y 1 = t := Fin.ext h1
  have e : laneOf (y 2) = l := Fin.ext (by simp only [laneOf]; omega)
  rw [← e]
  exact if_pos (by simp only [headOf]; omega)

theorem canon_q (y : S2x2048x256.Idx) :
    View.canon (kernelRun0_A.sl.HS1_6 a.c a.i a.arg2 a.harg2 a.arg3 a.harg3 a.arg4 a.harg4 a.arg8 a.harg8 a.x0 a.x1 a.x2 a.x6) y = qaug a.slope a.x2 a.x1 a.x6 y := by
  refine View.canon_append_of_piecesOf (qaug a.slope a.x2 a.x1 a.x6) [] (kernelRun0_A.sl.HS1_6 a.c a.i a.arg2 a.harg2 a.arg3 a.harg3 a.arg4 a.harg4 a.arg8 a.harg8 a.x0 a.x1 a.x2 a.x6) ?_ y ?_
  · unfold kernelRun0_A.sl.HS1_6
    simp (disch := decide) only [View.readAt_eq_ld, Memref.IsWhole.read_unread]
    refine ⟨fun (x : S1x1024x128.Idx) => ?_, fun (x : S1x1024x128.Idx) => ?_, fun (x : S1x1024x128.Idx) => ?_, fun (x : S1x1024x128.Idx) => ?_,
      fun (x : S1x2048x128.Idx) => ?_, fun (x : S1x2048x128.Idx) => ?_, trivial⟩ <;>
      obtain ⟨h, t, l, rfl⟩ : ∃ h t l, x = ix3 h t l := ⟨x 0, x 1, x 2, eq_ix3 x⟩ <;> obtain rfl : h = 0 := Subsingleton.elim _ _
    · rw [emb3 (k' := 2) (m' := 2048) (n' := 256) ![1, 1024, 128] _ 0 t l (by simp) (by simp; omega) (by simp; omega)]
      refine Eq.trans ?_ (qaug_own a 1 ⟨1024 + t.val, by omega⟩ l _ rfl rfl rfl).symm
      refine Eq.trans ?_ (late_at a 1 t l (View.ld (Val := Elt Ideal) (e' := .f32) a.x6 (Rect.unit (s := S2x2048x128) ![1, 0, 0] ![1, 2048, 128] inb_S2x2048x128_S1x2048x128_1_0_0)) (feat_ld a.x6 1 _))
      rw [← q2_eq, ← kbar_eq]
      rfl
    · rw [emb3 (k' := 2) (m' := 2048) (n' := 256) ![1, 0, 128] _ 0 t l (by simp) (by simp; omega) (by simp; omega)]
      refine Eq.trans ?_ (qaug_own a 1 ⟨0 + t.val, by omega⟩ l _ rfl rfl rfl).symm
      refine Eq.trans ?_ ((early_at a 1 t l (View.ld (Val := Elt Ideal) (e' := .f32) a.x6 (Rect.unit (s := S2x2048x128) ![1, 0, 0] ![1, 2048, 128] inb_S2x2048x128_S1x2048x128_1_0_0)) (feat_ld a.x6 1 _)).trans ?_)
      · rw [← q2_eq]
        rfl
      · exact congrArg (fun t => qRow a.slope a.x2 a.x1 a.x6 1 t l) (Fin.ext (by simp))
    · rw [emb3 (k' := 2) (m' := 2048) (n' := 256) ![0, 1024, 0] _ 0 t l (by simp) (by simp; omega) (by simp; omega)]
      refine Eq.trans ?_ (qaug_own a 0 ⟨1024 + t.val, by omega⟩ l _ rfl rfl rfl).symm
      refine Eq.trans ?_ (late_at a 0 t l (View.ld (Val := Elt Ideal) (e' := .f32) a.x6 (Rect.unit (s := S2x2048x128) ![0, 0, 0] ![1, 2048, 128] inb_S2x2048x128_S1x2048x128_0_0_0)) (feat_ld a.x6 0 _))
      rw [← q2_eq, ← kbar_eq]
      rfl
    · rw [emb3 (k' := 2) (m' := 2048) (n' := 256) ![0, 0, 0] _ 0 t l (by simp) (by simp; omega) (by simp; omega)]
      refine Eq.trans ?_ (qaug_own a 0 ⟨0 + t.val, by omega⟩ l _ rfl rfl rfl).symm
      refine Eq.trans ?_ ((early_at a 0 t l (View.ld (Val := Elt Ideal) (e' := .f32) a.x6 (Rect.unit (s := S2x2048x128) ![0, 0, 0] ![1, 2048, 128] inb_S2x2048x128_S1x2048x128_0_0_0)) (feat_ld a.x6 0 _)).trans ?_)
      · rw [← q2_eq]
        rfl
      · exact congrArg (fun t => qRow a.slope a.x2 a.x1 a.x6 0 t l) (Fin.ext (by simp))
    · rw [emb3 (k' := 2) (m' := 2048) (n' := 256) ![1, 0, 0] _ 0 t l (by simp) (by simp) (by simp; omega)]
      refine Eq.trans (b := (0 : EReal)) (by pointwise [k0_pay21]) (if_neg ?_).symm
      simp only [headOf, ix3]; simp; omega
    · rw [emb3 (k' := 2) (m' := 2048) (n' := 256) ![0, 0, 128] _ 0 t l (by simp) (by simp) (by simp; omega)]
      refine Eq.trans (b := (0 : EReal)) (by pointwise [k0_pay19]) (if_neg ?_).symm
      simp only [headOf, ix3]; simp
  · have h0 : (y 0).val < 2 := (y 0).isLt
    have h1 : (y 1).val < 2048 := (y 1).isLt
    have h2 : (y 2).val < 256 := (y 2).isLt
    unfold kernelRun0_A.sl.HS1_6
    simp only [List.mem_cons, List.not_mem_nil, exists_eq_or_imp, exists_eq_left, or_false]
    simp only [Rect.mem_set_unit]
    simp [Fin.forall_fin_succ]
    omega

/-- The queries of block `n`, first head, as loaded. -/
theorem qa_at (n : Fin 8) (r : Fin 256) (l : Fin 256) :
    a.qa n (ix3 0 r l) = qaug a.slope a.x2 a.x1 a.x6 (ix3 0 ⟨256 * n.val + r.val, by omega⟩ l) := by
  fin_cases n <;>
  · refine (congrFun (View.readCov_eq_canon' _ _ _) _).trans ((canon_q a _).trans (congrArg _ ?_))
    funext b; apply Fin.ext; fin_cases b <;> simp [Rect.toLoadRect, LoadRect.idx, Rect.unit]

/-- The queries of block `n`, second head, as loaded. -/
theorem qb_at (n : Fin 8) (r : Fin 256) (l : Fin 256) :
    a.qb n (ix3 0 r l) = qaug a.slope a.x2 a.x1 a.x6 (ix3 1 ⟨256 * n.val + r.val, by omega⟩ l) := by
  fin_cases n <;>
  · refine (congrFun (View.readCov_eq_canon' _ _ _) _).trans ((canon_q a _).trans (congrArg _ ?_))
    funext b; apply Fin.ext; fin_cases b <;> simp [Rect.toLoadRect, LoadRect.idx, Rect.unit]

/-- The gates' source of block `n`, as loaded. -/
theorem zz_at (n : Fin 8) (r : Fin 256) (l : Fin 128) :
    a.zz n (ix3 0 r l) = a.x4 (ix3 0 ⟨256 * n.val + r.val, by omega⟩ l) := by
  unfold Pt.zz
  simp (disch := decide) only [View.readAt_eq_ld, Memref.IsWhole.read_unread]
  fin_cases n <;>
  · refine congrArg a.x4 ?_
    funext b; apply Fin.ext; fin_cases b <;> simp [Rect.emb, Rect.unit]

theorem off_word (i : grid0.Coords) (h : Fin 2) : k0_off1 i (BitVec.ofNat 32 h.val) 0 = 2 * (i 1).val + h.val := by
  have e : ∀ p : Fin 4, ∀ h : Fin 2, (IntOp.addi (IntOp.muli (BitVec.ofNat 32 p.val) 2#32) (BitVec.ofNat 32 h.val)).toNat = 2 * p.val + h.val := by
    decide +kernel
  exact e (i 1) h

theorem slope_at (h : Fin 2) (j : Fin 8) (hj : j.val = 2 * (a.i 1).val + h.val) : a.slope h = a.x0 (ix1 j) := by
  have e := off_word a.i h
  fin_cases h <;>
  · simp only [Pt.slope, kernelRun0_A.sl.r, kernelRun0_A.sl.r_1]
    simp (disch := decide) only [View.readAt_eq_ld, Memref.IsWhole.read_unread]
    refine congrArg a.x0 ?_
    funext b; apply Fin.ext; fin_cases b
    simpa [Rect.emb, Rect.unit, hj] using e

end Moba
end
end
-- ==== Proof.Selection.lean ====
module
public import proofs.«01_k».proof.Proof.Queries
public import Idealize.ShloMosaic.Lib.SortPrefix

/-! The three greatest of a row, by counting. -/

@[expose] public section
set_option maxRecDepth 16384

open Idealize.ShloMosaic

noncomputable section
namespace Moba

theorem insertBefore_congr {ι : Type} {B B' : ι → ι → Bool} (a : ι) (l : List ι) (h : ∀ b ∈ l, B b a = B' b a) :
    insertBefore B a l = insertBefore B' a l := by
  induction l with
  | nil => rfl
  | cons b l ih =>
    simp only [insertBefore, h b List.mem_cons_self, ih fun c hc => h c (List.mem_cons_of_mem _ hc)]

/-- Two relations that agree on each later element against each earlier one sort alike. -/
theorem stableSort_congr {ι : Type} {B B' : ι → ι → Bool} (l : List ι) (h : l.Pairwise fun a b => B b a = B' b a) :
    stableSort B l = stableSort B' l := by
  induction l with
  | nil => rfl
  | cons a l ih =>
    rw [List.pairwise_cons] at h
    simp only [stableSort, ih h.2]
    exact insertBefore_congr a _ fun b hb => h.1 b ((perm_stableSort B' l).mem_iff.mp hb)

/-- Greater first, and the earlier position first among equals. -/
def first (g : Fin 8 → EReal) (o n : Fin 8) : Bool := decide (g n < g o) || (decide (g o = g n) && decide (o < n))

theorem first_total (g : Fin 8 → EReal) : StrictTotalBefore (first g) :=
  StrictTotalBefore.of_key_then_position (fun a b => decide (b < a)) g (fun a => by simp)
    (fun a b c hab hbc => by simp only [decide_eq_true_eq] at *; exact hbc.trans hab)
    fun a b => by
      simp only [decide_eq_true_eq]
      rcases lt_trichotomy a b with h | h | h
      · exact Or.inr (Or.inr h)
      · exact Or.inr (Or.inl h)
      · exact Or.inl h

theorem sortedFrom_first (g : Fin 8 → EReal) (B : Fin 8 → Fin 8 → Bool) (hB : ∀ o n, B o n = decide (g n < g o)) (j : Fin 8) :
    sortedFrom B j = sortedFrom (first g) j := by
  have e : sortPositions 8 B = sortPositions 8 (first g) := stableSort_congr _ (by
    have : (List.finRange 8).Pairwise (· < ·) := by decide
    refine this.imp fun {a b} hab => ?_
    rw [hB, first, decide_eq_false (not_lt.mpr hab.le), Bool.and_false, Bool.or_false])
  exact List.getElem_of_eq e _

/-- How many positions come first. -/
def rank (g : Fin 8 → EReal) (n : Fin 8) : ℕ := (Finset.univ.filter fun o => first g o n = true).card

theorem rank_sortedFrom (g : Fin 8 → EReal) (j : Fin 8) : rank g (sortedFrom (first g) j) = j.val := by
  have hT := first_total g
  have hmono : ∀ i j : Fin 8, i < j → first g (sortedFrom (first g) i) (sortedFrom (first g) j) = true := fun i j hij => by
    have hs := hT.sorted_stableSort (List.finRange 8)
    rw [List.pairwise_iff_getElem] at hs
    have := hs i.val j.val ((length_sortPositions 8 (first g)).symm ▸ i.isLt) ((length_sortPositions 8 (first g)).symm ▸ j.isLt) hij
    have hne : sortedFrom (first g) i ≠ sortedFrom (first g) j := fun e => hij.ne (sortedFrom_injective _ e)
    rcases hT.total _ _ hne with h | h
    · exact h
    · rw [show first g (sortedFrom (first g) j) (sortedFrom (first g) i) = false from this] at h
      exact absurd h (by decide)
  have e : (Finset.univ.filter fun o => first g o (sortedFrom (first g) j) = true) = (Finset.univ.filter (· < j)).image (sortedFrom (first g)) := by
    ext o
    simp only [Finset.mem_filter, Finset.mem_univ, true_and, Finset.mem_image]
    constructor
    · intro h
      obtain ⟨i, rfl⟩ := sortedFrom_surjective (first g) o
      refine ⟨i, ?_, rfl⟩
      by_contra hc
      rcases eq_or_lt_of_le (not_lt.mp hc) with rfl | hc
      · rw [hT.irrefl] at h; exact absurd h (by decide)
      · rw [hT.asymm _ _ (hmono j i hc)] at h; exact absurd h (by decide)
    · rintro ⟨i, hi, rfl⟩
      exact hmono i j hi
  rw [rank, e, Finset.card_image_of_injective _ (sortedFrom_injective _)]
  have key : ∀ j : Fin 8, (Finset.univ.filter (· < j)).card = j.val := by decide
  exact key j

theorem sortedFrom_eq_iff (g : Fin 8 → EReal) (j n : Fin 8) : sortedFrom (first g) j = n ↔ rank g n = j.val := by
  constructor
  · rintro rfl; exact rank_sortedFrom g j
  · intro h
    obtain ⟨i, rfl⟩ := sortedFrom_surjective (first g) n
    rw [rank_sortedFrom] at h
    rw [Fin.ext h]

/-- The gates of the blocks before the query's own, and the least value elsewhere. -/
def pastGate (g : Fin 8 → EReal) (own : ℕ) (n : Fin 8) : EReal := if n.val < own then g n else ⊥

theorem first_iff (g : Fin 8 → EReal) (o n : Fin 8) : first g o n = true ↔ g n < g o ∨ (g o = g n ∧ o < n) := by
  simp only [first, Bool.or_eq_true, Bool.and_eq_true, decide_eq_true_eq]

theorem rank_past (g : Fin 8 → EReal) (own : ℕ) (hown : own ≤ 7) (n : Fin 8) (hn : n.val < own) :
    rank (pastGate g own) n = countOf g own n ∧ rank (pastGate g own) n < own := by
  classical
  have hf : ∀ o, first (pastGate g own) o n = true ↔ o.val < own ∧ before g o n := fun o => by
    rw [first_iff, pastGate, pastGate, if_pos hn, before]
    by_cases ho : o.val < own
    · rw [if_pos ho]; simp only [ho, true_and]
    · rw [if_neg ho]
      simp only [ho, false_and, iff_false, not_or, not_lt_bot, not_false_eq_true, true_and, not_and, not_lt, Fin.le_def]
      intro _; omega
  constructor
  · rw [rank, countOf]
    symm
    refine Finset.card_bij (fun o _ => o.castSucc) (fun o ho => ?_) (fun a _ b _ hab => Fin.castSucc_injective _ hab) fun o ho => ?_
    · rw [Finset.mem_filter] at ho ⊢
      exact ⟨Finset.mem_univ _, (hf _).mpr ⟨ho.2.2, ho.2.1⟩⟩
    · rw [Finset.mem_filter, hf] at ho
      exact ⟨⟨o.val, by omega⟩, Finset.mem_filter.mpr ⟨Finset.mem_univ _, ho.2.2, ho.2.1⟩, rfl⟩
  · have hss : (Finset.univ.filter fun o => first (pastGate g own) o n = true) ⊂ Finset.univ.filter fun o : Fin 8 => o.val < own := by
      rw [Finset.ssubset_iff_of_subset]
      · refine ⟨n, Finset.mem_filter.mpr ⟨Finset.mem_univ _, hn⟩, fun h => ?_⟩
        rw [Finset.mem_filter, (first_total _).irrefl] at h
        exact absurd h.2 (by decide)
      · intro o ho
        rw [Finset.mem_filter, hf] at ho
        exact Finset.mem_filter.mpr ⟨Finset.mem_univ _, ho.2.1⟩
    refine (Finset.card_lt_card hss).trans_le ?_
    have : ∀ w ≤ 7, (Finset.univ.filter fun o : Fin 8 => o.val < w).card ≤ w := by decide
    exact this own hown

theorem rank_later (g : Fin 8 → EReal) (own : ℕ) (hown : own ≤ 7) (n : Fin 8) (hn : own ≤ n.val) : own ≤ rank (pastGate g own) n := by
  have hss : (Finset.univ.filter fun o : Fin 8 => o.val < own) ⊆ Finset.univ.filter fun o => first (pastGate g own) o n = true := by
    intro o ho
    rw [Finset.mem_filter] at ho ⊢
    refine ⟨Finset.mem_univ _, ?_⟩
    rw [first_iff, pastGate, pastGate, if_neg (by omega), if_pos ho.2]
    rcases eq_or_ne (g o) ⊥ with h | h
    · exact Or.inr ⟨h, Fin.lt_def.mpr (by omega)⟩
    · exact Or.inl (bot_lt_iff_ne_bot.mpr h)
  refine le_trans ?_ (Finset.card_le_card hss)
  have : ∀ w ≤ 7, w ≤ (Finset.univ.filter fun o : Fin 8 => o.val < w).card := by decide
  exact this own hown

/-- A block is one of the first three, at a place below the number of past blocks: it is past, and fewer than three
    past blocks come before it. -/
theorem chosen_iff (g : Fin 8 → EReal) (own : ℕ) (hown : own ≤ 7) (n : Fin 8) :
    (∃ j : Fin 3, sortedFrom (first (pastGate g own)) ⟨j.val, by omega⟩ = n ∧ j.val < own) ↔ n.val < own ∧ countOf g own n < 3 := by
  simp only [sortedFrom_eq_iff]
  constructor
  · rintro ⟨j, hj, hlt⟩
    have hn : n.val < own := by
      by_contra hc
      have := rank_later g own hown n (not_lt.mp hc)
      omega
    refine ⟨hn, ?_⟩
    have := (rank_past g own hown n hn).1
    omega
  · rintro ⟨hn, hc⟩
    have := rank_past g own hown n hn
    refine ⟨⟨countOf g own n, hc⟩, this.1, ?_⟩
    show countOf g own n < own
    omega

theorem count_lt (g : Fin 8 → EReal) (own : ℕ) (hown : own ≤ 7) (n : Fin 8) (hn : n.val < own) : countOf g own n < own := by
  have := rank_past g own hown n hn
  omega

end Moba
end
end
-- ==== Proof.Launch.lean ====
module
public import proofs.«01_k».proof.Proof.Queries
public import proofs.«01_k».proof.Proof.Gen.KernelIdeal.Value
public import Idealize.ShloMosaic.Lib.Pointwise
public import Idealize.ShloMosaic.Lib.Pipeline.ValueKit
public import Idealize.ShloMosaic.Lib.WordCmp

/-! The blocks the launch stages: columns of the argument, the slopes' table and the two tables of features. -/

@[expose] public section
set_option maxRecDepth 16384

open Idealize.ShloMosaic Idealize.ShloMosaic.TcCoe Idealize.SL.Sem
open Cert.KernelIdeal Cert.KernelIdeal.Gen

noncomputable section
namespace Moba

variable (m : (ℓ : Loc nD τ sig) → Buf (Elt Ideal) ℓ) (c : Dev nD)

/-- The argument. -/
def arg : FVec Ideal S65536x2048 .f32 := m ((c : Thread nD τ).loc main_arg0)

theorem coords (t : Fin cfg0.N) : (grid0.coords t 0).val = t.val / 4 ∧ (grid0.coords t 1).val = t.val % 4 :=
  (by decide +kernel : ∀ t : Fin grid0.N, (grid0.coords t 0).val = t.val / 4 ∧ (grid0.coords t 1).val = t.val % 4) t

theorem idx1 (t : Fin cfg0.N) : win0_1.index t = ![t.val / 4, 0, t.val % 4] :=
  (by decide +kernel : ∀ t : Fin grid0.N, win0_1.index t = ![t.val / 4, 0, t.val % 4]) t
theorem idx2 (t : Fin cfg0.N) : win0_2.index t = ![t.val / 4, 0, 4 + t.val % 4] :=
  (by decide +kernel : ∀ t : Fin grid0.N, win0_2.index t = ![t.val / 4, 0, 4 + t.val % 4]) t
theorem idx3 (t : Fin cfg0.N) : win0_3.index t = ![t.val / 4, 0, 8 + t.val % 4] :=
  (by decide +kernel : ∀ t : Fin grid0.N, win0_3.index t = ![t.val / 4, 0, 8 + t.val % 4]) t
theorem idx4 (t : Fin cfg0.N) : win0_4.index t = ![t.val / 4, 0, 12 + t.val % 4] :=
  (by decide +kernel : ∀ t : Fin grid0.N, win0_4.index t = ![t.val / 4, 0, 12 + t.val % 4]) t
theorem idx0 (t : Fin cfg0.N) : win0_0.index t = ![0] :=
  (by decide +kernel : ∀ t : Fin grid0.N, win0_0.index t = ![0]) t
theorem idx5 (t : Fin cfg0.N) : win0_5.index t = ![0, 0, 0] :=
  (by decide +kernel : ∀ t : Fin grid0.N, win0_5.index t = ![0, 0, 0]) t
theorem idx6 (t : Fin cfg0.N) : win0_6.index t = ![0, 0, 0] :=
  (by decide +kernel : ∀ t : Fin grid0.N, win0_6.index t = ![0, 0, 0]) t
theorem idx7 (t : Fin cfg0.N) : win0_7.index t = ![t.val / 4, 0, t.val % 4] :=
  (by decide +kernel : ∀ t : Fin grid0.N, win0_7.index t = ![t.val / 4, 0, t.val % 4]) t

theorem lt_t (t : Fin cfg0.N) : t.val < 128 := t.isLt

theorem stagedEmb1 (X : S32x2048x2048.Idx → EReal) (t : Fin cfg0.N) (s : Fin 2048) (l : Fin 128) :
    X (((cfg0.win 1).blk t).view.emb (ix3 0 s l)) = X (ix3 ⟨t.val / 4, by have := lt_t t; omega⟩ s ⟨0 + 128 * (t.val % 4) + l.val, by omega⟩) := by
  blk_ext [idx1 t]
theorem stagedEmb2 (X : S32x2048x2048.Idx → EReal) (t : Fin cfg0.N) (s : Fin 2048) (l : Fin 128) :
    X (((cfg0.win 2).blk t).view.emb (ix3 0 s l)) = X (ix3 ⟨t.val / 4, by have := lt_t t; omega⟩ s ⟨512 + 128 * (t.val % 4) + l.val, by omega⟩) := by
  blk_ext [idx2 t]
theorem stagedEmb3 (X : S32x2048x2048.Idx → EReal) (t : Fin cfg0.N) (s : Fin 2048) (l : Fin 128) :
    X (((cfg0.win 3).blk t).view.emb (ix3 0 s l)) = X (ix3 ⟨t.val / 4, by have := lt_t t; omega⟩ s ⟨1024 + 128 * (t.val % 4) + l.val, by omega⟩) := by
  blk_ext [idx3 t]
theorem stagedEmb4 (X : S32x2048x2048.Idx → EReal) (t : Fin cfg0.N) (s : Fin 2048) (l : Fin 128) :
    X (((cfg0.win 4).blk t).view.emb (ix3 0 s l)) = X (ix3 ⟨t.val / 4, by have := lt_t t; omega⟩ s ⟨1536 + 128 * (t.val % 4) + l.val, by omega⟩) := by
  blk_ext [idx4 t]

theorem cast_at (X : FVec Ideal S65536x2048 .f32) (b : Fin 32) (s j : Fin 2048) :
    shapeCast S32x2048x2048 X shapeCasts_S65536x2048_S32x2048x2048 (ix3 b s j) = X (ix2 ⟨2048 * b.val + s.val, by omega⟩ j) := by
  have e : b.val * 2048 + s.val = 2048 * b.val + s.val := by omega
  pointwise
  simp only [e]

/-- The queries' columns. -/
theorem blk1 (t : Fin cfg0.N) (s : Fin 2048) (l : Fin 128) (i : Fin 65536) (j : Fin 2048) (hi : i.val = 2048 * (t.val / 4) + s.val)
    (hj : j.val = 0 + 128 * (t.val % 4) + l.val) :
    (show EReal from iblk m c 1 t (ix3 0 s l)) = arg m c (ix2 i j) := by
  unfold iblk
  entry_read
  refine (stagedEmb1 (shapeCast S32x2048x2048 (arg m c) shapeCasts_S65536x2048_S32x2048x2048) t s l).trans ((cast_at _ _ _ _).trans ?_)
  exact congrArg (arg m c) (congrArg₂ ix2 (Fin.ext hi.symm) (Fin.ext hj.symm))
/-- The keys' columns. -/
theorem blk2 (t : Fin cfg0.N) (s : Fin 2048) (l : Fin 128) (i : Fin 65536) (j : Fin 2048) (hi : i.val = 2048 * (t.val / 4) + s.val)
    (hj : j.val = 512 + 128 * (t.val % 4) + l.val) :
    (show EReal from iblk m c 2 t (ix3 0 s l)) = arg m c (ix2 i j) := by
  unfold iblk
  entry_read
  refine (stagedEmb2 (shapeCast S32x2048x2048 (arg m c) shapeCasts_S65536x2048_S32x2048x2048) t s l).trans ((cast_at _ _ _ _).trans ?_)
  exact congrArg (arg m c) (congrArg₂ ix2 (Fin.ext hi.symm) (Fin.ext hj.symm))
/-- The values' columns. -/
theorem blk3 (t : Fin cfg0.N) (s : Fin 2048) (l : Fin 128) (i : Fin 65536) (j : Fin 2048) (hi : i.val = 2048 * (t.val / 4) + s.val)
    (hj : j.val = 1024 + 128 * (t.val % 4) + l.val) :
    (show EReal from iblk m c 3 t (ix3 0 s l)) = arg m c (ix2 i j) := by
  unfold iblk
  entry_read
  refine (stagedEmb3 (shapeCast S32x2048x2048 (arg m c) shapeCasts_S65536x2048_S32x2048x2048) t s l).trans ((cast_at _ _ _ _).trans ?_)
  exact congrArg (arg m c) (congrArg₂ ix2 (Fin.ext hi.symm) (Fin.ext hj.symm))
/-- The gates' columns. -/
theorem blk4 (t : Fin cfg0.N) (s : Fin 2048) (l : Fin 128) (i : Fin 65536) (j : Fin 2048) (hi : i.val = 2048 * (t.val / 4) + s.val)
    (hj : j.val = 1536 + 128 * (t.val % 4) + l.val) :
    (show EReal from iblk m c 4 t (ix3 0 s l)) = arg m c (ix2 i j) := by
  unfold iblk
  entry_read
  refine (stagedEmb4 (shapeCast S32x2048x2048 (arg m c) shapeCasts_S65536x2048_S32x2048x2048) t s l).trans ((cast_at _ _ _ _).trans ?_)
  exact congrArg (arg m c) (congrArg₂ ix2 (Fin.ext hi.symm) (Fin.ext hj.symm))

/-- The lane of head `h` that holds feature `n`. -/
def featLane (h : Fin 2) (n : ℕ) : ℕ := 64 * (1 - h.val) + n

theorem feat_word (h : Fin 2) (l : Fin 128) (n : Fin 12) :
    IntOp.cmpi .eq (IntOp.subi (BitVec.ofNat 32 l.val) (IntOp.muli 64#32 (IntOp.subi 1#32 (BitVec.ofNat 32 h.val)))) (BitVec.ofNat 32 n.val) =
      BitVec.ofBool (decide (l.val = featLane h n)) := by
  revert h l n; decide +kernel

/-- The tables' index words: feature lane, block and place in the block. -/
def laneW : IVec S2x2048x128 32 := subi (iotaInDim S2x2048x128 32 2)
  (muli (broadcastInDim S2x2048x128 ![] bcast_S_S2x2048x128 (constantI S_ 32 64#32))
    (subi (broadcastInDim S2x2048x128 ![] bcast_S_S2x2048x128 (constantI S_ 32 1#32)) (iotaInDim S2x2048x128 32 0)))
def blockW : IVec S2x2048x128 32 := Host.shrsi (iotaInDim S2x2048x128 32 1) (broadcastInDim S2x2048x128 ![] bcast_S_S2x2048x128 (constantI S_ 32 8#32))
def restW : IVec S2x2048x128 32 := andi (iotaInDim S2x2048x128 32 1) (broadcastInDim S2x2048x128 ![] bcast_S_S2x2048x128 (constantI S_ 32 255#32))
def fillW (w : BitVec 32) : IVec S2x2048x128 32 := broadcastInDim S2x2048x128 ![] bcast_S_S2x2048x128 (constantI S_ 32 w)

/-- The keys' table of features, as words. -/
def kWords : IVec S2x2048x128 32 :=
  select (cmpi .eq laneW blockW) (fillW 1#32) (select (cmpi .eq laneW (fillW 8#32)) (muli (fillW 256#32) blockW)
    (select (cmpi .eq laneW (fillW 9#32)) restW (select (ori (cmpi .eq laneW (fillW 10#32)) (cmpi .eq laneW (fillW 11#32))) (fillW 1#32) (fillW 0#32))))
/-- The queries' table of features, as words. -/
def qWords : IVec S2x2048x128 32 :=
  select (ori (cmpi .eq laneW (fillW 8#32)) (cmpi .eq laneW (fillW 9#32))) (fillW 1#32) (select (cmpi .eq laneW (fillW 10#32)) (muli (fillW 4294967040#32) blockW)
    (select (cmpi .eq laneW (fillW 11#32)) (negi restW) (fillW 0#32)))

theorem block_word (s : Fin 2048) : IntOp.shrsi .host (BitVec.ofNat 32 s.val) 8#32 = BitVec.ofNat 32 (s.val / 256) := by
  revert s; decide +kernel
theorem rest_word (s : Fin 2048) : IntOp.andi (BitVec.ofNat 32 s.val) 255#32 = BitVec.ofNat 32 (s.val % 256) := by
  revert s; decide +kernel
theorem hi_int (n : Fin 8) : (IntOp.muli 256#32 (BitVec.ofNat 32 n.val)).toInt = 256 * (n.val : ℤ) := by
  revert n; decide +kernel
theorem neg_hi_int (n : Fin 8) : (IntOp.muli 4294967040#32 (BitVec.ofNat 32 n.val)).toInt = -(256 * (n.val : ℤ)) := by
  revert n; decide +kernel
theorem lo_int (n : Fin 256) : (BitVec.ofNat 32 n.val).toInt = (n.val : ℤ) := by
  revert n; decide +kernel
theorem neg_lo_int (n : Fin 256) : (-(BitVec.ofNat 32 n.val)).toInt = -(n.val : ℤ) := by
  revert n; decide +kernel

/-- A key's features: its block's mark, its place in two parts, and ones. -/
def kfeat (h : Fin 2) (s : Fin 2048) (l : Fin 128) : ℝ :=
  if l.val = featLane h (s.val / 256) then 1 else if l.val = featLane h 8 then ((256 * (s.val / 256) : ℕ) : ℝ)
  else if l.val = featLane h 9 then ((s.val % 256 : ℕ) : ℝ) else if l.val = featLane h 10 ∨ l.val = featLane h 11 then 1 else 0
/-- A query's features: ones, and its place in two parts, negated. -/
def qfeat (h : Fin 2) (t : Fin 2048) (l : Fin 128) : ℝ :=
  if l.val = featLane h 8 ∨ l.val = featLane h 9 then 1 else if l.val = featLane h 10 then -((256 * (t.val / 256) : ℕ) : ℝ)
  else if l.val = featLane h 11 then -((t.val % 256 : ℕ) : ℝ) else 0

theorem or_bits (p q : Prop) [Decidable p] [Decidable q] : IntOp.ori (BitVec.ofBool (decide p)) (BitVec.ofBool (decide q)) = BitVec.ofBool (decide (p ∨ q)) := by
  by_cases p <;> by_cases q <;> simp [*, IntOp.ori]
theorem select_int (p : Prop) [Decidable p] (x y : BitVec 32) : ((Scalar.select (BitVec.ofBool (decide p)) x y).toInt : ℝ) = (if p then (x.toInt : ℝ) else (y.toInt : ℝ)) := by
  by_cases p <;> simp [*, Scalar.select]

theorem kWords_at (h : Fin 2) (s : Fin 2048) (l : Fin 128) : sitofp (F := Ideal) .f32 kWords (ix3 h s l) = ((kfeat h s l : ℝ) : EReal) := by
  simp only [kWords, laneW, blockW, restW, fillW]
  pointwise
  have hs : s.val / 256 < 8 := by omega
  have hr : s.val % 256 < 256 := by omega
  rw [block_word, rest_word, show IntOp.cmpi .eq (IntOp.subi (BitVec.ofNat 32 l.val) (IntOp.muli 64#32 (IntOp.subi 1#32 (BitVec.ofNat 32 h.val)))) (BitVec.ofNat 32 (s.val / 256)) = _ from feat_word h l ⟨s.val / 256, by omega⟩,
    show IntOp.cmpi .eq (IntOp.subi (BitVec.ofNat 32 l.val) (IntOp.muli 64#32 (IntOp.subi 1#32 (BitVec.ofNat 32 h.val)))) 8#32 = _ from feat_word h l 8,
    show IntOp.cmpi .eq (IntOp.subi (BitVec.ofNat 32 l.val) (IntOp.muli 64#32 (IntOp.subi 1#32 (BitVec.ofNat 32 h.val)))) 9#32 = _ from feat_word h l 9,
    show IntOp.cmpi .eq (IntOp.subi (BitVec.ofNat 32 l.val) (IntOp.muli 64#32 (IntOp.subi 1#32 (BitVec.ofNat 32 h.val)))) 10#32 = _ from feat_word h l 10,
    show IntOp.cmpi .eq (IntOp.subi (BitVec.ofNat 32 l.val) (IntOp.muli 64#32 (IntOp.subi 1#32 (BitVec.ofNat 32 h.val)))) 11#32 = _ from feat_word h l 11, or_bits]
  refine (congrArg (fun r : ℝ => (r : EReal)) ?_ : (((BitVec.toInt _ : ℤ) : ℝ) : EReal) = _)
  have eh := hi_int ⟨s.val / 256, hs⟩
  have el := lo_int ⟨s.val % 256, hr⟩
  simp only [kfeat, select_int, eh, el, (by decide : BitVec.toInt 1#32 = 1), (by decide : BitVec.toInt 0#32 = 0), Int.cast_mul, Int.cast_neg, Int.cast_ofNat,
    Int.cast_natCast, Nat.cast_mul, Nat.cast_ofNat, Int.cast_one, Int.cast_zero]
  rfl
theorem qWords_at (h : Fin 2) (s : Fin 2048) (l : Fin 128) : sitofp (F := Ideal) .f32 qWords (ix3 h s l) = ((qfeat h s l : ℝ) : EReal) := by
  simp only [qWords, laneW, blockW, restW, fillW]
  pointwise
  have hs : s.val / 256 < 8 := by omega
  have hr : s.val % 256 < 256 := by omega
  rw [block_word, rest_word, show IntOp.cmpi .eq (IntOp.subi (BitVec.ofNat 32 l.val) (IntOp.muli 64#32 (IntOp.subi 1#32 (BitVec.ofNat 32 h.val)))) 8#32 = _ from feat_word h l 8,
    show IntOp.cmpi .eq (IntOp.subi (BitVec.ofNat 32 l.val) (IntOp.muli 64#32 (IntOp.subi 1#32 (BitVec.ofNat 32 h.val)))) 9#32 = _ from feat_word h l 9,
    show IntOp.cmpi .eq (IntOp.subi (BitVec.ofNat 32 l.val) (IntOp.muli 64#32 (IntOp.subi 1#32 (BitVec.ofNat 32 h.val)))) 10#32 = _ from feat_word h l 10,
    show IntOp.cmpi .eq (IntOp.subi (BitVec.ofNat 32 l.val) (IntOp.muli 64#32 (IntOp.subi 1#32 (BitVec.ofNat 32 h.val)))) 11#32 = _ from feat_word h l 11, or_bits]
  refine (congrArg (fun r : ℝ => (r : EReal)) ?_ : (((BitVec.toInt _ : ℤ) : ℝ) : EReal) = _)
  have eh := neg_hi_int ⟨s.val / 256, hs⟩
  have el := neg_lo_int ⟨s.val % 256, hr⟩
  simp only [qfeat, select_int, eh, el, (by decide : BitVec.toInt 1#32 = 1), (by decide : BitVec.toInt 0#32 = 0), Int.cast_mul, Int.cast_neg, Int.cast_ofNat,
    Int.cast_natCast, Nat.cast_mul, Nat.cast_ofNat, Int.cast_one, Int.cast_zero]
  rfl

theorem stagedEmb5 (X : S2x2048x128.Idx → EReal) (t : Fin cfg0.N) (h : Fin 2) (s : Fin 2048) (l : Fin 128) :
    X (((cfg0.win 5).blk t).view.emb (ix3 h s l)) = X (ix3 h s l) := by
  blk_ext [idx5 t]
theorem stagedEmb6 (X : S2x2048x128.Idx → EReal) (t : Fin cfg0.N) (h : Fin 2) (s : Fin 2048) (l : Fin 128) :
    X (((cfg0.win 6).blk t).view.emb (ix3 h s l)) = X (ix3 h s l) := by
  blk_ext [idx6 t]

/-- The keys' features. -/
theorem blk5 (t : Fin cfg0.N) (h : Fin 2) (s : Fin 2048) (l : Fin 128) :
    (show EReal from iblk m c 5 t (ix3 h s l)) = ((kfeat h s l : ℝ) : EReal) := by
  unfold iblk
  entry_read
  exact (stagedEmb5 (sitofp (F := Ideal) .f32 kWords) t h s l).trans (kWords_at h s l)

/-- The queries' features. -/
theorem blk6 (t : Fin cfg0.N) (h : Fin 2) (s : Fin 2048) (l : Fin 128) :
    (show EReal from iblk m c 6 t (ix3 h s l)) = ((qfeat h s l : ℝ) : EReal) := by
  unfold iblk
  entry_read
  exact (stagedEmb6 (sitofp (F := Ideal) .f32 qWords) t h s l).trans (qWords_at h s l)

theorem stagedEmb0 (X : S8.Idx → EReal) (t : Fin cfg0.N) (j : Fin 8) :
    X (((cfg0.win 0).blk t).view.emb (ix1 j)) = X (ix1 j) := by
  blk_ext [idx0 t]

/-- The slopes. -/
theorem blk0 (t : Fin cfg0.N) (j : Fin 8) :
    (show EReal from iblk m c 0 t (ix1 j)) = Ideal.ofBits .f32 (lit0 j) := by
  unfold iblk
  entry_read
  refine (stagedEmb0 (fun i : S8.Idx => (Ideal.ofBits .f32 (lit0 (S8.rowMajor i)) : EReal)) t j).trans ?_
  exact congrArg (fun i => (Ideal.ofBits .f32 (lit0 i) : EReal)) (Fin.ext ((by decide +kernel : ∀ j : Fin 8, (S8.rowMajor (ix1 j)).val = j.val) j))

end Moba
end
end
-- ==== Proof.Logits.lean ====
module
public import proofs.«01_k».proof.Proof.Launch
public import Idealize.ShloMosaic.Lib.Pointwise
public import Idealize.ShloMosaic.Lib.Pipeline.ValueKit

/-! The logits: a row of the queries' scratch against a row of the keys' is the scaled product of the head's own
lanes plus the slope times the distance, and nothing at all at a dropped block. -/

@[expose] public section
set_option maxRecDepth 16384

open Idealize.ShloMosaic Idealize.ShloMosaic.TcCoe Idealize.SL.Sem
open Cert.KernelIdeal Cert.KernelIdeal.Gen

noncomputable section
namespace Moba

/-- Lane `j` of head `h`. -/
def laneAt (h : Fin 2) (j : Fin 64) : Fin 128 := ⟨64 * h.val + j.val, by omega⟩
/-- Lane `j` of the features of head `h`. -/
def featAt (h : Fin 2) (j : Fin 64) : Fin 128 := ⟨64 * (1 - h.val) + j.val, by omega⟩

theorem sum_lanes {M : Type} [AddCommMonoid M] (h : Fin 2) (f : Fin 128 → M) : ∑ l, f l = ∑ j, f (laneAt h j) + ∑ j, f (featAt h j) := by
  have e := Fin.sum_univ_add (a := 64) (b := 64) f
  fin_cases h
  · refine e.trans (congrArg₂ _ (Finset.sum_congr rfl fun j _ => congrArg f (Fin.ext ?_)) (Finset.sum_congr rfl fun j _ => congrArg f (Fin.ext ?_))) <;> simp [laneAt, featAt] <;> omega
  · refine e.trans ((add_comm _ _).trans (congrArg₂ _ (Finset.sum_congr rfl fun j _ => congrArg f (Fin.ext ?_)) (Finset.sum_congr rfl fun j _ => congrArg f (Fin.ext ?_)))) <;> simp [laneAt, featAt] <;> omega

theorem inHead_lane (h : Fin 2) (j : Fin 64) : inHead h (laneAt h j) := by simp only [inHead, laneAt]; omega
theorem inHead_feat (h : Fin 2) (j : Fin 64) : ¬ inHead h (featAt h j) := by simp only [inHead, featAt]; omega

/-- The features' product is the distance. -/
theorem sum_feat (h : Fin 2) (t s : Fin 2048) : ∑ j : Fin 64, qfeat h t (featAt h j) * kfeat h s (featAt h j) = (s.val : ℝ) - t.val := by
  have hs := Nat.div_add_mod s.val 256
  have ht := Nat.div_add_mod t.val 256
  let g : ℕ → ℝ := fun j => if j = 8 then ((256 * (s.val / 256) : ℕ) : ℝ) else if j = 9 then ((s.val % 256 : ℕ) : ℝ) else if j = 10 then -((256 * (t.val / 256) : ℕ) : ℝ)
        else if j = 11 then -((t.val % 256 : ℕ) : ℝ) else 0
  have e : ∀ j : Fin 64, qfeat h t (featAt h j) * kfeat h s (featAt h j) = g j.val := by
    intro j
    have hb : s.val / 256 < 8 := by omega
    simp only [g, qfeat, kfeat, featAt, featLane, Nat.add_left_cancel_iff]
    by_cases h8 : j.val = 8
    · have : ¬ j.val = s.val / 256 := by omega
      simp [h8, this, show ¬ 8 = s.val / 256 by omega]
    by_cases h9 : j.val = 9
    · simp [h9, show ¬ 9 = s.val / 256 by omega]
    by_cases h10 : j.val = 10
    · simp [h10, show ¬ 10 = s.val / 256 by omega]
    by_cases h11 : j.val = 11
    · simp [h11, show ¬ 11 = s.val / 256 by omega]
    simp [h8, h9, h10, h11]
  refine (Finset.sum_congr rfl fun j _ => e j).trans ((Finset.sum_range g).symm.trans ?_)
  simp [Finset.sum_range_succ, g]
  rw [← Nat.cast_inj (R := ℝ)] at hs ht
  push_cast at hs ht ⊢
  linarith

theorem eighth : Ideal.ofBits .f32 0x3E000000#32 = ((1 / 8 : ℝ) : EReal) := by
  simp [Ideal.ofBits, Ideal.ieee, -EReal.coe_mul]; norm_num

/-- A logit without its mask: the scaled product of the head's lanes, and the slope times the distance. -/
def score (Q K : Fin 2048 → Fin 128 → ℝ) (sl : Fin 2 → ℝ) (h : Fin 2) (t s : Fin 2048) : ℝ :=
  (∑ j : Fin 64, Q t (laneAt h j) * K s (laneAt h j)) * (1 / 8) + sl h * ((s.val : ℝ) - t.val)

/-- The inputs of a grid point are real. -/
structure Inputs (a : Pt Ideal) (Q K V Z : Fin 2048 → Fin 128 → ℝ) (sl : Fin 2 → ℝ) : Prop where
  q : ∀ t l, a.x1 (ix3 0 t l) = ((Q t l : ℝ) : EReal)
  k : ∀ t l, a.x2 (ix3 0 t l) = ((K t l : ℝ) : EReal)
  v : ∀ t l, a.x3 (ix3 0 t l) = ((V t l : ℝ) : EReal)
  z : ∀ t l, a.x4 (ix3 0 t l) = ((Z t l : ℝ) : EReal)
  kf : ∀ h s l, a.x5 (ix3 h s l) = ((kfeat h s l : ℝ) : EReal)
  qf : ∀ h s l, a.x6 (ix3 h s l) = ((qfeat h s l : ℝ) : EReal)
  s : ∀ h, a.slope h = ((sl h : ℝ) : EReal)

/-- The block of a position. -/
def blockOf (s : Fin 2048) : Fin 8 := ⟨s.val / 256, by omega⟩

variable {a : Pt Ideal} {Q K V Z : Fin 2048 → Fin 128 → ℝ} {sl : Fin 2 → ℝ} (I : Inputs a Q K V Z sl)

open Classical in
/-- A logit of the kernel before the mask of the query's own block. -/
def rawLogit (a : Pt Ideal) (Q K : Fin 2048 → Fin 128 → ℝ) (sl : Fin 2 → ℝ) (h : Fin 2) (t s : Fin 2048) : EReal :=
  ((score Q K sl h t s : ℝ) : EReal) + if isDropped a.x2 a.x1 h t (blockOf s) then ⊥ else 0

theorem kfeat_mark (h : Fin 2) (s : Fin 2048) (l : Fin 128) (n : Fin 8) (hl : l.val = blockLane h n) : kfeat h s l = if n = blockOf s then 1 else 0 := by
  have hb : s.val / 256 < 8 := by omega
  simp only [kfeat, hl, blockLane, featLane, Nat.add_left_cancel_iff, Fin.ext_iff, blockOf]
  have := n.isLt
  by_cases hn : n.val = s.val / 256
  · simp [hn]
  · simp [hn, show ¬ n.val = 8 by omega, show ¬ n.val = 9 by omega, show ¬ n.val = 10 by omega, show ¬ n.val = 11 by omega]

include I in
open Classical in
theorem lane_product (h : Fin 2) (t s : Fin 2048) (l : Fin 128) :
    qRow a.slope a.x2 a.x1 a.x6 h t l * keyRow a.x2 a.x5 h s l =
      (((if inHead h l then Q t l * (1 / 8) * K s l else sl h * (qfeat h t l * kfeat h s l) : ℝ)) : EReal)
        + if l.val = blockLane h (blockOf s) ∧ isDropped a.x2 a.x1 h t (blockOf s) then ⊥ else 0 := by
  by_cases hl : inHead h l
  · have hn : ¬ (l.val = blockLane h (blockOf s) ∧ isDropped a.x2 a.x1 h t (blockOf s)) := fun hc => by
      have := (blockOf s).isLt
      have h1 := hc.1
      simp only [inHead, blockLane] at hl h1; omega
    simp only [qRow, keyRow, if_pos hl, if_neg hn, add_zero, I.q, I.k, eighth, EReal.coe_mul]
  · simp only [qRow, keyRow, if_neg hl, I.qf, I.kf, I.s]
    by_cases hd : ∃ n : Fin 8, l.val = blockLane h n ∧ isDropped a.x2 a.x1 h t n
    · obtain ⟨n, hn, hdn⟩ := hd
      have e : dropLane a.x2 a.x1 h t l = ⊥ := if_pos ⟨n, hn, hdn⟩
      rw [e, EReal.add_bot, kfeat_mark h s l n hn]
      by_cases hb : n = blockOf s
      · subst hb
        rw [if_pos rfl, if_pos ⟨hn, hdn⟩, EReal.add_bot, EReal.coe_one, mul_one]
      · have hb' : ¬ (l.val = blockLane h (blockOf s) ∧ isDropped a.x2 a.x1 h t (blockOf s)) := fun hc => hb (Fin.ext (by
          have h1 := hc.1; rw [hn] at h1; simp only [blockLane] at h1; omega))
        rw [if_neg hb, if_neg hb']
        simp
    · have e : dropLane a.x2 a.x1 h t l = 0 := if_neg hd
      rw [e, add_zero, if_neg fun hc => hd ⟨_, hc⟩, add_zero, ← EReal.coe_mul, ← EReal.coe_mul, mul_assoc]

theorem coe_sum {ι : Type} [Fintype ι] (f : ι → ℝ) : ((∑ i, f i : ℝ) : EReal) = ∑ i, ((f i : ℝ) : EReal) := by
  classical
  refine Finset.induction_on (Finset.univ : Finset ι) (by simp) fun i s hi e => ?_
  rw [Finset.sum_insert hi, Finset.sum_insert hi, EReal.coe_add, e]

include I in
open Classical in
theorem row_product (h : Fin 2) (t s : Fin 2048) :
    ∑ l, qRow a.slope a.x2 a.x1 a.x6 h t l * keyRow a.x2 a.x5 h s l = rawLogit a Q K sl h t s := by
  rw [Finset.sum_congr rfl fun l _ => lane_product I h t s l, Finset.sum_add_distrib, ← coe_sum,
    sum_bot fun l : Fin 128 => l.val = blockLane h (blockOf s) ∧ isDropped a.x2 a.x1 h t (blockOf s)]
  refine congrArg₂ _ (congrArg _ ?_) (if_congr ⟨fun ⟨l, _, hd⟩ => hd, fun hd => ⟨⟨blockLane h (blockOf s), ?_⟩, rfl, hd⟩⟩ rfl rfl)
  · rw [sum_lanes h]
    simp only [if_pos (inHead_lane h _), if_neg (inHead_feat h _), ← Finset.mul_sum, sum_feat, score]
    rw [Finset.sum_mul]
    refine congrArg₂ _ (Finset.sum_congr rfl fun j _ => by ring) rfl
  · have := (blockOf s).isLt
    simp only [blockLane]; omega

include I in
theorem aug_product (h : Fin 2) (t s : Fin 2048) :
    ∑ l : Fin 256, qaug a.slope a.x2 a.x1 a.x6 (ix3 h t l) * kaug a.x2 a.x5 (ix2 s l) = rawLogit a Q K sl h t s := by
  rw [← row_product I h t s]
  have e : ∀ l : Fin 256, qaug a.slope a.x2 a.x1 a.x6 (ix3 h t l) * kaug a.x2 a.x5 (ix2 s l) =
      if headOf l = h then qRow a.slope a.x2 a.x1 a.x6 h t (laneOf l) * keyRow a.x2 a.x5 h s (laneOf l) else 0 := fun l => by
    by_cases hl : headOf l = h
    · subst hl
      rw [if_pos rfl]
      exact congrArg₂ _ (if_pos rfl) rfl
    · rw [if_neg hl]
      exact (congrArg (· * _) (if_neg fun hc => hl (Fin.ext hc))).trans (zero_mul _)
  rw [Finset.sum_congr rfl fun l _ => e l]
  refine (Fin.sum_univ_add (a := 128) (b := 128) _).trans ?_
  have e0 : ∀ l : Fin 128, headOf (Fin.castAdd 128 l) = 0 := fun l => Fin.ext (by simp [headOf])
  have e1 : ∀ l : Fin 128, headOf (Fin.natAdd 128 l) = 1 := fun l => Fin.ext (by simp [headOf])
  have f0 : ∀ l : Fin 128, laneOf (Fin.castAdd 128 l) = l := fun l => Fin.ext (by simp [laneOf])
  have f1 : ∀ l : Fin 128, laneOf (Fin.natAdd 128 l) = l := fun l => Fin.ext (by simp [laneOf])
  simp only [e0, e1, f0, f1]
  fin_cases h <;> simp

/-- Row `r` of head `h` in a tile. -/
def rowOf (h : Fin 2) (r : Fin 256) : Fin 512 := ⟨256 * h.val + r.val, by omega⟩
/-- Position `r` of block `n`. -/
def posOf (n : Fin 8) (r : Fin 256) : Fin 2048 := ⟨256 * n.val + r.val, by omega⟩

theorem qcat_at (x y : FVec Ideal S1x256x256 .bf16) (h : Fin 2) (r l : Fin 256) :
    qcat (F := Ideal) x y (ix2 (rowOf h r) l) = if h = 0 then x (ix3 0 r l) else y (ix3 0 r l) := by
  fin_cases h
  · pointwise [qcat, rowOf]
  · pointwise [qcat, rowOf]

theorem tileRaw_at (q : FVec Ideal S512x256 .bf16) (k : FVec Ideal S256x256 .bf16) (r : Fin 512) (c : Fin 256) :
    tileRaw (F := Ideal) q k (ix2 r c) = ∑ l : Fin 256, q (ix2 r l) * k (ix2 c l) := by
  pointwise [tileRaw]

include I in
theorem raw_at (n k : Fin 8) (h : Fin 2) (r c : Fin 256) : a.raw n k (ix2 (rowOf h r) c) = rawLogit a Q K sl h (posOf n r) (posOf k c) := by
  rw [Pt.raw, tileRaw_at, ← aug_product I]
  refine Finset.sum_congr rfl fun l _ => congrArg₂ _ ?_ (kk_at a k c l)
  rw [Pt.q, qcat_at]
  fin_cases h
  · exact qa_at a n r l
  · exact qb_at a n r l

theorem row_word (r : Fin 512) : IntOp.andi (BitVec.ofNat 32 r.val) 255#32 = BitVec.ofNat 32 (r.val % 256) := by
  revert r; decide +kernel
theorem sge_word (r c : Fin 256) : IntOp.cmpi .sge (BitVec.ofNat 32 r.val) (BitVec.ofNat 32 c.val) = BitVec.ofBool (decide (c ≤ r)) := by
  change BitVec.ofBool ((BitVec.ofNat 32 c.val).sle (BitVec.ofNat 32 r.val)) = _
  rw [BitVec.sle_eq_decide, lo_int, lo_int]
  exact congrArg _ (decide_eq_decide.2 (by rw [Fin.le_def]; exact Int.ofNat_le))

include I in
open Classical in
theorem diag_at (n : Fin 8) (h : Fin 2) (r c : Fin 256) : a.diag n (ix2 (rowOf h r) c) =
    if c.val ≤ r.val then rawLogit a Q K sl h (posOf n r) (posOf n c) else ⊥ := by
  rw [← raw_at I]
  pointwise [Pt.diag, tileMasked, k0_pay22, mask_eq]
  have e : (rowOf h r).val % 256 = r.val := by simp only [rowOf]; omega
  rw [row_word, e, sge_word]
  by_cases hc : c ≤ r
  · simp [hc, Scalar.select, Pt.raw]
  · simp [hc, Scalar.select]

end Moba
end
end
-- ==== Proof.Out.lean ====
module
public import proofs.«01_k».proof.Proof.Logits
public import Idealize.ShloMosaic.Lib.Pointwise
public import Idealize.ShloMosaic.Lib.Pipeline.ValueKit

/-! The softmax of a query row, and the block of the result that a query block leaves. -/

@[expose] public section
set_option maxRecDepth 16384

open Idealize.ShloMosaic Idealize.ShloMosaic.TcCoe Idealize.SL.Sem
open Cert.KernelIdeal Cert.KernelIdeal.Gen

noncomputable section
namespace Moba

/-! ## The weighted mean over the reals -/

open Classical in
/-- The sum of `exp (ℓ s) * v s` over the visible positions. -/
def expSum (vis : Fin 2048 → Prop) (ℓ v : Fin 2048 → ℝ) : ℝ := ∑ s, if vis s then Real.exp (ℓ s) * v s else 0

/-- The softmax-weighted mean of `v` over the visible positions. -/
def att (vis : Fin 2048 → Prop) (ℓ v : Fin 2048 → ℝ) : ℝ := expSum vis ℓ v / expSum vis ℓ fun _ => 1

theorem expSum_shift (vis : Fin 2048 → Prop) (ℓ v : Fin 2048 → ℝ) (M : ℝ) : expSum vis (fun s => ℓ s - M) v = Real.exp (-M) * expSum vis ℓ v := by
  simp only [expSum, Finset.mul_sum]
  refine Finset.sum_congr rfl fun s _ => ?_
  split
  · rw [sub_eq_add_neg, Real.exp_add]; ring
  · rw [mul_zero]

theorem expSum_pos (vis : Fin 2048 → Prop) (ℓ : Fin 2048 → ℝ) (s : Fin 2048) (hs : vis s) : 0 < expSum vis ℓ fun _ => 1 := by
  classical
  refine Finset.sum_pos' (fun i _ => ?_) ⟨s, Finset.mem_univ _, ?_⟩
  · split
    · rw [mul_one]; exact (Real.exp_pos _).le
    · exact le_rfl
  · rw [if_pos hs, mul_one]; exact Real.exp_pos _

theorem att_shift (vis : Fin 2048 → Prop) (ℓ v : Fin 2048 → ℝ) (M : ℝ) : att vis (fun s => ℓ s - M) v = att vis ℓ v := by
  simp only [att, expSum_shift]
  exact mul_div_mul_left _ _ (Real.exp_pos _).ne'

theorem div_real (x y : ℝ) (hy : y ≠ 0) : Ideal.div (x : EReal) (y : EReal) = ((x / y : ℝ) : EReal) := by
  rw [Ideal.div_coe hy, ← EReal.coe_mul, mul_one_div]

/-! ## The operations of a query block at an index -/

/-- One step of a head's accumulation. -/
def step (h : Fin 2) : FVec Ideal S512x1 .f32 → FVec Ideal S256x256 .f32 → FVec Ideal S1x1x512x256 .f32 × FVec Ideal S256x256 .bf16 → FVec Ideal S256x256 .f32 :=
  if h = 0 then stepTop (F := Ideal) else stepBot (F := Ideal)

theorem step_at (h : Fin 2) (m : FVec Ideal S512x1 .f32) (acc : FVec Ideal S256x256 .f32) (v : FVec Ideal S512x256 .f32) (w : FVec Ideal S256x256 .bf16) (r l : Fin 256) :
    step h m acc (stored (F := Ideal) v, w) (ix2 r l) =
      acc (ix2 r l) + ∑ c : Fin 256, Ideal.exp (v (ix2 (rowOf h r) c) - m (ix2 (rowOf h r) 0)) * w (ix2 c l) := by
  fin_cases h
  · show stepTop (F := Ideal) m acc (stored (F := Ideal) v, w) (ix2 r l) = _
    pointwise [stepTop, weights, stored, rowOf]
  · show stepBot (F := Ideal) m acc (stored (F := Ideal) v, w) (ix2 r l) = _
    pointwise [stepBot, weights, stored, rowOf]

theorem steps_at (h : Fin 2) (m : FVec Ideal S512x1 .f32) (T : Fin 8 → FVec Ideal S512x256 .f32) (W : Fin 8 → FVec Ideal S256x256 .bf16) (r l : Fin 256)
    (L : List (Fin 8)) : ∀ acc : FVec Ideal S256x256 .f32, (L.map fun k => (stored (F := Ideal) (T k), W k)).foldl (step h m) acc (ix2 r l) =
      acc (ix2 r l) + (L.map fun k => ∑ c : Fin 256, Ideal.exp (T k (ix2 (rowOf h r) c) - m (ix2 (rowOf h r) 0)) * W k (ix2 c l)).sum := by
  induction L with
  | nil => intro acc; simp
  | cons k L ih =>
    intro acc
    simp only [List.map_cons, List.foldl_cons, List.sum_cons, ih, step_at, add_assoc]

theorem halves_at (t : FVec Ideal S512x256 .f32) (r : Fin 512) (j : Fin 128) :
    halves (F := Ideal) t (ix2 r j) = max (t (ix2 r ⟨j.val, by omega⟩)) (t (ix2 r ⟨128 + j.val, by omega⟩)) := by
  pointwise [halves]

/-- The larger of two blocks, tile after tile. -/
def maxFold (ts : List (FVec Ideal S512x256 .f32)) (acc : FVec Ideal S512x128 .f32) : FVec Ideal S512x128 .f32 :=
  ts.foldl (fun a t => maximumf a (halves (F := Ideal) t)) acc

theorem neg_inf : Ideal.ofBits .f32 0xFF800000#32 = (⊥ : EReal) := by
  simp [Ideal.ofBits, Ideal.ieee]

theorem rowMax_at (t : FVec Ideal S512x256 .f32) (ts : List (FVec Ideal S512x256 .f32)) (r : Fin 512) :
    rowMax (F := Ideal) t ts (ix2 r 0) = Finset.fold max ⊥ (fun j : Fin 128 => maxFold ts (halves (F := Ideal) t) (ix2 r j)) Finset.univ := by
  unfold rowMax
  rw [show ts.foldl (fun a t => maximumf a (halves (F := Ideal) t)) (halves (F := Ideal) t) = maxFold ts (halves (F := Ideal) t) from rfl]
  pointwise
  rw [neg_inf]

theorem maxFold_lt (r : Fin 512) (j : Fin 128) (ts : List (FVec Ideal S512x256 .f32)) : ∀ acc : FVec Ideal S512x128 .f32,
    acc (ix2 r j) < ⊤ → (∀ t ∈ ts, ∀ c, t (ix2 r c) < ⊤) → maxFold ts acc (ix2 r j) < ⊤ := by
  induction ts with
  | nil => intro acc h _; exact h
  | cons t ts ih =>
    intro acc h ht
    refine ih _ ?_ fun t' h' => ht t' (List.mem_cons_of_mem _ h')
    refine max_lt h ?_
    rw [halves_at]
    exact max_lt (ht t List.mem_cons_self _) (ht t List.mem_cons_self _)

theorem le_maxFold (r : Fin 512) (j : Fin 128) (ts : List (FVec Ideal S512x256 .f32)) : ∀ acc : FVec Ideal S512x128 .f32,
    acc (ix2 r j) ≤ maxFold ts acc (ix2 r j) ∧ ∀ t ∈ ts, halves (F := Ideal) t (ix2 r j) ≤ maxFold ts acc (ix2 r j) := by
  induction ts with
  | nil => intro acc; exact ⟨le_rfl, fun t h => absurd h List.not_mem_nil⟩
  | cons t ts ih =>
    intro acc
    have h := ih (maximumf acc (halves (F := Ideal) t))
    refine ⟨(le_max_left (acc (ix2 r j)) (halves (F := Ideal) t (ix2 r j))).trans h.1, fun t' h' => ?_⟩
    rcases List.mem_cons.mp h' with rfl | h'
    · exact (le_max_right (acc (ix2 r j)) (halves (F := Ideal) t' (ix2 r j))).trans h.1
    · exact h.2 t' h'

/-- A row's maximum is real: no entry is infinite from above, and one is real. -/
theorem rowMax_real (t : FVec Ideal S512x256 .f32) (ts : List (FVec Ideal S512x256 .f32)) (r : Fin 512) (hlt : ∀ t' ∈ t :: ts, ∀ c, t' (ix2 r c) < ⊤)
    (t' : FVec Ideal S512x256 .f32) (ht : t' ∈ t :: ts) (c : Fin 256) (x : ℝ) (hx : t' (ix2 r c) = x) : ∃ M : ℝ, rowMax (F := Ideal) t ts (ix2 r 0) = M := by
  have hj : c.val % 128 < 128 := by omega
  have hle : (x : EReal) ≤ maxFold ts (halves (F := Ideal) t) (ix2 r ⟨c.val % 128, hj⟩) := by
    have h1 : (x : EReal) ≤ halves (F := Ideal) t' (ix2 r ⟨c.val % 128, hj⟩) := by
      rw [halves_at, ← hx]
      by_cases hc : c.val < 128
      · exact le_max_of_le_left (le_of_eq (congrArg (fun c => t' (ix2 r c)) (Fin.ext (by simp only; omega))))
      · exact le_max_of_le_right (le_of_eq (congrArg (fun c => t' (ix2 r c)) (Fin.ext (by simp only; omega))))
    refine h1.trans ?_
    rcases List.mem_cons.mp ht with rfl | ht
    · exact (le_maxFold _ _ _ _).1
    · exact (le_maxFold _ _ _ _).2 t' ht
  have hb : rowMax (F := Ideal) t ts (ix2 r 0) ≠ ⊥ := by
    rw [rowMax_at]
    refine ne_of_gt (lt_of_lt_of_le (EReal.bot_lt_coe x) ?_)
    exact Finset.le_fold_max _ |>.mpr (Or.inr ⟨_, Finset.mem_univ _, hle⟩)
  have htop : rowMax (F := Ideal) t ts (ix2 r 0) ≠ ⊤ := by
    rw [rowMax_at]
    refine ne_of_lt (Finset.fold_max_lt _ |>.mpr ⟨bot_lt_top, fun j _ => maxFold_lt r j ts _ ?_ fun t' h' => hlt t' (List.mem_cons_of_mem _ h')⟩)
    rw [halves_at]
    exact max_lt (hlt t List.mem_cons_self _) (hlt t List.mem_cons_self _)
  exact ⟨_, (EReal.coe_toReal htop hb).symm⟩

theorem gated_at (x y : FVec Ideal S256x256 .f32) (z : FVec Ideal S1x256x128 .f32) (r : Fin 256) (l : Fin 128) :
    gated (F := Ideal) (normed (F := Ideal) x y) z (ix3 0 r l) =
      (if inHead 0 l then Ideal.div (x (ix2 r ⟨l.val, by omega⟩)) (x (ix2 r ⟨128 + l.val, by omega⟩))
        else Ideal.div (y (ix2 r ⟨l.val, by omega⟩)) (y (ix2 r ⟨128 + l.val, by omega⟩))) *
      Ideal.div (z (ix3 0 r l)) (1 + Ideal.exp (0 - z (ix3 0 r l))) := by
  pointwise [gated, normed, mask0]
  by_cases h : inHead 0 l <;> simp [h, Scalar.select]

/-! ## A query block -/

variable {a : Pt Ideal} {Q K V Z : Fin 2048 → Fin 128 → ℝ} {sl : Fin 2 → ℝ} (I : Inputs a Q K V Z sl)

/-- Position `s` is visible to the query at `t`: not later, and not in a dropped block. -/
def visible (a : Pt Ideal) (h : Fin 2) (t s : Fin 2048) : Prop := s ≤ t ∧ ¬ isDropped a.x2 a.x1 h t (blockOf s)

theorem not_dropped_own (h : Fin 2) (t : Fin 2048) (n : Fin 8) (hn : t.val / 256 ≤ n.val) : ¬ isDropped a.x2 a.x1 h t n := fun ⟨u, hu, hd⟩ => by
  have := hd.2
  simp only [ownOf] at this; omega

theorem visible_self (h : Fin 2) (t : Fin 2048) : visible a h t t := ⟨le_rfl, not_dropped_own h t _ (by simp only [blockOf]; omega)⟩

theorem mem_upto (n k : Fin 8) : k ∈ upto n ↔ k ≤ n := by
  revert n k; decide
theorem upto_nodup (n : Fin 8) : (upto n).Nodup := by
  revert n; decide
theorem upto_cons (n : Fin 8) : upto n = 0 :: (upto n).tail := by
  revert n; decide

include I in
open Classical in
theorem tile_at (n k : Fin 8) (hk : k ≤ n) (h : Fin 2) (r c : Fin 256) : a.tile n k (ix2 (rowOf h r) c) =
    if visible a h (posOf n r) (posOf k c) then ((score Q K sl h (posOf n r) (posOf k c) : ℝ) : EReal) else ⊥ := by
  have hb : blockOf (posOf k c) = k := Fin.ext (by simp only [blockOf, posOf]; omega)
  have hraw : k < n → a.raw n k (ix2 (rowOf h r) c) =
    if visible a h (posOf n r) (posOf k c) then ((score Q K sl h (posOf n r) (posOf k c) : ℝ) : EReal) else ⊥ := fun hkn => by
    rw [raw_at I, rawLogit, visible]
    have : posOf k c ≤ posOf n r := by simp only [posOf, Fin.le_def]; have : k.val < n.val := hkn; omega
    by_cases hd : isDropped a.x2 a.x1 h (posOf n r) (blockOf (posOf k c)) <;> simp [hd, this]
  by_cases hkn : k = n
  · subst hkn
    rw [Pt.tile, if_pos rfl, diag_at I, rawLogit, visible]
    have hd : ¬ isDropped a.x2 a.x1 h (posOf k r) (blockOf (posOf k c)) := not_dropped_own h _ _ (by rw [hb]; simp only [posOf]; omega)
    simp only [hd, if_false, add_zero, not_false_eq_true, and_true]
    refine if_congr ?_ rfl rfl
    simp only [posOf, Fin.le_def]; omega
  · rw [Pt.tile, if_neg hkn]
    exact hraw (lt_of_le_of_ne hk hkn)

include I in
theorem max_real (n : Fin 8) (h : Fin 2) (r : Fin 256) : ∃ M : ℝ, a.max n (ix2 (rowOf h r) 0) = M := by
  have e : a.tile n 0 :: (upto n).tail.map (a.tile n) = (upto n).map (a.tile n) := by
    rw [← List.map_cons, ← upto_cons]
  refine rowMax_real _ _ _ (fun t' ht c => ?_) (a.tile n n) ?_ r (score Q K sl h (posOf n r) (posOf n r)) ?_
  · rw [e] at ht
    obtain ⟨k, hk, rfl⟩ := List.mem_map.mp ht
    classical
    rw [tile_at I n k ((mem_upto n k).mp hk)]
    split
    · exact EReal.coe_lt_top _
    · exact bot_lt_top
  · rw [e]
    exact List.mem_map.mpr ⟨n, (mem_upto n n).mpr le_rfl, rfl⟩
  · classical
    rw [tile_at I n n le_rfl, if_pos (visible_self h _)]

/-- The values with ones beside them. -/
def vOnes (V : Fin 2048 → Fin 128 → ℝ) (l : Fin 256) (s : Fin 2048) : ℝ := if h : l.val < 128 then V s ⟨l.val, h⟩ else 1

include I in
theorem vv_real (k : Fin 8) (c l : Fin 256) : a.vv k (ix2 c l) = ((vOnes V l (posOf k c) : ℝ) : EReal) := by
  rw [vv_at]
  show (if h : l.val < 128 then a.x3 (ix3 0 (posOf k c) ⟨l.val, h⟩) else (1 : EReal)) = _
  simp only [vOnes, I.v]
  split <;> rfl

theorem sum_blocks (F : Fin 2048 → ℝ) : ∑ k : Fin 8, ∑ c : Fin 256, F (posOf k c) = ∑ s, F s := by
  rw [← Finset.sum_product']
  refine Fintype.sum_equiv (finProdFinEquiv (m := 8) (n := 256)) _ _ fun p => congrArg F (Fin.ext ?_)
  simp [finProdFinEquiv, posOf, add_comm]

include I in
theorem acc_at (n : Fin 8) (h : Fin 2) (r l : Fin 256) (M : ℝ) (hM : a.max n (ix2 (rowOf h r) 0) = M) :
    ((upto n).map fun k => (stored (F := Ideal) (a.tile n k), a.vv k)).foldl (step h (a.max n)) (acc0 (F := Ideal)) (ix2 r l) =
      ((expSum (visible a h (posOf n r)) (fun s => score Q K sl h (posOf n r) s - M) (vOnes V l) : ℝ) : EReal) := by
  classical
  rw [steps_at h (a.max n) (a.tile n) a.vv r l]
  have h0 : acc0 (F := Ideal) (ix2 r l) = 0 := by pointwise [acc0]
  rw [h0, zero_add, expSum, ← sum_blocks, coe_sum]
  rw [← List.sum_toFinset _ (upto_nodup n)]
  refine (Finset.sum_congr rfl fun k hk => ?_).trans (Finset.sum_subset (Finset.subset_univ _) fun k _ hk => ?_)
  · rw [coe_sum]
    refine Finset.sum_congr rfl fun c _ => ?_
    rw [tile_at I n k ((mem_upto n k).mp (List.mem_toFinset.mp hk)), hM, vv_real I]
    split
    · rw [← EReal.coe_sub, Ideal.exp_coe, EReal.coe_mul]
    · simp
  · have hk : ¬ k ≤ n := fun hc => hk (List.mem_toFinset.mpr ((mem_upto n k).mpr hc))
    rw [EReal.coe_eq_zero]
    refine Finset.sum_eq_zero fun c _ => if_neg fun hv => hk ?_
    have := hv.1
    simp only [posOf, Fin.le_def] at this ⊢; omega

/-- The head of a lane of 128. -/
def headAt (l : Fin 128) : Fin 2 := ⟨l.val / 64, by omega⟩

/-- The branch gate. -/
def silu (z : ℝ) : ℝ := z / (1 + Real.exp (-z))

theorem silu_at (z : ℝ) : Ideal.div (z : EReal) (1 + Ideal.exp (0 - (z : EReal))) = ((silu z : ℝ) : EReal) := by
  have e : (1 : EReal) + Ideal.exp (0 - (z : EReal)) = ((1 + Real.exp (-z) : ℝ) : EReal) := by
    rw [zero_sub, ← EReal.coe_neg, Ideal.exp_coe, EReal.coe_add, EReal.coe_one]
  rw [e, div_real _ _ (by have := Real.exp_pos (-z); linarith), silu]

include I in
theorem quotient_at (n : Fin 8) (h : Fin 2) (r : Fin 256) (l : Fin 128) :
    Ideal.div (((upto n).map fun k => (stored (F := Ideal) (a.tile n k), a.vv k)).foldl (step h (a.max n)) (acc0 (F := Ideal)) (ix2 r ⟨l.val, by omega⟩))
      (((upto n).map fun k => (stored (F := Ideal) (a.tile n k), a.vv k)).foldl (step h (a.max n)) (acc0 (F := Ideal)) (ix2 r ⟨128 + l.val, by omega⟩)) =
      ((att (visible a h (posOf n r)) (score Q K sl h (posOf n r)) (fun s => V s l) : ℝ) : EReal) := by
  obtain ⟨M, hM⟩ := max_real I n h r
  have e1 : vOnes V ⟨l.val, by omega⟩ = fun s => V s l := funext fun s => dif_pos l.isLt
  have e2 : vOnes V ⟨128 + l.val, by omega⟩ = fun _ => 1 := funext fun s => dif_neg (by simp)
  rw [acc_at I n h r _ M hM, acc_at I n h r _ M hM, e1, e2, div_real _ _ (expSum_pos _ _ _ (visible_self h _)).ne',
    ← att_shift _ _ _ M]
  rfl

include I in
/-- The block of the result. -/
theorem out_at (n : Fin 8) (r : Fin 256) (l : Fin 128) : a.out n (ix3 0 r l) =
    ((att (visible a (headAt l) (posOf n r)) (score Q K sl (headAt l) (posOf n r)) (fun s => V s l) * silu (Z (posOf n r) l) : ℝ) : EReal) := by
  rw [Pt.out, blockOut, gated_at, zz_at, I.z, EReal.coe_mul]
  refine congrArg₂ _ ?_ (silu_at _)
  by_cases hl : inHead 0 l
  · have : headAt l = 0 := Fin.ext hl
    rw [if_pos hl, this]
    exact quotient_at I n 0 r l
  · have : headAt l = 1 := Fin.ext (by simp only [inHead, headAt] at hl ⊢; simp at hl ⊢; omega)
    rw [if_neg hl, this]
    exact quotient_at I n 1 r l

end Moba
end
end
-- ==== Proof.Reference.lean ====
module
public import proofs.«01_k».proof.Proof.Stages
public import proofs.«01_k».proof.Proof.Selection
public import proofs.«01_k».proof.Proof.Out
public import Idealize.ShloMosaic.Lib.Routing.OpsOrder

/-! The reference at an index: the same weighted mean. -/

@[expose] public section
set_option maxRecDepth 16384

open Idealize.ShloMosaic Idealize.ShloMosaic.TcCoe Idealize.SL.Sem
open Cert.ReferenceIdeal Cert.ReferenceIdeal.Gen

noncomputable section
namespace Moba

/-- A query's product with a block's mean key. -/
def gateR (q k : Fin 2048 → Fin 64 → ℝ) (t : Fin 2048) (n : Fin 8) : ℝ :=
  ∑ j, q t j * ((∑ r : Fin 256, k (posOf n r) j) * (1 / 256))

/-- A scaled product of query and key, less the slope times the distance. -/
def scoreR (q k : Fin 2048 → Fin 64 → ℝ) (sl : ℝ) (t s : Fin 2048) : ℝ :=
  (∑ j, q t j * k s j) * (1 / 8) + sl * ((s.val : ℝ) - t.val)

/-- A query sees the past blocks with fewer than three past blocks before them, and its own block up to itself. -/
def visR (q k : Fin 2048 → Fin 64 → ℝ) (t s : Fin 2048) : Prop :=
  (s.val / 256 < t.val / 256 ∧ countOf (fun n => ((gateR q k t n : ℝ) : EReal)) (t.val / 256) (blockOf s) < 3) ∨
    (s ≤ t ∧ t.val / 256 ≤ s.val / 256)

theorem visR_self (q k : Fin 2048 → Fin 64 → ℝ) (t : Fin 2048) : visR q k t t := Or.inr ⟨le_rfl, le_rfl⟩

theorem two56 : Ideal.ofBits .f32 0x43800000#32 = ((256 : ℝ) : EReal) := by
  simp [Ideal.ofBits, Ideal.ieee, -EReal.coe_mul]; norm_num

namespace Ref

section reads
variable (x : FVec Ideal S65536x2048 .f32) (b : Fin 32) (h : Fin 8) (t s : Fin 2048) (j : Fin 64) (n : Fin 8)

theorem q_at : q x (ix4 b h t j) = x (ix2 ⟨b.val * 2048 + t.val, by omega⟩ ⟨h.val * 64 + j.val, by omega⟩) := by pointwise [q, parts]
theorem k_at : k x (ix4 b h t j) = x (ix2 ⟨b.val * 2048 + t.val, by omega⟩ ⟨512 + (h.val * 64 + j.val), by omega⟩) := by
  pointwise [k, parts]
  exact congrArg (fun i => x (ix2 _ i)) (Fin.ext (Nat.add_assoc _ _ _))
theorem v_at : v x (ix4 b h t j) = x (ix2 ⟨b.val * 2048 + t.val, by omega⟩ ⟨1024 + (h.val * 64 + j.val), by omega⟩) := by
  pointwise [v, parts]
  exact congrArg (fun i => x (ix2 _ i)) (Fin.ext (Nat.add_assoc _ _ _))
theorem z_at (l : Fin 512) : z x (ix3 b t l) = x (ix2 ⟨b.val * 2048 + t.val, by omega⟩ ⟨1536 + l.val, by omega⟩) := by pointwise [z]

theorem block_end (n : Fin 8) : (IntOp.muli (IntOp.addi (BitVec.ofNat 32 n.val) 1#32) 256#32).toInt = (n.val + 1) * 256 := by
  revert n; decide
theorem pos_int (t : Fin 2048) : (BitVec.ofNat 32 t.val).toInt = (t.val : ℤ) := by
  revert t; decide +kernel
theorem past_at : past (ix2 t n) = BitVec.ofBool (decide (n.val < t.val / 256)) := by
  pointwise [past]
  show BitVec.ofBool (BitVec.sle _ _) = _
  rw [BitVec.sle_eq_decide, block_end, pos_int]
  exact congrArg BitVec.ofBool (decide_eq_decide.mpr (by omega))
theorem gate_at : gate x (ix4 b h t n) = ∑ j, q x (ix4 b h t j) *
    Ideal.div (∑ r : Fin 256, k x (ix4 b h ⟨n.val * 256 + r.val, by omega⟩ j)) (Ideal.ofBits .f32 0x43800000#32) := by pointwise [gate]
theorem masked_at : masked x (ix4 b h t n) = if n.val < t.val / 256 then gate x (ix4 b h t n) else ⊥ := by
  pointwise [masked]
  rw [past_at, neg_inf]
  by_cases hn : n.val < t.val / 256 <;> simp [hn, Scalar.select]
theorem along_at (i k : Fin 8) (hd : 3 < S32x8x2048x8.rank) : (ix4 b h t i : S32x8x2048x8.Idx).along ⟨3, hd⟩ k = ix4 b h t k := by
  funext a; fin_cases a <;> rfl
theorem sort_at (y : S32x8x2048x8.Idx → EReal) (g : EReal → EReal → BitVec 1) (i : Fin 8) :
    (Host.sort2 S32x8x2048x8 3 (fun l r => g l.1 r.1) y (fun i => if hd : 3 < S32x8x2048x8.rank then iotaInDim S32x8x2048x8 32 ⟨3, hd⟩ i else 0#32)).2 (ix4 b h t i) =
      BitVec.ofNat 32 (sortedFrom (fun o n => g (y (ix4 b h t o)) (y (ix4 b h t n)) == 1#1) i).val := by
  have hd : 3 < S32x8x2048x8.rank := by decide
  have ha := fun k => along_at b h t i k hd
  unfold Host.sort2
  simp only [dif_pos hd]
  refine (congrArg (iotaInDim S32x8x2048x8 32 ⟨3, hd⟩) (ha _)).trans ?_
  exact congrArg (fun B : Fin 8 → Fin 8 → Bool => BitVec.ofNat 32 (sortedFrom B i).val)
    (funext fun k => funext fun k' => congrArg₂ (fun u w => g (y u) (y w) == 1#1) (ha k) (ha k'))
theorem slice_at (w : S32x8x2048x8.Idx → BitVec 32) (j : Fin 3) :
    extractStridedSlice S32x8x2048x3 (fun _ => 0) w sliceFits_S32x8x2048x8_S32x8x2048x3 (ix4 b h t j) = w (ix4 b h t ⟨j.val, by omega⟩) := by
  refine congrArg w (funext fun a => ?_)
  fin_cases a <;> exact Fin.ext (Nat.zero_add _)
theorem topK_at (y : S32x8x2048x8.Idx → EReal) (g : EReal → EReal → BitVec 1) (j : Fin 3) :
    (Host.topK S32x8x2048x3 3 g y sliceFits_S32x8x2048x8_S32x8x2048x3).2 (ix4 b h t j) =
      BitVec.ofNat 32 (sortedFrom (fun o n => g (y (ix4 b h t o)) (y (ix4 b h t n)) == 1#1) ⟨j.val, by omega⟩).val := by
  exact (slice_at b h t _ j).trans (sort_at b h t y g ⟨j.val, by omega⟩)
theorem sel_at (j : Fin 3) : sel x (ix4 b h t j) =
    BitVec.ofNat 32 (sortedFrom (first fun n => masked x (ix4 b h t n)) ⟨j.val, by omega⟩).val := by
  rw [← sortedFrom_first _ (fun o n => FloatOps.cmpfTotal (F := Ideal) (φ := .f32) .gt (masked x (ix4 b h t o)) (masked x (ix4 b h t n)) == 1#1)
    (fun o n => by
      show (Ideal.cmpTotal .gt (masked x (ix4 b h t o)) (masked x (ix4 b h t n)) == 1#1) = _
      by_cases hlt : masked x (ix4 b h t n) < masked x (ix4 b h t o) <;> simp [Ideal.cmpTotal, Ideal.cmp, CmpDirection.ordered, hlt])]
  exact topK_at b h t (masked x) _ j
theorem chosen_at (s : IVec S32x8x2048x3 32) : chosen s (ix4 b h t n) = 1#1 ↔ ∃ j : Fin 3, s (ix4 b h t j) = BitVec.ofNat 32 n.val ∧ j.val < t.val / 256 := by
  have e : chosen s (ix4 b h t n) = Finset.fold IntOp.ori (0#1)
      (fun j : Fin 3 => IntOp.andi (IntOp.cmpi .eq (s (ix4 b h t j)) (BitVec.ofNat 32 n.val)) (past (ix2 t ⟨j.val, by omega⟩))) Finset.univ := by
    pointwise [chosen, picked]
  rw [e, Routing.fold_ori]
  simp only [Finset.mem_univ, true_and, past_at]
  refine exists_congr fun j => ?_
  rw [show IntOp.cmpi .eq (s (ix4 b h t j)) (BitVec.ofNat 32 n.val) = BitVec.ofBool (decide (s (ix4 b h t j) = BitVec.ofNat 32 n.val)) from rfl]
  by_cases h1 : s (ix4 b h t j) = BitVec.ofNat 32 n.val <;> by_cases h2 : j.val < t.val / 256 <;> simp [h1, h2, IntOp.andi]
theorem seen_at (ch : IVec S32x8x2048x8 1) : seen ch (ix4 b h t s) = 1#1 ↔ ch (ix4 b h t (blockOf s)) = 1#1 ∨ (s ≤ t ∧ t.val / 256 ≤ s.val / 256) := by
  have e : seen ch (ix4 b h t s) = IntOp.ori (ch (ix4 b h t (blockOf s)))
      (IntOp.andi (IntOp.cmpi .sle (BitVec.ofNat 32 s.val) (BitVec.ofNat 32 t.val)) (~~~ past (ix2 t (blockOf s)))) := by
    pointwise [seen, own, blockOf]
  have e2 : IntOp.cmpi .sle (BitVec.ofNat 32 s.val) (BitVec.ofNat 32 t.val) = BitVec.ofBool (decide (s ≤ t)) := by
    show BitVec.ofBool (BitVec.sle _ _) = _
    rw [BitVec.sle_eq_decide, pos_int, pos_int]
    exact congrArg BitVec.ofBool (decide_eq_decide.mpr (by rw [Fin.le_def]; omega))
  rw [e, e2, past_at, show (blockOf s).val = s.val / 256 from rfl]
  rcases BitVec.eq_zero_or_eq_one (ch (ix4 b h t (blockOf s))) with h0 | h0 <;> by_cases h1 : s ≤ t <;> by_cases h2 : s.val / 256 < t.val / 256 <;>
    simp [h0, h1, h2, IntOp.ori, IntOp.andi, not_lt.mp]
theorem slope_word (h : Fin 8) : slopes (F := Ideal) (ix1 h) = Ideal.ofBits .f32 (lit0 h) := by
  exact congrArg (fun i => (Ideal.ofBits .f32 (lit0 i) : EReal)) (Fin.ext ((by decide +kernel : ∀ j : Fin 8, (S8.rowMajor (ix1 j)).val = j.val) h))
theorem logit_at : logit x (ix4 b h t s) = (∑ j, q x (ix4 b h t j) * k x (ix4 b h s j)) * Ideal.ofBits .f32 0x3E000000#32 -
    Ideal.ofBits .f32 (lit0 h) * (((t.val : ℝ) - s.val : ℝ) : EReal) := by
  rw [← slope_word]
  have e : FloatOps.sitofp (F := Ideal) .f32 (IntOp.subi (BitVec.ofNat 32 t.val) (BitVec.ofNat 32 s.val)) = (((t.val : ℝ) - s.val : ℝ) : EReal) := by
    have e3 : (IntOp.subi (BitVec.ofNat 32 t.val) (BitVec.ofNat 32 s.val)).toInt = (t.val : ℤ) - s.val := by
      show (BitVec.ofNat 32 t.val - BitVec.ofNat 32 s.val).toInt = _
      rw [BitVec.toInt_sub, pos_int, pos_int]
      simp only [Int.bmod_def]; omega
    show (((IntOp.subi (BitVec.ofNat 32 t.val) (BitVec.ofNat 32 s.val)).toInt : ℝ) : EReal) = _
    rw [e3, Int.cast_sub, Int.cast_natCast, Int.cast_natCast]
  rw [← e]
  pointwise [logit]
theorem shown_at (se : IVec S32x8x2048x2048 1) (lg : FVec Ideal S32x8x2048x2048 .f32) :
    shown se lg (ix4 b h t s) = if se (ix4 b h t s) = 1#1 then lg (ix4 b h t s) else ⊥ := by
  have e : shown se lg (ix4 b h t s) = Scalar.select (se (ix4 b h t s)) (lg (ix4 b h t s)) (Ideal.ofBits .f32 0xFF800000#32) := by pointwise [shown]
  rw [e, neg_inf]
  rfl
theorem top_at (lg : FVec Ideal S32x8x2048x2048 .f32) : top lg (ix3 b h t) = Finset.fold max ⊥ (fun s => lg (ix4 b h t s)) Finset.univ := by
  have e : top lg (ix3 b h t) = Finset.fold max (Ideal.ofBits .f32 0xFF800000#32) (fun s => lg (ix4 b h t s)) Finset.univ := by pointwise [top]
  rw [e, neg_inf]
theorem expo_at (lg : FVec Ideal S32x8x2048x2048 .f32) (tp) : expo lg tp (ix4 b h t s) = Ideal.exp (lg (ix4 b h t s) - tp (ix3 b h t)) := by pointwise [expo]
theorem weight_at (e : FVec Ideal S32x8x2048x2048 .f32) : weight e (ix4 b h t s) = Ideal.div (e (ix4 b h t s)) (∑ u, e (ix4 b h t u)) := by pointwise [weight]
theorem mixed_at (w : FVec Ideal S32x8x2048x2048 .f32) (v) : mixed w v (ix4 b h t j) = ∑ s, w (ix4 b h t s) * v (ix4 b h s j) := by pointwise [mixed]
theorem final_at (l : Fin 512) (y : FVec Ideal S32x8x2048x64 .f32) (z) : final y z (ix3 b t l) =
    y (ix4 b ⟨l.val / 64, by omega⟩ t ⟨l.val % 64, by omega⟩) * (z (ix3 b t l) * Ideal.div 1 (1 + Ideal.exp (-z (ix3 b t l)))) := by pointwise [final]
end reads

section values
variable {x : FVec Ideal S65536x2048 .f32} {X : Fin 65536 → Fin 2048 → ℝ} (hx : ∀ i j, x (ix2 i j) = ((X i j : ℝ) : EReal))
variable {σ : Fin 8 → ℝ} (hσ : ∀ h, Ideal.ofBits .f32 (lit0 h) = ((σ h : ℝ) : EReal))
variable (X) (b : Fin 32) (h : Fin 8) (t s : Fin 2048)

/-- A head's columns in group `g`. -/
def col (g : Fin 4) (t : Fin 2048) (j : Fin 64) : ℝ := X ⟨b.val * 2048 + t.val, by omega⟩ ⟨512 * g.val + (h.val * 64 + j.val), by omega⟩

variable {X}
include hx

theorem q_real (j : Fin 64) : q x (ix4 b h t j) = ((col X b h 0 t j : ℝ) : EReal) := by
  rw [q_at, hx]; refine congrArg (fun i => ((X _ i : ℝ) : EReal)) (Fin.ext ?_); simp
theorem k_real (j : Fin 64) : k x (ix4 b h t j) = ((col X b h 1 t j : ℝ) : EReal) := by
  rw [k_at, hx]; rfl
theorem v_real (j : Fin 64) : v x (ix4 b h t j) = ((col X b h 2 t j : ℝ) : EReal) := by
  rw [v_at, hx]; rfl

theorem gate_real (n : Fin 8) : gate x (ix4 b h t n) = ((gateR (col X b h 0) (col X b h 1) t n : ℝ) : EReal) := by
  rw [gate_at, gateR, coe_sum]
  refine Finset.sum_congr rfl fun j _ => ?_
  have e : ∑ r : Fin 256, k x (ix4 b h ⟨n.val * 256 + r.val, by omega⟩ j) = ((∑ r : Fin 256, col X b h 1 (posOf n r) j : ℝ) : EReal) := by
    rw [coe_sum]
    refine Finset.sum_congr rfl fun r _ => ?_
    rw [k_real hx]
    exact congrArg (fun i => ((col X b h 1 i j : ℝ) : EReal)) (Fin.ext (by simp only [posOf]; omega))
  rw [e, two56, q_real hx, Ideal.div_coe (by norm_num), ← EReal.coe_mul, ← EReal.coe_mul]

theorem seen_real : seen (chosen (sel x)) (ix4 b h t s) = 1#1 ↔ visR (col X b h 0) (col X b h 1) t s := by
  rw [seen_at, chosen_at, visR]
  refine or_congr ?_ Iff.rfl
  have hg : (fun n => masked x (ix4 b h t n)) = pastGate (fun n => ((gateR (col X b h 0) (col X b h 1) t n : ℝ) : EReal)) (t.val / 256) :=
    funext fun n => by rw [masked_at, gate_real hx, pastGate]
  rw [show s.val / 256 = (blockOf s).val from rfl, ← chosen_iff _ _ (by omega), ← hg]
  refine exists_congr fun j => and_congr_left' ?_
  rw [sel_at]
  constructor
  · intro he
    have := congrArg BitVec.toNat he
    simp only [BitVec.toNat_ofNat] at this
    exact Fin.ext (by omega)
  · intro he
    rw [he]

include hσ in
theorem logit_real : logit x (ix4 b h t s) = ((scoreR (col X b h 0) (col X b h 1) (σ h) t s : ℝ) : EReal) := by
  rw [logit_at, hσ, eighth, scoreR]
  simp only [q_real hx, k_real hx, ← EReal.coe_mul]
  rw [← coe_sum, ← EReal.coe_mul, ← EReal.coe_sub]
  exact congrArg _ (by ring)

include hσ in
open Classical in
theorem shown_real : shown (seen (chosen (sel x))) (logit x) (ix4 b h t s) =
    if visR (col X b h 0) (col X b h 1) t s then ((scoreR (col X b h 0) (col X b h 1) (σ h) t s : ℝ) : EReal) else ⊥ := by
  rw [shown_at, logit_real hx hσ]
  exact if_congr (seen_real hx b h t s) rfl rfl

include hσ in
theorem top_real : ∃ M : ℝ, top (shown (seen (chosen (sel x))) (logit x)) (ix3 b h t) = M := by
  classical
  rw [top_at]
  have hb : (⊥ : EReal) < Finset.fold max ⊥ (fun s => shown (seen (chosen (sel x))) (logit x) (ix4 b h t s)) Finset.univ := by
    refine lt_of_lt_of_le (EReal.bot_lt_coe (scoreR (col X b h 0) (col X b h 1) (σ h) t t)) (Finset.le_fold_max _ |>.mpr (Or.inr ⟨t, Finset.mem_univ _, ?_⟩))
    rw [shown_real hx hσ, if_pos (visR_self _ _ t)]
  have ht : Finset.fold max ⊥ (fun s => shown (seen (chosen (sel x))) (logit x) (ix4 b h t s)) Finset.univ < ⊤ := by
    refine Finset.fold_max_lt _ |>.mpr ⟨bot_lt_top, fun s _ => ?_⟩
    rw [shown_real hx hσ]
    split
    · exact EReal.coe_lt_top _
    · exact bot_lt_top
  exact ⟨_, (EReal.coe_toReal ht.ne hb.ne').symm⟩

include hσ in
/-- The reference at an index. -/
theorem whole_at (l : Fin 512) : whole x (ix3 b t l) =
    ((att (visR (col X b ⟨l.val / 64, by omega⟩ 0) (col X b ⟨l.val / 64, by omega⟩ 1) t)
        (scoreR (col X b ⟨l.val / 64, by omega⟩ 0) (col X b ⟨l.val / 64, by omega⟩ 1) (σ ⟨l.val / 64, by omega⟩) t)
        (fun s => col X b ⟨l.val / 64, by omega⟩ 2 s ⟨l.val % 64, by omega⟩) *
      silu (X ⟨b.val * 2048 + t.val, by omega⟩ ⟨1536 + l.val, by omega⟩) : ℝ) : EReal) := by
  classical
  show final _ _ _ = _
  rw [final_at, EReal.coe_mul]
  refine congrArg₂ _ ?_ ?_
  · generalize hh : (⟨l.val / 64, by omega⟩ : Fin 8) = h
    generalize (⟨l.val % 64, by omega⟩ : Fin 64) = j
    obtain ⟨M, hM⟩ := top_real hx hσ b h t
    set vis := visR (col X b h 0) (col X b h 1) t
    set ℓ := scoreR (col X b h 0) (col X b h 1) (σ h) t
    have he : ∀ s, expo (shown (seen (chosen (sel x))) (logit x)) (top (shown (seen (chosen (sel x))) (logit x))) (ix4 b h t s) =
        ((if vis s then Real.exp (ℓ s - M) * 1 else 0 : ℝ) : EReal) := fun s => by
      rw [expo_at, hM, shown_real hx hσ]
      split
      · rw [← EReal.coe_sub, Ideal.exp_coe, mul_one]
      · simp
    have hd : 0 < expSum vis (fun s => ℓ s - M) fun _ => 1 := expSum_pos _ _ t (visR_self _ _ t)
    rw [mixed_at, ← att_shift _ _ _ M, att, expSum, Finset.sum_div, coe_sum]
    refine Finset.sum_congr rfl fun s _ => ?_
    rw [weight_at, v_real hx]
    simp only [he]
    rw [← coe_sum]
    rw [show (∑ u, if vis u then Real.exp (ℓ u - M) * 1 else 0) = expSum vis (fun s => ℓ s - M) fun _ => 1 from rfl, div_real _ _ hd.ne', ← EReal.coe_mul]
    refine congrArg _ ?_
    split
    · ring
    · simp
  · rw [z_at, hx, ← EReal.coe_neg, Ideal.exp_coe, ← EReal.coe_one, ← EReal.coe_add, div_real _ _ (by have := Real.exp_pos (-X ⟨b.val * 2048 + t.val, by omega⟩ ⟨1536 + l.val, by omega⟩); linarith),
      ← EReal.coe_mul, silu, mul_one_div]
end values

end Ref
end Moba
end
end
-- ==== Proof.Result.lean ====
module
public import proofs.«01_k».proof.Proof.Reference
public import proofs.«01_k».proof.Proof.Launch
public import Idealize.ShloMosaic.Lib.Pipeline.ReadBack
public import proofs.«01_k».proof.Pre_finite

/-! The kernel's result array is the reference's. -/

@[expose] public section
set_option maxRecDepth 16384

open Idealize.ShloMosaic Idealize.ShloMosaic.TcCoe Idealize.SL.Sem
open Cert.KernelIdeal Cert.KernelIdeal.Gen

noncomputable section
namespace Moba

/-! ## What the kernel's query sees is what the reference's sees -/

section bridge
variable {a : Pt Ideal} {Q K V Z : Fin 2048 → Fin 128 → ℝ} {sl : Fin 2 → ℝ} (I : Inputs a Q K V Z sl)
include I

theorem gateOf_real (h : Fin 2) (u : Fin 1024) (t : Fin 2048) (ht : t.val = 1024 + u.val) :
    gateOf a.x2 a.x1 h u = fun n => ((gateR (fun t j => Q t (laneAt h j)) (fun t j => K t (laneAt h j)) t n : ℝ) : EReal) := by
  funext n
  rw [gateOf, sum_lanes h]
  simp only [inHead_lane, inHead_feat, if_true, if_false, Finset.sum_const_zero, add_zero]
  rw [gateR, coe_sum]
  refine Finset.sum_congr rfl fun j _ => ?_
  rw [two56, show (⟨1024 + u.val, by omega⟩ : Fin 2048) = t from Fin.ext ht.symm, I.q]
  have e : ∑ r : Fin 256, a.x2 (ix3 0 ⟨256 * n.val + r.val, by omega⟩ (laneAt h j)) = ((∑ r : Fin 256, K (posOf n r) (laneAt h j) : ℝ) : EReal) := by
    rw [coe_sum]
    exact Finset.sum_congr rfl fun r _ => I.k _ _
  rw [e, Ideal.div_coe (by norm_num), ← EReal.coe_mul, ← EReal.coe_mul]
  exact congrArg _ (mul_comm _ _)

theorem visible_iff (h : Fin 2) (t s : Fin 2048) :
    visible a h t s ↔ visR (fun t j => Q t (laneAt h j)) (fun t j => K t (laneAt h j)) t s := by
  set g := fun n => ((gateR (fun t j => Q t (laneAt h j)) (fun t j => K t (laneAt h j)) t n : ℝ) : EReal) with hg
  have hc : (blockOf s).val < t.val / 256 → countOf g (t.val / 256) (blockOf s) < t.val / 256 := count_lt g _ (by omega) _
  have hd : isDropped a.x2 a.x1 h t (blockOf s) ↔ 1024 ≤ t.val ∧ 3 ≤ countOf g (t.val / 256) (blockOf s) ∧ (blockOf s).val < t.val / 256 := by
    constructor
    · rintro ⟨u, hu, hdr⟩
      rw [gateOf_real I h u t hu, dropped, show ownOf u = t.val / 256 from by simp only [ownOf]; omega] at hdr
      exact ⟨by omega, hdr⟩
    · rintro ⟨h1, hdr⟩
      refine ⟨⟨t.val - 1024, by omega⟩, by simp only; omega, ?_⟩
      rw [gateOf_real I h _ t (by simp only; omega), dropped, show ownOf ⟨t.val - 1024, by omega⟩ = t.val / 256 from by simp only [ownOf]; omega]
      exact hdr
  rw [visible, hd, visR]
  have hb : (blockOf s).val = s.val / 256 := rfl
  rw [hb] at hc ⊢
  rw [Fin.le_def]
  generalize countOf g (t.val / 256) (blockOf s) = w at *
  omega
end bridge

/-! ## The block a grid point leaves -/

variable (m : (ℓ : Loc nD τ sig) → Buf (Elt Ideal) ℓ) (c : Dev nD)

/-- The grid point `t`. -/
def point (t : Fin cfg0.N) : Pt Ideal :=
  ⟨c, grid0.coords t, ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t,
    scM0_0, Memref.isWhole_whole _, scM0_1, Memref.isWhole_whole _, scM0_2, Memref.isWhole_whole _, scM0_3, Memref.isWhole_whole _,
    iblk m c 0 t, iblk m c 1 t, iblk m c 2 t, iblk m c 3 t, iblk m c 4 t, iblk m c 5 t, iblk m c 6 t⟩

/-- The slopes, as real numbers. -/
def slopeR (h : Fin 8) : ℝ := ![1 / 2, 1 / 4, 1 / 8, 1 / 16, 1 / 32, 1 / 64, 1 / 128, 1 / 256] h

theorem slope_real (h : Fin 8) : Ideal.ofBits .f32 (lit0 h) = ((slopeR h : ℝ) : EReal) := by
  fin_cases h <;>
    simp [lit0, slopeR, Ideal.ofBits, Ideal.ieee, -EReal.coe_mul] <;> norm_num

variable {m c} {X : Fin 65536 → Fin 2048 → ℝ} (hX : ∀ i j, arg m c (ix2 i j) = ((X i j : ℝ) : EReal))

/-- A grid point's columns in group `g`. -/
def cols (X : Fin 65536 → Fin 2048 → ℝ) (t : Fin cfg0.N) (g : Fin 4) (s : Fin 2048) (l : Fin 128) : ℝ :=
  X ⟨2048 * (t.val / 4) + s.val, by have := lt_t t; omega⟩ ⟨512 * g.val + 128 * (t.val % 4) + l.val, by omega⟩

include hX in
theorem point_queries (t : Fin cfg0.N) (s : Fin 2048) (l : Fin 128) : (point m c t).x1 (ix3 0 s l) = ((cols X t 0 s l : ℝ) : EReal) :=
  (blk1 m c t s l _ _ rfl (by simp)).trans (hX _ _)
include hX in
theorem point_keys (t : Fin cfg0.N) (s : Fin 2048) (l : Fin 128) : (point m c t).x2 (ix3 0 s l) = ((cols X t 1 s l : ℝ) : EReal) :=
  (blk2 m c t s l _ _ rfl (by simp)).trans (hX _ _)
include hX in
theorem point_values (t : Fin cfg0.N) (s : Fin 2048) (l : Fin 128) : (point m c t).x3 (ix3 0 s l) = ((cols X t 2 s l : ℝ) : EReal) :=
  (blk3 m c t s l _ _ rfl (by simp)).trans (hX _ _)
include hX in
theorem point_gates (t : Fin cfg0.N) (s : Fin 2048) (l : Fin 128) : (point m c t).x4 (ix3 0 s l) = ((cols X t 3 s l : ℝ) : EReal) :=
  (blk4 m c t s l _ _ rfl (by simp)).trans (hX _ _)
theorem point_slope (t : Fin cfg0.N) (h : Fin 2) : (point m c t).slope h = ((slopeR ⟨2 * (t.val % 4) + h.val, by omega⟩ : ℝ) : EReal) :=
  (slope_at (point m c t) h ⟨2 * (t.val % 4) + h.val, by omega⟩ (congrArg (fun i => 2 * i + h.val) (coords t).2.symm)).trans ((blk0 m c t _).trans (slope_real _))
include hX in
theorem inputs (t : Fin cfg0.N) : Inputs (point m c t) (cols X t 0) (cols X t 1) (cols X t 2) (cols X t 3) fun h => slopeR ⟨2 * (t.val % 4) + h.val, by omega⟩ :=
  ⟨point_queries hX t, point_keys hX t, point_values hX t, point_gates hX t, blk5 m c t, blk6 m c t, point_slope t⟩

theorem ref_slope_real (h : Fin 8) : Ideal.ofBits .f32 (Cert.ReferenceIdeal.lit0 h) = ((slopeR h : ℝ) : EReal) := slope_real h

include hX in
/-- A block of the result is the reference's. -/
theorem out_eq (t : Fin cfg0.N) (n : Fin 8) (r : Fin 256) (l : Fin 128) (i : Fin 512) (hi : i.val = 128 * (t.val % 4) + l.val) :
    (point m c t).out n (ix3 0 r l) = Ref.whole (F := Ideal) (arg m c) (ix3 ⟨t.val / 4, by have := lt_t t; omega⟩ (posOf n r) i) := by
  rw [out_at (inputs hX t), Ref.whole_at hX ref_slope_real]
  have eh : (⟨i.val / 64, by omega⟩ : Fin 8) = ⟨2 * (t.val % 4) + (headAt l).val, by omega⟩ := Fin.ext (by simp only [headAt]; omega)
  have ej : (⟨i.val % 64, by omega⟩ : Fin 64) = ⟨l.val % 64, by omega⟩ := Fin.ext (by simp only; omega)
  rw [eh, ej]
  have hcol : ∀ (g : Fin 4) (s : Fin 2048) (j : Fin 64), Ref.col X ⟨t.val / 4, by have := lt_t t; omega⟩ ⟨2 * (t.val % 4) + (headAt l).val, by omega⟩ g s j =
      cols X t g s (laneAt (headAt l) j) := fun g s j => by
    simp only [Ref.col, cols, laneAt]
    exact congrArg₂ X (Fin.ext (by simp only; omega)) (Fin.ext (by simp only; omega))
  have hq : ∀ g, Ref.col X ⟨t.val / 4, by have := lt_t t; omega⟩ ⟨2 * (t.val % 4) + (headAt l).val, by omega⟩ g =
      fun s j => cols X t g s (laneAt (headAt l) j) := fun g => funext fun s => funext fun j => hcol g s j
  have hl : laneAt (headAt l) ⟨l.val % 64, by omega⟩ = l := Fin.ext (by simp only [laneAt, headAt]; omega)
  simp only [hq, hl]
  refine congrArg _ (congrArg₂ _ ?_ (congrArg silu ?_))
  · rw [show visible (point m c t) (headAt l) (posOf n r) = _ from funext fun s => propext (visible_iff (inputs hX t) (headAt l) (posOf n r) s)]
    rfl
  · simp only [cols]
    exact congrArg₂ X (Fin.ext (by simp only; omega)) (Fin.ext (by simp only [hi]; simp; omega))

/-- What a grid point leaves in its block, as one function. -/
def blockG (t : Fin cfg0.N) (y : S1x2048x128.Idx) : EReal :=
  Ref.whole (F := Ideal) (arg m c) (ix3 ⟨t.val / 4, by have := lt_t t; omega⟩ (y 1) ⟨128 * (t.val % 4) + (y 2).val, by have := (y 2).isLt; simp at this; omega⟩)

include hX in
theorem piece_at (t : Fin cfg0.N) (n : Fin 8) (o : ℕ) (ho : o = 256 * n.val) (inb) (x : S1x256x128.Idx) :
    (point m c t).out n x = blockG (m := m) (c := c) t ((Rect.unit (s := S1x2048x128) ![0, o, 0] S1x256x128.size inb).emb x) := by
  obtain ⟨r, l, rfl⟩ : ∃ r l, x = ix3 0 r l := ⟨x 1, x 2, by
    rw [eq_ix3 x]; exact congrArg (fun z => ix3 z (x 1) (x 2)) (Subsingleton.elim (α := Fin 1) _ _)⟩
  subst ho
  rw [out_eq hX t n r l ⟨128 * (t.val % 4) + l.val, by omega⟩ rfl]
  have e : (Rect.unit (s := S1x2048x128) ![0, 256 * n.val, 0] S1x256x128.size inb).emb (ix3 0 r l) = ix3 0 (posOf n r) l := by
    funext a; apply Fin.ext; fin_cases a <;> simp [Rect.emb, Rect.unit, posOf]
  exact (congrArg (blockG (m := m) (c := c) t) e).symm

theorem left_of (a : Pt Ideal) (G : S1x2048x128.Idx → EReal)
    (h : ∀ (n : Fin 8) (o : ℕ), o = 256 * n.val → ∀ inb (x : S1x256x128.Idx), a.out n x = G ((Rect.unit (s := S1x2048x128) ![0, o, 0] S1x256x128.size inb).emb x))
    (y : S1x2048x128.Idx) :
    out0_A_7 a.c a.i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13
      a.x0 a.x1 a.x2 a.x3 a.x4 a.x5 a.x6 y = G y := by
  unfold out0_A_7
  rw [View.read_writes_junk_eq_canon, pieces a]
  refine (congrArg (fun L => View.canon (Val := Elt Ideal) (e := .bf16) L y) (List.append_nil _).symm).trans
    (View.canon_append_of_piecesOf (s := S1x2048x128) (Val := Elt Ideal) (e := .bf16) G [] _ ?_ y ?_)
  · refine ⟨?_, ?_, ?_, ?_, ?_, ?_, ?_, ?_, trivial⟩
    · exact h 7 1792 rfl (by decide)
    · exact h 6 1536 rfl (by decide)
    · exact h 5 1280 rfl (by decide)
    · exact h 4 1024 rfl (by decide)
    · exact h 3 768 rfl (by decide)
    · exact h 2 512 rfl (by decide)
    · exact h 1 256 rfl (by decide)
    · exact h 0 0 rfl (by decide)
  · exact View.cover_of_tiledL (s := S1x2048x128) _ S1x256x128.size (by sl_kernel_rfl) y

include hX in
theorem left_at (t : Fin cfg0.N) (y : S1x2048x128.Idx) : outsAt0 m c t y = blockG (m := m) (c := c) t y := by
  have h := left_of (point m c t) (blockG (m := m) (c := c) t) (piece_at hX t) y
  unfold outsAt0
  dsimp only [point] at h
  exact h

theorem stagedEmb7 (G : S32x2048x512.Idx → EReal) (t : Fin cfg0.N) (s : Fin 2048) (l : Fin 128) :
    G (((cfg0.win 7).blk t).view.emb (ix3 0 s l)) = G (ix3 ⟨t.val / 4, by have := lt_t t; omega⟩ s ⟨128 * (t.val % 4) + l.val, by omega⟩) := by
  blk_ext [idx7 t]

include hX in
/-- The kernel's result is the reference's. -/
theorem array_eq : (dats m 0 c).arrAt 7 cfg0.N = Ref.whole (F := Ideal) (arg m c) := by
  refine (dats m 0 c).arrAt_eq_of_covers 7 _ (by decide +kernel) fun t hf y => ?_
  blk_simp
  rw [after0_7]
  refine (left_at hX t _).trans ?_
  obtain ⟨s, l, rfl⟩ : ∃ s l, y = ix3 0 s l := ⟨y 1, y 2, by
    rw [eq_ix3 y]; exact congrArg (fun z => ix3 z (y 1) (y 2)) (Subsingleton.elim (α := Fin 1) _ _)⟩
  exact (stagedEmb7 (Ref.whole (F := Ideal) (arg m c)) t s l).symm

/-- Finite entries are real numbers. -/
theorem real_of_finite [Cert.Pre_finite.Facts] (x : FVec Ideal S65536x2048 .f32) (h : Cert.Pre_finite.fn (F := Ideal) x = fun _ => 1#1) (i : S65536x2048.Idx) :
    x i = (((x i).toReal : ℝ) : EReal) := by
  have hi := congrFun h i
  unfold Cert.Pre_finite.fn at hi
  have e : Ideal.ofBits .f32 0x7F800000#32 = (⊤ : EReal) := by simp [Ideal.ofBits, Ideal.ieee]
  have hi : BitVec.ofBool (decide (max (x i) (-(x i)) < Ideal.ofBits .f32 0x7F800000#32)) = 1#1 := hi
  rw [e] at hi
  have hlt : max (x i) (-(x i)) < ⊤ := by
    by_contra hc
    simp [hc] at hi
  generalize x i = v at hlt
  induction v using EReal.rec with
  | bot => simp at hlt
  | top => simp at hlt
  | coe r => rfl

end Moba
end
end
-- ==== Proof.InTiles.lean ====
module
public import proofs.«01_k».proof.Proof.Gen.InprojIdeal.Frame
public import Idealize.ShloMosaic.Lib.Pipeline.ReadBack

/-! The input projection's body: the tiles its stores hold, as a few functions, and that the run's words are these. -/

@[expose] public section
set_option maxRecDepth 16384

open Idealize.ShloMosaic Idealize.ShloMosaic.TcCoe Idealize.SL.Sem
open Cert.InprojIdeal Cert.InprojIdeal.Gen

noncomputable section
namespace Inp

variable {F : FTy → Type} [FloatOps F]

/-! ## Tiles -/

/-- Rows times 512 columns. -/
def proj (h : FVec F S512x1024 .bf16) (w : Vec F S1024x512 .bf16) : FVec F S512x512 .f32 :=
  matmul dot_S512x1024_S1024x512_S512x512_1_0_0_1_n_n none h (shapeCast S1024x512 w shapeCasts_S1024x512_S1024x512) (constant S512x512 .f32 0x00000000#32)

/-- A tile as the scratch holds it. -/
def held (t : FVec F S512x512 .f32) : FVec F S512x512 .f32 := shapeCast S512x512 t shapeCasts_S512x512_S512x512

/-- `x / (1 + exp (-x))`. -/
def swish (x : FVec F S512x128 .f32) : FVec F S512x128 .f32 :=
  divf x (addf (broadcast S512x128 (Scalar.ofBits .f32 0x3F800000#32 : F .f32)) (exp (subf (broadcast S512x128 (Scalar.ofBits .f32 0x00000000#32 : F .f32)) x)))

/-- One tap of the convolution. -/
def tap (x : Vec F S512x128 .f32) (w : Vec F S1x128 .f32) : FVec F S512x128 .f32 := mulf x (broadcastTo S512x128 w broadcasts_S1x128_S512x128)

/-- A row times the reciprocal root of its sum of squares. -/
def unit (x : FVec F S512x128 .f32) : FVec F S512x128 .f32 :=
  mulf x (broadcastTo S512x128 (rsqrt (addf (shapeCast S512x1 (multiReduction .add [1] S512 (mulf x x) 0x00000000#32 reduces_S512x128_S512 (.inl rfl) rfl) shapeCasts_S512_S512x1)
    (broadcast S512x1 (Scalar.ofBits .f32 0x358637BD#32 : F .f32)))) broadcasts_S512x1_S512x128)

/-- A query head: unit rows, scaled. -/
def qHead (x : FVec F S512x128 .f32) : FVec F S512x128 .bf16 :=
  truncf .bf16 (mulf (unit (swish x)) (broadcast S512x128 (Scalar.ofBits .f32 0x3DB504F3#32 : F .f32))) bitsLt_bf16_f32
/-- A key head: unit rows. -/
def kHead (x : FVec F S512x128 .f32) : FVec F S512x128 .bf16 := truncf .bf16 (unit (swish x)) bitsLt_bf16_f32
/-- A value head, or a head of the gate. -/
def vHead (x : FVec F S512x128 .f32) : FVec F S512x128 .bf16 := truncf .bf16 (swish x) bitsLt_bf16_f32

/-- The gates. -/
def gates (h : FVec F S512x1024 .bf16) (w : Vec F S1024x128 .bf16) (al db : Vec F S1x128 .f32) : FVec F S512x128 .f32 :=
  k0_pay1 (k0_pay49 h w db) k0_pay50 (k0_pay51 h w) al

/-! ## A grid point -/

variable (F) in
/-- A grid point's memrefs and input blocks. -/
structure Pt where
  c : Dev nD
  i : grid0.Coords
  arg1 : Memref sig .tc .vmem S512x1024 .f32
  harg1 : arg1.IsWhole
  arg2 : Memref sig .tc .vmem S1x1024 .f32
  harg2 : arg2.IsWhole
  arg3 : Memref sig .tc .vmem S1024x4096 .bf16
  harg3 : arg3.IsWhole
  arg4 : Memref sig .tc .vmem S1024x128 .bf16
  harg4 : arg4.IsWhole
  arg5 : Memref sig .tc .vmem S4x1536 .f32
  harg5 : arg5.IsWhole
  arg6 : Memref sig .tc .vmem S1x128 .f32
  harg6 : arg6.IsWhole
  arg7 : Memref sig .tc .vmem S1x128 .f32
  harg7 : arg7.IsWhole
  arg8 : Memref sig .tc .vmem S512x2048 .f32
  harg8 : arg8.IsWhole
  arg9 : Memref sig .tc .vmem S512x2048 .bf16
  harg9 : arg9.IsWhole
  arg10 : Memref sig .tc .vmem S512x128 .f32
  harg10 : arg10.IsWhole
  arg11 : Memref sig .tc .vmem S520x1536 .f32
  harg11 : arg11.IsWhole
  x0 : Vec F S512x1024 .f32
  x1 : Vec F S1x1024 .f32
  x2 : Vec F S1024x4096 .bf16
  x3 : Vec F S1024x128 .bf16
  x4 : Vec F S4x1536 .f32
  x5 : Vec F S1x128 .f32
  x6 : Vec F S1x128 .f32

variable (a : Pt F)

/-- The normalized rows. -/
def Pt.hb : FVec F S512x1024 .bf16 :=
  k0_pay2 (View.readAt (Elt F) a.arg1.view (Rect.unit (s := S512x1024) ![0, 0] S512x1024.size inb_S512x1024_S512x1024_0_0).toLoadRect (a.harg1.unread a.x0))
    (View.readAt (Elt F) a.arg2.view (Rect.unit (s := S1x1024) ![0, 0] S1x1024.size inb_S1x1024_S1x1024_0_0).toLoadRect (a.harg2.unread a.x1))

/-- The projection on 512 columns from column `512 * n`. -/
def Pt.proj (n : ℕ) (hn : ∀ k, (![0, 512 * n] : Fin 2 → ℕ) k + S1024x512.size k ≤ S1024x4096.size k) : FVec F S512x512 .f32 :=
  Inp.proj a.hb (View.readAt (Elt F) a.arg3.view (Rect.unit (s := S1024x4096) ![0, 512 * n] S1024x512.size hn).toLoadRect (a.harg3.unread a.x2))

/-- The rows of scratch a tile of the sequence starts with, and the first `n + 1` groups of 512 columns. -/
def Pt.scr (p : FVec F S8x1536 .f32) : Fin 3 → List (View.Piece (Elt F) S520x1536 .f32)
  | ⟨0, _⟩ => [⟨Rect.unit (s := S520x1536) ![8, 0] S512x512.size inb_S520x1536_S512x512_8_0, held (a.proj 4 (by decide))⟩,
      ⟨Rect.unit (s := S520x1536) ![0, 0] S8x1536.size inb_S520x1536_S8x1536_0_0, p⟩]
  | ⟨1, _⟩ => [⟨Rect.unit (s := S520x1536) ![8, 512] S512x512.size inb_S520x1536_S512x512_8_512, held (a.proj 5 (by decide))⟩,
      ⟨Rect.unit (s := S520x1536) ![8, 0] S512x512.size inb_S520x1536_S512x512_8_0, held (a.proj 4 (by decide))⟩,
      ⟨Rect.unit (s := S520x1536) ![0, 0] S8x1536.size inb_S520x1536_S8x1536_0_0, p⟩]
  | ⟨2, _⟩ => [⟨Rect.unit (s := S520x1536) ![8, 1024] S512x512.size inb_S520x1536_S512x512_8_1024, held (a.proj 6 (by decide))⟩,
      ⟨Rect.unit (s := S520x1536) ![8, 512] S512x512.size inb_S520x1536_S512x512_8_512, held (a.proj 5 (by decide))⟩,
      ⟨Rect.unit (s := S520x1536) ![8, 0] S512x512.size inb_S520x1536_S512x512_8_0, held (a.proj 4 (by decide))⟩,
      ⟨Rect.unit (s := S520x1536) ![0, 0] S8x1536.size inb_S520x1536_S8x1536_0_0, p⟩]

/-- A load of the scratch: 128 columns of group `n`, from row `r`. -/
def Pt.ld (p : FVec F S8x1536 .f32) (n : Fin 3) (r g : ℕ) (h : ∀ k, (![r, 128 * g] : Fin 2 → ℕ) k + S512x128.size k ≤ S520x1536.size k) : Vec F S512x128 .f32 :=
  a.arg11.view.readCov (a.scr p n) (Rect.unit (s := S520x1536) ![r, 128 * g] S512x128.size h).toLoadRect

/-- 128 of a tap's weights. -/
def Pt.cw (j g : ℕ) (h : ∀ k, (![j, 128 * g] : Fin 2 → ℕ) k + S1x128.size k ≤ S4x1536.size k) : Vec F S1x128 .f32 :=
  View.readAt (Elt F) a.arg5.view (Rect.unit (s := S4x1536) ![j, 128 * g] S1x128.size h).toLoadRect (a.harg5.unread a.x4)

/-- The convolution on 128 columns. -/
def Pt.conv (p : FVec F S8x1536 .f32) (n : Fin 3) (g : ℕ)
    (hl : ∀ r ≤ 8, ∀ k, (![r, 128 * g] : Fin 2 → ℕ) k + S512x128.size k ≤ S520x1536.size k)
    (hw : ∀ j < 4, ∀ k, (![j, 128 * g] : Fin 2 → ℕ) k + S1x128.size k ≤ S4x1536.size k) : FVec F S512x128 .f32 :=
  addf (addf (addf (tap (a.ld p n 8 g (hl 8 (by decide))) (a.cw 3 g (hw 3 (by decide)))) (tap (a.ld p n 5 g (hl 5 (by decide))) (a.cw 0 g (hw 0 (by decide)))))
    (tap (a.ld p n 6 g (hl 6 (by decide))) (a.cw 1 g (hw 1 (by decide))))) (tap (a.ld p n 7 g (hl 7 (by decide))) (a.cw 2 g (hw 2 (by decide))))

/-- The columns of a head of the gate. -/
def Pt.zcol (off : Fin 2 → ℕ) (h : S512x512.Slices off S512x128) : FVec F S512x128 .f32 := extractStridedSlice S512x128 off (a.proj 7 (by decide)) h

/-- The stores of the first result. -/
def Pt.out7 : List (View.Piece (Elt F) S512x2048 .f32) :=
  [⟨Rect.unit (s := S512x2048) ![0, 1536] S512x512.size inb_S512x2048_S512x512_0_1536, a.proj 3 (by decide)⟩,
    ⟨Rect.unit (s := S512x2048) ![0, 1024] S512x512.size inb_S512x2048_S512x512_0_1024, a.proj 2 (by decide)⟩,
    ⟨Rect.unit (s := S512x2048) ![0, 512] S512x512.size inb_S512x2048_S512x512_0_512, a.proj 1 (by decide)⟩,
    ⟨Rect.unit (s := S512x2048) ![0, 0] S512x512.size inb_S512x2048_S512x512_0_0, a.proj 0 (by decide)⟩]

/-- The stores of the second result. -/
def Pt.out8 (p : FVec F S8x1536 .f32) : List (View.Piece (Elt F) S512x2048 .bf16) :=
  [⟨Rect.unit (s := S512x2048) ![0, 1920] S512x128.size inb_S512x2048_S512x128_0_1920, vHead (a.zcol ![0, 384] slices_S512x512_o0_384_S512x128)⟩,
    ⟨Rect.unit (s := S512x2048) ![0, 1792] S512x128.size inb_S512x2048_S512x128_0_1792, vHead (a.zcol ![0, 256] slices_S512x512_o0_256_S512x128)⟩,
    ⟨Rect.unit (s := S512x2048) ![0, 1664] S512x128.size inb_S512x2048_S512x128_0_1664, vHead (a.zcol ![0, 128] slices_S512x512_o0_128_S512x128)⟩,
    ⟨Rect.unit (s := S512x2048) ![0, 1536] S512x128.size inb_S512x2048_S512x128_0_1536, vHead (a.zcol ![0, 0] slices_S512x512_o0_0_S512x128)⟩,
    ⟨Rect.unit (s := S512x2048) ![0, 1408] S512x128.size inb_S512x2048_S512x128_0_1408, vHead (a.conv p 2 11 (by decide) (by decide))⟩,
    ⟨Rect.unit (s := S512x2048) ![0, 1280] S512x128.size inb_S512x2048_S512x128_0_1280, vHead (a.conv p 2 10 (by decide) (by decide))⟩,
    ⟨Rect.unit (s := S512x2048) ![0, 1152] S512x128.size inb_S512x2048_S512x128_0_1152, vHead (a.conv p 2 9 (by decide) (by decide))⟩,
    ⟨Rect.unit (s := S512x2048) ![0, 1024] S512x128.size inb_S512x2048_S512x128_0_1024, vHead (a.conv p 2 8 (by decide) (by decide))⟩,
    ⟨Rect.unit (s := S512x2048) ![0, 896] S512x128.size inb_S512x2048_S512x128_0_896, kHead (a.conv p 1 7 (by decide) (by decide))⟩,
    ⟨Rect.unit (s := S512x2048) ![0, 768] S512x128.size inb_S512x2048_S512x128_0_768, kHead (a.conv p 1 6 (by decide) (by decide))⟩,
    ⟨Rect.unit (s := S512x2048) ![0, 640] S512x128.size inb_S512x2048_S512x128_0_640, kHead (a.conv p 1 5 (by decide) (by decide))⟩,
    ⟨Rect.unit (s := S512x2048) ![0, 512] S512x128.size inb_S512x2048_S512x128_0_512, kHead (a.conv p 1 4 (by decide) (by decide))⟩,
    ⟨Rect.unit (s := S512x2048) ![0, 384] S512x128.size inb_S512x2048_S512x128_0_384, qHead (a.conv p 0 3 (by decide) (by decide))⟩,
    ⟨Rect.unit (s := S512x2048) ![0, 256] S512x128.size inb_S512x2048_S512x128_0_256, qHead (a.conv p 0 2 (by decide) (by decide))⟩,
    ⟨Rect.unit (s := S512x2048) ![0, 128] S512x128.size inb_S512x2048_S512x128_0_128, qHead (a.conv p 0 1 (by decide) (by decide))⟩,
    ⟨Rect.unit (s := S512x2048) ![0, 0] S512x128.size inb_S512x2048_S512x128_0_0, qHead (a.conv p 0 0 (by decide) (by decide))⟩]

/-- The store of the gates. -/
def Pt.out9 : List (View.Piece (Elt F) S512x128 .f32) :=
  [⟨Rect.unit (s := S512x128) ![0, 0] S512x128.size inb_S512x128_S512x128_0_0,
    gates a.hb (View.readAt (Elt F) a.arg4.view (Rect.unit (s := S1024x128) ![0, 0] S1024x128.size inb_S1024x128_S1024x128_0_0).toLoadRect (a.harg4.unread a.x3))
      (View.readAt (Elt F) a.arg6.view (Rect.unit (s := S1x128) ![0, 0] S1x128.size inb_S1x128_S1x128_0_0).toLoadRect (a.harg6.unread a.x5))
      (View.readAt (Elt F) a.arg7.view (Rect.unit (s := S1x128) ![0, 0] S1x128.size inb_S1x128_S1x128_0_0).toLoadRect (a.harg7.unread a.x6))⟩]

/-- The last rows a tile leaves in the scratch, as the next one starts with. -/
def Pt.carried (xs : Vec F S520x1536 .f32) : FVec F S8x1536 .f32 :=
  k0_pay4 (View.readAt (Elt F) a.arg11.view (Rect.unit (s := S520x1536) ![512, 0] S8x1536.size inb_S520x1536_S8x1536_512_0).toLoadRect (a.harg11.unread xs))

section
variable (hc0 : cond0_0 a.i) (hc1 : ¬cond0_1 a.i)
/-- The first tile of a sequence. -/
abbrev Pt.runA := kernelRun0_A (F := F) a.c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 hc0 hc1 a.x0 a.x1 a.x2 a.x3 a.x4 a.x5 a.x6

theorem piecesA7 : (a.runA hc0 hc1).1 = a.out7 := rfl
theorem piecesA8 : (a.runA hc0 hc1).2.1 = a.out8 k0_pay3 := rfl
theorem piecesA9 : (a.runA hc0 hc1).2.2.1 = a.out9 := rfl
theorem piecesAs : (a.runA hc0 hc1).2.2.2.1 = a.scr k0_pay3 2 := rfl
end

section
variable (hc0 : ¬cond0_0 a.i) (hc1 : cond0_1 a.i) (xs : Vec F S520x1536 .f32)
/-- A later tile of a sequence. -/
abbrev Pt.runB := kernelRun0_B (F := F) a.c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 hc0 hc1 a.x0 a.x1 a.x2 a.x3 a.x4 a.x5 a.x6 xs

theorem piecesB7 : (a.runB hc0 hc1 xs).1 = a.out7 := rfl
theorem piecesB8 : (a.runB hc0 hc1 xs).2.1 = a.out8 (a.carried xs) := rfl
theorem piecesB9 : (a.runB hc0 hc1 xs).2.2.1 = a.out9 := rfl
theorem piecesBs : (a.runB hc0 hc1 xs).2.2.2.1 = a.scr (a.carried xs) 2 := rfl
end

end Inp
end
end
-- ==== Proof.InSpec.lean ====
module
public import Idealize.ShloMosaic.Lib.Pointwise
public import Idealize.ShloMosaic.Lib.Pipeline.ValueKit

/-! What the input projection computes, as a function of its arrays' entries. Indices are naturals; an entry outside its array is zero. -/

@[expose] public section
set_option maxRecDepth 16384

open Idealize.ShloMosaic Idealize.ShloMosaic.TcCoe Idealize.SL.Sem

noncomputable section
namespace Inp

/-- `x / (1 + exp (-x))`. -/
def sw (x : EReal) : EReal := Ideal.div x (1 + Ideal.exp (0 - x))
/-- The small number under the roots. -/
def eps : EReal := Ideal.ofBits .f32 0x358637BD#32
/-- The reciprocal root of a head's sum of squares. -/
def inv (f : Fin 128 → EReal) : EReal := Ideal.rsqrt (∑ j, f j * f j + eps)
/-- The gates' softplus. -/
def sp (x : EReal) : EReal := max x 0 + Ideal.log (1 + Ideal.exp (0 - FloatOps.absf (F := Ideal) (φ := .f32) x))

/-- The six arrays' entries. -/
structure In where
  x : ℕ → ℕ → Fin 1024 → EReal
  nw : Fin 1024 → EReal
  w : Fin 1024 → ℕ → EReal
  cw : ℕ → ℕ → EReal
  al : ℕ → EReal
  db : ℕ → EReal

/-- The entries of six arrays; the gates' rate and bias are on lanes 4 to 8. -/
def In.of (X : (⟨3, ![32, 2048, 1024]⟩ : Shape).Idx → EReal) (nw : (⟨1, ![1024]⟩ : Shape).Idx → EReal) (w : (⟨2, ![1024, 4104]⟩ : Shape).Idx → EReal)
    (cw : (⟨2, ![4, 1536]⟩ : Shape).Idx → EReal) (al db : (⟨1, ![4]⟩ : Shape).Idx → EReal) : In :=
  ⟨fun b s k => if h : b < 32 ∧ s < 2048 then X (ix3 ⟨b, h.1⟩ ⟨s, h.2⟩ k) else 0, fun k => nw (ix1 k),
    fun k n => if h : n < 4104 then w (ix2 k ⟨n, h⟩) else 0, fun j n => if h : j < 4 ∧ n < 1536 then cw (ix2 ⟨j, h.1⟩ ⟨n, h.2⟩) else 0,
    fun l => if h : 4 ≤ l ∧ l < 8 then al (ix1 ⟨l - 4, by omega⟩) else 0, fun l => if h : 4 ≤ l ∧ l < 8 then db (ix1 ⟨l - 4, by omega⟩) else 0⟩

variable (I : In) (b s n : ℕ)

/-- A normalized row. -/
def In.h (k : Fin 1024) : EReal := I.x b s k * Ideal.rsqrt (Ideal.div (∑ j, I.x b s j * I.x b s j) (Ideal.ofBits .f32 0x44800000#32) + eps) * I.nw k
/-- A projected column. -/
def In.p : EReal := ∑ k, I.h b s k * I.w k n
/-- A projected column, eight zero positions before it. -/
def In.past : EReal := if 8 ≤ s then I.p b (s - 8) n else 0
/-- The convolution on column `n` of its 1536. -/
def In.conv : EReal :=
  I.past b (s + 8) (2048 + n) * I.cw 3 n + I.past b (s + 5) (2048 + n) * I.cw 0 n + I.past b (s + 6) (2048 + n) * I.cw 1 n + I.past b (s + 7) (2048 + n) * I.cw 2 n
/-- The activated convolution. -/
def In.act : EReal := sw (I.conv b s n)
/-- The second result: queries, keys, values and the gate. -/
def In.mix : EReal :=
  if n < 512 then I.act b s n * inv (fun j => I.act b s (128 * (n / 128) + j.val)) * Ideal.ofBits .f32 0x3DB504F3#32
  else if n < 1024 then I.act b s n * inv (fun j => I.act b s (128 * (n / 128) + j.val))
  else if n < 1536 then I.act b s n
  else sw (I.p b s (2048 + n))
/-- The third result: write rates, then decays. -/
def In.gate : EReal :=
  if n < 4 then Ideal.div 1 (1 + Ideal.exp (0 - I.p b s (4096 + n))) else (0 - Ideal.exp (I.al n)) * sp (I.p b s (4096 + n) + I.db n)

end Inp
end
end
-- ==== Proof.InValue.lean ====
module
public import proofs.«01_k».proof.Proof.InTiles
public import proofs.«01_k».proof.Proof.InSpec

/-! The tiles of a grid point at an index. -/

@[expose] public section
set_option maxRecDepth 16384

open Idealize.ShloMosaic Idealize.ShloMosaic.TcCoe Idealize.SL.Sem
open Cert.InprojIdeal Cert.InprojIdeal.Gen

noncomputable section
namespace Inp

theorem swish_at (x : FVec Ideal S512x128 .f32) (r : Fin 512) (l : Fin 128) : swish (F := Ideal) x (ix2 r l) = sw (x (ix2 r l)) := by
  unfold sw
  pointwise [swish]
theorem unit_at (x : FVec Ideal S512x128 .f32) (r : Fin 512) (l : Fin 128) : unit (F := Ideal) x (ix2 r l) = x (ix2 r l) * inv (fun j => x (ix2 r j)) := by
  unfold inv eps
  pointwise [unit]
theorem vHead_at (x : FVec Ideal S512x128 .f32) (r : Fin 512) (l : Fin 128) : vHead (F := Ideal) x (ix2 r l) = sw (x (ix2 r l)) := by
  rw [← swish_at]
  pointwise [vHead]
theorem kHead_at (x : FVec Ideal S512x128 .f32) (r : Fin 512) (l : Fin 128) :
    kHead (F := Ideal) x (ix2 r l) = sw (x (ix2 r l)) * inv (fun j => sw (x (ix2 r j))) := by
  simp only [← swish_at]
  rw [← unit_at]
  pointwise [kHead]
theorem qHead_at (x : FVec Ideal S512x128 .f32) (r : Fin 512) (l : Fin 128) :
    qHead (F := Ideal) x (ix2 r l) = sw (x (ix2 r l)) * inv (fun j => sw (x (ix2 r j))) * Ideal.ofBits .f32 0x3DB504F3#32 := by
  simp only [← swish_at]
  rw [← unit_at]
  pointwise [qHead]
theorem hb_at (x : FVec Ideal S512x1024 .f32) (w : FVec Ideal S1x1024 .f32) (r : Fin 512) (k : Fin 1024) : k0_pay2 (F := Ideal) x w (ix2 r k) =
    x (ix2 r k) * Ideal.rsqrt (Ideal.div (∑ j, x (ix2 r j) * x (ix2 r j)) (Ideal.ofBits .f32 0x44800000#32) + eps) * w (ix2 0 k) := by
  unfold eps
  pointwise [k0_pay2]
theorem proj_at (h : FVec Ideal S512x1024 .bf16) (w : FVec Ideal S1024x512 .bf16) (r l : Fin 512) : proj (F := Ideal) h w (ix2 r l) = ∑ k, h (ix2 r k) * w (ix2 k l) := by
  pointwise [proj]
theorem held_at (h : FVec Ideal S512x512 .f32) (r l : Fin 512) : held (F := Ideal) h (ix2 r l) = h (ix2 r l) := by
  pointwise [held]
theorem tap_at (x : FVec Ideal S512x128 .f32) (w : FVec Ideal S1x128 .f32) (r : Fin 512) (l : Fin 128) : tap (F := Ideal) x w (ix2 r l) = x (ix2 r l) * w (ix2 0 l) := by
  pointwise [tap]
theorem lane_word (l : Fin 128) : IntOp.cmpi .slt (BitVec.ofNat 32 l.val) 4#32 = BitVec.ofBool (decide (l.val < 4)) := by
  revert l; decide +kernel
theorem gates_at (h : FVec Ideal S512x1024 .bf16) (w : FVec Ideal S1024x128 .bf16) (al db : FVec Ideal S1x128 .f32) (r : Fin 512) (l : Fin 128) :
    gates (F := Ideal) h w al db (ix2 r l) = if l.val < 4 then Ideal.div 1 (1 + Ideal.exp (0 - ∑ k, h (ix2 r k) * w (ix2 k l)))
      else (0 - Ideal.exp (al (ix2 0 l))) * sp (∑ k, h (ix2 r k) * w (ix2 k l) + db (ix2 0 l)) := by
  unfold sp
  pointwise [gates, k0_pay1, k0_pay49, k0_pay50, k0_pay51, k0_pay48]
  rw [lane_word]
  by_cases hl : l.val < 4 <;> simp [hl, Scalar.select]

theorem emb2 {m n m' n' : ℕ} (off : Fin 2 → ℕ) (inb) (s : Fin m) (l : Fin n) (h0 : off 0 + s.val < m') (h1 : off 1 + l.val < n') :
    (Rect.unit (s := ⟨2, ![m', n']⟩) off ![m, n] inb).emb (ix2 s l) = ix2 ⟨off 0 + s.val, h0⟩ ⟨off 1 + l.val, h1⟩ := by
  funext a; apply Fin.ext; fin_cases a <;> simp [Rect.emb, Rect.unit]

/-- A load of a staged block, at an index. -/
theorem load2 {m n m' n' : ℕ} {e : EltTy} (M : Memref sig .tc .vmem (⟨2, ![m', n']⟩ : Shape) e) (hM : M.IsWhole) (X : Vec Ideal (⟨2, ![m', n']⟩ : Shape) e)
    (off : Fin 2 → ℕ) (inb) (s : Fin m) (l : Fin n) (h0 : off 0 + s.val < m') (h1 : off 1 + l.val < n') :
    View.readAt (Elt Ideal) M.view (Rect.unit (s := ⟨2, ![m', n']⟩) off ![m, n] inb).toLoadRect (hM.unread X) (ix2 s l) = X (ix2 ⟨off 0 + s.val, h0⟩ ⟨off 1 + l.val, h1⟩) := by
  rw [View.readAt_eq_ld, Memref.IsWhole.read_unread]
  exact congrArg X (emb2 off inb s l h0 h1)

/-- The blocks of a point hold sequence `b`'s rows from `512 * q`. -/
structure Fits (a : Pt Ideal) (I : In) (b q : ℕ) : Prop where
  x0 : ∀ (r : Fin 512) k, a.x0 (ix2 r k) = I.x b (512 * q + r.val) k
  x1 : ∀ k, a.x1 (ix2 0 k) = I.nw k
  x2 : ∀ k (n : Fin 4096), a.x2 (ix2 k n) = I.w k n.val
  x3 : ∀ k (l : Fin 128), a.x3 (ix2 k l) = I.w k (4096 + l.val)
  x4 : ∀ (j : Fin 4) (n : Fin 1536), a.x4 (ix2 j n) = I.cw j.val n.val
  x5 : ∀ l : Fin 128, a.x5 (ix2 0 l) = I.al l.val
  x6 : ∀ l : Fin 128, a.x6 (ix2 0 l) = I.db l.val

variable {a : Pt Ideal} {I : In} {b q : ℕ} (H : Fits a I b q)
include H

theorem Fits.h (r : Fin 512) (k : Fin 1024) : a.hb (ix2 r k) = I.h b (512 * q + r.val) k := by
  unfold Pt.hb In.h
  rw [hb_at]
  simp only [← H.x0, ← H.x1]
  have e : ∀ j : Fin 1024, View.readAt (Elt Ideal) a.arg1.view (Rect.unit (s := S512x1024) ![0, 0] S512x1024.size inb_S512x1024_S512x1024_0_0).toLoadRect (a.harg1.unread a.x0) (ix2 r j) = a.x0 (ix2 r j) := fun j =>
    (load2 (m := 512) (n := 1024) a.arg1 a.harg1 a.x0 ![0, 0] _ r j (by simp) (by simp)).trans (congrArg a.x0 (congrArg₂ ix2 (Fin.ext (Nat.zero_add _)) (Fin.ext (Nat.zero_add _))))
  have e' : View.readAt (Elt Ideal) a.arg2.view (Rect.unit (s := S1x1024) ![0, 0] S1x1024.size inb_S1x1024_S1x1024_0_0).toLoadRect (a.harg2.unread a.x1) (ix2 0 k) = a.x1 (ix2 0 k) :=
    (load2 (m := 1) (n := 1024) a.arg2 a.harg2 a.x1 ![0, 0] _ 0 k (by simp) (by simp)).trans (congrArg a.x1 (congrArg₂ ix2 (Fin.ext (Nat.zero_add _)) (Fin.ext (Nat.zero_add _))))
  rw [e']
  simp only [e]

theorem Fits.p (n : ℕ) (hn) (hb : n < 8) (r l : Fin 512) : a.proj n hn (ix2 r l) = I.p b (512 * q + r.val) (512 * n + l.val) := by
  unfold Pt.proj In.p
  rw [proj_at]
  refine Finset.sum_congr rfl fun k _ => ?_
  rw [H.h]
  refine congrArg (I.h b (512 * q + r.val) k * ·) ((load2 (m := 1024) (n := 512) a.arg3 a.harg3 a.x2 ![0, 512 * n] hn k l (by simp) (by simp; omega)).trans ((H.x2 _ _).trans ?_))
  exact congrArg₂ I.w (Fin.ext (Nat.zero_add _)) rfl

theorem Fits.z (o : ℕ) (h) (r : Fin 512) (l : Fin 128) (ho : o + 128 ≤ 512) : a.zcol ![0, o] h (ix2 r l) = I.p b (512 * q + r.val) (3584 + (o + l.val)) := by
  unfold Pt.zcol
  refine (congrArg (a.proj 7 _) (?_ : _ = ix2 r ⟨o + l.val, by omega⟩)).trans (H.p 7 _ (by decide) _ _)
  funext d; apply Fin.ext; fin_cases d <;> simp

theorem Fits.w (j g : ℕ) (h) (hj : j < 4) (hg : g < 12) (l : Fin 128) : a.cw j g h (ix2 0 l) = I.cw j (128 * g + l.val) := by
  unfold Pt.cw
  exact (load2 (m := 1) (n := 128) a.arg5 a.harg5 a.x4 ![j, 128 * g] h 0 l (by simp; omega) (by simp; omega)).trans (H.x4 _ _)

end Inp
end
end
-- ==== Proof.InScratch.lean ====
module
public import proofs.«01_k».proof.Proof.InValue

/-! The scratch, its loads, and the three results of a grid point. -/

@[expose] public section
set_option maxRecDepth 16384

open Idealize.ShloMosaic Idealize.ShloMosaic.TcCoe Idealize.SL.Sem
open Cert.InprojIdeal Cert.InprojIdeal.Gen

noncomputable section
namespace Inp

variable {a : Pt Ideal} {I : In} {b q : ℕ} (H : Fits a I b q)

/-- The scratch: eight rows of the past, then the tile's. -/
def scratch (I : In) (b q : ℕ) (y : S520x1536.Idx) : EReal := I.past b (512 * q + (y 0).val) (2048 + (y 1).val)

/-- The first eight rows are the past's. -/
def Before (p : FVec Ideal S8x1536 .f32) (I : In) (b q : ℕ) : Prop := ∀ (y : Fin 8) (n : Fin 1536), p (ix2 y n) = I.past b (512 * q + y.val) (2048 + n.val)

theorem scratch_at (y0 : Fin 520) (y1 : Fin 1536) : scratch I b q (ix2 y0 y1) = I.past b (512 * q + y0.val) (2048 + y1.val) := rfl

section
variable {p : FVec Ideal S8x1536 .f32} (hp : Before p I b q)

include hp in
theorem before_piece (x : S8x1536.Idx) : p x = scratch I b q ((Rect.unit (s := S520x1536) ![0, 0] S8x1536.size inb_S520x1536_S8x1536_0_0).emb x) := by
  obtain ⟨r, l, rfl⟩ : ∃ r l, x = ix2 r l := ⟨x 0, x 1, eq_ix2 x⟩
  rw [hp]
  refine Eq.trans ?_ (congrArg (scratch I b q) (emb2 (m := 8) (n := 1536) (m' := 520) (n' := 1536) ![0, 0] _ r l (by simp; omega) (by simp))).symm
  rw [scratch_at]
  simp
include H in
theorem tile_piece (n o : ℕ) (ho : o = 512 * n) (hn) (hn' : n < 3) (inb) (x : S512x512.Idx) : held (a.proj (4 + n) hn) x =
    scratch I b q ((Rect.unit (s := S520x1536) ![8, o] S512x512.size inb).emb x) := by
  subst ho
  obtain ⟨r, l, rfl⟩ : ∃ r l, x = ix2 r l := ⟨x 0, x 1, eq_ix2 x⟩
  rw [held_at, H.p _ _ (by omega)]
  refine Eq.trans ?_ (congrArg (scratch I b q) (emb2 (m := 512) (n := 512) (m' := 520) (n' := 1536) ![8, 512 * n] _ r l (by simp; omega) (by simp; omega))).symm
  rw [scratch_at]
  unfold In.past
  rw [if_pos (by simp; omega)]
  exact congrArg₂ (I.p b) (by simp; omega) (by simp; omega)

include H hp
/-- Group `n` of columns is in the scratch once its tile is. -/
theorem canon_at (n : Fin 3) (y : S520x1536.Idx) (hy : (y 1).val < 512 * (n.val + 1)) : View.canon (a.scr p n) y = scratch I b q y := by
  have h0 : ∀ (y : S520x1536.Idx), (y 0).val < 8 → y ∈ (Rect.unit (s := S520x1536) ![0, 0] S8x1536.size inb_S520x1536_S8x1536_0_0).set := fun y h =>
    Rect.mem_set_unit.mpr fun d => by fin_cases d; exacts [⟨Nat.zero_le _, by simpa using h⟩, ⟨Nat.zero_le _, by have := (y 1).isLt; simpa using this⟩]
  have h1 : ∀ (y : S520x1536.Idx) (o : ℕ) (inb), 8 ≤ (y 0).val → o ≤ (y 1).val → (y 1).val < o + 512 → y ∈ (Rect.unit (s := S520x1536) ![8, o] S512x512.size inb).set := fun y o inb h h' h'' =>
    Rect.mem_set_unit.mpr fun d => by fin_cases d; exacts [⟨by simpa using h, by have := (y 0).isLt; simpa using this⟩, ⟨by simpa using h', by simpa using h''⟩]
  have g0 := before_piece hp
  have g1 := tile_piece H 0 0 rfl (by decide) (by decide) inb_S520x1536_S512x512_8_0
  have g2 := tile_piece H 1 512 rfl (by decide) (by decide) inb_S520x1536_S512x512_8_512
  have g3 := tile_piece H 2 1024 rfl (by decide) (by decide) inb_S520x1536_S512x512_8_1024
  have hn := n.isLt
  refine (congrArg (fun L => View.canon (Val := Elt Ideal) (e := .f32) L y) (List.append_nil _).symm).trans (View.canon_append_of_piecesOf (scratch I b q) [] (a.scr p n) ?_ y ?_)
  · match n with
    | ⟨0, _⟩ => exact ⟨g1, g0, trivial⟩
    | ⟨1, _⟩ => exact ⟨g2, g1, g0, trivial⟩
    | ⟨2, _⟩ => exact ⟨g3, g2, g1, g0, trivial⟩
  · by_cases hy0 : (y 0).val < 8
    · match n with
      | ⟨0, _⟩ => exact ⟨_, .tail _ (.head _), h0 y hy0⟩
      | ⟨1, _⟩ => exact ⟨_, .tail _ (.tail _ (.head _)), h0 y hy0⟩
      | ⟨2, _⟩ => exact ⟨_, .tail _ (.tail _ (.tail _ (.head _))), h0 y hy0⟩
    · have hy0 := Nat.le_of_not_lt hy0
      match n with
      | ⟨0, _⟩ => exact ⟨_, .head _, h1 y _ (by decide) hy0 (Nat.zero_le _) (by simpa using hy)⟩
      | ⟨1, _⟩ =>
        by_cases hc : (y 1).val < 512
        · exact ⟨_, .tail _ (.head _), h1 y _ (by decide) hy0 (Nat.zero_le _) (by omega)⟩
        · exact ⟨_, .head _, h1 y _ (by decide) hy0 (by omega) (by simp at hy; omega)⟩
      | ⟨2, _⟩ =>
        by_cases hc : (y 1).val < 512
        · exact ⟨_, .tail _ (.tail _ (.head _)), h1 y _ (by decide) hy0 (Nat.zero_le _) (by omega)⟩
        · by_cases hd : (y 1).val < 1024
          · exact ⟨_, .tail _ (.head _), h1 y _ (by decide) hy0 (by omega) (by omega)⟩
          · exact ⟨_, .head _, h1 y _ (by decide) hy0 (by omega) (by simp at hy; omega)⟩

theorem ld_at (n : Fin 3) (r g : ℕ) (h) (hg : g < 4 * (n.val + 1)) (hr : r ≤ 8) (s : Fin 512) (l : Fin 128) :
    a.ld p n r g h (ix2 s l) = I.past b (512 * q + s.val + r) (2048 + (128 * g + l.val)) := by
  have hn := n.isLt
  have e := emb2 (m := 512) (n := 128) (m' := 520) (n' := 1536) ![r, 128 * g] h s l (by simp; omega) (by simp; omega)
  refine (congrFun (View.readCov_eq_canon' _ _ _) _).trans ((congrArg (View.canon (a.scr p n)) e).trans ((canon_at H hp n _ (by show 128 * g + l.val < _; omega)).trans ?_))
  rw [scratch_at]
  exact congrArg₂ (I.past b) (by simp; omega) (by simp)

theorem conv_at (n : Fin 3) (g : ℕ) (hl hw) (hg : g < 4 * (n.val + 1)) (s : Fin 512) (l : Fin 128) :
    a.conv p n g hl hw (ix2 s l) = I.conv b (512 * q + s.val) (128 * g + l.val) := by
  have hn := n.isLt
  have e : ∀ X Y Z W : FVec Ideal S512x128 .f32, addf (addf (addf X Y) Z) W (ix2 s l) = X (ix2 s l) + Y (ix2 s l) + Z (ix2 s l) + W (ix2 s l) := by
    intro X Y Z W
    pointwise
  unfold Pt.conv In.conv
  rw [e]
  simp only [tap_at]
  rw [ld_at H hp n 8 g _ hg (by decide), ld_at H hp n 5 g _ hg (by decide), ld_at H hp n 6 g _ hg (by decide), ld_at H hp n 7 g _ hg (by decide),
    H.w 3 g _ (by decide) (by omega), H.w 0 g _ (by decide) (by omega), H.w 1 g _ (by decide) (by omega), H.w 2 g _ (by decide) (by omega)]

end

include H in
/-- The first result. -/
theorem out7_at (y : S512x2048.Idx) : View.canon a.out7 y = I.p b (512 * q + (y 0).val) (y 1).val := by
  have h : ∀ (n o : ℕ) (ho : o = 512 * n) (hn) (_ : n < 4) (inb) (x : S512x512.Idx), a.proj n hn x =
      (fun y : S512x2048.Idx => I.p b (512 * q + (y 0).val) (y 1).val) ((Rect.unit (s := S512x2048) ![0, o] S512x512.size inb).emb x) := by
    intro n o ho hn hn' inb x
    subst ho
    obtain ⟨r, l, rfl⟩ : ∃ r l, x = ix2 r l := ⟨x 0, x 1, eq_ix2 x⟩
    rw [H.p _ _ (by omega)]
    refine Eq.trans ?_ (congrArg (fun y : S512x2048.Idx => I.p b (512 * q + (y 0).val) (y 1).val) (emb2 (m := 512) (n := 512) (m' := 512) (n' := 2048) ![0, 512 * n] _ r l (by simp) (by simp; omega))).symm
    exact congrArg (I.p b · _) (by simp)
  refine (congrArg (fun L => View.canon (Val := Elt Ideal) (e := .f32) L y) (List.append_nil _).symm).trans (View.canon_append_of_piecesOf (fun y : S512x2048.Idx => I.p b (512 * q + (y 0).val) (y 1).val) [] a.out7 ?_ y ?_)
  · exact ⟨h 3 1536 rfl _ (by decide) inb_S512x2048_S512x512_0_1536, h 2 1024 rfl _ (by decide) inb_S512x2048_S512x512_0_1024, h 1 512 rfl _ (by decide) inb_S512x2048_S512x512_0_512, h 0 0 rfl _ (by decide) inb_S512x2048_S512x512_0_0, trivial⟩
  · exact View.cover_of_tiledL (s := S512x2048) _ S512x512.size (by sl_kernel_rfl) y

include H in
/-- The third result. -/
theorem out9_at (y : S512x128.Idx) : View.canon a.out9 y = I.gate b (512 * q + (y 0).val) (y 1).val := by
  refine (congrArg (fun L => View.canon (Val := Elt Ideal) (e := .f32) L y) (List.append_nil _).symm).trans (View.canon_append_of_piecesOf (fun y : S512x128.Idx => I.gate b (512 * q + (y 0).val) (y 1).val) [] a.out9 ?_ y ?_)
  · refine ⟨fun (x : S512x128.Idx) => ?_, trivial⟩
    obtain ⟨r, l, rfl⟩ : ∃ r l, x = ix2 r l := ⟨x 0, x 1, eq_ix2 x⟩
    refine (gates_at _ _ _ _ r l).trans ?_
    refine Eq.trans ?_ (congrArg (fun y : S512x128.Idx => I.gate b (512 * q + (y 0).val) (y 1).val) (emb2 (m := 512) (n := 128) (m' := 512) (n' := 128) ![0, 0] inb_S512x128_S512x128_0_0 r l (by simp) (by simp))).symm
    have e3 : ∀ k : Fin 1024, View.readAt (Elt Ideal) a.arg4.view (Rect.unit (s := S1024x128) ![0, 0] S1024x128.size inb_S1024x128_S1024x128_0_0).toLoadRect (a.harg4.unread a.x3) (ix2 k l) = I.w k (4096 + l.val) := fun k =>
      (load2 (m := 1024) (n := 128) a.arg4 a.harg4 a.x3 ![0, 0] _ k l (by simp) (by simp)).trans ((congrArg a.x3 (congrArg₂ ix2 (Fin.ext (Nat.zero_add _)) (Fin.ext (Nat.zero_add _)))).trans (H.x3 k l))
    have e5 : View.readAt (Elt Ideal) a.arg6.view (Rect.unit (s := S1x128) ![0, 0] S1x128.size inb_S1x128_S1x128_0_0).toLoadRect (a.harg6.unread a.x5) (ix2 0 l) = I.al l.val :=
      (load2 (m := 1) (n := 128) a.arg6 a.harg6 a.x5 ![0, 0] _ 0 l (by simp) (by simp)).trans ((congrArg a.x5 (congrArg₂ ix2 (Fin.ext (Nat.zero_add _)) (Fin.ext (Nat.zero_add _)))).trans (H.x5 l))
    have e6 : View.readAt (Elt Ideal) a.arg7.view (Rect.unit (s := S1x128) ![0, 0] S1x128.size inb_S1x128_S1x128_0_0).toLoadRect (a.harg7.unread a.x6) (ix2 0 l) = I.db l.val :=
      (load2 (m := 1) (n := 128) a.arg7 a.harg7 a.x6 ![0, 0] _ 0 l (by simp) (by simp)).trans ((congrArg a.x6 (congrArg₂ ix2 (Fin.ext (Nat.zero_add _)) (Fin.ext (Nat.zero_add _)))).trans (H.x6 l))
    rw [e5, e6]
    simp only [e3, H.h]
    unfold In.gate In.p
    simp
  · exact View.cover_of_tiledL (s := S512x128) _ S512x128.size (by sl_kernel_rfl) y

section
variable {p : FVec Ideal S8x1536 .f32} (hp : Before p I b q)
include H hp

/-- The second result. -/
theorem out8_at (y : S512x2048.Idx) : View.canon (a.out8 p) y = I.mix b (512 * q + (y 0).val) (y 1).val := by
  have G : ∀ (g o : ℕ) (ho : o = 128 * g) (_ : g < 16) (inb) (r : Fin 512) (l : Fin 128), I.mix b (512 * q + r.val) (128 * g + l.val) =
      (fun y : S512x2048.Idx => I.mix b (512 * q + (y 0).val) (y 1).val) ((Rect.unit (s := S512x2048) ![0, o] S512x128.size inb).emb (ix2 r l)) := by
    intro g o ho hg inb r l
    subst ho
    refine Eq.trans ?_ (congrArg (fun y : S512x2048.Idx => I.mix b (512 * q + (y 0).val) (y 1).val) (emb2 (m := 512) (n := 128) (m' := 512) (n' := 2048) ![0, 128 * g] _ r l (by simp) (by simp; omega))).symm
    exact congrArg (I.mix b · _) (by simp)
  have d : ∀ (g : ℕ) (l : Fin 128), 128 * ((128 * g + l.val) / 128) = 128 * g := fun g l => by omega
  have hz : ∀ (g o o' : ℕ) (ho : o = 128 * g) (ho' : o' + 1536 = o) (_ : g < 16) (h) (inb) (x : S512x128.Idx), vHead (a.zcol ![0, o'] h) x =
      (fun y : S512x2048.Idx => I.mix b (512 * q + (y 0).val) (y 1).val) ((Rect.unit (s := S512x2048) ![0, o] S512x128.size inb).emb x) := by
    intro g o o' ho ho' hg h inb x
    obtain ⟨r, l, rfl⟩ : ∃ r l, x = ix2 r l := ⟨x 0, x 1, eq_ix2 x⟩
    rw [← G g o ho hg inb r l, vHead_at, H.z _ _ _ _ (by omega)]
    unfold In.mix
    rw [if_neg (by omega), if_neg (by omega), if_neg (by omega)]
    rw [show 3584 + (o' + l.val) = 2048 + (128 * g + l.val) by omega]
  have hv : ∀ (g o : ℕ) (ho : o = 128 * g) (_ : 8 ≤ g ∧ g < 12) (hl hw inb) (x : S512x128.Idx), vHead (a.conv p 2 g hl hw) x =
      (fun y : S512x2048.Idx => I.mix b (512 * q + (y 0).val) (y 1).val) ((Rect.unit (s := S512x2048) ![0, o] S512x128.size inb).emb x) := by
    intro g o ho hg hl hw inb x
    obtain ⟨r, l, rfl⟩ : ∃ r l, x = ix2 r l := ⟨x 0, x 1, eq_ix2 x⟩
    rw [← G g o ho (by omega) inb r l, vHead_at, conv_at H hp 2 g _ _ (by simp; omega)]
    unfold In.mix In.act
    rw [if_neg (by omega), if_neg (by omega), if_pos (by omega)]
  have hk : ∀ (g o : ℕ) (ho : o = 128 * g) (_ : 4 ≤ g ∧ g < 8) (hl hw inb) (x : S512x128.Idx), kHead (a.conv p 1 g hl hw) x =
      (fun y : S512x2048.Idx => I.mix b (512 * q + (y 0).val) (y 1).val) ((Rect.unit (s := S512x2048) ![0, o] S512x128.size inb).emb x) := by
    intro g o ho hg hl hw inb x
    obtain ⟨r, l, rfl⟩ : ∃ r l, x = ix2 r l := ⟨x 0, x 1, eq_ix2 x⟩
    rw [← G g o ho (by omega) inb r l, kHead_at]
    simp only [conv_at H hp 1 g _ _ (show g < 4 * ((1 : Fin 3).val + 1) by simp; omega)]
    unfold In.mix In.act
    rw [if_neg (by omega), if_pos (by omega), d]
  have hq : ∀ (g o : ℕ) (ho : o = 128 * g) (_ : g < 4) (hl hw inb) (x : S512x128.Idx), qHead (a.conv p 0 g hl hw) x =
      (fun y : S512x2048.Idx => I.mix b (512 * q + (y 0).val) (y 1).val) ((Rect.unit (s := S512x2048) ![0, o] S512x128.size inb).emb x) := by
    intro g o ho hg hl hw inb x
    obtain ⟨r, l, rfl⟩ : ∃ r l, x = ix2 r l := ⟨x 0, x 1, eq_ix2 x⟩
    rw [← G g o ho (by omega) inb r l, qHead_at]
    simp only [conv_at H hp 0 g _ _ (show g < 4 * ((0 : Fin 3).val + 1) by simp; omega)]
    unfold In.mix In.act
    rw [if_pos (by omega), d]
  refine (congrArg (fun L => View.canon (Val := Elt Ideal) (e := .bf16) L y) (List.append_nil _).symm).trans (View.canon_append_of_piecesOf (fun y : S512x2048.Idx => I.mix b (512 * q + (y 0).val) (y 1).val) [] (a.out8 p) ?_ y ?_)
  · exact ⟨hz 15 1920 384 rfl rfl (by decide) _ inb_S512x2048_S512x128_0_1920, hz 14 1792 256 rfl rfl (by decide) _ inb_S512x2048_S512x128_0_1792, hz 13 1664 128 rfl rfl (by decide) _ inb_S512x2048_S512x128_0_1664, hz 12 1536 0 rfl rfl (by decide) _ inb_S512x2048_S512x128_0_1536,
      hv 11 1408 rfl (by decide) _ _ inb_S512x2048_S512x128_0_1408, hv 10 1280 rfl (by decide) _ _ inb_S512x2048_S512x128_0_1280, hv 9 1152 rfl (by decide) _ _ inb_S512x2048_S512x128_0_1152, hv 8 1024 rfl (by decide) _ _ inb_S512x2048_S512x128_0_1024,
      hk 7 896 rfl (by decide) _ _ inb_S512x2048_S512x128_0_896, hk 6 768 rfl (by decide) _ _ inb_S512x2048_S512x128_0_768, hk 5 640 rfl (by decide) _ _ inb_S512x2048_S512x128_0_640, hk 4 512 rfl (by decide) _ _ inb_S512x2048_S512x128_0_512,
      hq 3 384 rfl (by decide) _ _ inb_S512x2048_S512x128_0_384, hq 2 256 rfl (by decide) _ _ inb_S512x2048_S512x128_0_256, hq 1 128 rfl (by decide) _ _ inb_S512x2048_S512x128_0_128, hq 0 0 rfl (by decide) _ _ inb_S512x2048_S512x128_0_0, trivial⟩
  · exact View.cover_of_tiledL (s := S512x2048) _ S512x128.size (by sl_kernel_rfl) y

end

/-- A sequence starts with zeros. -/
theorem before_start : Before k0_pay3 I b 0 := by
  intro y n
  unfold In.past
  rw [if_neg (by omega)]
  pointwise [k0_pay3]

/-- A later tile starts with the end of the one before. -/
theorem before_carried (xs : Vec Ideal S520x1536 .f32) (hx : ∀ y, xs y = scratch I b q y) : Before (a.carried xs) I b (q + 1) := by
  intro y n
  unfold Pt.carried
  have e : ∀ X : FVec Ideal S8x1536 .f32, k0_pay4 (F := Ideal) X (ix2 y n) = X (ix2 y n) := by
    intro X
    pointwise [k0_pay4]
  rw [e]
  refine (load2 (m := 8) (n := 1536) a.arg11 a.harg11 xs ![512, 0] _ y n (by simp; omega) (by simp)).trans ((hx _).trans ?_)
  rw [scratch_at]
  exact congrArg₂ (I.past b) (by simp; omega) (by simp)

end Inp
end
end
-- ==== Proof.InLaunch.lean ====
module
public import proofs.«01_k».proof.Proof.InValue
public import proofs.«01_k».proof.Proof.Gen.InprojIdeal.Value

/-! The blocks the input projection's launch stages. -/

@[expose] public section
set_option maxRecDepth 16384

open Idealize.ShloMosaic Idealize.ShloMosaic.TcCoe Idealize.SL.Sem
open Cert.InprojIdeal Cert.InprojIdeal.Gen

noncomputable section
namespace Inp

variable (m : (ℓ : Loc nD τ sig) → Buf (Elt Ideal) ℓ) (c : Dev nD)
def g0 : FVec Ideal S32x2048x1024 .f32 := m ((c.tc : Thread nD τ).loc main_arg0)
def g1 : FVec Ideal S1024 .f32 := m ((c.tc : Thread nD τ).loc main_arg1)
def g2 : FVec Ideal S1024x4104 .f32 := m ((c.tc : Thread nD τ).loc main_arg2)
def g3 : FVec Ideal S4x1536 .f32 := m ((c.tc : Thread nD τ).loc main_arg3)
def g4 : FVec Ideal S4 .f32 := m ((c.tc : Thread nD τ).loc main_arg4)
def g5 : FVec Ideal S4 .f32 := m ((c.tc : Thread nD τ).loc main_arg5)

/-- The entries of the arguments. -/
def input : In := In.of (g0 m c) (g1 m c) (g2 m c) (g3 m c) (g4 m c) (g5 m c)

theorem lt_t (t : Fin cfg0.N) : t.val < 128 := t.isLt

theorem idx0 (t : Fin cfg0.N) : win0_0.index t = ![t.val, 0] := (by decide +kernel : ∀ t : Fin grid0.N, win0_0.index t = ![t.val, 0]) t
theorem idx1 (t : Fin cfg0.N) : win0_1.index t = ![0, 0] := (by decide +kernel : ∀ t : Fin grid0.N, win0_1.index t = ![0, 0]) t
theorem idx2 (t : Fin cfg0.N) : win0_2.index t = ![0, 0] := (by decide +kernel : ∀ t : Fin grid0.N, win0_2.index t = ![0, 0]) t
theorem idx3 (t : Fin cfg0.N) : win0_3.index t = ![0, 0] := (by decide +kernel : ∀ t : Fin grid0.N, win0_3.index t = ![0, 0]) t
theorem idx4 (t : Fin cfg0.N) : win0_4.index t = ![0, 0] := (by decide +kernel : ∀ t : Fin grid0.N, win0_4.index t = ![0, 0]) t
theorem idx5 (t : Fin cfg0.N) : win0_5.index t = ![0, 0] := (by decide +kernel : ∀ t : Fin grid0.N, win0_5.index t = ![0, 0]) t
theorem idx6 (t : Fin cfg0.N) : win0_6.index t = ![0, 0] := (by decide +kernel : ∀ t : Fin grid0.N, win0_6.index t = ![0, 0]) t

theorem staged0 (X : S65536x1024.Idx → EReal) (t : Fin cfg0.N) (r : Fin 512) (k : Fin 1024) :
    X (((cfg0.win 0).blk t).view.emb (ix2 r k)) = X (ix2 ⟨512 * t.val + r.val, by have := lt_t t; omega⟩ k) := by
  blk_ext [idx0 t]
theorem staged1 (X : S1x1024.Idx → EReal) (t : Fin cfg0.N) (k : Fin 1024) : X (((cfg0.win 1).blk t).view.emb (ix2 0 k)) = X (ix2 0 k) := by
  blk_ext [idx1 t]
theorem staged2 (X : S1024x4096.Idx → EReal) (t : Fin cfg0.N) (k : Fin 1024) (n : Fin 4096) : X (((cfg0.win 2).blk t).view.emb (ix2 k n)) = X (ix2 k n) := by
  blk_ext [idx2 t]
theorem staged3 (X : S1024x128.Idx → EReal) (t : Fin cfg0.N) (k : Fin 1024) (l : Fin 128) : X (((cfg0.win 3).blk t).view.emb (ix2 k l)) = X (ix2 k l) := by
  blk_ext [idx3 t]
theorem staged4 (X : S4x1536.Idx → EReal) (t : Fin cfg0.N) (j : Fin 4) (n : Fin 1536) : X (((cfg0.win 4).blk t).view.emb (ix2 j n)) = X (ix2 j n) := by
  blk_ext [idx4 t]
theorem staged5 (X : S1x128.Idx → EReal) (t : Fin cfg0.N) (l : Fin 128) : X (((cfg0.win 5).blk t).view.emb (ix2 0 l)) = X (ix2 0 l) := by
  blk_ext [idx5 t]
theorem staged6 (X : S1x128.Idx → EReal) (t : Fin cfg0.N) (l : Fin 128) : X (((cfg0.win 6).blk t).view.emb (ix2 0 l)) = X (ix2 0 l) := by
  blk_ext [idx6 t]

/-- Eight columns, padded to 128. -/
def tailW (w : FVec Ideal S1024x4104 .f32) : FVec Ideal S1024x128 .f32 :=
  pad S1024x128 ![0, 0] ![0, 120] ![0, 0] (extractStridedSlice S1024x8 ![0, 4096] w slices_S1024x4104_S1024x8_0_4096) (sitofp .f32 (constantI S_ 32 0#32)) pads_S1024x8_S1024x128_000_01200 h_S_
/-- Four numbers on lanes 4 to 8. -/
def lanes (x : FVec Ideal S4 .f32) : FVec Ideal S1x128 .f32 :=
  shapeCast S1x128 (pad S128 ![4] ![120] ![0] x (sitofp .f32 (constantI S_ 32 0#32)) pads_S4_S128_41200 h_S_) shapeCasts_S128_S1x128

theorem zero_int : FloatOps.sitofp (F := Ideal) .f32 0#32 = (0 : EReal) := by
  show (((0#32 : BitVec 32).toInt : ℝ) : EReal) = 0
  simp

theorem tailW_at (w : FVec Ideal S1024x4104 .f32) (k : Fin 1024) (l : Fin 128) : tailW w (ix2 k l) = if h : 4096 + l.val < 4104 then w (ix2 k ⟨4096 + l.val, h⟩) else 0 := by
  pointwise [tailW]
  rw [zero_int]
  by_cases h : l.val < 8
  · rw [dif_pos h, dif_pos (by omega)]
  · rw [dif_neg h, dif_neg (by omega)]
theorem lanes_at (x : FVec Ideal S4 .f32) (l : Fin 128) : lanes x (ix2 0 l) = if h : 4 ≤ l.val ∧ l.val < 8 then x (ix1 ⟨l.val - 4, by omega⟩) else 0 := by
  pointwise [lanes]
  rw [zero_int]
  by_cases h : 4 ≤ l.val ∧ l.val < 8
  · rw [dif_pos h, dif_pos (by omega)]
  · rw [dif_neg h, dif_neg (by omega)]
theorem blk0 (t : Fin cfg0.N) (r : Fin 512) (k : Fin 1024) : (show EReal from iblk m c 0 t (ix2 r k)) = (input m c).x (t.val / 4) (512 * (t.val % 4) + r.val) k := by
  unfold iblk
  entry_read
  refine (staged0 (shapeCast S65536x1024 (g0 m c) shapeCasts_S32x2048x1024_S65536x1024) t r k).trans ?_
  have ht := lt_t t
  pointwise
  refine Eq.trans ?_ (dif_pos (⟨by omega, by omega⟩ : t.val / 4 < 32 ∧ 512 * (t.val % 4) + r.val < 2048)).symm
  exact congrArg₂ (fun b s => g0 m c (ix3 b s k)) (Fin.ext (by show (512 * t.val + r.val) / 2048 = t.val / 4; omega)) (Fin.ext (by show (512 * t.val + r.val) % 2048 = 512 * (t.val % 4) + r.val; omega))
theorem blk1 (t : Fin cfg0.N) (k : Fin 1024) : (show EReal from iblk m c 1 t (ix2 0 k)) = (input m c).nw k := by
  unfold iblk
  entry_read
  refine (staged1 (shapeCast S1x1024 (g1 m c) shapeCasts_S1024_S1x1024) t k).trans ?_
  pointwise
  rfl
theorem blk2 (t : Fin cfg0.N) (k : Fin 1024) (n : Fin 4096) : (show EReal from iblk m c 2 t (ix2 k n)) = (input m c).w k n.val := by
  unfold iblk
  entry_read
  refine (staged2 (extractStridedSlice S1024x4096 ![0, 0] (g2 m c) slices_S1024x4104_S1024x4096_0_0) t k n).trans ?_
  pointwise
  refine Eq.trans ?_ (dif_pos (show n.val < 4104 by omega)).symm
  rfl
theorem blk3 (t : Fin cfg0.N) (k : Fin 1024) (l : Fin 128) : (show EReal from iblk m c 3 t (ix2 k l)) = (input m c).w k (4096 + l.val) := by
  unfold iblk
  entry_read
  exact (staged3 (tailW (g2 m c)) t k l).trans (tailW_at _ k l)
theorem blk4 (t : Fin cfg0.N) (j : Fin 4) (n : Fin 1536) : (show EReal from iblk m c 4 t (ix2 j n)) = (input m c).cw j.val n.val := by
  unfold iblk
  entry_read
  refine (staged4 (g3 m c) t j n).trans ?_
  refine Eq.trans ?_ (dif_pos (⟨j.isLt, n.isLt⟩ : j.val < 4 ∧ n.val < 1536)).symm
  rfl
theorem blk5 (t : Fin cfg0.N) (l : Fin 128) : (show EReal from iblk m c 5 t (ix2 0 l)) = (input m c).al l.val := by
  unfold iblk
  entry_read
  exact (staged5 (lanes (g4 m c)) t l).trans (lanes_at _ l)
theorem blk6 (t : Fin cfg0.N) (l : Fin 128) : (show EReal from iblk m c 6 t (ix2 0 l)) = (input m c).db l.val := by
  unfold iblk
  entry_read
  exact (staged6 (lanes (g5 m c)) t l).trans (lanes_at _ l)

/-- A grid point, with the blocks it is given. -/
def point (t : Fin cfg0.N) : Pt Ideal :=
  ⟨c, grid0.coords t, ms0_0 t, hs0_0 t, ms0_1 t, hs0_1 t, ms0_2 t, hs0_2 t, ms0_3 t, hs0_3 t, ms0_4 t, hs0_4 t, ms0_5 t, hs0_5 t, ms0_6 t, hs0_6 t,
    ms0_7 t, hs0_7 t, ms0_8 t, hs0_8 t, ms0_9 t, hs0_9 t, scM0_0, Memref.isWhole_whole _,
    iblk m c 0 t, iblk m c 1 t, iblk m c 2 t, iblk m c 3 t, iblk m c 4 t, iblk m c 5 t, iblk m c 6 t⟩

theorem fits (t : Fin cfg0.N) : Fits (point m c t) (input m c) (t.val / 4) (t.val % 4) :=
  ⟨blk0 m c t, blk1 m c t, blk2 m c t, blk3 m c t, blk4 m c t, blk5 m c t, blk6 m c t⟩

end Inp
end
end
-- ==== Proof.InResult.lean ====
module
public import proofs.«01_k».proof.Proof.InScratch
public import proofs.«01_k».proof.Proof.InLaunch

/-! The input projection's three arrays. -/

@[expose] public section
set_option maxRecDepth 16384

open Idealize.ShloMosaic Idealize.ShloMosaic.TcCoe Idealize.SL.Sem
open Cert.InprojIdeal Cert.InprojIdeal.Gen

noncomputable section
namespace Inp

variable (m : (ℓ : Loc nD τ sig) → Buf (Elt Ideal) ℓ) (c : Dev nD)

/-- What the outputs and the scratch hold after a point, given the rows it starts with. -/
def leftBy (a : Pt Ideal) (p : FVec Ideal S8x1536 .f32) : Vec Ideal S512x2048 .f32 × Vec Ideal S512x2048 .bf16 × Vec Ideal S512x128 .f32 × Vec Ideal S520x1536 .f32 :=
  (View.canon a.out7, View.canon (a.out8 p), View.canon a.out9, View.canon (a.scr p 2))

theorem wrote {sp : Space} {s : Shape} {e : EltTy} (v : View sig .tc sp s e) {L L' : List (View.Piece (Elt Ideal) s e)} (h : L = L') :
    v.read (Elt Ideal) (v.writes (Elt Ideal) v.junk L) = View.canon L' := (View.read_writes_junk_eq_canon v L).trans (congrArg View.canon h)

section
variable (a : Pt Ideal) (hc0 : cond0_0 a.i) (hc1 : ¬cond0_1 a.i)
/-- A first tile's outputs and scratch. -/
def leftA : Vec Ideal S512x2048 .f32 × Vec Ideal S512x2048 .bf16 × Vec Ideal S512x128 .f32 × Vec Ideal S520x1536 .f32 :=
  (out0_A_7 a.c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 hc0 hc1 a.x0 a.x1 a.x2 a.x3 a.x4 a.x5 a.x6,
    out0_A_8 a.c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 hc0 hc1 a.x0 a.x1 a.x2 a.x3 a.x4 a.x5 a.x6,
    out0_A_9 a.c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 hc0 hc1 a.x0 a.x1 a.x2 a.x3 a.x4 a.x5 a.x6,
    sout0_A_0 a.c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 hc0 hc1 a.x0 a.x1 a.x2 a.x3 a.x4 a.x5 a.x6)
theorem leftA_eq : leftA a hc0 hc1 = leftBy a k0_pay3 := by
  unfold leftA leftBy out0_A_7 out0_A_8 out0_A_9 sout0_A_0
  exact congrArg₂ Prod.mk (wrote _ (piecesA7 a hc0 hc1)) (congrArg₂ Prod.mk (wrote _ (piecesA8 a hc0 hc1)) (congrArg₂ Prod.mk (wrote _ (piecesA9 a hc0 hc1)) (wrote _ (piecesAs a hc0 hc1))))
end

section
variable (a : Pt Ideal) (hc0 : ¬cond0_0 a.i) (hc1 : cond0_1 a.i) (xs : Vec Ideal S520x1536 .f32)
/-- A later tile's outputs and scratch. -/
def leftB : Vec Ideal S512x2048 .f32 × Vec Ideal S512x2048 .bf16 × Vec Ideal S512x128 .f32 × Vec Ideal S520x1536 .f32 :=
  (out0_B_7 a.c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 hc0 hc1 a.x0 a.x1 a.x2 a.x3 a.x4 a.x5 a.x6 xs,
    out0_B_8 a.c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 hc0 hc1 a.x0 a.x1 a.x2 a.x3 a.x4 a.x5 a.x6 xs,
    out0_B_9 a.c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 hc0 hc1 a.x0 a.x1 a.x2 a.x3 a.x4 a.x5 a.x6 xs,
    sout0_B_0 a.c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 hc0 hc1 a.x0 a.x1 a.x2 a.x3 a.x4 a.x5 a.x6 xs)
theorem leftB_eq : leftB a hc0 hc1 xs = leftBy a (a.carried xs) := by
  unfold leftB leftBy out0_B_7 out0_B_8 out0_B_9 sout0_B_0
  exact congrArg₂ Prod.mk (wrote _ (piecesB7 a hc0 hc1 xs)) (congrArg₂ Prod.mk (wrote _ (piecesB8 a hc0 hc1 xs)) (congrArg₂ Prod.mk (wrote _ (piecesB9 a hc0 hc1 xs)) (wrote _ (piecesBs a hc0 hc1 xs))))
end

theorem left_A (t : Fin cfg0.N) (h : t.val % 4 = 0) : outsAt0 m c t.val t.isLt = leftBy (point m c t) k0_pay3 := by
  rw [outsAt0_A m c t h (not_not.mpr h), ← leftA_eq (point m c t) ((hcond0_0 t).mpr h) (fun h' => (not_not.mpr h) ((hcond0_1 t).mp h'))]
  unfold leftA
  dsimp only [point]
theorem left_B (t : Fin cfg0.N) (h : ¬t.val % 4 = 0) : outsAt0 m c t.val t.isLt =
    leftBy (point m c t) ((point m c t).carried (outsAt0 m c (t.val - 1) (Nat.lt_of_le_of_lt (Nat.sub_le _ _) t.isLt)).2.2.2) := by
  rw [outsAt0_B m c t h h, ← leftB_eq (point m c t) (fun h' => h ((hcond0_0 t).mp h')) ((hcond0_1 t).mpr h)]
  unfold leftB
  dsimp only [point]

theorem leftBy_7 (a : Pt Ideal) (p) : (leftBy a p).1 = View.canon a.out7 := by simp only [leftBy]
theorem leftBy_8 (a : Pt Ideal) (p) : (leftBy a p).2.1 = View.canon (a.out8 p) := by simp only [leftBy]
theorem leftBy_9 (a : Pt Ideal) (p) : (leftBy a p).2.2.1 = View.canon a.out9 := by simp only [leftBy]
theorem leftBy_s (a : Pt Ideal) (p) : (leftBy a p).2.2.2 = View.canon (a.scr p 2) := by simp only [leftBy]
theorem left_succ (n : ℕ) (hn : n + 1 < cfg0.N) (h : ¬(n + 1) % 4 = 0) : outsAt0 m c (n + 1) hn =
    leftBy (point m c ⟨n + 1, hn⟩) ((point m c ⟨n + 1, hn⟩).carried (outsAt0 m c n (Nat.lt_of_succ_lt hn)).2.2.2) := left_B m c ⟨n + 1, hn⟩ h

/-- A tile starts with the rows before it, and leaves them with its own. -/
theorem left_at : ∀ (n : ℕ) (hn : n < cfg0.N), ∃ p, outsAt0 m c n hn = leftBy (point m c ⟨n, hn⟩) p ∧ Before p (input m c) (n / 4) (n % 4)
  | 0, hn => ⟨k0_pay3, left_A m c ⟨0, hn⟩ rfl, before_start⟩
  | n + 1, hn => by
    by_cases h : (n + 1) % 4 = 0
    · refine ⟨k0_pay3, left_A m c ⟨n + 1, hn⟩ h, ?_⟩
      rw [h]
      exact before_start
    · obtain ⟨p, hl, hb⟩ := left_at n (Nat.lt_of_succ_lt hn)
      refine ⟨_, left_succ m c n hn h, ?_⟩
      rw [show (n + 1) / 4 = n / 4 by omega, show (n + 1) % 4 = n % 4 + 1 by omega]
      refine before_carried _ fun y => ?_
      rw [hl, leftBy_s]
      exact canon_at (fits m c ⟨n, Nat.lt_of_succ_lt hn⟩) hb 2 y (by have := (y 1).isLt; simpa using this)

/-- The three results. -/
def array7 : S65536x2048.Idx → EReal := fun y => (input m c).p ((y 0).val / 2048) ((y 0).val % 2048) (y 1).val
def array8 : S65536x2048.Idx → EReal := fun y => (input m c).mix ((y 0).val / 2048) ((y 0).val % 2048) (y 1).val
def array9 : S65536x128.Idx → EReal := fun y => (input m c).gate ((y 0).val / 2048) ((y 0).val % 2048) (y 1).val

theorem idx7 (t : Fin cfg0.N) : win0_7.index t = ![t.val, 0] := (by decide +kernel : ∀ t : Fin grid0.N, win0_7.index t = ![t.val, 0]) t
theorem idx8 (t : Fin cfg0.N) : win0_8.index t = ![t.val, 0] := (by decide +kernel : ∀ t : Fin grid0.N, win0_8.index t = ![t.val, 0]) t
theorem idx9 (t : Fin cfg0.N) : win0_9.index t = ![t.val, 0] := (by decide +kernel : ∀ t : Fin grid0.N, win0_9.index t = ![t.val, 0]) t
theorem staged7 (X : S65536x2048.Idx → EReal) (t : Fin cfg0.N) (r : Fin 512) (k : Fin 2048) :
    X (((cfg0.win 7).blk t).view.emb (ix2 r k)) = X (ix2 ⟨512 * t.val + r.val, by have := lt_t t; omega⟩ k) := by
  blk_ext [idx7 t]
theorem staged8 (X : S65536x2048.Idx → EReal) (t : Fin cfg0.N) (r : Fin 512) (k : Fin 2048) :
    X (((cfg0.win 8).blk t).view.emb (ix2 r k)) = X (ix2 ⟨512 * t.val + r.val, by have := lt_t t; omega⟩ k) := by
  blk_ext [idx8 t]
theorem staged9 (X : S65536x128.Idx → EReal) (t : Fin cfg0.N) (r : Fin 512) (k : Fin 128) :
    X (((cfg0.win 9).blk t).view.emb (ix2 r k)) = X (ix2 ⟨512 * t.val + r.val, by have := lt_t t; omega⟩ k) := by
  blk_ext [idx9 t]

theorem row_of (f : ℕ → ℕ → EReal) (t r : ℕ) (hr : r < 512) : f (t / 4) (512 * (t % 4) + r) = f ((512 * t + r) / 2048) ((512 * t + r) % 2048) := by
  rw [show (512 * t + r) / 2048 = t / 4 by omega, show (512 * t + r) % 2048 = 512 * (t % 4) + r by omega]

theorem array7_eq : (dats m 0 c).arrAt 7 cfg0.N = array7 m c := by
  refine (dats m 0 c).arrAt_eq_of_covers 7 _ (by decide +kernel) fun t hf y => ?_
  blk_simp
  rw [after0_7]
  obtain ⟨p, hl, hb⟩ := left_at m c t.val t.isLt
  rw [hl, leftBy_7]
  refine (out7_at (fits m c t) y).trans ?_
  obtain ⟨r, l, rfl⟩ : ∃ r l, y = ix2 r l := ⟨y 0, y 1, eq_ix2 y⟩
  exact (row_of (fun b s => (input m c).p b s l.val) t.val r.val r.isLt).trans (staged7 (array7 m c) t r l).symm
theorem array8_eq : (dats m 0 c).arrAt 8 cfg0.N = array8 m c := by
  refine (dats m 0 c).arrAt_eq_of_covers 8 _ (by decide +kernel) fun t hf y => ?_
  blk_simp
  rw [after0_8]
  obtain ⟨p, hl, hb⟩ := left_at m c t.val t.isLt
  rw [hl, leftBy_8]
  refine (out8_at (fits m c t) hb y).trans ?_
  obtain ⟨r, l, rfl⟩ : ∃ r l, y = ix2 r l := ⟨y 0, y 1, eq_ix2 y⟩
  exact (row_of (fun b s => (input m c).mix b s l.val) t.val r.val r.isLt).trans (staged8 (array8 m c) t r l).symm
theorem array9_eq : (dats m 0 c).arrAt 9 cfg0.N = array9 m c := by
  refine (dats m 0 c).arrAt_eq_of_covers 9 _ (by decide +kernel) fun t hf y => ?_
  blk_simp
  rw [after0_9]
  obtain ⟨p, hl, hb⟩ := left_at m c t.val t.isLt
  rw [hl, leftBy_9]
  refine (out9_at (fits m c t) y).trans ?_
  obtain ⟨r, l, rfl⟩ : ∃ r l, y = ix2 r l := ⟨y 0, y 1, eq_ix2 y⟩
  exact (row_of (fun b s => (input m c).gate b s l.val) t.val r.val r.isLt).trans (staged9 (array9 m c) t r l).symm

end Inp
end
end
-- ==== Proof.InStages.lean ====
module
public import proofs.«01_k».proof.Proof.Gen.RefInprojIdeal.Run
public import Idealize.ShloMosaic.Lib.Pointwise
public import Idealize.ShloMosaic.Lib.Pipeline.ValueKit

/-! The input projection's reference, step by step. -/

@[expose] public section
set_option maxRecDepth 16384

open Idealize.ShloMosaic Idealize.ShloMosaic.TcCoe Idealize.SL.Sem
open Cert.RefInprojIdeal Cert.RefInprojIdeal.Gen

noncomputable section
namespace Inp.Ref

variable {F : FTy → Type} [FloatOps F]

/-- The normalized rows. -/
def nrm (x : FVec F S32x2048x1024 .f32) (w : FVec F S1024 .f32) : FVec F S32x2048x1024 .f32 :=
  mulf (mulf x (broadcastInDim S32x2048x1024 ![0, 1, 2] bcast_S32x2048x1_S32x2048x1024_0_1_2 (Host.rsqrt (addf (Host.divf (broadcastInDim S32x2048x1 ![0, 1] bcast_S32x2048_S32x2048x1_0_1
      (Host.reduceAdd (mulf x x) (constant S_ .f32 0x00000000#32) reducesTo_S32x2048x1024_S32x2048_d2 h_S_)) (broadcastInDim S32x2048x1 ![] bcast_S_S32x2048x1 (constant S_ .f32 0x44800000#32)))
      (broadcastInDim S32x2048x1 ![] bcast_S_S32x2048x1 (constant S_ .f32 0x358637BD#32))))))
    (broadcastInDim S32x2048x1024 ![0, 1, 2] bcast_S1x1x1024_S32x2048x1024_0_1_2 (broadcastInDim S1x1x1024 ![2] bcast_S1024_S1x1x1024_2 w))
/-- All columns. -/
def prj (h : FVec F S32x2048x1024 .f32) (w : FVec F S1024x4104 .f32) : FVec F S32x2048x4104 .f32 :=
  Host.dotGeneral dot_S32x2048x1024_S1024x4104_S32x2048x4104_2_0_01_1_n_n none h w
/-- The convolved columns, three zero positions before them. -/
def past (p : FVec F S32x2048x4104 .f32) : FVec F S32x2051x1536 .f32 :=
  pad S32x2051x1536 ![0, 3, 0] ![0, 0, 0] ![0, 0, 0] (extractStridedSlice S32x2048x1536 ![0, 0, 2048] p slices_S32x2048x4104_S32x2048x1536_0_0_2048) (sitofp .f32 (constantI S_ 32 0#32)) pads_S32x2048x1536_S32x2051x1536_000_300_000 h_S_
/-- One tap of the convolution. -/
def tap (p : FVec F S32x2051x1536 .f32) (cw : FVec F S4x1536 .f32) (o : Fin 3 → ℕ) (o' : Fin 2 → ℕ) (h : S32x2051x1536.Slices o S32x2048x1536) (h' : S4x1536.Slices o' S1x1536) : FVec F S32x2048x1536 .f32 :=
  mulf (extractStridedSlice S32x2048x1536 o p h) (broadcastInDim S32x2048x1536 ![0, 1, 2] bcast_S1x1x1536_S32x2048x1536_0_1_2 (broadcastInDim S1x1x1536 ![2] bcast_S1536_S1x1x1536_2
    (shapeCast S1536 (extractStridedSlice S1x1536 o' cw h') shapeCasts_S1x1536_S1536)))
/-- The convolution. -/
def cnv (p : FVec F S32x2051x1536 .f32) (cw : FVec F S4x1536 .f32) : FVec F S32x2048x1536 .f32 :=
  addf (addf (addf (tap p cw ![0, 0, 0] ![0, 0] slices_S32x2051x1536_S32x2048x1536_0_0_0 slices_S4x1536_S1x1536_0_0) (tap p cw ![0, 1, 0] ![1, 0] slices_S32x2051x1536_S32x2048x1536_0_1_0 slices_S4x1536_S1x1536_1_0))
    (tap p cw ![0, 2, 0] ![2, 0] slices_S32x2051x1536_S32x2048x1536_0_2_0 slices_S4x1536_S1x1536_2_0)) (tap p cw ![0, 3, 0] ![3, 0] slices_S32x2051x1536_S32x2048x1536_0_3_0 slices_S4x1536_S1x1536_3_0)
/-- The activation, in heads. -/
def heads (x : FVec F S32x2048x1536 .f32) : FVec F S32x2048x3x4x128 .f32 :=
  shapeCast S32x2048x3x4x128 (mulf x (Host.divf (broadcastInDim S32x2048x1536 ![] bcast_S_S32x2048x1536 (constant S_ .f32 0x3F800000#32))
    (addf (broadcastInDim S32x2048x1536 ![] bcast_S_S32x2048x1536 (constant S_ .f32 0x3F800000#32)) (Host.exp (Host.negf x))))) shapeCasts_S32x2048x1536_S32x2048x3x4x128
/-- Queries, before their norm. -/
def q (x : FVec F S32x2048x3x4x128 .f32) : FVec F S32x2048x4x128 .f32 :=
  shapeCast S32x2048x4x128 (extractStridedSlice S32x2048x1x4x128 ![0, 0, 0, 0, 0] x slices_S32x2048x3x4x128_S32x2048x1x4x128_0_0_0_0_0) shapeCasts_S32x2048x1x4x128_S32x2048x4x128
/-- Keys, before their norm. -/
def k (x : FVec F S32x2048x3x4x128 .f32) : FVec F S32x2048x4x128 .f32 :=
  shapeCast S32x2048x4x128 (extractStridedSlice S32x2048x1x4x128 ![0, 0, 1, 0, 0] x slices_S32x2048x3x4x128_S32x2048x1x4x128_0_0_1_0_0) shapeCasts_S32x2048x1x4x128_S32x2048x4x128
/-- Values. -/
def v (x : FVec F S32x2048x3x4x128 .f32) : FVec F S32x2048x4x128 .f32 :=
  shapeCast S32x2048x4x128 (extractStridedSlice S32x2048x1x4x128 ![0, 0, 2, 0, 0] x slices_S32x2048x3x4x128_S32x2048x1x4x128_0_0_2_0_0) shapeCasts_S32x2048x1x4x128_S32x2048x4x128
/-- Unit rows. -/
def unit (x : FVec F S32x2048x4x128 .f32) : FVec F S32x2048x4x128 .f32 :=
  mulf x (broadcastInDim S32x2048x4x128 ![0, 1, 2, 3] bcast_S32x2048x4x1_S32x2048x4x128_0_1_2_3 (Host.rsqrt (addf (broadcastInDim S32x2048x4x1 ![0, 1, 2] bcast_S32x2048x4_S32x2048x4x1_0_1_2
    (Host.reduceAdd (mulf x x) (constant S_ .f32 0x00000000#32) reducesTo_S32x2048x4x128_S32x2048x4_d3 h_S_)) (broadcastInDim S32x2048x4x1 ![] bcast_S_S32x2048x4x1 (constant S_ .f32 0x358637BD#32)))))
/-- Queries: unit rows, scaled. -/
def unitQ (x : FVec F S32x2048x4x128 .f32) : FVec F S32x2048x4x128 .f32 :=
  mulf (unit x) (broadcastInDim S32x2048x4x128 ![] bcast_S_S32x2048x4x128 (constant S_ .f32 0x3DB504F3#32))
/-- The activated gate's columns. -/
def zz (p : FVec F S32x2048x4104 .f32) : FVec F S32x2048x512 .f32 :=
  let z := extractStridedSlice S32x2048x512 ![0, 0, 3584] p slices_S32x2048x4104_S32x2048x512_0_0_3584
  mulf z (Host.divf (broadcastInDim S32x2048x512 ![] bcast_S_S32x2048x512 (constant S_ .f32 0x3F800000#32)) (addf (broadcastInDim S32x2048x512 ![] bcast_S_S32x2048x512 (constant S_ .f32 0x3F800000#32)) (Host.exp (Host.negf z))))
/-- Heads side by side. -/
def flat (x : FVec F S32x2048x4x128 .f32) : FVec F S65536x512 .f32 := shapeCast _ x shapeCasts_S32x2048x4x128_S65536x512
/-- The write rate. -/
def beta (p : FVec F S32x2048x4104 .f32) : FVec F S32x2048x4 .f32 :=
  Host.divf (broadcastInDim S32x2048x4 ![] bcast_S_S32x2048x4 (constant S_ .f32 0x3F800000#32)) (addf (broadcastInDim S32x2048x4 ![] bcast_S_S32x2048x4 (constant S_ .f32 0x3F800000#32))
    (Host.exp (Host.negf (extractStridedSlice S32x2048x4 ![0, 0, 4096] p slices_S32x2048x4104_S32x2048x4_0_0_4096))))
/-- The decay's argument: its column, padded, and its bias, padded. -/
def pre (p : FVec F S32x2048x4104 .f32) (db : FVec F S4 .f32) : FVec F S32x2048x124 .f32 :=
  addf (pad S32x2048x124 ![0, 0, 0] ![0, 0, 120] ![0, 0, 0] (extractStridedSlice S32x2048x4 ![0, 0, 4100] p slices_S32x2048x4104_S32x2048x4_0_0_4100) (sitofp .f32 (constantI S_ 32 0#32)) pads_S32x2048x4_S32x2048x124_000_000_01200 h_S_)
    (broadcastInDim S32x2048x124 ![0, 1, 2] bcast_S1x1x124_S32x2048x124_0_1_2 (broadcastInDim S1x1x124 ![2] bcast_S124_S1x1x124_2 (pad S124 ![0] ![120] ![0] db (sitofp .f32 (constantI S_ 32 0#32)) pads_S4_S124_01200 h_S_)))
/-- `log (1 + exp x)`. -/
def softplus (x : FVec F S32x2048x124 .f32) : FVec F S32x2048x124 .f32 :=
  let o := broadcastInDim S32x2048x124 ![] bcast_S_S32x2048x124 (constant S_ .f32 0x00000000#32)
  select (cmpf .une (subf x o) (subf x o)) (addf x o) (addf (maximumf x o) (Host.log1p (Host.exp (Host.negf (Host.absf (subf x o))))))
/-- The decay. -/
def decay (s : FVec F S32x2048x124 .f32) (al : FVec F S4 .f32) : FVec F S32x2048x124 .f32 :=
  mulf (broadcastInDim S32x2048x124 ![0, 1, 2] bcast_S1x1x124_S32x2048x124_0_1_2 (broadcastInDim S1x1x124 ![2] bcast_S124_S1x1x124_2
    (Host.negf (Host.exp (pad S124 ![0] ![120] ![0] al (sitofp .f32 (constantI S_ 32 0#32)) pads_S4_S124_01200 h_S_))))) s

/-- The first result. -/
def whole0 (p : FVec F S32x2048x4104 .f32) : FVec F S65536x2048 .f32 :=
  shapeCast _ (extractStridedSlice S32x2048x2048 ![0, 0, 0] p slices_S32x2048x4104_S32x2048x2048_0_0_0) shapeCasts_S32x2048x2048_S65536x2048
/-- The second result. -/
def whole1 (p : FVec F S32x2048x4104 .f32) (cw : FVec F S4x1536 .f32) : FVec F S65536x2048 .bf16 :=
  let h := heads (cnv (past p) cw)
  truncf .bf16 (Value.fn_main_v109 (flat (unitQ (q h))) (flat (unit (k h))) (flat (v h)) (shapeCast S65536x512 (zz p) shapeCasts_S32x2048x512_S65536x512)) bitsLt_bf16_f32
/-- The third result. -/
def whole2 (p : FVec F S32x2048x4104 .f32) (al db : FVec F S4 .f32) : FVec F S65536x128 .f32 :=
  Value.fn_main_v113 (shapeCast S65536x4 (beta p) shapeCasts_S32x2048x4_S65536x4) (shapeCast S65536x124 (decay (softplus (pre p db)) al) shapeCasts_S32x2048x124_S65536x124)

variable (m : (ℓ : Loc nD τ sig) → Buf (Elt F) ℓ) (c : Dev nD)
def a0 : FVec F S32x2048x1024 .f32 := m ((c.tc : Thread nD τ).loc main_arg0)
def a1 : FVec F S1024 .f32 := m ((c.tc : Thread nD τ).loc main_arg1)
def a2 : FVec F S1024x4104 .f32 := m ((c.tc : Thread nD τ).loc main_arg2)
def a3 : FVec F S4x1536 .f32 := m ((c.tc : Thread nD τ).loc main_arg3)
def a4 : FVec F S4 .f32 := m ((c.tc : Thread nD τ).loc main_arg4)
def a5 : FVec F S4 .f32 := m ((c.tc : Thread nD τ).loc main_arg5)

set_option maxHeartbeats 1000000 in
theorem result1_eq : Value.res_out1 m c = whole1 (prj (nrm (a0 m c) (a1 m c)) (a2 m c)) (a3 m c) := by
  unfold Value.res_out1 Value.res_main_v110
  rfl
set_option maxHeartbeats 1000000 in
theorem result2_eq : Value.res_out2 m c = whole2 (prj (nrm (a0 m c) (a1 m c)) (a2 m c)) (a4 m c) (a5 m c) := by
  unfold Value.res_out2 Value.res_main_v113
  rfl

end Inp.Ref
end
end
-- ==== Proof.InReference.lean ====
module
public import proofs.«01_k».proof.Proof.InStages
public import proofs.«01_k».proof.Proof.InSpec

/-! The input projection's reference at an index. -/

@[expose] public section
set_option maxRecDepth 16384

open Idealize.ShloMosaic Idealize.ShloMosaic.TcCoe Idealize.SL.Sem
open Cert.RefInprojIdeal Cert.RefInprojIdeal.Gen

noncomputable section
namespace Inp

theorem exp_nonneg (x : EReal) : 0 ≤ Ideal.exp x := by
  induction x using EReal.rec with
  | bot => exact le_rfl
  | top => exact le_top
  | coe r => exact EReal.coe_nonneg.mpr (Real.exp_pos r).le

theorem den_ne (x : EReal) : 1 + Ideal.exp x ≠ 0 :=
  (lt_of_lt_of_le zero_lt_one (le_add_of_nonneg_right (exp_nonneg x))).ne'

/-- The product with the logistic function is the quotient. -/
theorem sw_eq (x : EReal) : x * Ideal.div 1 (1 + Ideal.exp (-x)) = sw x := by
  unfold sw Ideal.div
  rw [zero_sub, if_neg (den_ne _), if_neg (den_ne _), one_mul]

/-- Beyond its columns the projection is zero. -/
theorem p_zero (X nw w cw al db) (b s n : ℕ) (h : 4104 ≤ n) : (In.of X nw w cw al db).p b s n = 0 := by
  unfold In.p
  refine Finset.sum_eq_zero fun k _ => ?_
  have e : (In.of X nw w cw al db).w k n = 0 := dif_neg (by omega)
  rw [e, mul_zero]

theorem sp_eq (x : EReal) : max x 0 + Ideal.log1p (Ideal.exp (-FloatOps.absf (F := Ideal) (φ := .f32) x)) = sp x := by
  unfold sp Ideal.log1p
  rw [zero_sub]

namespace Ref

theorem zero_int : FloatOps.sitofp (F := Ideal) .f32 0#32 = (0 : EReal) := by
  show (((0#32 : BitVec 32).toInt : ℝ) : EReal) = 0
  simp

variable (x : FVec Ideal S32x2048x1024 .f32) (nw : FVec Ideal S1024 .f32) (w : FVec Ideal S1024x4104 .f32) (cw : FVec Ideal S4x1536 .f32) (al db : FVec Ideal S4 .f32)
variable (b : Fin 32) (s : Fin 2048)

/-- All columns of the arguments. -/
abbrev cols : FVec Ideal S32x2048x4104 .f32 := prj (nrm x nw) w

theorem h_at (k : Fin 1024) : nrm x nw (ix3 b s k) = (In.of x nw w cw al db).h b.val s.val k := by
  have e : ∀ k, (In.of x nw w cw al db).x b.val s.val k = x (ix3 b s k) := fun k => dif_pos ⟨b.isLt, s.isLt⟩
  unfold In.h eps
  simp only [e]
  pointwise [nrm]
  rfl
theorem p_at (n : Fin 4104) : cols x nw w (ix3 b s n) = (In.of x nw w cw al db).p b.val s.val n.val := by
  have e : ∀ k, (In.of x nw w cw al db).w k n.val = w (ix2 k n) := fun k => dif_pos n.isLt
  unfold In.p
  simp only [e, ← h_at]
  pointwise [prj]
theorem past_at (s : Fin 2051) (n : Fin 1536) : past (cols x nw w) (ix3 b s n) = (In.of x nw w cw al db).past b.val (s.val + 5) (2048 + n.val) := by
  unfold In.past
  pointwise [past]
  rw [zero_int]
  by_cases h : 3 ≤ s.val
  · rw [dif_pos ⟨h, by omega⟩, if_pos (by omega), p_at x nw w cw al db]
    exact congrArg ((In.of x nw w cw al db).p b.val · _) (by show s.val - 3 = s.val + 5 - 8; omega)
  · rw [dif_neg (fun h' => h h'.1), if_neg (by omega)]
theorem conv_at (n : Fin 1536) : cnv (past (cols x nw w)) cw (ix3 b s n) = (In.of x nw w cw al db).conv b.val s.val n.val := by
  have e : ∀ (j : ℕ) (h : j < 4), cw (ix2 ⟨j, h⟩ n) = (In.of x nw w cw al db).cw j n.val := fun j h => Eq.symm (Eq.trans (dif_pos (⟨h, n.isLt⟩ : j < 4 ∧ n.val < 1536)) rfl)
  pointwise [cnv, tap]
  simp only [past_at x nw w cw al db]
  unfold In.conv
  have e0 : cw (ix2 0 n) = _ := e 0 (by decide)
  have e1 : cw (ix2 1 n) = _ := e 1 (by decide)
  have e2 : cw (ix2 2 n) = _ := e 2 (by decide)
  have e3 : cw (ix2 3 n) = _ := e 3 (by decide)
  have ea : ∀ t0 t1 t2 t3 : EReal, t0 + t1 + t2 + t3 = t3 + t0 + t1 + t2 := fun t0 t1 t2 t3 => by rw [add_comm, ← add_assoc, ← add_assoc]
  rw [e0, e1, e2, e3, ea, show 1 + s.val + 5 = s.val + 6 by omega, show 2 + s.val + 5 = s.val + 7 by omega, show 3 + s.val + 5 = s.val + 8 by omega]

/-- The activation at a column. -/
theorem act_at (n : Fin 1536) : sw (cnv (past (cols x nw w)) cw (ix3 b s n)) = (In.of x nw w cw al db).act b.val s.val n.val := by
  unfold In.act
  rw [conv_at x nw w cw al db]

theorem q_at (y : FVec Ideal S32x2048x1536 .f32) (h : Fin 4) (j : Fin 128) : q (heads y) (ix4 b s h j) = sw (y (ix3 b s ⟨h.val * 128 + j.val, by omega⟩)) := by
  rw [← sw_eq]
  pointwise [q, heads]
theorem k_at (y : FVec Ideal S32x2048x1536 .f32) (h : Fin 4) (j : Fin 128) : k (heads y) (ix4 b s h j) = sw (y (ix3 b s ⟨512 + h.val * 128 + j.val, by omega⟩)) := by
  rw [← sw_eq]
  pointwise [k, heads]
theorem v_at (y : FVec Ideal S32x2048x1536 .f32) (h : Fin 4) (j : Fin 128) : v (heads y) (ix4 b s h j) = sw (y (ix3 b s ⟨1024 + h.val * 128 + j.val, by omega⟩)) := by
  rw [← sw_eq]
  pointwise [v, heads]
theorem unit_at (y : FVec Ideal S32x2048x4x128 .f32) (h : Fin 4) (j : Fin 128) : unit y (ix4 b s h j) = y (ix4 b s h j) * inv (fun i => y (ix4 b s h i)) := by
  unfold inv eps
  pointwise [unit]
theorem unitQ_at (y : FVec Ideal S32x2048x4x128 .f32) (h : Fin 4) (j : Fin 128) :
    unitQ y (ix4 b s h j) = y (ix4 b s h j) * inv (fun i => y (ix4 b s h i)) * Ideal.ofBits .f32 0x3DB504F3#32 := by
  rw [← unit_at]
  pointwise [unitQ]
theorem zz_at (p : FVec Ideal S32x2048x4104 .f32) (j : Fin 512) : zz p (ix3 b s j) = sw (p (ix3 b s ⟨3584 + j.val, by omega⟩)) := by
  rw [← sw_eq]
  pointwise [zz]
theorem flat_at (y : FVec Ideal S32x2048x4x128 .f32) (i : Fin 65536) (j : Fin 512) :
    flat y (ix2 i j) = y (ix4 ⟨i.val / 2048, by omega⟩ ⟨i.val % 2048, by omega⟩ ⟨j.val / 128, by omega⟩ ⟨j.val % 128, by omega⟩) := by
  pointwise [flat]
theorem beta_at (p : FVec Ideal S32x2048x4104 .f32) (j : Fin 4) : beta p (ix3 b s j) = Ideal.div 1 (1 + Ideal.exp (0 - p (ix3 b s ⟨4096 + j.val, by omega⟩))) := by
  rw [zero_sub]
  pointwise [beta]
theorem gate_at (j : Fin 124) : decay (softplus (pre (cols x nw w) db)) al (ix3 b s j) = (In.of x nw w cw al db).gate b.val s.val (4 + j.val) := by
  have e : pre (cols x nw w) db (ix3 b s j) = (In.of x nw w cw al db).p b.val s.val (4096 + (4 + j.val)) + (In.of x nw w cw al db).db (4 + j.val) := by
    pointwise [pre]
    rw [zero_int]
    by_cases h : j.val < 4
    · rw [dif_pos h, dif_pos h, p_at x nw w cw al db]
      refine congrArg₂ (· + ·) (congrArg ((In.of x nw w cw al db).p b.val s.val) (by show 4100 + j.val = 4096 + (4 + j.val); omega)) ?_
      refine Eq.trans ?_ (dif_pos (show 4 ≤ 4 + j.val ∧ 4 + j.val < 8 by omega)).symm
      exact congrArg (fun i => db (ix1 i)) (Fin.ext (by show j.val = 4 + j.val - 4; omega))
    · rw [dif_neg h, dif_neg h, p_zero _ _ _ _ _ _ _ _ _ (by omega)]
      have e0 : (In.of x nw w cw al db).db (4 + j.val) = 0 := dif_neg (by omega)
      rw [e0]
  have ea : (if h : j.val < 4 then al (ix1 ⟨j.val, h⟩) else FloatOps.sitofp (F := Ideal) .f32 0#32) = (In.of x nw w cw al db).al (4 + j.val) := by
    rw [zero_int]
    by_cases h : j.val < 4
    · refine Eq.trans (dif_pos h) (Eq.trans ?_ (dif_pos (show 4 ≤ 4 + j.val ∧ 4 + j.val < 8 by omega)).symm)
      exact congrArg (fun i => al (ix1 i)) (Fin.ext (by show j.val = 4 + j.val - 4; omega))
    · have e0 : (In.of x nw w cw al db).al (4 + j.val) = 0 := dif_neg (by omega)
      rw [dif_neg h, e0]
  unfold In.gate
  rw [if_neg (by omega), ← ea, ← sp_eq, ← e]
  pointwise [decay, softplus]
  rw [if_neg (not_not.mpr rfl), zero_sub]

/-- The second result's four parts. -/
theorem join1_at (q k v z : FVec Ideal S65536x512 .f32) (i : Fin 65536) (j : Fin 2048) :
    truncf (s := S65536x2048) (F := Ideal) (φ := .f32) .bf16 (Value.fn_main_v109 (F := Ideal) q k v z) bitsLt_bf16_f32 (ix2 i j) =
      if h : j.val < 512 then q (ix2 i ⟨j.val, h⟩) else if h : j.val - 512 < 512 then k (ix2 i ⟨j.val - 512, h⟩)
      else if h : j.val - 512 - 512 < 512 then v (ix2 i ⟨j.val - 512 - 512, h⟩) else z (ix2 i ⟨j.val - 512 - 512 - 512, by omega⟩) := by
  pointwise [Value.fn_main_v109]
/-- The third result's two parts. -/
theorem join2_at (q : FVec Ideal S65536x4 .f32) (k : FVec Ideal S65536x124 .f32) (i : Fin 65536) (j : Fin 128) :
    Value.fn_main_v113 (F := Ideal) q k (ix2 i j) = if h : j.val < 4 then q (ix2 i ⟨j.val, h⟩) else k (ix2 i ⟨j.val - 4, by omega⟩) := by
  pointwise [Value.fn_main_v113]

variable (i : Fin 65536)

theorem whole0_at (j : Fin 2048) : whole0 (cols x nw w) (ix2 i j) = (In.of x nw w cw al db).p (i.val / 2048) (i.val % 2048) j.val := by
  refine Eq.trans ?_ (p_at x nw w cw al db ⟨i.val / 2048, by omega⟩ ⟨i.val % 2048, by omega⟩ ⟨j.val, by omega⟩)
  pointwise [whole0]

theorem whole1_at (j : Fin 2048) : whole1 (cols x nw w) cw (ix2 i j) = (In.of x nw w cw al db).mix (i.val / 2048) (i.val % 2048) j.val := by
  have A : ∀ (n : Fin 1536) (n' : ℕ), n.val = n' → sw (cnv (past (cols x nw w)) cw (ix3 ⟨i.val / 2048, by omega⟩ ⟨i.val % 2048, by omega⟩ n)) =
      (In.of x nw w cw al db).act (i.val / 2048) (i.val % 2048) n' := fun n n' e => e ▸ act_at x nw w cw al db _ _ n
  have hz : ∀ (y : FVec Ideal S32x2048x512 .f32) (j : Fin 512), shapeCast S65536x512 y shapeCasts_S32x2048x512_S65536x512 (ix2 i j) =
      y (ix3 ⟨i.val / 2048, by omega⟩ ⟨i.val % 2048, by omega⟩ j) := fun y j => by pointwise
  unfold whole1
  refine (join1_at _ _ _ _ i j).trans ?_
  unfold In.mix
  by_cases h1 : j.val < 512
  · rw [dif_pos h1, if_pos h1, flat_at, unitQ_at]
    simp only [q_at]
    exact congrArg (· * _) (congrArg₂ (· * ·) (A _ _ (by show j.val / 128 * 128 + j.val % 128 = j.val; omega))
      (congrArg inv (funext fun l => A _ _ (by show j.val / 128 * 128 + l.val = 128 * (j.val / 128) + l.val; omega))))
  rw [dif_neg h1, if_neg h1]
  by_cases h2 : j.val < 1024
  · rw [dif_pos (by omega), if_pos h2, flat_at, unit_at]
    simp only [k_at]
    exact congrArg₂ (· * ·) (A _ _ (by show 512 + (j.val - 512) / 128 * 128 + (j.val - 512) % 128 = j.val; omega))
      (congrArg inv (funext fun l => A _ _ (by show 512 + (j.val - 512) / 128 * 128 + l.val = 128 * (j.val / 128) + l.val; omega)))
  rw [dif_neg (by omega), if_neg h2]
  by_cases h3 : j.val < 1536
  · rw [dif_pos (by omega), if_pos h3, flat_at, v_at]
    exact A _ _ (by show 1024 + (j.val - 512 - 512) / 128 * 128 + (j.val - 512 - 512) % 128 = j.val; omega)
  · rw [dif_neg (by omega), if_neg h3, hz, zz_at, p_at x nw w cw al db]
    exact congrArg (fun n => sw ((In.of x nw w cw al db).p _ _ n)) (by show 3584 + (j.val - 512 - 512 - 512) = 2048 + j.val; omega)

theorem whole2_at (j : Fin 128) : whole2 (cols x nw w) al db (ix2 i j) = (In.of x nw w cw al db).gate (i.val / 2048) (i.val % 2048) j.val := by
  have hb : ∀ (y : FVec Ideal S32x2048x4 .f32) (j : Fin 4), shapeCast S65536x4 y shapeCasts_S32x2048x4_S65536x4 (ix2 i j) =
      y (ix3 ⟨i.val / 2048, by omega⟩ ⟨i.val % 2048, by omega⟩ j) := fun y j => by pointwise
  have hg : ∀ (y : FVec Ideal S32x2048x124 .f32) (j : Fin 124), shapeCast S65536x124 y shapeCasts_S32x2048x124_S65536x124 (ix2 i j) =
      y (ix3 ⟨i.val / 2048, by omega⟩ ⟨i.val % 2048, by omega⟩ j) := fun y j => by pointwise
  unfold whole2
  refine (join2_at _ _ i j).trans ?_
  by_cases h : j.val < 4
  · unfold In.gate
    rw [dif_pos h, if_pos h, hb, beta_at, p_at x nw w cw al db]
  · rw [dif_neg h, hg, gate_at x nw w cw al db]
    exact congrArg ((In.of x nw w cw al db).gate _ _) (by show 4 + (j.val - 4) = j.val; omega)

end Ref
end Inp
end
end
-- ==== Proof.OutRing.lean ====
module
public import proofs.«01_k».proof.Proof.Gen.OutprojIdeal.Launch
public import proofs.«01_k».proof.Proof.Gen.OutprojIdeal.Skeleton
public import proofs.«01_k».proof.Proof.Gen.OutprojIdeal.Loops
public import proofs.«01_k».proof.Proof.Gen.OutprojIdeal.Points
public import Idealize.ShloMosaic.Lib.Pipeline.KitQuiescent
public import Idealize.ShloMosaic.Lib.Ring.WriteBehind
public import Idealize.ShloMosaic.Lib.Tactic

@[expose] public section

set_option maxRecDepth 16384

noncomputable section

namespace Cert.Proof.OutRing

open Cert.OutprojIdeal Cert.OutprojIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

/-! ## Names of the row blocks, the slots and the cells -/

abbrev xM : Memref sig .tc .hbm S65536x1024 .f32 := Memref.whole main_v1
abbrev aM : Memref sig .tc .hbm S65536x512 .bf16 := Memref.whole main_v2
abbrev dM : Memref sig .tc .hbm S65536x512 .bf16 := Memref.whole main_v3
abbrev oM : Memref sig .tc .hbm S65536x1024 .f32 := Memref.whole main_v7
abbrev xB : Memref sig .tc .vmem S3x1024x1024 .f32 := Memref.whole cc0_scratch0
abbrev aB : Memref sig .tc .vmem S3x1024x512 .bf16 := Memref.whole cc0_scratch1
abbrev dB : Memref sig .tc .vmem S3x1024x512 .bf16 := Memref.whole cc0_scratch2
abbrev oB : Memref sig .tc .vmem S2x1024x1024 .f32 := Memref.whole cc0_scratch3

abbrev rowOff (b : Fin 64) : Fin 2 → Nat := ![1024 * b.val, 0]
theorem rowOff_inb (b : Fin 64) : ∀ a, rowOff b a + S1024x1024.size a ≤ S65536x1024.size a := by
  have := b.isLt; intro a; fin_cases a
  · show 1024 * b.val + 1024 ≤ 65536; omega
  · show 0 + 1024 ≤ 1024; omega
theorem rowOff_inb' (b : Fin 64) : ∀ a, rowOff b a + S1024x512.size a ≤ S65536x512.size a := by
  have := b.isLt; intro a; fin_cases a
  · show 1024 * b.val + 1024 ≤ 65536; omega
  · show 0 + 512 ≤ 512; omega
abbrev slotOff {n : ℕ} (s : Fin n) : Fin 3 → Nat := ![s.val, 0, 0]
theorem slotOff_inb (s : Fin 3) : ∀ a, slotOff s a + S1x1024x1024.size a ≤ S3x1024x1024.size a := by
  have := s.isLt; intro a; fin_cases a
  · show s.val + 1 ≤ 3; omega
  · show 0 + 1024 ≤ 1024; omega
  · show 0 + 1024 ≤ 1024; omega
theorem slotOff_inb' (s : Fin 3) : ∀ a, slotOff s a + S1x1024x512.size a ≤ S3x1024x512.size a := by
  have := s.isLt; intro a; fin_cases a
  · show s.val + 1 ≤ 3; omega
  · show 0 + 1024 ≤ 1024; omega
  · show 0 + 512 ≤ 512; omega
theorem slotOff_inb2 (s : Fin 2) : ∀ a, slotOff s a + S1x1024x1024.size a ≤ S2x1024x1024.size a := by
  have := s.isLt; intro a; fin_cases a
  · show s.val + 1 ≤ 2; omega
  · show 0 + 1024 ≤ 1024; omega
  · show 0 + 1024 ≤ 1024; omega
abbrev semOff (r s : Fin 3) : Fin 2 → Nat := ![r.val, s.val]
theorem semOff_inb (r s : Fin 3) : ∀ a, semOff r s a + S1x1.size a ≤ S3x3.size a := by
  have := r.isLt; have := s.isLt; intro a; fin_cases a
  · show r.val + 1 ≤ 3; omega
  · show s.val + 1 ≤ 3; omega
abbrev osemOff (s : Fin 2) : Fin 1 → Nat := ![s.val]
theorem osemOff_inb (s : Fin 2) : ∀ a, osemOff s a + S1.size a ≤ S2.size a := by
  have := s.isLt; intro a; fin_cases a; show s.val + 1 ≤ 2; omega

/-- Rows `1024 b` to `1024 b + 1023` of an array of wide rows. -/
def wide (M : Memref sig .tc .hbm S65536x1024 .f32) (b : Fin 64) : Memref sig .tc .hbm S1024x1024 .f32 :=
  M.slice (Rect.unit (s := S65536x1024) (rowOff b) S1024x1024.size (rowOff_inb b)) (fun _ => rfl)
/-- The same of an array of half rows. -/
def half (M : Memref sig .tc .hbm S65536x512 .bf16) (b : Fin 64) : Memref sig .tc .hbm S1024x512 .bf16 :=
  M.slice (Rect.unit (s := S65536x512) (rowOff b) S1024x512.size (rowOff_inb' b)) (fun _ => rfl)
/-- Slot `s` of the buffer of wide blocks. -/
def xslot (s : Fin 3) : Memref sig .tc .vmem S1024x1024 .f32 :=
  (xB.slice (Rect.unit (s := S3x1024x1024) (slotOff s) S1x1024x1024.size (slotOff_inb s)) (fun _ => rfl)).squeeze S1024x1024 squeezes_S1x1024x1024_S1024x1024
/-- Slot `s` of a buffer of half blocks. -/
def hslot (B : Memref sig .tc .vmem S3x1024x512 .bf16) (s : Fin 3) : Memref sig .tc .vmem S1024x512 .bf16 :=
  (B.slice (Rect.unit (s := S3x1024x512) (slotOff s) S1x1024x512.size (slotOff_inb' s)) (fun _ => rfl)).squeeze S1024x512 squeezes_S1x1024x512_S1024x512
/-- Slot `s` of the buffer of finished blocks. -/
def oslot (s : Fin 2) : Memref sig .tc .vmem S1024x1024 .f32 :=
  (oB.slice (Rect.unit (s := S2x1024x1024) (slotOff s) S1x1024x1024.size (slotOff_inb2 s)) (fun _ => rfl)).squeeze S1024x1024 squeezes_S1x1024x1024_S1024x1024
/-- The cell on which array `r`'s copy into slot `s` completes. -/
def csm (r s : Fin 3) : DmaSems sig S_ := (cc0_scratch4.slice (Rect.unit (s := S3x3) (semOff r s) S1x1.size (semOff_inb r s))).squeeze S_ squeezes_S1x1_S_
/-- The cell on which the copy out of slot `s` completes. -/
def osm (s : Fin 2) : DmaSems sig S_ := (cc0_scratch5.slice (Rect.unit (s := S2) (osemOff s) S1.size (osemOff_inb s))).squeeze S_ squeezes_S1_S_

instance (n : ℕ) (s : Fin n) : ClosedOff (slotOff s) := ⟨slotOff s, rfl⟩
instance (b : Fin 64) : ClosedOff (rowOff b) := ⟨rowOff b, rfl⟩

/-! ## The printed slices are these -/

theorem trips_eq : k0_t1_loop.trips = 64 := by decide

theorem wide_congr (M : Memref sig .tc .hbm S65536x1024 .f32) {off : Fin 2 → Nat} {b : Fin 64} (e : off = rowOff b) (hh hs) :
    M.slice (Rect.unit (s := S65536x1024) off S1024x1024.size hh) hs = wide M b := Memref.slice_unit_congr _ e _ _ _ (fun _ => rfl)
theorem half_congr (M : Memref sig .tc .hbm S65536x512 .bf16) {off : Fin 2 → Nat} {b : Fin 64} (e : off = rowOff b) (hh hs) :
    M.slice (Rect.unit (s := S65536x512) off S1024x512.size hh) hs = half M b := Memref.slice_unit_congr _ e _ _ _ (fun _ => rfl)
theorem xslot_congr {off : Fin 3 → Nat} {s : Fin 3} (e : off = slotOff s) (hh hs) :
    (xB.slice (Rect.unit (s := S3x1024x1024) off S1x1024x1024.size hh) hs).squeeze S1024x1024 squeezes_S1x1024x1024_S1024x1024 = xslot s :=
  congrArg (fun M : Memref sig .tc .vmem S1x1024x1024 .f32 => M.squeeze S1024x1024 squeezes_S1x1024x1024_S1024x1024) (Memref.slice_unit_congr _ e _ _ _ _)
theorem hslot_congr (B : Memref sig .tc .vmem S3x1024x512 .bf16) {off : Fin 3 → Nat} {s : Fin 3} (e : off = slotOff s) (hh hs) :
    (B.slice (Rect.unit (s := S3x1024x512) off S1x1024x512.size hh) hs).squeeze S1024x512 squeezes_S1x1024x512_S1024x512 = hslot B s :=
  congrArg (fun M : Memref sig .tc .vmem S1x1024x512 .bf16 => M.squeeze S1024x512 squeezes_S1x1024x512_S1024x512) (Memref.slice_unit_congr _ e _ _ _ _)
theorem oslot_congr {off : Fin 3 → Nat} {s : Fin 2} (e : off = slotOff s) (hh hs) :
    (oB.slice (Rect.unit (s := S2x1024x1024) off S1x1024x1024.size hh) hs).squeeze S1024x1024 squeezes_S1x1024x1024_S1024x1024 = oslot s :=
  congrArg (fun M : Memref sig .tc .vmem S1x1024x1024 .f32 => M.squeeze S1024x1024 squeezes_S1x1024x1024_S1024x1024) (Memref.slice_unit_congr _ e _ _ _ _)
theorem csm_congr {off : Fin 2 → Nat} {r s : Fin 3} (e : off = semOff r s) (hh) :
    (cc0_scratch4.slice (Rect.unit (s := S3x3) off S1x1.size hh)).squeeze S_ squeezes_S1x1_S_ = csm r s :=
  congrArg (fun A : DmaSems sig S1x1 => A.squeeze S_ squeezes_S1x1_S_) (SemArray.slice_unit_congr _ e _ _)
theorem osm_congr {off : Fin 1 → Nat} {s : Fin 2} (e : off = osemOff s) (hh) :
    (cc0_scratch5.slice (Rect.unit (s := S2) off S1.size hh)).squeeze S_ squeezes_S1_S_ = osm s :=
  congrArg (fun A : DmaSems sig S1 => A.squeeze S_ squeezes_S1_S_) (SemArray.slice_unit_congr _ e _ _)

section Canon
variable (k : Fin k0_t1_loop.trips)

theorem slv (n t : ℕ) [NeZero n] : (Ring.sl n t).val = t % n := by simp [Ring.sl, Fin.ofNat]
theorem row_of {off : Fin 2 → Nat} {t : ℕ} (ht : t < 64) (e : off = ![1024 * t, 0]) : off = rowOff (Ring.bk 64 t) := by
  rw [e]; unfold rowOff; rw [Ring.bk_val ht]
theorem slot_of {off : Fin 3 → Nat} {n t : ℕ} [NeZero n] (e : off = ![t % n, 0, 0]) : off = slotOff (Ring.sl n t) := by
  rw [e]; unfold slotOff; rw [slv]
theorem sem_of {off : Fin 2 → Nat} {r : Fin 3} {t : ℕ} (e : off = ![r.val, t % 3]) : off = semOff r (Ring.sl 3 t) := by
  rw [e]; unfold semOff; rw [slv]
theorem osem_of {off : Fin 1 → Nat} {t : ℕ} (e : off = ![t % 2]) : off = osemOff (Ring.sl 2 t) := by
  rw [e]; unfold osemOff; rw [slv]
theorem k64 : k.val < 64 := Nat.lt_of_lt_of_eq k.isLt trips_eq
theorem off3_row : k0_off3 k = ![1024 * (k.val + 2), 0] := k0_off3_eq k
theorem off6_row : k0_off6 k = ![1024 * (k.val + 2), 0] := k0_off6_eq k
theorem off16_row : ∀ k : Fin k0_t1_loop.trips, 2 ≤ k.val → k0_off16 k = ![1024 * (k.val - 2), 0] := by decide +kernel

@[sl_canon] theorem c_off1 (hh) : (cc0_scratch4.slice (Rect.unit (s := S3x3) (k0_off1 k) S1x1.size hh)).squeeze S_ squeezes_S1x1_S_ = csm 0 (Ring.sl 3 (k.val + 2)) := csm_congr (sem_of (k0_off1_eq k)) _
@[sl_canon] theorem c_off4 (hh) : (cc0_scratch4.slice (Rect.unit (s := S3x3) (k0_off4 k) S1x1.size hh)).squeeze S_ squeezes_S1x1_S_ = csm 1 (Ring.sl 3 (k.val + 2)) := csm_congr (sem_of (k0_off4_eq k)) _
@[sl_canon] theorem c_off7 (hh) : (cc0_scratch4.slice (Rect.unit (s := S3x3) (k0_off7 k) S1x1.size hh)).squeeze S_ squeezes_S1x1_S_ = csm 2 (Ring.sl 3 (k.val + 2)) := csm_congr (sem_of (k0_off7_eq k)) _
@[sl_canon] theorem c_off8 (hh) : (cc0_scratch4.slice (Rect.unit (s := S3x3) (k0_off8 k) S1x1.size hh)).squeeze S_ squeezes_S1x1_S_ = csm 0 (Ring.sl 3 k.val) := csm_congr (sem_of (k0_off8_eq k)) _
@[sl_canon] theorem c_off11 (hh) : (cc0_scratch4.slice (Rect.unit (s := S3x3) (k0_off11 k) S1x1.size hh)).squeeze S_ squeezes_S1x1_S_ = csm 1 (Ring.sl 3 k.val) := csm_congr (sem_of (k0_off11_eq k)) _
@[sl_canon] theorem c_off14 (hh) : (cc0_scratch4.slice (Rect.unit (s := S3x3) (k0_off14 k) S1x1.size hh)).squeeze S_ squeezes_S1x1_S_ = csm 2 (Ring.sl 3 k.val) := csm_congr (sem_of (k0_off14_eq k)) _
@[sl_canon] theorem c_off15 (hh) : (cc0_scratch5.slice (Rect.unit (s := S2) (k0_off15 k) S1.size hh)).squeeze S_ squeezes_S1_S_ = osm (Ring.sl 2 k.val) := osm_congr (osem_of (k0_off15_eq k)) _
@[sl_canon] theorem c_off21 (hh) : (cc0_scratch5.slice (Rect.unit (s := S2) (k0_off21 k) S1.size hh)).squeeze S_ squeezes_S1_S_ = osm (Ring.sl 2 k.val) := osm_congr (osem_of (k0_off21_eq k)) _
@[sl_canon] theorem c_off2 (hh hs) : (xB.slice (Rect.unit (s := S3x1024x1024) (k0_off2 k) S1x1024x1024.size hh) hs).squeeze S1024x1024 squeezes_S1x1024x1024_S1024x1024 = xslot (Ring.sl 3 (k.val + 2)) := xslot_congr (slot_of (k0_off2_eq k)) _ _
@[sl_canon] theorem c_off9 (hh hs) : (xB.slice (Rect.unit (s := S3x1024x1024) (k0_off9 k) S1x1024x1024.size hh) hs).squeeze S1024x1024 squeezes_S1x1024x1024_S1024x1024 = xslot (Ring.sl 3 k.val) := xslot_congr (slot_of (k0_off9_eq k)) _ _
@[sl_canon] theorem c_off5 (B) (hh hs) : (Memref.slice B (Rect.unit (s := S3x1024x512) (k0_off5 k) S1x1024x512.size hh) hs).squeeze S1024x512 squeezes_S1x1024x512_S1024x512 = hslot B (Ring.sl 3 (k.val + 2)) := hslot_congr B (slot_of (k0_off5_eq k)) _ _
@[sl_canon] theorem c_off12 (B) (hh hs) : (Memref.slice B (Rect.unit (s := S3x1024x512) (k0_off12 k) S1x1024x512.size hh) hs).squeeze S1024x512 squeezes_S1x1024x512_S1024x512 = hslot B (Ring.sl 3 k.val) := hslot_congr B (slot_of (k0_off12_eq k)) _ _
@[sl_canon] theorem c_off17 (hh hs) : (oB.slice (Rect.unit (s := S2x1024x1024) (k0_off17 k) S1x1024x1024.size hh) hs).squeeze S1024x1024 squeezes_S1x1024x1024_S1024x1024 = oslot (Ring.sl 2 k.val) := oslot_congr (slot_of (k0_off17_eq k)) _ _
@[sl_canon] theorem c_off22 (hh hs) : (oB.slice (Rect.unit (s := S2x1024x1024) (k0_off22 k) S1x1024x1024.size hh) hs).squeeze S1024x1024 squeezes_S1x1024x1024_S1024x1024 = oslot (Ring.sl 2 k.val) := oslot_congr (slot_of (k0_off22_eq k)) _ _
@[sl_canon] theorem c_off3 (M) (h : k.val + 2 < 64) (hh hs) : Memref.slice M (Rect.unit (s := S65536x1024) (k0_off3 k) S1024x1024.size hh) hs = wide M (Ring.bk 64 (k.val + 2)) := wide_congr M (row_of h (off3_row k)) _ _
@[sl_canon] theorem c_off10 (M) (hh hs) : Memref.slice M (Rect.unit (s := S65536x1024) (k0_off10 k) S1024x1024.size hh) hs = wide M (Ring.bk 64 k.val) := wide_congr M (row_of (k64 k) (k0_off10_eq k)) _ _
@[sl_canon] theorem c_off16 (M) (h : 2 ≤ k.val) (hh hs) : Memref.slice M (Rect.unit (s := S65536x1024) (k0_off16 k) S1024x1024.size hh) hs = wide M (Ring.bk 64 (k.val - 2)) := wide_congr M (row_of (by have := k64 k; omega) (off16_row k h)) _ _
@[sl_canon] theorem c_off6 (M) (h : k.val + 2 < 64) (hh hs) : Memref.slice M (Rect.unit (s := S65536x512) (k0_off6 k) S1024x512.size hh) hs = half M (Ring.bk 64 (k.val + 2)) := half_congr M (row_of h (off6_row k)) _ _
@[sl_canon] theorem c_off13 (M) (hh hs) : Memref.slice M (Rect.unit (s := S65536x512) (k0_off13 k) S1024x512.size hh) hs = half M (Ring.bk 64 k.val) := half_congr M (row_of (k64 k) (k0_off13_eq k)) _ _

instance (k : Fin k0_t1_loop.trips) : ClosedOff (k0_off18 k) := ⟨slotOff (Ring.sl 3 k.val), slot_of (k0_off18_eq k)⟩
instance (k : Fin k0_t1_loop.trips) : ClosedOff (k0_off19 k) := ⟨slotOff (Ring.sl 3 k.val), slot_of (k0_off19_eq k)⟩
instance (k : Fin k0_t1_loop.trips) : ClosedOff (k0_off20 k) := ⟨slotOff (Ring.sl 2 k.val), slot_of (k0_off20_eq k)⟩

theorem cond1_iff : ∀ k : Fin k0_t1_loop.trips, k0_cond1 k = 1#1 ↔ k.val + 2 < 64 := by decide +kernel
theorem cond2_iff : ∀ k : Fin k0_t1_loop.trips, k0_cond2 k = 1#1 ↔ 2 ≤ k.val := by decide +kernel

end Canon

/-! ## What is held: blocks, slots, cells, copies on the way -/

section Pieces
variable (c : Dev nD)

abbrev cellP (r s : Fin 3) : sProp 𝕄 := semVal ((c : Thread nD τ), SemLoc.dma (csm r s).sem) 0
abbrev ocellP (s : Fin 2) : sProp 𝕄 := semVal ((c : Thread nD τ), SemLoc.dma (osm s).sem) 0
/-- A whole memref's elements held at `f`. -/
abbrev held {sp : Space} {sh : Shape} {e : EltTy} (M : Memref sig .tc sp sh e) (f : Buf (Elt F) (M.view.loc (c : Thread nD τ))) : sProp 𝕄 :=
  M.view.loc (c : Thread nD τ) ↦[M.view.set]{fullShare} f
/-- Block `b` of an array, held at the array's contents. -/
abbrev xhome (X : Buf (Elt F) (xM.view.loc (c : Thread nD τ))) (b : Fin 64) : sProp 𝕄 := held c (wide xM b) X
abbrev hhome (M : Memref sig .tc .hbm S65536x512 .bf16) (X : Buf (Elt F) (M.view.loc (c : Thread nD τ))) (b : Fin 64) : sProp 𝕄 := held c (half M b) X
/-- A block on its way into a slot: the copy's amount, and what it will hand over. -/
abbrev xflight (X : Buf (Elt F) (xM.view.loc (c : Thread nD τ))) (s : Fin 3) (b : Fin 64) (f : Buf (Elt F) ((xslot s).view.loc (c : Thread nD τ))) : sProp 𝕄 :=
  Transfers.Flight countersEmb (c : Thread nD τ) (SemLoc.dma (csm 0 s).sem) () 131072
    iprop(held c (xslot s) ((xslot s).view.writes (Elt F) f [⟨Rect.whole S1024x1024, ReadAs.same.apply ((wide xM b).view.read (Elt F) X)⟩]) ∗ held c (wide xM b) X)
abbrev hflight (r : Fin 3) (M : Memref sig .tc .hbm S65536x512 .bf16) (B : Memref sig .tc .vmem S3x1024x512 .bf16)
    (X : Buf (Elt F) (M.view.loc (c : Thread nD τ))) (s : Fin 3) (b : Fin 64) (f : Buf (Elt F) ((hslot B s).view.loc (c : Thread nD τ))) : sProp 𝕄 :=
  Transfers.Flight countersEmb (c : Thread nD τ) (SemLoc.dma (csm r s).sem) () 32768
    iprop(held c (hslot B s) ((hslot B s).view.writes (Elt F) f [⟨Rect.whole S1024x512, ReadAs.same.apply ((half M b).view.read (Elt F) X)⟩]) ∗ held c (half M b) X)
abbrev oflight (s : Fin 2) (b : Fin 64) (f : Buf (Elt F) ((wide oM b).view.loc (c : Thread nD τ))) (g : Buf (Elt F) ((oslot s).view.loc (c : Thread nD τ))) : sProp 𝕄 :=
  Transfers.Flight countersEmb (c : Thread nD τ) (SemLoc.dma (osm s).sem) () 131072
    iprop(held c (wide oM b) f ∗ held c (oslot s) g)

/-! What one slot of each array is when free, and on its way. -/
abbrev free3 (s : Fin 3) : sProp 𝕄 :=
  iprop((cellP (F := F) c 0 s ∗ ∃ f : Buf (Elt F) ((xslot s).view.loc (c : Thread nD τ)), held c (xslot s) f)
    ∗ (cellP c 1 s ∗ ∃ f : Buf (Elt F) ((hslot aB s).view.loc (c : Thread nD τ)), held c (hslot aB s) f)
    ∗ (cellP c 2 s ∗ ∃ f : Buf (Elt F) ((hslot dB s).view.loc (c : Thread nD τ)), held c (hslot dB s) f))
abbrev ofree (s : Fin 2) : sProp 𝕄 :=
  iprop(ocellP (F := F) c s ∗ ∃ g : Buf (Elt F) ((oslot s).view.loc (c : Thread nD τ)), held c (oslot s) g)
abbrev oahead (b : Fin 64) : sProp 𝕄 :=
  iprop(∃ f : Buf (Elt F) ((wide oM b).view.loc (c : Thread nD τ)), held c (wide oM b) f)

end Pieces

/-! ## Reading what a slot was filled with -/

theorem up512 : S1024x512.ShapeCasts S1x1024x512 := shapeCasts_S1x1024x512_S1024x512.symm
theorem up1024 : S1024x1024.ShapeCasts S1x1024x1024 := shapeCasts_S1x1024x1024_S1024x1024.symm

theorem hslot_load (B : Memref sig .tc .vmem S3x1024x512 .bf16) {off : Fin 3 → Nat} {s : Fin 3} (e : off = slotOff s) (hh)
    (f : (hslot B s).view.ty.Contents (Elt F)) (p : S1024x512.Idx → Elt F .bf16) :
    B.view.readAt (Elt F) (Rect.unit (s := S3x1024x512) off S1x1024x512.size hh).toLoadRect ((hslot B s).view.writes (Elt F) f [⟨Rect.whole S1024x512, p⟩])
      = shapeCast S1x1024x512 p up512 := by
  subst e; funext z
  have h := congrFun (View.read_writes_whole (hslot B s).view f p) ((Shape.reshapeEquiv up512) z)
  have e : Shape.reshapeEquiv squeezes_S1x1024x512_S1024x512.numel_eq ((Shape.reshapeEquiv up512) z) = z :=
    (Shape.reshapeEquiv_reshapeEquiv _ _ _).trans (Shape.reshapeEquiv_self _ _)
  refine Eq.trans ?_ h
  conv_lhs => rw [← e]
  rfl
theorem xslot_load {off : Fin 3 → Nat} {s : Fin 3} (e : off = slotOff s) (hh)
    (f : (xslot s).view.ty.Contents (Elt F)) (p : S1024x1024.Idx → Elt F .f32) :
    xB.view.readAt (Elt F) (Rect.unit (s := S3x1024x1024) off S1x1024x1024.size hh).toLoadRect ((xslot s).view.writes (Elt F) f [⟨Rect.whole S1024x1024, p⟩])
      = shapeCast S1x1024x1024 p up1024 := by
  subst e; funext z
  have h := congrFun (View.read_writes_whole (xslot s).view f p) ((Shape.reshapeEquiv up1024) z)
  have e : Shape.reshapeEquiv squeezes_S1x1024x1024_S1024x1024.numel_eq ((Shape.reshapeEquiv up1024) z) = z :=
    (Shape.reshapeEquiv_reshapeEquiv _ _ _).trans (Shape.reshapeEquiv_self _ _)
  refine Eq.trans ?_ h
  conv_lhs => rw [← e]
  rfl
theorem oslot_store {off : Fin 3 → Nat} {s : Fin 2} (e : off = slotOff s) (hh)
    (g : (oslot s).view.ty.Contents (Elt F)) (p : S1x1024x1024.Idx → Elt F .f32) :
    (oslot s).view.read (Elt F) ((oB.access (Rect.unit (s := S2x1024x1024) off S1x1024x1024.size hh)).write (Elt F) g p Finset.univ)
      = shapeCast S1024x1024 p shapeCasts_S1x1024x1024_S1024x1024 := by
  subst e; funext y
  exact congrFun (View.read_write_univ (v := oB.access (Rect.unit (s := S2x1024x1024) (slotOff s) S1x1024x1024.size (slotOff_inb2 s))) g p) _
theorem down_up (p : S1024x512.Idx → Elt F .bf16) : shapeCast S1024x512 (shapeCast S1x1024x512 p up512) shapeCasts_S1x1024x512_S1024x512 = p := by
  funext y; exact congrArg p ((Shape.reshapeEquiv_reshapeEquiv _ _ _).trans (Shape.reshapeEquiv_self _ _))

section Trip
variable (c : Dev nD) (X : Buf (Elt F) (xM.view.loc (c : Thread nD τ))) (A : Buf (Elt F) (aM.view.loc (c : Thread nD τ))) (D : Buf (Elt F) (dM.view.loc (c : Thread nD τ)))
  (i : grid0.Coords)
  (arg4 : Memref sig .tc .vmem S512x1024 .bf16) (harg4 : arg4.IsWhole) (arg5 : Memref sig .tc .vmem S512x1024 .bf16) (harg5 : arg5.IsWhole)
  (arg6 : Memref sig .tc .vmem S1x1024 .f32) (harg6 : arg6.IsWhole)
  (g4 : Buf (Elt F) (arg4.view.loc (c : Thread nD τ))) (g5 : Buf (Elt F) (arg5.view.loc (c : Thread nD τ))) (g6 : Buf (Elt F) (arg6.view.loc (c : Thread nD τ)))

/-- What the kernel makes of block `b`. -/
def blockV (b : Fin 64) : S1024x1024.Idx → Elt F .f32 :=
  shapeCast S1024x1024 (k0_pay2 (F := F) ((half aM b).view.read (Elt F) A)
    (arg4.view.readAt (Elt F) (Rect.unit (s := S512x1024) ![0, 0] S512x1024.size inb_S512x1024_S512x1024_0_0).toLoadRect g4)
    (shapeCast S1x1024x512 ((half dM b).view.read (Elt F) D) up512)
    (arg5.view.readAt (Elt F) (Rect.unit (s := S512x1024) ![0, 0] S512x1024.size inb_S512x1024_S512x1024_0_0).toLoadRect g5)
    (arg6.view.readAt (Elt F) (Rect.unit (s := S1x1024) ![0, 0] S1x1024.size inb_S1x1024_S1x1024_0_0).toLoadRect g6)
    (shapeCast S1x1024x1024 ((wide xM b).view.read (Elt F) X) up1024)) shapeCasts_S1x1024x1024_S1024x1024

abbrev home3 (b : Fin 64) : sProp 𝕄 := iprop(xhome c X b ∗ hhome c aM A b ∗ hhome c dM D b)
abbrev fl3 (s : Fin 3) (b : Fin 64) : sProp 𝕄 :=
  iprop((∃ f, xflight c X s b f) ∗ (∃ f, hflight c 1 aM aB A s b f) ∗ (∃ f, hflight c 2 dM dB D s b f))
/-- Block `b` of the result, done; and done in its slot, on its way. -/
abbrev obehind (b : Fin 64) : sProp 𝕄 :=
  iprop(∃ f : Buf (Elt F) ((wide oM b).view.loc (c : Thread nD τ)), ⌜(wide oM b).view.read (Elt F) f = blockV c X A D arg4 arg5 arg6 g4 g5 g6 b⌝ ∗ held c (wide oM b) f)
abbrev oinfl (s : Fin 2) (b : Fin 64) : sProp 𝕄 :=
  iprop(∃ f g, ⌜(wide oM b).view.read (Elt F) f = blockV c X A D arg4 arg5 arg6 g4 g5 g6 b⌝ ∗ oflight c s b f g)
abbrev win : sProp 𝕄 := iprop(held c arg4 g4 ∗ held c arg5 g5 ∗ held c arg6 g6 ∗ (∃ W, owes (c : Thread nD τ) 0 W))

abbrev tripG (k : Fin k0_t1_loop.trips) : Prog (TpuEff nD τ sig (Elt F) Λ₀ .tc) Unit :=
  k0_t1_body (F := F) i xM (Memref.isWhole_whole _) aM (Memref.isWhole_whole _) dM (Memref.isWhole_whole _) arg4 harg4 arg5 harg5 arg6 harg6 oM (Memref.isWhole_whole _)
    xB (Memref.isWhole_whole _) aB (Memref.isWhole_whole _) dB (Memref.isWhole_whole _) oB (Memref.isWhole_whole _) cc0_scratch4 cc0_scratch5 k ()

/-- What leaves slot `k % 2` at trip `k` is block `k`'s value. -/
theorem stored (k : Fin k0_t1_loop.trips) (fx : (xslot (Ring.sl 3 k.val)).view.ty.Contents (Elt F)) (fa : (hslot aB (Ring.sl 3 k.val)).view.ty.Contents (Elt F))
    (fd : (hslot dB (Ring.sl 3 k.val)).view.ty.Contents (Elt F)) (go : (oslot (Ring.sl 2 k.val)).view.ty.Contents (Elt F))
    (ho : (wide oM (Ring.bk 64 k.val)).view.ty.Contents (Elt F)) (h18 h18' h19 h20) :
    (wide oM (Ring.bk 64 k.val)).view.read (Elt F) ((wide oM (Ring.bk 64 k.val)).view.writes (Elt F) ho [⟨Rect.whole S1024x1024,
      ReadAs.same.apply ((oslot (Ring.sl 2 k.val)).view.read (Elt F) ((oB.access (Rect.unit (s := S2x1024x1024) (k0_off20 k) S1x1024x1024.size h20)).write (Elt F) go
        (k0_pay2 (shapeCast S1024x512 (aB.view.readAt (Elt F) (Rect.unit (s := S3x1024x512) (k0_off18 k) S1x1024x512.size h18).toLoadRect ((hslot aB (Ring.sl 3 k.val)).view.writes (Elt F) fa
            [⟨Rect.whole S1024x512, ReadAs.same.apply ((half aM (Ring.bk 64 k.val)).view.read (Elt F) A)⟩])) shapeCasts_S1x1024x512_S1024x512)
          (arg4.view.readAt (Elt F) (Rect.unit (s := S512x1024) ![0, 0] S512x1024.size inb_S512x1024_S512x1024_0_0).toLoadRect g4)
          (dB.view.readAt (Elt F) (Rect.unit (s := S3x1024x512) (k0_off18 k) S1x1024x512.size h18').toLoadRect ((hslot dB (Ring.sl 3 k.val)).view.writes (Elt F) fd
            [⟨Rect.whole S1024x512, ReadAs.same.apply ((half dM (Ring.bk 64 k.val)).view.read (Elt F) D)⟩]))
          (arg5.view.readAt (Elt F) (Rect.unit (s := S512x1024) ![0, 0] S512x1024.size inb_S512x1024_S512x1024_0_0).toLoadRect g5)
          (arg6.view.readAt (Elt F) (Rect.unit (s := S1x1024) ![0, 0] S1x1024.size inb_S1x1024_S1x1024_0_0).toLoadRect g6)
          (xB.view.readAt (Elt F) (Rect.unit (s := S3x1024x1024) (k0_off19 k) S1x1024x1024.size h19).toLoadRect ((xslot (Ring.sl 3 k.val)).view.writes (Elt F) fx
            [⟨Rect.whole S1024x1024, ReadAs.same.apply ((wide xM (Ring.bk 64 k.val)).view.read (Elt F) X)⟩])))
        Finset.univ))⟩])
      = blockV c X A D arg4 arg5 arg6 g4 g5 g6 (Ring.bk 64 k.val) := by
  refine (View.read_writes_whole _ _ _).trans ?_
  refine (oslot_store (slot_of (k0_off20_eq k)) _ _ _).trans ?_
  unfold blockV
  rw [hslot_load aB (slot_of (k0_off18_eq k)), hslot_load dB (slot_of (k0_off18_eq k)), xslot_load (slot_of (k0_off19_eq k)), down_up]

set_option maxHeartbeats 4000000 in
set_option backward.proofsInPublic true in
/-- A trip in the middle: block `k + 2` sent for, block `k` taken, block `k - 2` out, block `k` on its way out. -/
theorem run_mid (k : Fin k0_t1_loop.trips) (h2 : 2 ≤ k.val) (hk : k.val + 2 < 64) :
    iprop(win c arg4 arg5 arg6 g4 g5 g6 ∗ home3 c X A D (Ring.bk 64 (k.val + 2)) ∗ free3 c (Ring.sl 3 (k.val + 2))
      ∗ fl3 c X A D (Ring.sl 3 k.val) (Ring.bk 64 k.val)
      ∗ oinfl c X A D arg4 arg5 arg6 g4 g5 g6 (Ring.sl 2 k.val) (Ring.bk 64 (k.val - 2)) ∗ oahead c (Ring.bk 64 k.val))
    ⊢ wp frame (wpE (defs₀ (F := F)) 𝒱₀ (c : Thread nD τ) none) Set.univ (tripG i arg4 harg4 arg5 harg5 arg6 harg6 k)
      (fun _ => iprop(win c arg4 arg5 arg6 g4 g5 g6 ∗ home3 c X A D (Ring.bk 64 k.val) ∗ free3 c (Ring.sl 3 k.val)
        ∗ fl3 c X A D (Ring.sl 3 (k.val + 2)) (Ring.bk 64 (k.val + 2))
        ∗ obehind c X A D arg4 arg5 arg6 g4 g5 g6 (Ring.bk 64 (k.val - 2)) ∗ oinfl c X A D arg4 arg5 arg6 g4 g5 g6 (Ring.sl 2 k.val) (Ring.bk 64 k.val))) := by
  have hc1 : k0_cond1 k = 1#1 := (cond1_iff k).2 hk
  have hc2 : k0_cond2 k = 1#1 := (cond2_iff k).2 h2
  iintro ⟨⟨H4, H5, H6, ⟨%W, HW⟩⟩, ⟨Hx, Ha, Hd⟩, ⟨⟨Hxc, ⟨%fx, Hxs⟩⟩, ⟨Hac, ⟨%fa, Has⟩⟩, ⟨Hdc, ⟨%fd, Hds⟩⟩⟩, ⟨⟨%gx, HFx⟩, ⟨%ga, HFa⟩, ⟨%gd, HFd⟩⟩, ⟨%fo, %go, %hfo, HFo⟩, ⟨%ho, Ho⟩⟩
  dsimp only [tripG]
  sl_unfold [k0_t1_body]
  sl_exec
  sl_step
  isplitl [H4 H5 H6 HW]
  · isplitl [H4]; · iexact H4
    isplitl [H5]; · iexact H5
    isplitl [H6]; · iexact H6
    iexists _; iexact HW
  isplitl [HFx_src HFa_src HFd_src]
  · isplitl [HFx_src]; · iexact HFx_src
    isplitl [HFa_src]; · iexact HFa_src
    iexact HFd_src
  isplitl [HFx HFx_dst HFa HFa_dst HFd HFd_dst]
  · isplitl [HFx HFx_dst]
    · isplitl [HFx]; · iexact HFx
      iexists _; iexact HFx_dst
    isplitl [HFa HFa_dst]
    · isplitl [HFa]; · iexact HFa
      iexists _; iexact HFa_dst
    isplitl [HFd]; · iexact HFd
    iexists _; iexact HFd_dst
  isplitl [Hxc Hac Hdc]
  · isplitl [Hxc]; · iexists _; iexact Hxc
    isplitl [Hac]; · iexists _; iexact Hac
    iexists _; iexact Hdc
  isplitl [HFo_dst]
  · iexists fo; isplitr; · ipureintro; exact hfo
    iexact HFo_dst
  iexists _; iexists _; isplitr; swap; · iexact HFo
  ipureintro
  exact stored c X A D arg4 arg5 arg6 g4 g5 g6 k _ _ _ _ _ _ _ _ _

set_option maxHeartbeats 4000000 in
set_option backward.proofsInPublic true in
/-- One of the first two trips: the result's slot is still free. -/
theorem run_early (k : Fin k0_t1_loop.trips) (h2 : k.val < 2) :
    iprop(win c arg4 arg5 arg6 g4 g5 g6 ∗ home3 c X A D (Ring.bk 64 (k.val + 2)) ∗ free3 c (Ring.sl 3 (k.val + 2))
      ∗ fl3 c X A D (Ring.sl 3 k.val) (Ring.bk 64 k.val) ∗ ofree c (Ring.sl 2 k.val) ∗ oahead c (Ring.bk 64 k.val))
    ⊢ wp frame (wpE (defs₀ (F := F)) 𝒱₀ (c : Thread nD τ) none) Set.univ (tripG i arg4 harg4 arg5 harg5 arg6 harg6 k)
      (fun _ => iprop(win c arg4 arg5 arg6 g4 g5 g6 ∗ home3 c X A D (Ring.bk 64 k.val) ∗ free3 c (Ring.sl 3 k.val)
        ∗ fl3 c X A D (Ring.sl 3 (k.val + 2)) (Ring.bk 64 (k.val + 2)) ∗ oinfl c X A D arg4 arg5 arg6 g4 g5 g6 (Ring.sl 2 k.val) (Ring.bk 64 k.val))) := by
  have hk : k.val + 2 < 64 := by omega
  have hc1 : k0_cond1 k = 1#1 := (cond1_iff k).2 hk
  have hc2 : ¬ k0_cond2 k = 1#1 := fun h => absurd ((cond2_iff k).1 h) (by omega)
  iintro ⟨⟨H4, H5, H6, ⟨%W, HW⟩⟩, ⟨Hx, Ha, Hd⟩, ⟨⟨Hxc, ⟨%fx, Hxs⟩⟩, ⟨Hac, ⟨%fa, Has⟩⟩, ⟨Hdc, ⟨%fd, Hds⟩⟩⟩, ⟨⟨%gx, HFx⟩, ⟨%ga, HFa⟩, ⟨%gd, HFd⟩⟩, ⟨HFo, ⟨%go, Hgo⟩⟩, ⟨%ho, Ho⟩⟩
  dsimp only [tripG]
  sl_unfold [k0_t1_body]
  sl_exec
  sl_step
  isplitl [H4 H5 H6 HW]
  · isplitl [H4]; · iexact H4
    isplitl [H5]; · iexact H5
    isplitl [H6]; · iexact H6
    iexists _; iexact HW
  isplitl [HFx_src HFa_src HFd_src]
  · isplitl [HFx_src]; · iexact HFx_src
    isplitl [HFa_src]; · iexact HFa_src
    iexact HFd_src
  isplitl [HFx HFx_dst HFa HFa_dst HFd HFd_dst]
  · isplitl [HFx HFx_dst]
    · isplitl [HFx]; · iexact HFx
      iexists _; iexact HFx_dst
    isplitl [HFa HFa_dst]
    · isplitl [HFa]; · iexact HFa
      iexists _; iexact HFa_dst
    isplitl [HFd]; · iexact HFd
    iexists _; iexact HFd_dst
  isplitl [Hxc Hac Hdc]
  · isplitl [Hxc]; · iexists _; iexact Hxc
    isplitl [Hac]; · iexists _; iexact Hac
    iexists _; iexact Hdc
  iexists _; iexists _; isplitr; swap; · iexact HFo
  ipureintro
  exact stored c X A D arg4 arg5 arg6 g4 g5 g6 k _ _ _ _ _ _ _ _ _

set_option maxHeartbeats 4000000 in
set_option backward.proofsInPublic true in
/-- One of the last two trips: nothing more to send for. -/
theorem run_tail (k : Fin k0_t1_loop.trips) (hk : 64 ≤ k.val + 2) :
    iprop(win c arg4 arg5 arg6 g4 g5 g6 ∗ fl3 c X A D (Ring.sl 3 k.val) (Ring.bk 64 k.val)
      ∗ oinfl c X A D arg4 arg5 arg6 g4 g5 g6 (Ring.sl 2 k.val) (Ring.bk 64 (k.val - 2)) ∗ oahead c (Ring.bk 64 k.val))
    ⊢ wp frame (wpE (defs₀ (F := F)) 𝒱₀ (c : Thread nD τ) none) Set.univ (tripG i arg4 harg4 arg5 harg5 arg6 harg6 k)
      (fun _ => iprop(win c arg4 arg5 arg6 g4 g5 g6 ∗ home3 c X A D (Ring.bk 64 k.val) ∗ free3 c (Ring.sl 3 k.val)
        ∗ obehind c X A D arg4 arg5 arg6 g4 g5 g6 (Ring.bk 64 (k.val - 2)) ∗ oinfl c X A D arg4 arg5 arg6 g4 g5 g6 (Ring.sl 2 k.val) (Ring.bk 64 k.val))) := by
  have h2 : 2 ≤ k.val := by omega
  have hc1 : ¬ k0_cond1 k = 1#1 := fun h => absurd ((cond1_iff k).1 h) (by omega)
  have hc2 : k0_cond2 k = 1#1 := (cond2_iff k).2 h2
  iintro ⟨⟨H4, H5, H6, ⟨%W, HW⟩⟩, ⟨⟨%gx, HFx⟩, ⟨%ga, HFa⟩, ⟨%gd, HFd⟩⟩, ⟨%fo, %go, %hfo, HFo⟩, ⟨%ho, Ho⟩⟩
  dsimp only [tripG]
  sl_unfold [k0_t1_body]
  sl_exec
  sl_step
  isplitl [H4 H5 H6 HW]
  · isplitl [H4]; · iexact H4
    isplitl [H5]; · iexact H5
    isplitl [H6]; · iexact H6
    iexists _; iexact HW
  isplitl [HFx_src HFa_src HFd_src]
  · isplitl [HFx_src]; · iexact HFx_src
    isplitl [HFa_src]; · iexact HFa_src
    iexact HFd_src
  isplitl [HFx HFx_dst HFa HFa_dst HFd HFd_dst]
  · isplitl [HFx HFx_dst]
    · isplitl [HFx]; · iexact HFx
      iexists _; iexact HFx_dst
    isplitl [HFa HFa_dst]
    · isplitl [HFa]; · iexact HFa
      iexists _; iexact HFa_dst
    isplitl [HFd]; · iexact HFd
    iexists _; iexact HFd_dst
  isplitl [HFo_dst]
  · iexists fo; isplitr; · ipureintro; exact hfo
    iexact HFo_dst
  iexists _; iexists _; isplitr; swap; · iexact HFo
  ipureintro
  exact stored c X A D arg4 arg5 arg6 g4 g5 g6 k _ _ _ _ _ _ _ _ _

end Trip
end Cert.Proof.OutRing
end
-- ==== Proof.OutLoop.lean ====
module

public import proofs.«01_k».proof.Proof.OutRing

/-! The output projection's loop: the invariant before each trip, and the whole body around it. -/

@[expose] public section

set_option maxRecDepth 16384

noncomputable section

namespace Cert.Proof.OutRing

open Cert.OutprojIdeal Cert.OutprojIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

omit [FloatOps F] in
theorem of_eq {P Q : sProp 𝕄} (e : P = Q) : P ⊢ Q := by rw [e]

section Loop
variable (c : Dev nD) (X : Buf (Elt F) (xM.view.loc (c : Thread nD τ))) (A : Buf (Elt F) (aM.view.loc (c : Thread nD τ))) (D : Buf (Elt F) (dM.view.loc (c : Thread nD τ)))
  (i : grid0.Coords)
  (arg4 : Memref sig .tc .vmem S512x1024 .bf16) (harg4 : arg4.IsWhole) (arg5 : Memref sig .tc .vmem S512x1024 .bf16) (harg5 : arg5.IsWhole)
  (arg6 : Memref sig .tc .vmem S1x1024 .f32) (harg6 : arg6.IsWhole)
  (g4 : Buf (Elt F) (arg4.view.loc (c : Thread nD τ))) (g5 : Buf (Elt F) (arg5.view.loc (c : Thread nD τ))) (g6 : Buf (Elt F) (arg6.view.loc (c : Thread nD τ)))

/-- The three arrays read, as one ring. -/
abbrev readAt (k : ℕ) : sProp 𝕄 :=
  Ring.At (n := 3) (NB := 64) (C := fun _ => Unit) 2 (free3 c) (fun _ _ => iprop(emp)) (home3 c X A D) (fun s b _ => fl3 c X A D s b) k
/-- The result, as a ring waited two steps later. -/
abbrev outAt (k : ℕ) : sProp 𝕄 :=
  Ring.AtB (n := 2) (NB := 64) 2 (ofree c) (oinfl c X A D arg4 arg5 arg6 g4 g5 g6) (oahead c) (obehind c X A D arg4 arg5 arg6 g4 g5 g6) k

/-- Before trip `k`. -/
@[irreducible] def invAt (k : ℕ) : sProp 𝕄 :=
  iprop(win c arg4 arg5 arg6 g4 g5 g6 ∗ readAt c X A D k ∗ outAt c X A D arg4 arg5 arg6 g4 g5 g6 k)

theorem toFree (s : Fin 3) : free3 (F := F) c s ⊢ Ring.free (C := fun _ => Unit) (free3 c) (fun _ _ => iprop(emp)) s := by
  unfold Ring.free; iintro H; isplitl [H]; · iexact H
  iexists (); iempintro
theorem ofFree (s : Fin 3) : Ring.free (C := fun _ => Unit) (free3 c) (fun _ _ => iprop(emp)) s ⊢ free3 (F := F) c s := by
  unfold Ring.free; iintro ⟨H, -⟩; iexact H
theorem toFl (s : Fin 3) (b : Fin 64) : fl3 c X A D s b ⊢ Ring.inflight (C := fun _ => Unit) (fun s b _ => fl3 c X A D s b) s b := by
  unfold Ring.inflight; iintro H; iexists (); iexact H
theorem ofFl (s : Fin 3) (b : Fin 64) : Ring.inflight (C := fun _ => Unit) (fun s b _ => fl3 c X A D s b) s b ⊢ fl3 c X A D s b := by
  unfold Ring.inflight; iintro ⟨%_, H⟩; iexact H

/-- A trip that sends for a block: what the read ring gives and takes back. -/
theorem read_step (k : ℕ) (hk : k + 2 < 64) :
    readAt c X A D k ⊢ iprop(home3 c X A D (Ring.bk 64 (k + 2)) ∗ free3 c (Ring.sl 3 (k + 2)) ∗ fl3 c X A D (Ring.sl 3 k) (Ring.bk 64 k)
      ∗ ((home3 c X A D (Ring.bk 64 k) ∗ free3 c (Ring.sl 3 k) ∗ fl3 c X A D (Ring.sl 3 (k + 2)) (Ring.bk 64 (k + 2))) -∗ readAt c X A D (k + 1))) := by
  unfold readAt
  rw [Ring.At3_here _ _ _ _ k hk, Ring.At3_next _ _ _ _ k hk, Ring.slotAt3_next0 _ _ _ k (by omega), Ring.slotAt3_next1 _ _ _ k hk]
  iintro ⟨⟨Hh, Hr⟩, H0, H1, Hf⟩
  isplitl [Hh]; · iexact Hh
  isplitl [Hf]; · iapply (ofFree c _); iexact Hf
  isplitl [H0]; · iapply (ofFl c X A D _ _); iexact H0
  iintro ⟨Hh, Hf, Hn⟩
  isplitl [Hh Hr]; · isplitl [Hh]; · iexact Hh
                     iexact Hr
  isplitl [H1]; · iexact H1
  isplitl [Hn]; · iapply (toFl c X A D _ _); iexact Hn
  iapply (toFree c _); iexact Hf

/-- One of the last two trips. -/
theorem read_tail (k : ℕ) (hk : 64 ≤ k + 2) (h : k < 64) :
    readAt c X A D k ⊢ iprop(fl3 c X A D (Ring.sl 3 k) (Ring.bk 64 k)
      ∗ ((home3 c X A D (Ring.bk 64 k) ∗ free3 c (Ring.sl 3 k)) -∗ readAt c X A D (k + 1))) := by
  unfold readAt
  rw [Ring.At3_here_tail _ _ _ _ k h, Ring.At3_next_tail _ _ _ _ k hk h, Ring.slotAt3_tail_role]
  iintro ⟨Hr, H0, H1, Hf'⟩
  isplitl [H0]; · iapply (ofFl c X A D _ _); iexact H0
  iintro ⟨Hh, Hf⟩
  isplitl [Hh Hr]; · isplitl [Hh]; · iexact Hh
                     iexact Hr
  isplitl [H1]; · iexact H1
  isplitl [Hf']; · iexact Hf'
  iapply (toFree c _); iexact Hf

/-- A trip that waits for a finished block: what the result's ring gives and takes back. -/
theorem out_step (k : ℕ) (h2 : 2 ≤ k) (h : k < 64) :
    outAt c X A D arg4 arg5 arg6 g4 g5 g6 k ⊢ iprop(oinfl c X A D arg4 arg5 arg6 g4 g5 g6 (Ring.sl 2 k) (Ring.bk 64 (k - 2)) ∗ oahead c (Ring.bk 64 k)
      ∗ ((obehind c X A D arg4 arg5 arg6 g4 g5 g6 (Ring.bk 64 (k - 2)) ∗ oinfl c X A D arg4 arg5 arg6 g4 g5 g6 (Ring.sl 2 k) (Ring.bk 64 k))
        -∗ outAt c X A D arg4 arg5 arg6 g4 g5 g6 (k + 1))) := by
  unfold outAt
  rw [Ring.AtB22_here _ _ _ _ k h2 h, Ring.AtB22_next _ _ _ _ k h2 h]
  iintro ⟨⟨Ha, HA⟩, HB, Hw, Hc⟩
  isplitl [Hw]; · iexact Hw
  isplitl [Ha]; · iexact Ha
  iintro ⟨Hb, Hn⟩
  isplitl [HA]; · iexact HA
  isplitl [Hb HB]; · isplitl [Hb]; · iexact Hb
                     iexact HB
  isplitl [Hc]; · iexact Hc
  iexact Hn

/-- One of the first two trips. -/
theorem out_early (k : ℕ) (h2 : k < 2) :
    outAt c X A D arg4 arg5 arg6 g4 g5 g6 k ⊢ iprop(ofree c (Ring.sl 2 k) ∗ oahead c (Ring.bk 64 k)
      ∗ (oinfl c X A D arg4 arg5 arg6 g4 g5 g6 (Ring.sl 2 k) (Ring.bk 64 k) -∗ outAt c X A D arg4 arg5 arg6 g4 g5 g6 (k + 1))) := by
  unfold outAt
  rcases (by omega : k = 0 ∨ k = 1) with e | e
  · rw [Ring.AtB2_zero' 2 _ _ _ _ k e, Ring.AtB22_next_zero' _ _ _ _ k e]
    iintro ⟨⟨Ha, HA⟩, Hf, Hf1⟩
    isplitl [Hf]; · iexact Hf
    isplitl [Ha]; · iexact Ha
    iintro Hn
    isplitl [HA]; · iexact HA
    isplitl [Hf1]; · iexact Hf1
    iexact Hn
  · rw [Ring.AtB22_one' _ _ _ _ k e (by omega), Ring.AtB22_next_one' _ _ _ _ k e]
    iintro ⟨⟨Ha, HA⟩, Hf, Hc⟩
    isplitl [Hf]; · iexact Hf
    isplitl [Ha]; · iexact Ha
    iintro Hn
    isplitl [HA]; · iexact HA
    isplitl [Hc]; · iexact Hc
    iexact Hn

/-- One trip, whichever. -/
theorem trip_step (k : Fin k0_t1_loop.trips) :
    invAt c X A D arg4 arg5 arg6 g4 g5 g6 k.val ⊢ wp frame (wpE (defs₀ (F := F)) 𝒱₀ (c : Thread nD τ) none) Set.univ (tripG i arg4 harg4 arg5 harg5 arg6 harg6 k)
      (fun _ => invAt c X A D arg4 arg5 arg6 g4 g5 g6 (k.val + 1)) := by
  have hk64 := k64 k
  unfold invAt
  iintro ⟨Hw, HR, HO⟩
  by_cases hk : k.val + 2 < 64
  · ihave HR' := (read_step c X A D k.val hk) $$ HR
    icases HR' with ⟨Hh, Hf, Hl, HR⟩
    by_cases h2 : 2 ≤ k.val
    · ihave HO' := (out_step c X A D arg4 arg5 arg6 g4 g5 g6 k.val h2 hk64) $$ HO
      icases HO' with ⟨Hi, Ha, HO⟩
      iapply (wp_wand_r Idealize.ShloMosaic.frame (wpE (defs₀ (F := F)) 𝒱₀ (c : Thread nD τ) none) Set.univ)
      isplitl [Hw Hh Hf Hl Hi Ha]
      · iapply (run_mid c X A D i arg4 harg4 arg5 harg5 arg6 harg6 g4 g5 g6 k h2 hk)
        isplitl [Hw]; · iexact Hw
        isplitl [Hh]; · iexact Hh
        isplitl [Hf]; · iexact Hf
        isplitl [Hl]; · iexact Hl
        isplitl [Hi]; · iexact Hi
        iexact Ha
      iintro %_ ⟨Hw, Hh, Hf, Hl, Hb, Hi⟩
      isplitl [Hw]; · iexact Hw
      isplitl [HR Hh Hf Hl]
      · iapply HR
        isplitl [Hh]; · iexact Hh
        isplitl [Hf]; · iexact Hf
        iexact Hl
      iapply HO
      isplitl [Hb]; · iexact Hb
      iexact Hi
    · ihave HO' := (out_early c X A D arg4 arg5 arg6 g4 g5 g6 k.val (by omega)) $$ HO
      icases HO' with ⟨Hi, Ha, HO⟩
      iapply (wp_wand_r Idealize.ShloMosaic.frame (wpE (defs₀ (F := F)) 𝒱₀ (c : Thread nD τ) none) Set.univ)
      isplitl [Hw Hh Hf Hl Hi Ha]
      · iapply (run_early c X A D i arg4 harg4 arg5 harg5 arg6 harg6 g4 g5 g6 k (by omega))
        isplitl [Hw]; · iexact Hw
        isplitl [Hh]; · iexact Hh
        isplitl [Hf]; · iexact Hf
        isplitl [Hl]; · iexact Hl
        isplitl [Hi]; · iexact Hi
        iexact Ha
      iintro %_ ⟨Hw, Hh, Hf, Hl, Hi⟩
      isplitl [Hw]; · iexact Hw
      isplitl [HR Hh Hf Hl]
      · iapply HR
        isplitl [Hh]; · iexact Hh
        isplitl [Hf]; · iexact Hf
        iexact Hl
      iapply HO
      iexact Hi
  · ihave HR' := (read_tail c X A D k.val (by omega) hk64) $$ HR
    icases HR' with ⟨Hl, HR⟩
    ihave HO' := (out_step c X A D arg4 arg5 arg6 g4 g5 g6 k.val (by omega) hk64) $$ HO
    icases HO' with ⟨Hi, Ha, HO⟩
    iapply (wp_wand_r Idealize.ShloMosaic.frame (wpE (defs₀ (F := F)) 𝒱₀ (c : Thread nD τ) none) Set.univ)
    isplitl [Hw Hl Hi Ha]
    · iapply (run_tail c X A D i arg4 harg4 arg5 harg5 arg6 harg6 g4 g5 g6 k (by omega))
      isplitl [Hw]; · iexact Hw
      isplitl [Hl]; · iexact Hl
      isplitl [Hi]; · iexact Hi
      iexact Ha
    iintro %_ ⟨Hw, Hh, Hf, Hb, Hi⟩
    isplitl [Hw]; · iexact Hw
    isplitl [HR Hh Hf]
    · iapply HR
      isplitl [Hh]; · iexact Hh
      iexact Hf
    iapply HO
    isplitl [Hb]; · iexact Hb
    iexact Hi

set_option warn.classDefReducibility false in
@[sl_loop] def loopInv :
    LoopInvTy_k0_t1 (F := F) Unit ℕ (UU nD τ) ℕ 𝒱₀ c none Set.univ i xM (Memref.isWhole_whole _) aM (Memref.isWhole_whole _) dM (Memref.isWhole_whole _) arg4 harg4 arg5 harg5 arg6 harg6
      oM (Memref.isWhole_whole _) xB (Memref.isWhole_whole _) aB (Memref.isWhole_whole _) dB (Memref.isWhole_whole _) oB (Memref.isWhole_whole _) cc0_scratch4 cc0_scratch5 where
  inv k _ := invAt c X A D arg4 arg5 arg6 g4 g5 g6 k
  step k a := by
    iintro H
    iapply (trip_step c X A D i arg4 harg4 arg5 harg5 arg6 harg6 g4 g5 g6 k)
    iexact H

end Loop

/-! ## The literal slices before and after the loop -/

section Literal
@[sl_canon] theorem l_sem00 (hh) : (cc0_scratch4.slice (Rect.unit (s := S3x3) ![0, 0] S1x1.size hh)).squeeze S_ squeezes_S1x1_S_ = csm 0 0 := csm_congr (by decide) _
@[sl_canon] theorem l_sem01 (hh) : (cc0_scratch4.slice (Rect.unit (s := S3x3) ![0, 1] S1x1.size hh)).squeeze S_ squeezes_S1x1_S_ = csm 0 1 := csm_congr (by decide) _
@[sl_canon] theorem l_sem10 (hh) : (cc0_scratch4.slice (Rect.unit (s := S3x3) ![1, 0] S1x1.size hh)).squeeze S_ squeezes_S1x1_S_ = csm 1 0 := csm_congr (by decide) _
@[sl_canon] theorem l_sem11 (hh) : (cc0_scratch4.slice (Rect.unit (s := S3x3) ![1, 1] S1x1.size hh)).squeeze S_ squeezes_S1x1_S_ = csm 1 1 := csm_congr (by decide) _
@[sl_canon] theorem l_sem20 (hh) : (cc0_scratch4.slice (Rect.unit (s := S3x3) ![2, 0] S1x1.size hh)).squeeze S_ squeezes_S1x1_S_ = csm 2 0 := csm_congr (by decide) _
@[sl_canon] theorem l_sem21 (hh) : (cc0_scratch4.slice (Rect.unit (s := S3x3) ![2, 1] S1x1.size hh)).squeeze S_ squeezes_S1x1_S_ = csm 2 1 := csm_congr (by decide) _
@[sl_canon] theorem l_osem0 (hh) : (cc0_scratch5.slice (Rect.unit (s := S2) ![0] S1.size hh)).squeeze S_ squeezes_S1_S_ = osm 0 := osm_congr (by decide) _
@[sl_canon] theorem l_xslot0 (hh hs) : (xB.slice (Rect.unit (s := S3x1024x1024) ![0, 0, 0] S1x1024x1024.size hh) hs).squeeze S1024x1024 squeezes_S1x1024x1024_S1024x1024 = xslot 0 := xslot_congr (by decide) _ _
@[sl_canon] theorem l_hslot0 (B) (hh hs) : (Memref.slice B (Rect.unit (s := S3x1024x512) ![0, 0, 0] S1x1024x512.size hh) hs).squeeze S1024x512 squeezes_S1x1024x512_S1024x512 = hslot B 0 := hslot_congr B (by decide) _ _
@[sl_canon] theorem l_oslot0 (hh hs) : (oB.slice (Rect.unit (s := S2x1024x1024) ![0, 0, 0] S1x1024x1024.size hh) hs).squeeze S1024x1024 squeezes_S1x1024x1024_S1024x1024 = oslot 0 := oslot_congr (by decide) _ _
@[sl_canon] theorem l_half0 (M) (hh hs) : Memref.slice M (Rect.unit (s := S65536x512) ![0, 0] S1024x512.size hh) hs = half M 0 := half_congr M (by decide) _ _
@[sl_canon] theorem l_osem1 (hh) : (cc0_scratch5.slice (Rect.unit (s := S2) ![1] S1.size hh)).squeeze S_ squeezes_S1_S_ = osm 1 := osm_congr (by decide) _
@[sl_canon] theorem l_xslot1 (hh hs) : (xB.slice (Rect.unit (s := S3x1024x1024) ![1, 0, 0] S1x1024x1024.size hh) hs).squeeze S1024x1024 squeezes_S1x1024x1024_S1024x1024 = xslot 1 := xslot_congr (by decide) _ _
@[sl_canon] theorem l_hslot1 (B) (hh hs) : (Memref.slice B (Rect.unit (s := S3x1024x512) ![1, 0, 0] S1x1024x512.size hh) hs).squeeze S1024x512 squeezes_S1x1024x512_S1024x512 = hslot B 1 := hslot_congr B (by decide) _ _
@[sl_canon] theorem l_oslot1 (hh hs) : (oB.slice (Rect.unit (s := S2x1024x1024) ![1, 0, 0] S1x1024x1024.size hh) hs).squeeze S1024x1024 squeezes_S1x1024x1024_S1024x1024 = oslot 1 := oslot_congr (by decide) _ _
@[sl_canon] theorem l_half1 (M) (hh hs) : Memref.slice M (Rect.unit (s := S65536x512) ![1024, 0] S1024x512.size hh) hs = half M 1 := half_congr M (by decide) _ _
@[sl_canon] theorem l_wide0 (M) (hh hs) : Memref.slice M (Rect.unit (s := S65536x1024) ![0, 0] S1024x1024.size hh) hs = wide M 0 := wide_congr M (by decide) _ _
@[sl_canon] theorem l_wide1 (M) (hh hs) : Memref.slice M (Rect.unit (s := S65536x1024) ![1024, 0] S1024x1024.size hh) hs = wide M 1 := wide_congr M (by decide) _ _
@[sl_canon] theorem l_wide62 (M) (hh hs) : Memref.slice M (Rect.unit (s := S65536x1024) ![63488, 0] S1024x1024.size hh) hs = wide M 62 := wide_congr M (by decide) _ _
@[sl_canon] theorem l_wide63 (M) (hh hs) : Memref.slice M (Rect.unit (s := S65536x1024) ![64512, 0] S1024x1024.size hh) hs = wide M 63 := wide_congr M (by decide) _ _
end Literal

section Body
variable (c : Dev nD) (X : Buf (Elt F) (xM.view.loc (c : Thread nD τ))) (A : Buf (Elt F) (aM.view.loc (c : Thread nD τ))) (D : Buf (Elt F) (dM.view.loc (c : Thread nD τ)))
  (i : grid0.Coords)
  (arg4 : Memref sig .tc .vmem S512x1024 .bf16) (harg4 : arg4.IsWhole) (arg5 : Memref sig .tc .vmem S512x1024 .bf16) (harg5 : arg5.IsWhole)
  (arg6 : Memref sig .tc .vmem S1x1024 .f32) (harg6 : arg6.IsWhole)
  (g4 : Buf (Elt F) (arg4.view.loc (c : Thread nD τ))) (g5 : Buf (Elt F) (arg5.view.loc (c : Thread nD τ))) (g6 : Buf (Elt F) (arg6.view.loc (c : Thread nD τ)))

abbrev bodyG : Prog (TpuEff nD τ sig (Elt F) Λ₀ .tc) PUnit :=
  cc0_outproj (F := F) i xM (Memref.isWhole_whole _) aM (Memref.isWhole_whole _) dM (Memref.isWhole_whole _) arg4 harg4 arg5 harg5 arg6 harg6 oM (Memref.isWhole_whole _)
    xB (Memref.isWhole_whole _) aB (Memref.isWhole_whole _) dB (Memref.isWhole_whole _) oB (Memref.isWhole_whole _) cc0_scratch4 cc0_scratch5

abbrev frees : sProp 𝕄 := iprop((free3 (F := F) c 0 ∗ free3 (F := F) c 1 ∗ free3 (F := F) c 2) ∗ (ofree (F := F) c 0 ∗ ofree (F := F) c 1))
abbrev PRE : sProp 𝕄 :=
  iprop(win c arg4 arg5 arg6 g4 g5 g6 ∗ bigSep Finset.univ (home3 c X A D) ∗ bigSep Finset.univ (oahead (F := F) c) ∗ frees c)
abbrev POST : sProp 𝕄 :=
  iprop(win c arg4 arg5 arg6 g4 g5 g6 ∗ bigSep Finset.univ (home3 c X A D) ∗ bigSep Finset.univ (obehind c X A D arg4 arg5 arg6 g4 g5 g6) ∗ frees c)

/-- Blocks 0 and 1 apart. -/
theorem homes_zero : bigSep Finset.univ (home3 c X A D) = iprop(home3 c X A D 0 ∗ home3 c X A D 1 ∗ bigSep (Ring.homeSet (NB := 64) 2 0) (home3 c X A D)) := by
  have e : (Finset.univ : Finset (Fin 64)) = insert 0 (insert 1 (Ring.homeSet (NB := 64) 2 0)) := by
    ext b; simp only [Finset.mem_univ, Finset.mem_insert, Ring.mem_homeSet, true_iff, Fin.ext_iff]; have := b.isLt; omega
  rw [e, bigSep_insert (by simp [Ring.mem_homeSet, Fin.ext_iff]), bigSep_insert (by simp [Ring.mem_homeSet])]; rfl

theorem sl3_0 : Ring.sl 3 0 = 0 := by decide
theorem sl3_1 : Ring.sl 3 (0 + 1) = 1 := by decide
theorem sl3_2 : Ring.sl 3 (0 + 2) = 2 := by decide
theorem bk_0 : Ring.bk 64 0 = 0 := by decide
theorem bk_1 : Ring.bk 64 (0 + 1) = 1 := by decide
theorem sl2_64 : Ring.sl 2 64 = 0 := by decide
theorem sl2_65 : Ring.sl 2 (64 + 1) = 1 := by decide
theorem bk_62 : Ring.bk 64 (64 - 2) = 62 := by decide
theorem bk_63 : Ring.bk 64 (64 - 1) = 63 := by decide

theorem home_out : bigSep (Ring.homeSet (NB := 64) 2 0) (home3 c X A D)
    = iprop(home3 c X A D (Ring.bk 64 (0 + 2)) ∗ bigSep ((Ring.homeSet (NB := 64) 2 0).erase (Ring.bk 64 (0 + 2))) (home3 c X A D)) := by
  conv_lhs => rw [Ring.homeSet_out 2 0 (by omega), bigSep_insert (Ring.bkL_not_mem_erase 2 0)]
  rfl

/-- The read ring before the first trip, from blocks 0 and 1 on their way. -/
theorem read_zero : iprop(bigSep (Ring.homeSet (NB := 64) 2 0) (home3 c X A D) ∗ fl3 c X A D 0 0 ∗ fl3 c X A D 1 1 ∗ free3 c 2) ⊢ readAt c X A D 0 := by
  unfold readAt
  rw [Ring.At3_here _ _ _ _ 0 (by omega), ← home_out, sl3_0, sl3_1, sl3_2, bk_0, bk_1]
  iintro ⟨Hh, H0, H1, Hf⟩
  isplitl [Hh]; · iexact Hh
  isplitl [H0]; · iapply (toFl c X A D _ _); iexact H0
  isplitl [H1]; · iapply (toFl c X A D _ _); iexact H1
  iapply (toFree c _); iexact Hf

theorem bigSep2 (Φ : Fin 2 → sProp 𝕄) : bigSep Finset.univ Φ = iprop(Φ 0 ∗ Φ 1) :=
  bigSep_univ_eq_bigSepL [(0 : Fin 2), (1 : Fin 2)] (by decide) (by decide) Φ

/-- The result's ring before the first trip. -/
theorem out_zero : iprop(bigSep Finset.univ (oahead (F := F) c) ∗ ofree c 0 ∗ ofree c 1) ⊢ outAt c X A D arg4 arg5 arg6 g4 g5 g6 0 := by
  unfold outAt
  rw [Ring.AtB_zero]; unfold Ring.AtB₀; rw [bigSep2]

/-- The read ring after the last trip. -/
theorem read_end : readAt c X A D 64 ⊢ iprop(bigSep Finset.univ (home3 c X A D) ∗ free3 c 0 ∗ free3 c 1 ∗ free3 c 2) := by
  unfold readAt
  iintro H
  ihave H' := (Ring.free3_of_At_last (NB := 64) _ _ _ _) $$ H
  icases H' with ⟨Hh, H0, H1, H2⟩
  isplitl [Hh]; · iexact Hh
  isplitl [H0]; · iapply (ofFree c _); iexact H0
  isplitl [H1]; · iapply (ofFree c _); iexact H1
  iapply (ofFree c _); iexact H2

/-- The result's ring after the last trip: the last two blocks still on their way. -/
theorem out_end : outAt c X A D arg4 arg5 arg6 g4 g5 g6 64 ⊢ iprop(oinfl c X A D arg4 arg5 arg6 g4 g5 g6 0 62 ∗ oinfl c X A D arg4 arg5 arg6 g4 g5 g6 1 63
    ∗ ((obehind c X A D arg4 arg5 arg6 g4 g5 g6 62 ∗ obehind c X A D arg4 arg5 arg6 g4 g5 g6 63 ∗ ofree (F := F) c 0 ∗ ofree (F := F) c 1)
      -∗ bigSep Finset.univ (obehind c X A D arg4 arg5 arg6 g4 g5 g6) ∗ ofree c 0 ∗ ofree c 1)) := by
  have e := Ring.AtB22_epilogue' (NB := 64) (ofree (F := F) c) (obehind c X A D arg4 arg5 arg6 g4 g5 g6) 64 rfl (by omega)
  rw [sl2_64, sl2_65, bk_62, bk_63] at e
  unfold Ring.AtBEnd at e
  rw [bigSep2] at e
  unfold outAt
  rw [Ring.AtB22_end' _ _ _ _ 64 rfl (by omega), sl2_64, sl2_65, bk_62, bk_63, e]
  iintro ⟨HB, H0, H1⟩
  isplitl [H0]; · iexact H0
  isplitl [H1]; · iexact H1
  iintro ⟨Ha, Hb, Hf0, Hf1⟩
  isplitl [Ha Hb HB]
  · isplitl [Ha]; · iexact Ha
    isplitl [Hb]; · iexact Hb
    iexact HB
  isplitl [Hf0]; · iexact Hf0
  iexact Hf1

theorem inv_end : invAt c X A D arg4 arg5 arg6 g4 g5 g6 (Scf.trips k0_t1_loop.lb k0_t1_loop.ub k0_t1_loop.st)
    ⊢ iprop(win c arg4 arg5 arg6 g4 g5 g6 ∗ readAt c X A D 64 ∗ outAt c X A D arg4 arg5 arg6 g4 g5 g6 64) := by
  rw [show Scf.trips k0_t1_loop.lb k0_t1_loop.ub k0_t1_loop.st = 64 from trips_eq]
  unfold invAt; exact .rfl

set_option maxHeartbeats 4000000 in
set_option backward.proofsInPublic true in
/-- The whole body: two blocks sent for, the loop, the last two results waited. -/
theorem bodyRun (Q : PUnit → sProp 𝕄) :
    iprop(PRE c X A D arg4 arg5 arg6 g4 g5 g6 ∗ (POST c X A D arg4 arg5 arg6 g4 g5 g6 -∗ Q ⟨⟩))
    ⊢ wp frame (wpE (defs₀ (F := F)) 𝒱₀ (c : Thread nD τ) none) Set.univ (bodyG i arg4 harg4 arg5 harg5 arg6 harg6) Q := by
  iintro ⟨⟨⟨H4, H5, H6, ⟨%W, HW⟩⟩, Hall, Hoa,
    ⟨⟨⟨Hcx0, ⟨%fx0, Hsx0⟩⟩, ⟨Hca0, ⟨%fa0, Hsa0⟩⟩, ⟨Hcd0, ⟨%fd0, Hsd0⟩⟩⟩, ⟨⟨Hcx1, ⟨%fx1, Hsx1⟩⟩, ⟨Hca1, ⟨%fa1, Hsa1⟩⟩, ⟨Hcd1, ⟨%fd1, Hsd1⟩⟩⟩, Hf2⟩, Hof0, Hof1⟩, Hk⟩
  ihave Hall' := (of_eq (homes_zero c X A D)) $$ Hall
  icases Hall' with ⟨⟨Hx0, Ha0, Hd0⟩, ⟨Hx1, Ha1, Hd1⟩, Hh⟩
  dsimp only [bodyG]
  sl_exec
  ihave HR := (read_zero c X A D) $$ [Hh Hf2 Hcx0 Hca0 Hcd0 Hcx1 Hca1 Hcd1]
  · isplitl [Hh]; · iexact Hh
    isplitl [Hcx0 Hca0 Hcd0]
    · isplitl [Hcx0]; · iexists fx0; iexact Hcx0
      isplitl [Hca0]; · iexists fa0; iexact Hca0
      iexists fd0; iexact Hcd0
    isplitl [Hcx1 Hca1 Hcd1]
    · isplitl [Hcx1]; · iexists fx1; iexact Hcx1
      isplitl [Hca1]; · iexists fa1; iexact Hca1
      iexists fd1; iexact Hcd1
    iexact Hf2
  ihave HO := (out_zero c X A D arg4 arg5 arg6 g4 g5 g6) $$ [Hoa Hof0 Hof1]
  · isplitl [Hoa]; · iexact Hoa
    isplitl [Hof0]; · iexact Hof0
    iexact Hof1
  ihave HI := (show iprop(win c arg4 arg5 arg6 g4 g5 g6 ∗ readAt c X A D 0 ∗ outAt c X A D arg4 arg5 arg6 g4 g5 g6 0) ⊢ invAt c X A D arg4 arg5 arg6 g4 g5 g6 0 by
    unfold invAt; exact .rfl) $$ [H4 H5 H6 HW HR HO]
  · isplitl [H4 H5 H6 HW]
    · isplitl [H4]; · iexact H4
      isplitl [H5]; · iexact H5
      isplitl [H6]; · iexact H6
      iexists W; iexact HW
    isplitl [HR]; · iexact HR
    iexact HO
  sl_exec
  ihave HE := (inv_end c X A D arg4 arg5 arg6 g4 g5 g6) $$ HI
  icases HE with ⟨Hw, HR, HO⟩
  ihave HR' := (read_end c X A D) $$ HR
  ihave HO' := (out_end c X A D arg4 arg5 arg6 g4 g5 g6) $$ HO
  icases HO' with ⟨⟨%f0, %p0, %hf0, HF0⟩, ⟨%f1, %p1, %hf1, HF1⟩, HO⟩
  icases Hw with ⟨H4, H5, H6, ⟨%W', HW⟩⟩
  sl_exec
  sl_step
  iapply Hk
  isplitl [H4 H5 H6 HW]
  · isplitl [H4]; · iexact H4
    isplitl [H5]; · iexact H5
    isplitl [H6]; · iexact H6
    iexists _; iexact HW
  icases HR' with ⟨Hh, HR'⟩
  isplitl [Hh]; · iexact Hh
  ihave HO' := HO $$ [HF0 HF0_dst HF0_src HF1 HF1_dst HF1_src]
  · isplitl [HF0_dst]
    · iexists f0; isplitr; · ipureintro; exact hf0
      iexact HF0_dst
    isplitl [HF1_dst]
    · iexists f1; isplitr; · ipureintro; exact hf1
      iexact HF1_dst
    isplitl [HF0 HF0_src]
    · isplitl [HF0]; · iexact HF0
      iexists p0; iexact HF0_src
    isplitl [HF1]; · iexact HF1
    iexists p1; iexact HF1_src
  icases HO' with ⟨Hb, Hof⟩
  isplitl [Hb]; · iexact Hb
  isplitl [HR']; · iexact HR'
  iexact Hof

end Body

end Cert.Proof.OutRing
end
-- ==== Proof.OutLaunch.lean ====
module
public import proofs.«01_k».proof.Proof.OutLoop
public import Idealize.ShloMosaic.Lib.Pipeline.FrameBody

@[expose] public section

set_option maxRecDepth 16384

noncomputable section

namespace Cert.Proof.OutRing

open Cert.OutprojIdeal Cert.OutprojIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-! ## Which elements a block or a slot holds -/

abbrev W64 (b : Fin 64) : Finset S65536x1024.Idx := (Rect.unit (s := S65536x1024) (rowOff b) S1024x1024.size (rowOff_inb b)).set
abbrev H64 (b : Fin 64) : Finset S65536x512.Idx := (Rect.unit (s := S65536x512) (rowOff b) S1024x512.size (rowOff_inb' b)).set
abbrev X3 (s : Fin 3) : Finset S3x1024x1024.Idx := (Rect.unit (s := S3x1024x1024) (slotOff s) S1x1024x1024.size (slotOff_inb s)).set
abbrev Y3 (s : Fin 3) : Finset S3x1024x512.Idx := (Rect.unit (s := S3x1024x512) (slotOff s) S1x1024x512.size (slotOff_inb' s)).set
abbrev O2 (s : Fin 2) : Finset S2x1024x1024.Idx := (Rect.unit (s := S2x1024x1024) (slotOff s) S1x1024x1024.size (slotOff_inb2 s)).set

theorem mem_W64 (b : Fin 64) (y : S65536x1024.Idx) : y ∈ W64 b ↔ (y 0).val / 1024 = b.val := by
  rw [Rect.mem_set_unit]
  have h1 : (y 1).val < 1024 := (y 1).isLt
  constructor
  · intro H; have a0 : 1024 * b.val ≤ (y 0).val ∧ (y 0).val < 1024 * b.val + 1024 := H 0; omega
  · intro H i; fin_cases i
    · show 1024 * b.val ≤ (y 0).val ∧ (y 0).val < 1024 * b.val + 1024; omega
    · show 0 ≤ (y 1).val ∧ (y 1).val < 0 + 1024; omega
theorem mem_H64 (b : Fin 64) (y : S65536x512.Idx) : y ∈ H64 b ↔ (y 0).val / 1024 = b.val := by
  rw [Rect.mem_set_unit]
  have h1 : (y 1).val < 512 := (y 1).isLt
  constructor
  · intro H; have a0 : 1024 * b.val ≤ (y 0).val ∧ (y 0).val < 1024 * b.val + 1024 := H 0; omega
  · intro H i; fin_cases i
    · show 1024 * b.val ≤ (y 0).val ∧ (y 0).val < 1024 * b.val + 1024; omega
    · show 0 ≤ (y 1).val ∧ (y 1).val < 0 + 512; omega
theorem mem_X3 (s : Fin 3) (y : S3x1024x1024.Idx) : y ∈ X3 s ↔ (y 0).val = s.val := by
  rw [Rect.mem_set_unit]
  have h1 : (y 1).val < 1024 := (y 1).isLt
  have h2 : (y 2).val < 1024 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 1024; omega
theorem mem_Y3 (s : Fin 3) (y : S3x1024x512.Idx) : y ∈ Y3 s ↔ (y 0).val = s.val := by
  rw [Rect.mem_set_unit]
  have h1 : (y 1).val < 1024 := (y 1).isLt
  have h2 : (y 2).val < 512 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 512; omega
theorem mem_O2 (s : Fin 2) (y : S2x1024x1024.Idx) : y ∈ O2 s ↔ (y 0).val = s.val := by
  rw [Rect.mem_set_unit]
  have h1 : (y 1).val < 1024 := (y 1).isLt
  have h2 : (y 2).val < 1024 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 1024; omega

/-- Sets told apart by the value of one number of an index do not meet; -/
theorem apart {I J : Type} [DecidableEq I] {S : J → Finset I} {n : ℕ} (v : I → ℕ) (e : J → Fin n) (he : Function.Injective e)
    (h : ∀ j y, y ∈ S j ↔ v y = (e j).val) : ∀ j j', j ≠ j' → Disjoint (S j) (S j') := by
  intro j j' hne; rw [Finset.disjoint_left]; intro y hy hy'; rw [h] at hy hy'
  exact hne (he (Fin.ext (hy.symm.trans hy')))
/-- and cover everything when the number is always in range. -/
theorem covers {I : Type} [DecidableEq I] [Fintype I] {n : ℕ} {S : Fin n → Finset I} (v : I → ℕ) (h : ∀ j y, y ∈ S j ↔ v y = j.val)
    (hv : ∀ y, v y < n) : (Finset.univ : Finset (Fin n)).biUnion S = Finset.univ := by
  ext y; simp only [Finset.mem_biUnion, Finset.mem_univ, true_and, iff_true]; exact ⟨⟨v y, hv y⟩, (h _ _).2 rfl⟩

theorem W64_disjoint : ∀ b b' : Fin 64, b ≠ b' → Disjoint (W64 b) (W64 b') := apart (fun y => (y 0).val / 1024) id Function.injective_id mem_W64
theorem H64_disjoint : ∀ b b' : Fin 64, b ≠ b' → Disjoint (H64 b) (H64 b') := apart (fun y => (y 0).val / 1024) id Function.injective_id mem_H64
theorem X3_disjoint : ∀ b b' : Fin 3, b ≠ b' → Disjoint (X3 b) (X3 b') := apart (fun y => (y 0).val) id Function.injective_id mem_X3
theorem Y3_disjoint : ∀ b b' : Fin 3, b ≠ b' → Disjoint (Y3 b) (Y3 b') := apart (fun y => (y 0).val) id Function.injective_id mem_Y3
theorem O2_disjoint : ∀ b b' : Fin 2, b ≠ b' → Disjoint (O2 b) (O2 b') := apart (fun y => (y 0).val) id Function.injective_id mem_O2
theorem W64_cover : (Finset.univ : Finset (Fin 64)).biUnion W64 = Finset.univ :=
  covers (fun y => (y 0).val / 1024) mem_W64 fun y => by have : (y 0).val < 65536 := (y 0).isLt; omega
theorem H64_cover : (Finset.univ : Finset (Fin 64)).biUnion H64 = Finset.univ :=
  covers (fun y => (y 0).val / 1024) mem_H64 fun y => by have : (y 0).val < 65536 := (y 0).isLt; omega
theorem X3_cover : (Finset.univ : Finset (Fin 3)).biUnion X3 = Finset.univ := covers (fun y => (y 0).val) mem_X3 fun y => (y 0).isLt
theorem Y3_cover : (Finset.univ : Finset (Fin 3)).biUnion Y3 = Finset.univ := covers (fun y => (y 0).val) mem_Y3 fun y => (y 0).isLt
theorem O2_cover : (Finset.univ : Finset (Fin 2)).biUnion O2 = Finset.univ := covers (fun y => (y 0).val) mem_O2 fun y => (y 0).isLt

theorem xwide_set (b : Fin 64) : (wide xM b).view.set = W64 b := View.set_slice_whole _ _
theorem owide_set (b : Fin 64) : (wide oM b).view.set = W64 b := View.set_slice_whole _ _
theorem ahalf_set (b : Fin 64) : (half aM b).view.set = H64 b := View.set_slice_whole _ _
theorem dhalf_set (b : Fin 64) : (half dM b).view.set = H64 b := View.set_slice_whole _ _
theorem xslot_set (s : Fin 3) : (xslot s).view.set = X3 s := (View.set_reshape _ _).trans (View.set_slice_whole _ _)
theorem aslot_set (s : Fin 3) : (hslot aB s).view.set = Y3 s := (View.set_reshape _ _).trans (View.set_slice_whole _ _)
theorem dslot_set (s : Fin 3) : (hslot dB s).view.set = Y3 s := (View.set_reshape _ _).trans (View.set_slice_whole _ _)
theorem oslot_set (s : Fin 2) : (oslot s).view.set = O2 s := (View.set_reshape _ _).trans (View.set_slice_whole _ _)

/-! ## A whole buffer in its blocks, and back -/

section Split
variable (c : Dev nD)

theorem x_eq (f : Buf (Elt F) ((c : Thread nD τ).loc main_v1)) :
    (((c : Thread nD τ).loc main_v1) ↦{fullShare} f : sProp 𝕄) = bigSep Finset.univ (xhome c f) := by
  rw [Ring.pointsTo_blocks (ℓ := (c : Thread nD τ).loc main_v1) W64 W64_disjoint W64_cover]
  exact bigSep_congr fun b _ => by rw [← xwide_set]; rfl
theorem a_eq (f : Buf (Elt F) ((c : Thread nD τ).loc main_v2)) :
    (((c : Thread nD τ).loc main_v2) ↦{fullShare} f : sProp 𝕄) = bigSep Finset.univ (hhome c aM f) := by
  rw [Ring.pointsTo_blocks (ℓ := (c : Thread nD τ).loc main_v2) H64 H64_disjoint H64_cover]
  exact bigSep_congr fun b _ => by rw [← ahalf_set]; rfl
theorem d_eq (f : Buf (Elt F) ((c : Thread nD τ).loc main_v3)) :
    (((c : Thread nD τ).loc main_v3) ↦{fullShare} f : sProp 𝕄) = bigSep Finset.univ (hhome c dM f) := by
  rw [Ring.pointsTo_blocks (ℓ := (c : Thread nD τ).loc main_v3) H64 H64_disjoint H64_cover]
  exact bigSep_congr fun b _ => by rw [← dhalf_set]; rfl
theorem o_eq (f : Buf (Elt F) ((c : Thread nD τ).loc main_v7)) :
    (((c : Thread nD τ).loc main_v7) ↦{fullShare} f : sProp 𝕄) = bigSep Finset.univ (fun b => held c (wide oM b) f) := by
  rw [Ring.pointsTo_blocks (ℓ := (c : Thread nD τ).loc main_v7) W64 W64_disjoint W64_cover]
  exact bigSep_congr fun b _ => by rw [← owide_set]; rfl

theorem bigSep3 (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ

/-- The three arrays whole are their blocks home. -/
theorem homes_eq (X : Buf (Elt F) ((c : Thread nD τ).loc main_v1)) (A : Buf (Elt F) ((c : Thread nD τ).loc main_v2)) (D : Buf (Elt F) ((c : Thread nD τ).loc main_v3)) :
    bigSep Finset.univ (home3 c X A D) = (iprop((((c : Thread nD τ).loc main_v1) ↦{fullShare} X) ∗ (((c : Thread nD τ).loc main_v2) ↦{fullShare} A)
      ∗ (((c : Thread nD τ).loc main_v3) ↦{fullShare} D)) : sProp 𝕄) := by
  rw [x_eq, a_eq, d_eq, ← bigSep_sep', ← bigSep_sep']

/-- The result's array whole is its blocks, none written. -/
theorem ahead_of (f : Buf (Elt F) ((c : Thread nD τ).loc main_v7)) :
    (((c : Thread nD τ).loc main_v7) ↦{fullShare} f : sProp 𝕄) ⊢ bigSep Finset.univ (oahead (F := F) c) := by
  rw [o_eq]
  exact bigSep_mono fun b _ => show held c (wide oM b) f ⊢ oahead (F := F) c b from by iintro H; iexists f; iexact H

/-- Blocks of the result, each with known contents, are the whole array, holding each. -/
theorem whole_of (B : Fin 64 → S1024x1024.Idx → Elt F .f32) :
    bigSep Finset.univ (fun b => iprop(∃ f : Buf (Elt F) ((wide oM b).view.loc (c : Thread nD τ)), ⌜(wide oM b).view.read (Elt F) f = B b⌝ ∗ held c (wide oM b) f))
      ⊢ (iprop(∃ g : Buf (Elt F) ((c : Thread nD τ).loc main_v7), ⌜∀ b, (wide oM b).view.read (Elt F) g = B b⌝ ∗ ((c : Thread nD τ).loc main_v7) ↦{fullShare} g) : sProp 𝕄) := by
  have hne (b : Fin 64) : Nonempty (Buf (Elt F) ((wide oM b).view.loc (c : Thread nD τ))) := ⟨(wide oM b).view.rep (B b)⟩
  refine (BI.bigSep_exists_pi Finset.univ (fun b f => iprop(⌜(wide oM b).view.read (Elt F) f = B b⌝ ∗ held c (wide oM b) f))).trans ?_
  iintro ⟨%fs, H⟩
  ihave H' := (BI.bigSep_pure_sep Finset.univ (fun b => (wide oM b).view.read (Elt F) (fs b) = B b) (fun b => held c (wide oM b) (fs b))) $$ H
  icases H' with ⟨%hB, H⟩
  ihave H2 := (of_eq (show bigSep Finset.univ (fun b => held c (wide oM b) (fs b))
      = (bigSep Finset.univ (fun b => ((c : Thread nD τ).loc main_v7) ↦[W64 b]{fullShare} fs b) : sProp 𝕄) from
    bigSep_congr fun b _ => by rw [← owide_set]; rfl)) $$ H
  ihave H3 := (pointsTo_biUnion_join (ℓ := (c : Thread nD τ).loc main_v7) (q := fullShare) (Ix := Unit) (Name := ℕ) (U := UU nD τ) (Lvl := ℕ) Finset.univ W64 fs (fs 0) (fun b _ b' _ h => W64_disjoint b b' h)) $$ H2
  icases H3 with ⟨%g, %hg, H⟩
  iexists g
  isplitr
  · ipureintro
    intro b
    rw [← hB b (Finset.mem_univ b)]
    exact View.read_congr (fun i hi => hg b (Finset.mem_univ b) i (by rw [← owide_set]; exact hi))
  · iapply (of_eq (show ((((c : Thread nD τ).loc main_v7) ↦[(Finset.univ : Finset (Fin 64)).biUnion W64]{fullShare} g : sProp 𝕄)) = ((c : Thread nD τ).loc main_v7) ↦{fullShare} g from by
      rw [W64_cover]))
    iexact H

/-! The four buffers in their slots, and back. -/

theorem xs_eq : bigSep Finset.univ (fun s => iprop(∃ f : Buf (Elt F) ((c : Thread nD τ).loc cc0_scratch0), ((c : Thread nD τ).loc cc0_scratch0) ↦[X3 s]{fullShare} f))
    = (iprop((∃ f, held c (xslot 0) f) ∗ (∃ f, held c (xslot 1) f) ∗ ∃ f, held c (xslot 2) f) : sProp 𝕄) := by
  rw [bigSep3]; simp only [← xslot_set]; rfl
theorem as_eq : bigSep Finset.univ (fun s => iprop(∃ f : Buf (Elt F) ((c : Thread nD τ).loc cc0_scratch1), ((c : Thread nD τ).loc cc0_scratch1) ↦[Y3 s]{fullShare} f))
    = (iprop((∃ f, held c (hslot aB 0) f) ∗ (∃ f, held c (hslot aB 1) f) ∗ ∃ f, held c (hslot aB 2) f) : sProp 𝕄) := by
  rw [bigSep3]; simp only [← aslot_set]; rfl
theorem ds_eq : bigSep Finset.univ (fun s => iprop(∃ f : Buf (Elt F) ((c : Thread nD τ).loc cc0_scratch2), ((c : Thread nD τ).loc cc0_scratch2) ↦[Y3 s]{fullShare} f))
    = (iprop((∃ f, held c (hslot dB 0) f) ∗ (∃ f, held c (hslot dB 1) f) ∗ ∃ f, held c (hslot dB 2) f) : sProp 𝕄) := by
  rw [bigSep3]; simp only [← dslot_set]; rfl
theorem os_eq : bigSep Finset.univ (fun s => iprop(∃ f : Buf (Elt F) ((c : Thread nD τ).loc cc0_scratch3), ((c : Thread nD τ).loc cc0_scratch3) ↦[O2 s]{fullShare} f))
    = (iprop((∃ f, held c (oslot 0) f) ∗ ∃ f, held c (oslot 1) f) : sProp 𝕄) := by
  rw [bigSep2]; simp only [← oslot_set]; rfl

/-- A buffer held whole at something is each of its blocks held at something; -/
theorem split_any {n : ℕ} {ℓ : Loc nD τ sig} (S : Fin n → Finset (Idx ℓ)) (hd : ∀ b b', b ≠ b' → Disjoint (S b) (S b')) (hc : Finset.univ.biUnion S = Finset.univ) :
    iprop(∃ f : Buf (Elt F) ℓ, ℓ ↦{fullShare} f) ⊢ (bigSep Finset.univ (fun s => iprop(∃ f : Buf (Elt F) ℓ, ℓ ↦[S s]{fullShare} f)) : sProp 𝕄) := by
  iintro ⟨%f, H⟩
  ihave H2 := (of_eq (Ring.pointsTo_blocks (Ix := Unit) (Name := ℕ) (U := UU nD τ) (Lvl := ℕ) (q := fullShare) (ℓ := ℓ) S hd hc f)) $$ H
  have e : (bigSep Finset.univ (fun s => (ℓ ↦[S s]{fullShare} f : sProp 𝕄))) ⊢ (bigSep Finset.univ (fun s => iprop(∃ f : Buf (Elt F) ℓ, ℓ ↦[S s]{fullShare} f)) : sProp 𝕄) :=
    bigSep_mono fun s _ => show (ℓ ↦[S s]{fullShare} f : sProp 𝕄) ⊢ iprop(∃ f, ℓ ↦[S s]{fullShare} f) from by iintro H; iexists f; iexact H
  iapply e
  iexact H2
/-- and back. -/
theorem join_any {n : ℕ} [NeZero n] {ℓ : Loc nD τ sig} (S : Fin n → Finset (Idx ℓ)) (hd : ∀ b b', b ≠ b' → Disjoint (S b) (S b')) (hc : Finset.univ.biUnion S = Finset.univ) (f₀ : Buf (Elt F) ℓ) :
    (bigSep Finset.univ (fun s => iprop(∃ f : Buf (Elt F) ℓ, ℓ ↦[S s]{fullShare} f)) : sProp 𝕄) ⊢ iprop(∃ f : Buf (Elt F) ℓ, ℓ ↦{fullShare} f) :=
  Ring.pointsTo_blocks_join_exists (ℓ := ℓ) S hd hc f₀

theorem xs_split : (iprop(∃ f : Buf (Elt F) ((c : Thread nD τ).loc cc0_scratch0), ((c : Thread nD τ).loc cc0_scratch0) ↦{fullShare} f) : sProp 𝕄)
    ⊢ iprop((∃ f, held c (xslot 0) f) ∗ (∃ f, held c (xslot 1) f) ∗ ∃ f, held c (xslot 2) f) := by
  have e := split_any (F := F) (ℓ := (c : Thread nD τ).loc cc0_scratch0) X3 X3_disjoint X3_cover
  rw [xs_eq] at e; exact e
theorem xs_join : (iprop((∃ f, held c (xslot 0) f) ∗ (∃ f, held c (xslot 1) f) ∗ ∃ f, held c (xslot 2) f) : sProp 𝕄)
    ⊢ iprop(∃ f : Buf (Elt F) ((c : Thread nD τ).loc cc0_scratch0), ((c : Thread nD τ).loc cc0_scratch0) ↦{fullShare} f) := by
  iintro ⟨⟨%f, H0⟩, H⟩
  have e := join_any (F := F) (ℓ := (c : Thread nD τ).loc cc0_scratch0) X3 X3_disjoint X3_cover f
  rw [xs_eq] at e
  iapply e
  isplitl [H0]; · iexists f; iexact H0
  iexact H
theorem as_split : (iprop(∃ f : Buf (Elt F) ((c : Thread nD τ).loc cc0_scratch1), ((c : Thread nD τ).loc cc0_scratch1) ↦{fullShare} f) : sProp 𝕄)
    ⊢ iprop((∃ f, held c (hslot aB 0) f) ∗ (∃ f, held c (hslot aB 1) f) ∗ ∃ f, held c (hslot aB 2) f) := by
  have e := split_any (F := F) (ℓ := (c : Thread nD τ).loc cc0_scratch1) Y3 Y3_disjoint Y3_cover
  rw [as_eq] at e; exact e
theorem as_join : (iprop((∃ f, held c (hslot aB 0) f) ∗ (∃ f, held c (hslot aB 1) f) ∗ ∃ f, held c (hslot aB 2) f) : sProp 𝕄)
    ⊢ iprop(∃ f : Buf (Elt F) ((c : Thread nD τ).loc cc0_scratch1), ((c : Thread nD τ).loc cc0_scratch1) ↦{fullShare} f) := by
  iintro ⟨⟨%f, H0⟩, H⟩
  have e := join_any (F := F) (ℓ := (c : Thread nD τ).loc cc0_scratch1) Y3 Y3_disjoint Y3_cover f
  rw [as_eq] at e
  iapply e
  isplitl [H0]; · iexists f; iexact H0
  iexact H
theorem ds_split : (iprop(∃ f : Buf (Elt F) ((c : Thread nD τ).loc cc0_scratch2), ((c : Thread nD τ).loc cc0_scratch2) ↦{fullShare} f) : sProp 𝕄)
    ⊢ iprop((∃ f, held c (hslot dB 0) f) ∗ (∃ f, held c (hslot dB 1) f) ∗ ∃ f, held c (hslot dB 2) f) := by
  have e := split_any (F := F) (ℓ := (c : Thread nD τ).loc cc0_scratch2) Y3 Y3_disjoint Y3_cover
  rw [ds_eq] at e; exact e
theorem ds_join : (iprop((∃ f, held c (hslot dB 0) f) ∗ (∃ f, held c (hslot dB 1) f) ∗ ∃ f, held c (hslot dB 2) f) : sProp 𝕄)
    ⊢ iprop(∃ f : Buf (Elt F) ((c : Thread nD τ).loc cc0_scratch2), ((c : Thread nD τ).loc cc0_scratch2) ↦{fullShare} f) := by
  iintro ⟨⟨%f, H0⟩, H⟩
  have e := join_any (F := F) (ℓ := (c : Thread nD τ).loc cc0_scratch2) Y3 Y3_disjoint Y3_cover f
  rw [ds_eq] at e
  iapply e
  isplitl [H0]; · iexists f; iexact H0
  iexact H
theorem os_split : (iprop(∃ f : Buf (Elt F) ((c : Thread nD τ).loc cc0_scratch3), ((c : Thread nD τ).loc cc0_scratch3) ↦{fullShare} f) : sProp 𝕄)
    ⊢ iprop((∃ f, held c (oslot 0) f) ∗ ∃ f, held c (oslot 1) f) := by
  have e := split_any (F := F) (ℓ := (c : Thread nD τ).loc cc0_scratch3) O2 O2_disjoint O2_cover
  rw [os_eq] at e; exact e
theorem os_join : (iprop((∃ f, held c (oslot 0) f) ∗ ∃ f, held c (oslot 1) f) : sProp 𝕄)
    ⊢ iprop(∃ f : Buf (Elt F) ((c : Thread nD τ).loc cc0_scratch3), ((c : Thread nD τ).loc cc0_scratch3) ↦{fullShare} f) := by
  iintro ⟨⟨%f, H0⟩, H⟩
  have e := join_any (F := F) (ℓ := (c : Thread nD τ).loc cc0_scratch3) O2 O2_disjoint O2_cover f
  rw [os_eq] at e
  iapply e
  isplitl [H0]; · iexists f; iexact H0
  iexact H

end Split

/-! ## The launch -/

section Launch
variable (m : (ℓ : Loc nD τ sig) → Buf (Elt F) ℓ) (ρ : Dev nD → PrngReg)

/-- The contents of a core's buffers after the host's seven operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

theorem hmain : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

/-- A buffer no host operation writes is as at launch. -/
theorem V_of (c : Dev nD) (b : Ref sig .tc) (h : ∀ b' ∈ ({main_v0, main_v1, main_v2, main_v3, main_v4, main_v5, main_v6} : Finset (Ref sig .tc)), b ≠ b') :
    V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    refine ⟨?_, ?_, ?_, ?_, ?_, ?_, ?_⟩
    all_goals exact StableHlo.devRef_ne_of_ne (h _ (by decide))))

/-! The kernel's own cells. -/

abbrev osem : Fin 11 → SemLoc sig :=
  ![.dma (csm 0 0).sem, .dma (csm 1 0).sem, .dma (csm 2 0).sem, .dma (csm 0 1).sem, .dma (csm 1 1).sem, .dma (csm 2 1).sem,
    .dma (csm 0 2).sem, .dma (csm 1 2).sem, .dma (csm 2 2).sem, .dma (osm 0).sem, .dma (osm 1).sem]
theorem ownSemFacts : Pipeline.OwnSemFacts spec0 osem := by decide +kernel

theorem ownSems0_eq (c : Dev nD) : (Pipeline.ownSems0 (Ix := Unit) (Name := ℕ) (U := UU nD τ) (Lvl := ℕ) (Val := Elt F) (τ := τ) osem c : sProp 𝕄)
    = iprop(cellP c 0 0 ∗ cellP c 1 0 ∗ cellP c 2 0 ∗ cellP c 0 1 ∗ cellP c 1 1 ∗ cellP c 2 1 ∗ cellP c 0 2 ∗ cellP c 1 2 ∗ cellP c 2 2 ∗ ocellP c 0 ∗ ocellP c 1) := by
  unfold Pipeline.ownSems0
  exact bigSep_univ_eq_bigSepL [(0 : Fin 11), 1, 2, 3, 4, 5, 6, 7, 8, 9, 10] (by decide) (by decide) _

/-- Every slot free: the four buffers at something and the eleven cells at zero; -/
theorem frees_of (c : Dev nD) : iprop(Pipeline.ownSems0 osem c ∗ Pipeline.scopedRest spec0 c) ⊢ (frees (F := F) c : sProp 𝕄) := by
  rw [ownSems0_eq, scopedRest0_eq]
  iintro ⟨⟨C00, C10, C20, C01, C11, C21, C02, C12, C22, O0, O1⟩, HX, HA, HD, HO⟩
  ihave HX := (xs_split c) $$ HX
  ihave HA := (as_split c) $$ HA
  ihave HD := (ds_split c) $$ HD
  ihave HO := (os_split c) $$ HO
  icases HX with ⟨X0, X1, X2⟩
  icases HA with ⟨A0, A1, A2⟩
  icases HD with ⟨D0, D1, D2⟩
  icases HO with ⟨P0, P1⟩
  isplitr [O0 O1 P0 P1]
  · isplitl [C00 C10 C20 X0 A0 D0]
    · isplitl [C00 X0]; · isplitl [C00]; · iexact C00
                          iexact X0
      isplitl [C10 A0]; · isplitl [C10]; · iexact C10
                          iexact A0
      isplitl [C20]; · iexact C20
      iexact D0
    isplitl [C01 C11 C21 X1 A1 D1]
    · isplitl [C01 X1]; · isplitl [C01]; · iexact C01
                          iexact X1
      isplitl [C11 A1]; · isplitl [C11]; · iexact C11
                          iexact A1
      isplitl [C21]; · iexact C21
      iexact D1
    isplitl [C02 X2]; · isplitl [C02]; · iexact C02
                        iexact X2
    isplitl [C12 A2]; · isplitl [C12]; · iexact C12
                        iexact A2
    isplitl [C22]; · iexact C22
    iexact D2
  · isplitl [O0 P0]; · isplitl [O0]; · iexact O0
                       iexact P0
    isplitl [O1]; · iexact O1
    iexact P1

/-- and back. -/
theorem of_frees (c : Dev nD) : (frees (F := F) c : sProp 𝕄) ⊢ iprop(Pipeline.ownSems0 osem c ∗ Pipeline.scopedRest spec0 c) := by
  rw [ownSems0_eq, scopedRest0_eq]
  iintro ⟨⟨⟨⟨C00, X0⟩, ⟨C10, A0⟩, ⟨C20, D0⟩⟩, ⟨⟨C01, X1⟩, ⟨C11, A1⟩, ⟨C21, D1⟩⟩, ⟨⟨C02, X2⟩, ⟨C12, A2⟩, ⟨C22, D2⟩⟩⟩, ⟨⟨O0, P0⟩, ⟨O1, P1⟩⟩⟩
  isplitl [C00 C10 C20 C01 C11 C21 C02 C12 C22 O0 O1]
  · isplitl [C00]; · iexact C00
    isplitl [C10]; · iexact C10
    isplitl [C20]; · iexact C20
    isplitl [C01]; · iexact C01
    isplitl [C11]; · iexact C11
    isplitl [C21]; · iexact C21
    isplitl [C02]; · iexact C02
    isplitl [C12]; · iexact C12
    isplitl [C22]; · iexact C22
    isplitl [O0]; · iexact O0
    iexact O1
  isplitl [X0 X1 X2]
  · iapply (xs_join c)
    isplitl [X0]; · iexact X0
    isplitl [X1]; · iexact X1
    iexact X2
  isplitl [A0 A1 A2]
  · iapply (as_join c)
    isplitl [A0]; · iexact A0
    isplitl [A1]; · iexact A1
    iexact A2
  isplitl [D0 D1 D2]
  · iapply (ds_join c)
    isplitl [D0]; · iexact D0
    isplitl [D1]; · iexact D1
    iexact D2
  iapply (os_join c)
  isplitl [P0]; · iexact P0
  iexact P1

/-! The pipeline's proof data: three staged inputs at one point. -/

abbrev hst0 (t : Fin cfg0.N) : (st0_0 t).IsWhole := hstage0_0 ((cfg0.slots t 0).cast nbuf0_0)
abbrev hst1 (t : Fin cfg0.N) : (st0_1 t).IsWhole := hstage0_1 ((cfg0.slots t 1).cast nbuf0_1)
abbrev hst2 (t : Fin cfg0.N) : (st0_2 t).IsWhole := hstage0_2 ((cfg0.slots t 2).cast nbuf0_2)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Block `b` of the result, from the contents the kernel finds. -/
def outB (c : Dev nD) (t : Fin cfg0.N) (b : Fin 64) : S1024x1024.Idx → Elt F .f32 :=
  blockV c (V m c main_v1) (V m c main_v2) (V m c main_v3) (st0_0 t) (st0_1 t) (st0_2 t)
    ((st0_0 t).view.rep (iblk m c 0 t)) ((st0_1 t).view.rep (iblk m c 1 t)) ((st0_2 t).view.rep (iblk m c 2 t)) b

/-- Before the point the result's blocks are at anything, after it each is written. -/
def Φ0 (c : Dev nD) : sProp 𝕄 :=
  iprop(bigSep Finset.univ (home3 c (V m c main_v1) (V m c main_v2) (V m c main_v3)) ∗ bigSep Finset.univ (oahead (F := F) c) ∗ frees c)
def Φ1 (c : Dev nD) : sProp 𝕄 :=
  iprop(bigSep Finset.univ (home3 c (V m c main_v1) (V m c main_v2) (V m c main_v3))
    ∗ bigSep Finset.univ (fun b => iprop(∃ f : Buf (Elt F) ((wide oM b).view.loc (c : Thread nD τ)), ⌜(wide oM b).view.read (Elt F) f = outB m c t0_0 b⌝ ∗ held c (wide oM b) f)) ∗ frees c)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ t := if t.val = 0 then Φ0 m c else Φ1 m c
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]

theorem defs_tc : (defs₀ (F := F)) .tc cfg0.body
    = fun a => bodyG (grid0.coords a.1) (win0_0.stage (a.2 0)) (hstage0_0 ((a.2 0).cast nbuf0_0)) (win0_1.stage (a.2 1)) (hstage0_1 ((a.2 1).cast nbuf0_1))
        (win0_2.stage (a.2 2)) (hstage0_2 ((a.2 2).cast nbuf0_2)) := rfl
theorem prog_eq (t : Fin cfg0.N) : (defs₀ (F := F)) .tc cfg0.body (cfg0.bodyArgs t (cfg0.slots t))
    = bodyG (grid0.coords t) (st0_0 t) (hst0 t) (st0_1 t) (hst1 t) (st0_2 t) (hst2 t) :=
  (congrFun defs_tc _).trans rfl

theorem Φ_castSucc (c : Dev nD) (t : Fin cfg0.N) : (dats m 0 c).Φ t.castSucc = Φ0 m c := by
  have h : t.castSucc.val = 0 := by rw [fin_N0 t]; rfl
  dsimp only [dats]; rw [if_pos h]
theorem Φ_succ (c : Dev nD) (t : Fin cfg0.N) : (dats m 0 c).Φ t.succ = Φ1 m c := by
  have h : ¬ t.succ.val = 0 := by simp
  dsimp only [dats]; rw [if_neg h]
theorem Φ_first (c : Dev nD) : (dats m 0 c).Φ 0 = Φ0 m c := by
  show (if (0 : Fin (cfg0.N + 1)).val = 0 then Φ0 m c else Φ1 m c) = Φ0 m c
  exact if_pos rfl
theorem Φ_last (c : Dev nD) : (dats m 0 c).Φ (Fin.last cfg0.N) = Φ1 m c := by
  have h : ¬ (Fin.last cfg0.N).val = 0 := by decide
  dsimp only [dats]; rw [if_neg h]

set_option maxHeartbeats 2000000 in
set_option backward.isDefEq.respectTransparency.types false in
/-- At the one point the body runs, and leaves the staged blocks in place and every block of the result written. -/
theorem body_obligation (c : Dev nD) : BodyObligation (dats (F := F) m 0 c) (defs₀ (F := F)) 𝒱₀ () Set.univ := fun t => by
  rw [bigSep_W0, bigSep_W0]
  dsimp only
  simp only [before_w0, before_w1, before_w2, after_w0, after_w1, after_w2]
  rw [Φ_castSucc, Φ_succ]
  unfold Dat.owesAt Pipeline.owesWithin
  rw [show (dats m 0 c).owed t.castSucc = 0 from rfl, show (dats m 0 c).owed t.succ = 0 from rfl]
  unfold owns Φ0 Φ1
  iintro ⟨⟨Hh, Ha, Hf⟩, ⟨%W, -, HW⟩, ⟨%d0, %g0, %hg0, H0⟩, ⟨%d1, %g1, %hg1, H1⟩, ⟨%d2, %g2, %hg2, H2⟩⟩
  ihave H0' := (pointsTo_rep_entails (c : Thread nD τ) (st0_0 t) g0 fullShare) $$ H0
  ihave H1' := (pointsTo_rep_entails (c : Thread nD τ) (st0_1 t) g1 fullShare) $$ H1
  ihave H2' := (pointsTo_rep_entails (c : Thread nD τ) (st0_2 t) g2 fullShare) $$ H2
  rw [hg0, hg1, hg2]
  sl_rw [prog_eq t]
  iapply (bodyRun c (V m c main_v1) (V m c main_v2) (V m c main_v3) (grid0.coords t) (st0_0 t) (hst0 t) (st0_1 t) (hst1 t) (st0_2 t) (hst2 t))
  isplitl [H0' H1' H2' Hh Ha Hf HW]
  · isplitl [H0' H1' H2' HW]
    · isplitl [H0']; · iexact H0'
      isplitl [H1']; · iexact H1'
      isplitl [H2']; · iexact H2'
      iexists W; iexact HW
    isplitl [Hh]; · iexact Hh
    isplitl [Ha]; · iexact Ha
    iexact Hf
  · iintro ⟨⟨H0, H1, H2, ⟨%W', HW⟩⟩, Hh, Ha, Hf⟩
    isplitl [Hh Ha Hf]
    · isplitl [Hh]; · iexact Hh
      isplitl [Ha]
      · rw [← fin_N0 t]; unfold outB; iexact Ha
      iexact Hf
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    iexists _; isplitr; · ipureintro; exact View.read_rep _ _
    iexact H2

/-- The launch state: any memory, every semaphore at zero. -/
abbrev s₀ : MemSt nD τ sig (Elt F) := ⟨m, fun _ => 0, ρ⟩

/-- The arguments, which the kernel does not touch. -/
def argsP (c : Dev nD) : sProp 𝕄 :=
  iprop((((c : Thread nD τ).loc main_arg0) ↦{fullShare} V m c main_arg0) ∗ (((c : Thread nD τ).loc main_arg1) ↦{fullShare} V m c main_arg1)
    ∗ (((c : Thread nD τ).loc main_arg2) ↦{fullShare} V m c main_arg2) ∗ (((c : Thread nD τ).loc main_arg3) ↦{fullShare} V m c main_arg3)
    ∗ (((c : Thread nD τ).loc main_arg4) ↦{fullShare} V m c main_arg4))
def intoΦ (c : Dev nD) : sProp 𝕄 :=
  iprop(bigSep Finset.univ (home3 c (V m c main_v1) (V m c main_v2) (V m c main_v3)) ∗ bigSep Finset.univ (oahead (F := F) c) ∗ Pipeline.ownSems0 osem c)
def outOfΦ (c : Dev nD) : sProp 𝕄 :=
  iprop(∃ g : Buf (Elt F) ((c : Thread nD τ).loc main_v7), ⌜∀ b, (wide oM b).view.read (Elt F) g = outB m c t0_0 b⌝ ∗ ((c : Thread nD τ).loc main_v7) ↦{fullShare} g)
def u₀ : UU nD τ := (initOf (Pipeline.cells cfgs cellOf_inj) (Pipeline.launchToks cfgs cellOf_inj), 1)
/-- What is known of a core's memory at the end. -/
def QY (c : Dev nD) (s : MemSt nD τ sig (Elt F)) : Prop :=
  (∀ b, (wide oM b).view.read (Elt F) (s.mem ((c : Thread nD τ).loc main_v7)) = outB m c t0_0 b)
  ∧ s.mem ((c : Thread nD τ).loc main_arg0) = V m c main_arg0 ∧ s.mem ((c : Thread nD τ).loc main_arg1) = V m c main_arg1
  ∧ s.mem ((c : Thread nD τ).loc main_arg2) = V m c main_arg2 ∧ s.mem ((c : Thread nD τ).loc main_arg3) = V m c main_arg3
  ∧ s.mem ((c : Thread nD τ).loc main_arg4) = V m c main_arg4

set_option maxHeartbeats 2000000 in
set_option backward.isDefEq.respectTransparency.types false in
/-- Every weakly fair execution ends, with every block of the result at what the kernel makes of it, the arguments
    unchanged and every semaphore at zero. -/
theorem run_main : θ_run defs (onTc (τ := τ) (main (F := F))) (s₀ m ρ) (fun r => (∀ c, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := hmain m)
    (hA := fun _ _ => rfl)
    (X := intoΦ m) (Y := outOfΦ m) (Z := argsP m)
    (hX := fun c => by
      rw [unscopedRest0_eq]
      unfold intoΦ argsP
      rw [homes_eq]
      iintro ⟨⟨A0, A1, A2, A3, A4, -, X1, X2, X3, X7⟩, HS, -, -, -⟩
      imodintro
      ihave X7' := (ahead_of c _) $$ X7
      isplitl [X1 X2 X3 X7' HS]
      · isplitl [X1 X2 X3]
        · isplitl [X1]; · iexact X1
          isplitl [X2]; · iexact X2
          iexact X3
        isplitl [X7']; · iexact X7'
        iexact HS
      isplitl [A0]; · iexact A0
      isplitl [A1]; · iexact A1
      isplitl [A2]; · iexact A2
      isplitl [A3]; · iexact A3
      iexact A4)
    (hin := fun c => by
      rw [Φ_first]
      unfold intoΦ Φ0
      iintro ⟨⟨Hh, Ha, HS⟩, HR⟩
      isplitl [Hh]; · iexact Hh
      isplitl [Ha]; · iexact Ha
      iapply (frees_of c)
      isplitl [HS]; · iexact HS
      iexact HR)
    (hout := fun c => by
      rw [Φ_last]
      unfold outOfΦ Φ1
      iintro ⟨-, Ha, Hf⟩
      isplitl [Ha]
      · iapply (whole_of c (outB m c t0_0)); iexact Ha
      iapply (of_frees c); iexact Hf)
    (QY := QY m)
    (hY := fun c s' => by
      unfold outOfΦ argsP
      iintro ⟨⟨%g, %hg, H7⟩, ⟨A0, A1, A2, A3, A4⟩, HSI⟩
      icombine HSI H7 gives %h7
      icombine HSI A0 gives %h0
      icombine HSI A1 gives %h1
      icombine HSI A2 gives %h2
      icombine HSI A3 gives %h3
      icombine HSI A4 gives %h4
      imodintro
      isplitr
      · ipureintro
        refine ⟨?_, Buf.eq_of_forall_mem_univ h0, Buf.eq_of_forall_mem_univ h1, Buf.eq_of_forall_mem_univ h2, Buf.eq_of_forall_mem_univ h3, Buf.eq_of_forall_mem_univ h4⟩
        intro b
        rw [Buf.eq_of_forall_mem_univ h7]; exact hg b
      iexact HSI)
    (hQ := fun _ hh hz => ⟨fun c => (hh c).2, hz⟩)

/-- so the arguments end as they were, for any float values. -/
theorem run_args : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h.1 c).2.1.trans (V_of m c _ (by decide)), (h.1 c).2.2.1.trans (V_of m c _ (by decide)),
    (h.1 c).2.2.2.1.trans (V_of m c _ (by decide)), (h.1 c).2.2.2.2.1.trans (V_of m c _ (by decide)), (h.1 c).2.2.2.2.2.trans (V_of m c _ (by decide))⟩, h.2⟩)
    (run_main m ρ)

end Launch

end Cert.Proof.OutRing
end
-- ==== Proof.OutValue.lean ====
module
public import proofs.«01_k».proof.Proof.OutLaunch
public import proofs.«01_k».proof.Proof.InValue
public import Idealize.ShloMosaic.Lib.Pointwise
public import Idealize.ShloMosaic.Lib.Pipeline.ValueKit

/-! The output projection's result at an index. -/

@[expose] public section
set_option maxRecDepth 16384

open Idealize.ShloMosaic Idealize.ShloMosaic.TcCoe Idealize.SL.Sem
open Cert.OutprojIdeal Cert.OutprojIdeal.Gen

noncomputable section
namespace Cert.Proof.OutRing

/-- Row times matrix, the two halves of the row apart. -/
def mixed (a d : Fin 512 → EReal) (w : Fin 1024 → Fin 1024 → EReal) (n : Fin 1024) : EReal :=
  ∑ k : Fin 512, a k * w ⟨k.val, by omega⟩ n + ∑ k : Fin 512, d k * w ⟨512 + k.val, by omega⟩ n
/-- The residual, plus the normalized row. -/
def normed (x : EReal) (y nw : Fin 1024 → EReal) (n : Fin 1024) : EReal :=
  x + y n * Ideal.rsqrt (Ideal.div (∑ j, y j * y j) (Ideal.ofBits .f32 0x44800000#32) + Ideal.ofBits .f32 0x358637BD#32) * nw n

/-- The tile of a block at an index. -/
theorem tile_at (a : FVec Ideal S1024x512 .bf16) (w : FVec Ideal S512x1024 .bf16) (d : FVec Ideal S1024x512 .bf16) (w' : FVec Ideal S512x1024 .bf16)
    (nw : FVec Ideal S1x1024 .f32) (x : FVec Ideal S1024x1024 .f32) (r n : Fin 1024) :
    shapeCast S1024x1024 (k0_pay2 (F := Ideal) a w (shapeCast S1x1024x512 d up512) w' nw (shapeCast S1x1024x1024 x up1024)) shapeCasts_S1x1024x1024_S1024x1024 (ix2 r n) =
      normed (x (ix2 r n)) (fun j => ∑ k : Fin 512, a (ix2 r k) * w (ix2 k j) + ∑ k : Fin 512, d (ix2 r k) * w' (ix2 k j)) (fun j => nw (ix2 0 j)) n := by
  unfold normed
  pointwise [k0_pay2]

theorem row_lt (b : Fin 64) (r : Fin 1024) : 1024 * b.val + r.val < 65536 := by omega

/-- The result at row `i`, column `n`, from the arguments. -/
def outcome (x : FVec Ideal S32x2048x1024 .f32) (a d : FVec Ideal S32x2048x512 .bf16) (w : FVec Ideal S1024x1024 .f32) (nw : FVec Ideal S1024 .f32) (i : Fin 65536) (n : Fin 1024) : EReal :=
  normed (x (ix3 ⟨i.val / 2048, by omega⟩ ⟨i.val % 2048, by omega⟩ n))
    (mixed (fun k => a (ix3 ⟨i.val / 2048, by omega⟩ ⟨i.val % 2048, by omega⟩ k)) (fun k => d (ix3 ⟨i.val / 2048, by omega⟩ ⟨i.val % 2048, by omega⟩ k)) fun k j => w (ix2 k j))
    (fun j => nw (ix1 j)) n

/-- Rows from a multiple of 1024 on. -/
theorem emb_row {n : ℕ} (b : Fin 64) (inb) (r : Fin 1024) (k : Fin n) :
    (Rect.unit (s := ⟨2, ![65536, n]⟩) (rowOff b) ![1024, n] inb).emb (ix2 r k) = ix2 ⟨1024 * b.val + r.val, row_lt b r⟩ k := by
  refine (Inp.emb2 (rowOff b) inb r k (row_lt b r) (by show 0 + k.val < n; omega)).trans ?_
  exact congrArg (ix2 _) (Fin.ext (Nat.zero_add _))
theorem read_wide (X : S65536x1024.Idx → EReal) (b : Fin 64) (r k : Fin 1024) :
    (show EReal from (wide xM b).view.read (Elt Ideal) X (ix2 r k)) = X (ix2 ⟨1024 * b.val + r.val, row_lt b r⟩ k) := congrArg X (emb_row b _ r k)
theorem read_result (X : S65536x1024.Idx → EReal) (b : Fin 64) (r k : Fin 1024) :
    (show EReal from (wide oM b).view.read (Elt Ideal) X (ix2 r k)) = X (ix2 ⟨1024 * b.val + r.val, row_lt b r⟩ k) := congrArg X (emb_row b _ r k)
theorem read_a (X : S65536x512.Idx → EReal) (b : Fin 64) (r : Fin 1024) (k : Fin 512) :
    (show EReal from (half aM b).view.read (Elt Ideal) X (ix2 r k)) = X (ix2 ⟨1024 * b.val + r.val, row_lt b r⟩ k) := congrArg X (emb_row b _ r k)
theorem read_d (X : S65536x512.Idx → EReal) (b : Fin 64) (r : Fin 1024) (k : Fin 512) :
    (show EReal from (half dM b).view.read (Elt Ideal) X (ix2 r k)) = X (ix2 ⟨1024 * b.val + r.val, row_lt b r⟩ k) := congrArg X (emb_row b _ r k)

/-- A whole load of a staged block, at an index. -/
theorem load_at {m n : ℕ} {e : EltTy} (M : Memref sig .tc .vmem (⟨2, ![m, n]⟩ : Shape) e) (X : Vec Ideal (⟨2, ![m, n]⟩ : Shape) e) (inb) (s : Fin m) (l : Fin n) :
    View.readAt (Elt Ideal) M.view (Rect.unit (s := ⟨2, ![m, n]⟩) ![0, 0] ![m, n] inb).toLoadRect (M.view.rep X) (ix2 s l) = X (ix2 s l) := by
  rw [View.readAt_eq_ld, View.read_rep]
  refine congrArg X ((Inp.emb2 ![0, 0] inb s l (by show 0 + s.val < m; omega) (by show 0 + l.val < n; omega)).trans ?_)
  exact congrArg₂ ix2 (Fin.ext (Nat.zero_add _)) (Fin.ext (Nat.zero_add _))

variable (m : (ℓ : Loc nD τ sig) → Buf (Elt Ideal) ℓ) (c : Dev nD)
def p0 : FVec Ideal S32x2048x1024 .f32 := m ((c.tc : Thread nD τ).loc main_arg0)
def p1 : FVec Ideal S32x2048x512 .bf16 := m ((c.tc : Thread nD τ).loc main_arg1)
def p2 : FVec Ideal S32x2048x512 .bf16 := m ((c.tc : Thread nD τ).loc main_arg2)
def p3 : FVec Ideal S1024x1024 .f32 := m ((c.tc : Thread nD τ).loc main_arg3)
def p4 : FVec Ideal S1024 .f32 := m ((c.tc : Thread nD τ).loc main_arg4)

/-- The half of the matrix from row `o` on. -/
def weights (w : FVec Ideal S1024x1024 .f32) (o : Fin 2 → ℕ) (h : S1024x1024.Slices o S512x1024) : FVec Ideal S512x1024 .bf16 :=
  extractStridedSlice S512x1024 o (truncf .bf16 w bitsLt_bf16_f32) h

theorem V1 : V m c main_v1 = shapeCast S65536x1024 (p0 m c) shapeCasts_S32x2048x1024_S65536x1024 := by
  show StableHlo.after hostOps0 _ _ = _
  unfold p0
  after_results <;> rfl
theorem V2 : V m c main_v2 = shapeCast S65536x512 (p1 m c) shapeCasts_S32x2048x512_S65536x512 := by
  show StableHlo.after hostOps0 _ _ = _
  unfold p1
  after_results <;> rfl
theorem V3 : V m c main_v3 = shapeCast S65536x512 (p2 m c) shapeCasts_S32x2048x512_S65536x512 := by
  show StableHlo.after hostOps0 _ _ = _
  unfold p2
  after_results <;> rfl
theorem V4 : V m c main_v4 = weights (p3 m c) ![0, 0] slices_S1024x1024_S512x1024_0_0 := by
  show StableHlo.after hostOps0 _ _ = _
  unfold p3 weights
  after_results <;> rfl
theorem V5 : V m c main_v5 = weights (p3 m c) ![512, 0] slices_S1024x1024_S512x1024_512_0 := by
  show StableHlo.after hostOps0 _ _ = _
  unfold p3 weights
  after_results <;> rfl
theorem V6 : V m c main_v6 = shapeCast S1x1024 (p4 m c) shapeCasts_S1024_S1x1024 := by
  show StableHlo.after hostOps0 _ _ = _
  unfold p4
  after_results <;> rfl

theorem idx0 (t : Fin cfg0.N) : win0_0.index t = ![0, 0] := (by decide +kernel : ∀ t : Fin grid0.N, win0_0.index t = ![0, 0]) t
theorem idx1 (t : Fin cfg0.N) : win0_1.index t = ![0, 0] := (by decide +kernel : ∀ t : Fin grid0.N, win0_1.index t = ![0, 0]) t
theorem idx2 (t : Fin cfg0.N) : win0_2.index t = ![0, 0] := (by decide +kernel : ∀ t : Fin grid0.N, win0_2.index t = ![0, 0]) t
theorem staged0 (X : S512x1024.Idx → EReal) (t : Fin cfg0.N) (k : Fin 512) (n : Fin 1024) : X (((cfg0.win 0).blk t).view.emb (ix2 k n)) = X (ix2 k n) := by
  blk_ext [idx0 t]
theorem staged1 (X : S512x1024.Idx → EReal) (t : Fin cfg0.N) (k : Fin 512) (n : Fin 1024) : X (((cfg0.win 1).blk t).view.emb (ix2 k n)) = X (ix2 k n) := by
  blk_ext [idx1 t]
theorem staged2 (X : S1x1024.Idx → EReal) (t : Fin cfg0.N) (n : Fin 1024) : X (((cfg0.win 2).blk t).view.emb (ix2 0 n)) = X (ix2 0 n) := by
  blk_ext [idx2 t]

theorem blk0 (t : Fin cfg0.N) (k : Fin 512) (n : Fin 1024) : (show EReal from iblk m c 0 t (ix2 k n)) = p3 m c (ix2 ⟨k.val, by omega⟩ n) := by
  refine (staged0 (V m c main_v4) t k n).trans ?_
  rw [V4]
  pointwise [weights]
theorem blk1 (t : Fin cfg0.N) (k : Fin 512) (n : Fin 1024) : (show EReal from iblk m c 1 t (ix2 k n)) = p3 m c (ix2 ⟨512 + k.val, by omega⟩ n) := by
  refine (staged1 (V m c main_v5) t k n).trans ?_
  rw [V5]
  pointwise [weights]
theorem blk2 (t : Fin cfg0.N) (n : Fin 1024) : (show EReal from iblk m c 2 t (ix2 0 n)) = p4 m c (ix1 n) := by
  refine (staged2 (V m c main_v6) t n).trans ?_
  rw [V6]
  pointwise

theorem wide_at (b : Fin 64) (r n : Fin 1024) : (show EReal from (wide xM b).view.read (Elt Ideal) (V m c main_v1) (ix2 r n)) =
    p0 m c (ix3 ⟨(1024 * b.val + r.val) / 2048, by omega⟩ ⟨(1024 * b.val + r.val) % 2048, by omega⟩ n) := by
  refine (read_wide _ b r n).trans ?_
  rw [V1]
  pointwise
theorem a_at (b : Fin 64) (r : Fin 1024) (k : Fin 512) : (show EReal from (half aM b).view.read (Elt Ideal) (V m c main_v2) (ix2 r k)) =
    p1 m c (ix3 ⟨(1024 * b.val + r.val) / 2048, by omega⟩ ⟨(1024 * b.val + r.val) % 2048, by omega⟩ k) := by
  refine (read_a _ b r k).trans ?_
  rw [V2]
  pointwise
theorem d_at (b : Fin 64) (r : Fin 1024) (k : Fin 512) : (show EReal from (half dM b).view.read (Elt Ideal) (V m c main_v3) (ix2 r k)) =
    p2 m c (ix3 ⟨(1024 * b.val + r.val) / 2048, by omega⟩ ⟨(1024 * b.val + r.val) % 2048, by omega⟩ k) := by
  refine (read_d _ b r k).trans ?_
  rw [V3]
  pointwise

theorem st0_at (t : Fin cfg0.N) (inb) (k : Fin 512) (n : Fin 1024) :
    (show EReal from (st0_0 t).view.readAt (Elt Ideal) (Rect.unit (s := S512x1024) ![0, 0] S512x1024.size inb).toLoadRect ((st0_0 t).view.rep (iblk m c 0 t)) (ix2 k n)) = p3 m c (ix2 ⟨k.val, by omega⟩ n) :=
  (load_at (st0_0 t) (iblk m c 0 t) inb k n).trans (blk0 m c t k n)
theorem st1_at (t : Fin cfg0.N) (inb) (k : Fin 512) (n : Fin 1024) :
    (show EReal from (st0_1 t).view.readAt (Elt Ideal) (Rect.unit (s := S512x1024) ![0, 0] S512x1024.size inb).toLoadRect ((st0_1 t).view.rep (iblk m c 1 t)) (ix2 k n)) = p3 m c (ix2 ⟨512 + k.val, by omega⟩ n) :=
  (load_at (st0_1 t) (iblk m c 1 t) inb k n).trans (blk1 m c t k n)
theorem st2_at (t : Fin cfg0.N) (inb) (n : Fin 1024) :
    (show EReal from (st0_2 t).view.readAt (Elt Ideal) (Rect.unit (s := S1x1024) ![0, 0] S1x1024.size inb).toLoadRect ((st0_2 t).view.rep (iblk m c 2 t)) (ix2 0 n)) = p4 m c (ix1 n) :=
  (load_at (st0_2 t) (iblk m c 2 t) inb 0 n).trans (blk2 m c t n)

/-- A block of the result, at an index. -/
theorem block_at (t : Fin cfg0.N) (b : Fin 64) (r n : Fin 1024) : (show EReal from outB m c t b (ix2 r n)) =
    outcome (p0 m c) (p1 m c) (p2 m c) (p3 m c) (p4 m c) ⟨1024 * b.val + r.val, row_lt b r⟩ n := by
  refine (tile_at _ _ _ _ _ _ r n).trans ?_
  unfold outcome
  refine congr (congrArg₂ (fun x y => normed x y) (wide_at m c b r n) (funext fun j => ?_)) (funext fun j => st2_at m c t _ j) |> (congrFun · n)
  exact congrArg₂ (· + ·) (Finset.sum_congr rfl fun k _ => congrArg₂ (· * ·) (a_at m c b r k) (st0_at m c t _ k j))
    (Finset.sum_congr rfl fun k _ => congrArg₂ (· * ·) (d_at m c b r k) (st1_at m c t _ k j))

/-- The result. -/
def result : S65536x1024.Idx → EReal := fun y => outcome (p0 m c) (p1 m c) (p2 m c) (p3 m c) (p4 m c) (y 0) (y 1)

/-- An array whose blocks are the launch's is the result. -/
theorem result_of (t : Fin cfg0.N) (X : S65536x1024.Idx → EReal) (h : ∀ b, (wide oM b).view.read (Elt Ideal) X = outB m c t b) : X = result m c := by
  funext y
  obtain ⟨i, n, rfl⟩ : ∃ (i : Fin 65536) (n : Fin 1024), y = ix2 i n := ⟨y 0, y 1, eq_ix2 y⟩
  have hi : (⟨1024 * (i.val / 1024) + i.val % 1024, by omega⟩ : Fin 65536) = i := Fin.ext (Nat.div_add_mod i.val 1024)
  have e := ((read_result X ⟨i.val / 1024, by omega⟩ ⟨i.val % 1024, by omega⟩ n).symm.trans (congrFun (h ⟨i.val / 1024, by omega⟩) _)).trans (block_at m c t ⟨i.val / 1024, by omega⟩ ⟨i.val % 1024, by omega⟩ n)
  simp only [hi] at e
  exact e

end Cert.Proof.OutRing
end
end
-- ==== Proof.OutReference.lean ====
module
public import proofs.«01_k».proof.Proof.Gen.RefOutprojIdeal.Run
public import proofs.«01_k».proof.Proof.OutValue

/-! The output projection's reference at an index. -/

@[expose] public section
set_option maxRecDepth 16384

open Idealize.ShloMosaic Idealize.ShloMosaic.TcCoe Idealize.SL.Sem
open Cert.RefOutprojIdeal Cert.RefOutprojIdeal.Gen

noncomputable section
namespace Cert.Proof.OutRef
open Cert.Proof.OutRing (mixed normed outcome)

section
variable {F : FTy → Type} [FloatOps F]
/-- The mixed columns times the matrix. -/
def product (a d : FVec F S32x2048x512 .bf16) (w : FVec F S1024x1024 .f32) : FVec F S32x2048x1024 .f32 :=
  Host.dotGeneral dot_S32x2048x1024_S1024x1024_S32x2048x1024_2_0_01_1_n_n none
    (extf .f32 (concatenate S32x2048x1024 2 [⟨S32x2048x512, a⟩, ⟨S32x2048x512, d⟩] concatenates_S32x2048x512_S32x2048x512_S32x2048x1024_d2) bitsLt_bf16_f32) w
/-- The residual plus the normalized product. -/
def whole (x y : FVec F S32x2048x1024 .f32) (nw : FVec F S1024 .f32) : FVec F S65536x1024 .f32 :=
  shapeCast S65536x1024 (addf x (mulf (mulf y (broadcastInDim S32x2048x1024 ![0, 1, 2] bcast_S32x2048x1_S32x2048x1024_0_1_2 (Host.rsqrt (addf (Host.divf (broadcastInDim S32x2048x1 ![0, 1] bcast_S32x2048_S32x2048x1_0_1
      (Host.reduceAdd (mulf y y) (constant S_ .f32 0x00000000#32) reducesTo_S32x2048x1024_S32x2048_d2 h_S_)) (broadcastInDim S32x2048x1 ![] bcast_S_S32x2048x1 (constant S_ .f32 0x44800000#32)))
      (broadcastInDim S32x2048x1 ![] bcast_S_S32x2048x1 (constant S_ .f32 0x358637BD#32))))))
    (broadcastInDim S32x2048x1024 ![0, 1, 2] bcast_S1x1x1024_S32x2048x1024_0_1_2 (broadcastInDim S1x1x1024 ![2] bcast_S1024_S1x1x1024_2 nw)))) shapeCasts_S32x2048x1024_S65536x1024
end

variable (a d : FVec Ideal S32x2048x512 .bf16) (w : FVec Ideal S1024x1024 .f32) (b : Fin 32) (s : Fin 2048)

theorem product_at (n : Fin 1024) : product a d w (ix3 b s n) = mixed (fun k => a (ix3 b s k)) (fun k => d (ix3 b s k)) (fun k j => w (ix2 k j)) n := by
  unfold mixed
  pointwise [product]

theorem whole_at (x y : FVec Ideal S32x2048x1024 .f32) (nw : FVec Ideal S1024 .f32) (i : Fin 65536) (n : Fin 1024) : whole x y nw (ix2 i n) =
    normed (x (ix3 ⟨i.val / 2048, by omega⟩ ⟨i.val % 2048, by omega⟩ n)) (fun j => y (ix3 ⟨i.val / 2048, by omega⟩ ⟨i.val % 2048, by omega⟩ j)) (fun j => nw (ix1 j)) n := by
  unfold normed
  pointwise [whole]

theorem outcome_eq (x : FVec Ideal S32x2048x1024 .f32) (nw : FVec Ideal S1024 .f32) : whole x (product a d w) nw = fun y => outcome x a d w nw (y 0) (y 1) := by
  funext y
  obtain ⟨i, n, rfl⟩ : ∃ (i : Fin 65536) (n : Fin 1024), y = ix2 i n := ⟨y 0, y 1, eq_ix2 y⟩
  refine (whole_at x _ nw i n).trans ?_
  exact congrArg (fun y => normed _ y _ n) (funext fun j => product_at a d w _ _ j)

end Cert.Proof.OutRef
end
end
-- ==== Proof.OutResult.lean ====
module
public import proofs.«01_k».proof.Defs
public import proofs.«01_k».proof.Proof.OutReference
public import proofs.«01_k».proof.Proof.Gen.Outproj

/-! The output projection's claims. -/

@[expose] public section

open Idealize.ShloMosaic Idealize.ShloMosaic.TcCoe Idealize.SL.Sem

namespace Cert.Proof.OutRing
open Cert.OutprojIdeal Cert.OutprojIdeal.Gen

theorem frame_ideal : Cert.quiescent_OutprojIdeal := fun m ρ _ => run_args (F := Ideal) m ρ

/-- The two programs' kernels are one text. -/
theorem bodies_eq : Cert.Outproj.defs₀ (F := Bits) = Cert.OutprojIdeal.defs₀ (F := Bits) :=
  congrArg Defs.onTc (funext fun l => match l with
    | 0 => rfl
    | ⟨_ + 1, h⟩ => absurd h (Nat.not_lt.2 (Nat.le_add_left _ _)))
theorem defs_eq : Cert.Outproj.defs (F := Bits) = Cert.OutprojIdeal.defs (F := Bits) :=
  congrArg (Pipeline.defs (Cert.OutprojIdeal.pcfgs (F := Bits))) bodies_eq
theorem frame_bits : Cert.quiescent_Outproj := fun m ρ _ => by
  rw [defs_eq]
  exact run_args (F := Bits) m ρ

theorem frame_reference : Cert.quiescent_RefOutprojIdeal := fun m ρ _ =>
  (θ_run Cert.RefOutprojIdeal.defs _ _).mono (fun r h => ⟨fun c => (h c).2, Idealize.ShloMosaic.sem_eq_zero_of_no_sems (by decide) r.2⟩) (Cert.RefOutprojIdeal.Value.run (F := Ideal) m ρ)

section
variable (m : (ℓ : Loc nD τ sig) → Buf (Elt Ideal) ℓ) (c : Dev nD)

/-- The launch leaves the result, and the arguments as they were. -/
theorem left_of (s : MemSt nD τ sig (Elt Ideal)) (h : QY m c s) :
    s.mem ((c.tc : Thread nD τ).loc main_v7) = result m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4) :=
  ⟨result_of m c t0_0 _ h.1, h.2.1.trans (V_of m c main_arg0 (by decide)), h.2.2.1.trans (V_of m c main_arg1 (by decide)),
    h.2.2.2.1.trans (V_of m c main_arg2 (by decide)), h.2.2.2.2.1.trans (V_of m c main_arg3 (by decide)), h.2.2.2.2.2.trans (V_of m c main_arg4 (by decide))⟩
end

/-- The kernel and the reference give equal results. -/
theorem equal_outputs : Cert.algebraic_OutprojIdeal_RefOutprojIdeal := fun m g m' g' _ hm =>
  ⟨fun c => result m c,
    (θ_run Cert.OutprojIdeal.defs _ _).mono (fun r h c => left_of m c r.2 (h.1 c)) (run_main (F := Ideal) m g),
    (θ_run Cert.RefOutprojIdeal.defs _ _).mono (fun r h c => ⟨(h c).1.trans (by
      rw [(hm c).1, (hm c).2.1, (hm c).2.2.1, (hm c).2.2.2.1, (hm c).2.2.2.2]
      exact OutRef.outcome_eq (p1 m c) (p2 m c) (p3 m c) (p0 m c) (p4 m c)), (h c).2⟩) (Cert.RefOutprojIdeal.Value.run (F := Ideal) m' g')⟩

end Cert.Proof.OutRing
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojIdeal.Value
public import proofs.«01_k».proof.Proof.Gen.RefInprojIdeal
public import proofs.«01_k».proof.Proof.Gen.RefInprojIdeal.Run
public import proofs.«01_k».proof.Proof.Gen.Outproj
public import proofs.«01_k».proof.Proof.Gen.Outproj.Skeleton
public import proofs.«01_k».proof.Proof.Gen.Outproj.Launch
public import proofs.«01_k».proof.Proof.Gen.Outproj.Points
public import proofs.«01_k».proof.Proof.Gen.Outproj.Loops
public import proofs.«01_k».proof.Proof.Gen.OutprojIdeal
public import proofs.«01_k».proof.Proof.Gen.OutprojIdeal.Skeleton
public import proofs.«01_k».proof.Proof.Gen.OutprojIdeal.Launch
public import proofs.«01_k».proof.Proof.Gen.OutprojIdeal.Points
public import proofs.«01_k».proof.Proof.Gen.OutprojIdeal.Loops
public import proofs.«01_k».proof.Proof.Gen.RefOutprojIdeal
public import proofs.«01_k».proof.Proof.Gen.RefOutprojIdeal.Run
public import proofs.«01_k».proof.Proof.Gen.Gdn
public import proofs.«01_k».proof.Proof.Gen.GdnIdeal
public import proofs.«01_k».proof.Proof.Gen.GdnIdeal.Skeleton
public import proofs.«01_k».proof.Proof.Gen.GdnIdeal.Launch
public import proofs.«01_k».proof.Proof.Gen.GdnIdeal.Points
public import proofs.«01_k».proof.Proof.Gen.GdnIdeal.Loops
public import proofs.«01_k».proof.Proof.Gen.GdnIdeal.Frame.Runs
public import proofs.«01_k».proof.Proof.GdnFrame
public import proofs.«01_k».proof.Proof.Result
public import proofs.«01_k».proof.Proof.InResult
public import proofs.«01_k».proof.Proof.InReference
public import proofs.«01_k».proof.Proof.OutResult
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- The reference runs to the end, and leaves its argument and every counter as they were. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The constant of the masks is named the bottom element. -/
theorem preserves_mask : Cert.preserves_Kernel_KernelIdeal :=
  IdealRules.named_const.statement Cert.KernelIdeal.κ "mask" .f32 0xF149F2CA#32 ⊥ rfl

/-- The one shape relation of the precondition. -/
theorem facts_finite : Cert.Pre_finite.Facts := ⟨by decide⟩

/-- The attention kernel and the reference have equal results on finite projected columns. -/
theorem equal_results : Cert.algebraic_KernelIdeal_ReferenceIdeal_pre_finite (hKernelIdeal := Cert.KernelIdeal.Gen.facts)
    (hReferenceIdeal := Cert.ReferenceIdeal.Gen.facts) (hPre_finite := facts_finite) := by
  intro m ρ m' ρ' hpre hagree
  refine ⟨_, Cert.KernelIdeal.Value.run_blocks (F := Ideal) m ρ, ?_⟩
  refine (θ_run _ _ _).mono (fun _ h c => ⟨(h c).1.trans ?_, (h c).2⟩) (Cert.ReferenceIdeal.Value.run (F := Ideal) m' ρ')
  refine (Moba.Ref.result_eq m' c).trans ((congrArg (Moba.Ref.whole (F := Ideal)) (hagree c)).trans ?_)
  exact (Moba.array_eq (m := m) (c := c) fun i j =>
    @Moba.real_of_finite facts_finite _ (hpre c) (ix2 i j)).symm

/-- The input projection's reference runs to the end, and leaves its arguments and every counter as they were. -/
theorem frame_ri2 : Cert.quiescent_RefInprojIdeal := fun m ρ _ =>
  (θ_run Cert.RefInprojIdeal.defs _ _).mono (fun r h => ⟨fun c => (h c).2.2.2,
      Idealize.ShloMosaic.sem_eq_zero_of_no_sems (by decide) r.2⟩)
    (Cert.RefInprojIdeal.Value.run (F := Ideal) m ρ)

section
variable (m : (ℓ : Loc Cert.InprojIdeal.nD Cert.InprojIdeal.τ Cert.InprojIdeal.sig) → Buf (Elt Ideal) ℓ) (c : Dev Cert.InprojIdeal.nD)

/-- The input projection's columns, from the arguments. -/
abbrev cols := Inp.Ref.cols (Inp.g0 m c) (Inp.g1 m c) (Inp.g2 m c)

theorem first_result : Inp.Ref.whole0 (F := Ideal) (cols m c) = Inp.array7 m c := by
  funext y
  obtain ⟨i, j, rfl⟩ : ∃ i j, y = ix2 i j := ⟨y 0, y 1, eq_ix2 y⟩
  exact Inp.Ref.whole0_at _ _ _ (Inp.g3 m c) (Inp.g4 m c) (Inp.g5 m c) i j
theorem second_result : Inp.Ref.whole1 (F := Ideal) (cols m c) (Inp.g3 m c) = Inp.array8 m c := by
  funext y
  obtain ⟨i, j, rfl⟩ : ∃ i j, y = ix2 i j := ⟨y 0, y 1, eq_ix2 y⟩
  exact Inp.Ref.whole1_at _ _ _ _ (Inp.g4 m c) (Inp.g5 m c) i j
theorem third_result : Inp.Ref.whole2 (F := Ideal) (cols m c) (Inp.g4 m c) (Inp.g5 m c) = Inp.array9 m c := by
  funext y
  obtain ⟨i, j, rfl⟩ : ∃ i j, y = ix2 i j := ⟨y 0, y 1, eq_ix2 y⟩
  exact Inp.Ref.whole2_at _ _ _ (Inp.g3 m c) _ _ i j
end

/-- The input projection and its reference have equal results. -/
theorem equal_projections : Cert.algebraic_InprojIdeal_RefInprojIdeal (hInprojIdeal := Cert.InprojIdeal.Gen.facts)
    (hRefInprojIdeal := Cert.RefInprojIdeal.Gen.facts) := by
  intro m ρ m' ρ' _ hagree
  have e0 := fun c => (hagree c).1
  have e1 := fun c => (hagree c).2.1
  have e2 := fun c => (hagree c).2.2.1
  have e3 := fun c => (hagree c).2.2.2.1
  have e4 := fun c => (hagree c).2.2.2.2.1
  have e5 := fun c => (hagree c).2.2.2.2.2
  have ec : ∀ c, Inp.Ref.prj (Inp.Ref.nrm (Inp.Ref.a0 m' c) (Inp.Ref.a1 m' c)) (Inp.Ref.a2 m' c) = cols m c := fun c =>
    congr (congrArg Inp.Ref.prj (congr (congrArg Inp.Ref.nrm (e0 c)) (e1 c))) (e2 c)
  refine ⟨_, _, _, Cert.InprojIdeal.Value.run_blocks (F := Ideal) m ρ, ?_⟩
  refine (θ_run _ _ _).mono (fun _ h c => ⟨(h c).1.trans ?_, (h c).2.1.trans ?_, (h c).2.2.1.trans ?_, (h c).2.2.2⟩) (Cert.RefInprojIdeal.Value.run (F := Ideal) m' ρ')
  · exact (congrArg (Inp.Ref.whole0 (F := Ideal)) (ec c)).trans ((first_result m c).trans (Inp.array7_eq m c).symm)
  · refine (Inp.Ref.result1_eq m' c).trans ((congr (congrArg (Inp.Ref.whole1 (F := Ideal)) (ec c)) (e3 c)).trans ?_)
    exact (second_result m c).trans (Inp.array8_eq m c).symm
  · refine (Inp.Ref.result2_eq m' c).trans ((congr (congr (congrArg (Inp.Ref.whole2 (F := Ideal)) (ec c)) (e4 c)) (e5 c)).trans ?_)
    exact (third_result m c).trans (Inp.array9_eq m c).symm

theorem claim : Cert.Claim :=
  ⟨Cert.Kernel.Gen.facts, Cert.KernelIdeal.Gen.facts, Cert.ReferenceIdeal.Gen.facts, Cert.Inproj.Gen.facts, Cert.InprojIdeal.Gen.facts,
    Cert.RefInprojIdeal.Gen.facts, Cert.Outproj.Gen.facts, Cert.OutprojIdeal.Gen.facts, Cert.RefOutprojIdeal.Gen.facts,
    Cert.Gdn.Gen.facts, Cert.GdnIdeal.Gen.facts, facts_finite,
    fun m ρ _ => Cert.Kernel.Gen.frame m ρ, fun m ρ _ => Cert.KernelIdeal.Gen.frame m ρ,
    fun m ρ _ => Cert.KernelIdeal.Gen.frame m ρ, frame_ri, fun m ρ _ => frame_ri m ρ trivial,
    fun m ρ _ => Cert.Inproj.Gen.frame m ρ, fun m ρ _ => Cert.InprojIdeal.Gen.frame m ρ, frame_ri2,
    OutRing.frame_bits, OutRing.frame_ideal, OutRing.frame_reference,
    GdnFrame.frame_bits, GdnFrame.frame_ideal,
    preserves_mask, equal_results, trivial, equal_projections,
    trivial, OutRing.equal_outputs, trivial⟩

end Cert.Proof

end
